-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_scores [hPre_finite_scores : Cert.Pre_finite_scores.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_scores [hPre_finite_scores : Cert.Pre_finite_scores.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_bounded_gates [hPre_bounded_gates : Cert.Pre_bounded_gates.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_bounded_gates.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_bounded_gates [hPre_bounded_gates : Cert.Pre_bounded_gates.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_bounded_gates.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite_scores [hKernel7Ideal : Cert.Kernel7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_scores m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite_scores [hReference7Ideal : Cert.Reference7Ideal.Facts] [hPre_finite_scores : Cert.Pre_finite_scores.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_scores m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_bounded_gates [hKernel8Ideal : Cert.Kernel8Ideal.Facts] [hPre_bounded_gates : Cert.Pre_bounded_gates.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_bounded_gates m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_bounded_gates [hReference8Ideal : Cert.Reference8Ideal.Facts] [hPre_bounded_gates : Cert.Pre_bounded_gates.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_bounded_gates m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v32_0)) (v1 : (c : Dev Cert.Kernel4Ideal.nD) → Buf (Elt Ideal) ((c.tc : Thread Cert.Kernel4Ideal.nD Cert.Kernel4Ideal.τ).loc Cert.Kernel4Ideal.main_v32_1)) (v2 : (c : Dev Cert.Kernel4Ideal.nD) → Buf (Elt Ideal) ((c.tc : Thread Cert.Kernel4Ideal.nD Cert.Kernel4Ideal.τ).loc Cert.Kernel4Ideal.main_v32_2)) (v3 : (c : Dev Cert.Kernel4Ideal.nD) → Buf (Elt Ideal) ((c.tc : Thread Cert.Kernel4Ideal.nD Cert.Kernel4Ideal.τ).loc Cert.Kernel4Ideal.main_v32_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32_0) = v0 c
          ∧ r.2.mem ((c.tc : Thread Cert.Kernel4Ideal.nD Cert.Kernel4Ideal.τ).loc Cert.Kernel4Ideal.main_v32_1) = v1 c
          ∧ r.2.mem ((c.tc : Thread Cert.Kernel4Ideal.nD Cert.Kernel4Ideal.τ).loc Cert.Kernel4Ideal.main_v32_2) = v2 c
          ∧ r.2.mem ((c.tc : Thread Cert.Kernel4Ideal.nD Cert.Kernel4Ideal.τ).loc Cert.Kernel4Ideal.main_v32_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_v56) = v2 c
          ∧ r.2.mem ((c.tc : Thread Cert.Reference4Ideal.nD Cert.Reference4Ideal.τ).loc Cert.Reference4Ideal.main_v60) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v31_0)) (v1 : (c : Dev Cert.Kernel5Ideal.nD) → Buf (Elt Ideal) ((c.tc : Thread Cert.Kernel5Ideal.nD Cert.Kernel5Ideal.τ).loc Cert.Kernel5Ideal.main_v31_1)) (v2 : (c : Dev Cert.Kernel5Ideal.nD) → Buf (Elt Ideal) ((c.tc : Thread Cert.Kernel5Ideal.nD Cert.Kernel5Ideal.τ).loc Cert.Kernel5Ideal.main_v31_2)) (v3 : (c : Dev Cert.Kernel5Ideal.nD) → Buf (Elt Ideal) ((c.tc : Thread Cert.Kernel5Ideal.nD Cert.Kernel5Ideal.τ).loc Cert.Kernel5Ideal.main_v31_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31_0) = v0 c
          ∧ r.2.mem ((c.tc : Thread Cert.Kernel5Ideal.nD Cert.Kernel5Ideal.τ).loc Cert.Kernel5Ideal.main_v31_1) = v1 c
          ∧ r.2.mem ((c.tc : Thread Cert.Kernel5Ideal.nD Cert.Kernel5Ideal.τ).loc Cert.Kernel5Ideal.main_v31_2) = v2 c
          ∧ r.2.mem ((c.tc : Thread Cert.Kernel5Ideal.nD Cert.Kernel5Ideal.τ).loc Cert.Kernel5Ideal.main_v31_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_v61) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v49_0)) (v1 : (c : Dev Cert.Kernel6Ideal.nD) → Buf (Elt Ideal) ((c.tc : Thread Cert.Kernel6Ideal.nD Cert.Kernel6Ideal.τ).loc Cert.Kernel6Ideal.main_v49_1)) (v2 : (c : Dev Cert.Kernel6Ideal.nD) → Buf (Elt Ideal) ((c.tc : Thread Cert.Kernel6Ideal.nD Cert.Kernel6Ideal.τ).loc Cert.Kernel6Ideal.main_v49_2)) (v3 : (c : Dev Cert.Kernel6Ideal.nD) → Buf (Elt Ideal) ((c.tc : Thread Cert.Kernel6Ideal.nD Cert.Kernel6Ideal.τ).loc Cert.Kernel6Ideal.main_v49_3)) (v4 : (c : Dev Cert.Kernel6Ideal.nD) → Buf (Elt Ideal) ((c.tc : Thread Cert.Kernel6Ideal.nD Cert.Kernel6Ideal.τ).loc Cert.Kernel6Ideal.main_v49_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v49_0) = v0 c
          ∧ r.2.mem ((c.tc : Thread Cert.Kernel6Ideal.nD Cert.Kernel6Ideal.τ).loc Cert.Kernel6Ideal.main_v49_1) = v1 c
          ∧ r.2.mem ((c.tc : Thread Cert.Kernel6Ideal.nD Cert.Kernel6Ideal.τ).loc Cert.Kernel6Ideal.main_v49_2) = v2 c
          ∧ r.2.mem ((c.tc : Thread Cert.Kernel6Ideal.nD Cert.Kernel6Ideal.τ).loc Cert.Kernel6Ideal.main_v49_3) = v3 c
          ∧ r.2.mem ((c.tc : Thread Cert.Kernel6Ideal.nD Cert.Kernel6Ideal.τ).loc Cert.Kernel6Ideal.main_v49_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v134) = v0 c
          ∧ r.2.mem ((c.tc : Thread Cert.Reference6Ideal.nD Cert.Reference6Ideal.τ).loc Cert.Reference6Ideal.main_v126) = v1 c
          ∧ r.2.mem ((c.tc : Thread Cert.Reference6Ideal.nD Cert.Reference6Ideal.τ).loc Cert.Reference6Ideal.main_v132) = v2 c
          ∧ r.2.mem ((c.tc : Thread Cert.Reference6Ideal.nD Cert.Reference6Ideal.τ).loc Cert.Reference6Ideal.main_v135) = v3 c
          ∧ r.2.mem ((c.tc : Thread Cert.Reference6Ideal.nD Cert.Reference6Ideal.τ).loc Cert.Reference6Ideal.main_v136) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_scores [hKernel7Ideal : Cert.Kernel7Ideal.Facts] [hReference7Ideal : Cert.Reference7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_scores m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)) (v2 : (c : Dev Cert.Kernel7Ideal.nD) → Buf (Elt Ideal) ((c.tc : Thread Cert.Kernel7Ideal.nD Cert.Kernel7Ideal.τ).loc Cert.Kernel7Ideal.main_v7_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_v7_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v31) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  IdealRules.named_const.Statement Cert.Kernel8Ideal.κ "log2e" .f32 0x3FB8AA3B#32 (((Real.log 2)⁻¹ : ℝ) : EReal)

def algebraic_Kernel8Ideal_Reference8Ideal_pre_bounded_gates [hKernel8Ideal : Cert.Kernel8Ideal.Facts] [hReference8Ideal : Cert.Reference8Ideal.Facts] [hPre_bounded_gates : Cert.Pre_bounded_gates.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_bounded_gates m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v43_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v43_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v4_1)) (v1 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_1) = v0 c
          ∧ r.2.mem ((c.tc : Thread Cert.Kernel9Ideal.nD Cert.Kernel9Ideal.τ).loc Cert.Kernel9Ideal.main_v4_2) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v7) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v42) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v57_0)) (v1 : (c : Dev Cert.Kernel12Ideal.nD) → Buf (Elt Ideal) ((c.tc : Thread Cert.Kernel12Ideal.nD Cert.Kernel12Ideal.τ).loc Cert.Kernel12Ideal.main_v57_1)) (v2 : (c : Dev Cert.Kernel12Ideal.nD) → Buf (Elt Ideal) ((c.tc : Thread Cert.Kernel12Ideal.nD Cert.Kernel12Ideal.τ).loc Cert.Kernel12Ideal.main_v57_2)) (v3 : (c : Dev Cert.Kernel12Ideal.nD) → Buf (Elt Ideal) ((c.tc : Thread Cert.Kernel12Ideal.nD Cert.Kernel12Ideal.τ).loc Cert.Kernel12Ideal.main_v57_3)) (v4 : (c : Dev Cert.Kernel12Ideal.nD) → Buf (Elt Ideal) ((c.tc : Thread Cert.Kernel12Ideal.nD Cert.Kernel12Ideal.τ).loc Cert.Kernel12Ideal.main_v57_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v57_0) = v0 c
          ∧ r.2.mem ((c.tc : Thread Cert.Kernel12Ideal.nD Cert.Kernel12Ideal.τ).loc Cert.Kernel12Ideal.main_v57_1) = v1 c
          ∧ r.2.mem ((c.tc : Thread Cert.Kernel12Ideal.nD Cert.Kernel12Ideal.τ).loc Cert.Kernel12Ideal.main_v57_2) = v2 c
          ∧ r.2.mem ((c.tc : Thread Cert.Kernel12Ideal.nD Cert.Kernel12Ideal.τ).loc Cert.Kernel12Ideal.main_v57_3) = v3 c
          ∧ r.2.mem ((c.tc : Thread Cert.Kernel12Ideal.nD Cert.Kernel12Ideal.τ).loc Cert.Kernel12Ideal.main_v57_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v136) = v0 c
          ∧ r.2.mem ((c.tc : Thread Cert.Reference12Ideal.nD Cert.Reference12Ideal.τ).loc Cert.Reference12Ideal.main_v128) = v1 c
          ∧ r.2.mem ((c.tc : Thread Cert.Reference12Ideal.nD Cert.Reference12Ideal.τ).loc Cert.Reference12Ideal.main_v134) = v2 c
          ∧ r.2.mem ((c.tc : Thread Cert.Reference12Ideal.nD Cert.Reference12Ideal.τ).loc Cert.Reference12Ideal.main_v137) = v3 c
          ∧ r.2.mem ((c.tc : Thread Cert.Reference12Ideal.nD Cert.Reference12Ideal.τ).loc Cert.Reference12Ideal.main_v138) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_scores : Cert.Pre_finite_scores.Facts) (hPre_bounded_gates : Cert.Pre_bounded_gates.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_scores (hKernel7Ideal := hKernel7Ideal) (hPre_finite_scores := hPre_finite_scores)
    ∧ quiescent_Reference7Ideal (hReference7Ideal := hReference7Ideal)
    ∧ quiescent_Reference7Ideal_pre_finite_scores (hReference7Ideal := hReference7Ideal) (hPre_finite_scores := hPre_finite_scores)
    ∧ quiescent_Kernel8 (hKernel8 := hKernel8)
    ∧ quiescent_Kernel8Ideal (hKernel8Ideal := hKernel8Ideal)
    ∧ quiescent_Kernel8Ideal_pre_bounded_gates (hKernel8Ideal := hKernel8Ideal) (hPre_bounded_gates := hPre_bounded_gates)
    ∧ quiescent_Reference8Ideal (hReference8Ideal := hReference8Ideal)
    ∧ quiescent_Reference8Ideal_pre_bounded_gates (hReference8Ideal := hReference8Ideal) (hPre_bounded_gates := hPre_bounded_gates)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_scores (hKernel7Ideal := hKernel7Ideal) (hReference7Ideal := hReference7Ideal) (hPre_finite_scores := hPre_finite_scores)
    ∧ preserves_Kernel8_Kernel8Ideal
    ∧ algebraic_Kernel8Ideal_Reference8Ideal_pre_bounded_gates (hKernel8Ideal := hKernel8Ideal) (hReference8Ideal := hReference8Ideal) (hPre_bounded_gates := hPre_bounded_gates)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_bounded_gates.lean ====
abbrev S16x32x4x64 : Shape := ⟨4, ![16, 32, 4, 64]⟩
abbrev S16x32x4x128 : Shape := ⟨4, ![16, 32, 4, 128]⟩
abbrev S16x4x64x128 : Shape := ⟨4, ![16, 4, 64, 128]⟩
abbrev S_ : Shape := ⟨0, ![]⟩

class Facts : Prop where
  bcast_S_S16x32x4x64 : S_.BroadcastsInDim S16x32x4x64 (![] : Fin 0 → Fin S16x32x4x64.rank)

variable [Facts]

def fn {F : FTy → Type} [FloatOps F] (main_arg0 : FVec F S16x32x4x64 .f32) (main_arg1 : FVec F S16x32x4x64 .f32) (main_arg2 : FVec F S16x32x4x128 .f32) (main_arg3 : FVec F S16x32x4x64 .f32) (main_arg4 : FVec F S16x4x64x128 .f32) : IVec S16x32x4x64 1 :=
  let main_cst : FVec F S_ .f32 := constant S_ .f32 0x7F800000#32
  let main_v0 : FVec F S16x32x4x64 .f32 := broadcastInDim S16x32x4x64 ![] bcast_S_S16x32x4x64 main_cst
  let main_v1 : IVec S16x32x4x64 1 := cmpf .olt main_arg3 main_v0
  main_v1
-- ==== Pre_finite_scores.lean ====
abbrev S16x32x8x64 : Shape := ⟨4, ![16, 32, 8, 64]⟩
abbrev S16x32x2x64 : Shape := ⟨4, ![16, 32, 2, 64]⟩
abbrev S16x128x2x64 : Shape := ⟨4, ![16, 128, 2, 64]⟩
abbrev S8 : Shape := ⟨1, ![8]⟩
abbrev S_ : Shape := ⟨0, ![]⟩

class Facts : Prop where
  bcast_S_S16x32x8x64 : S_.BroadcastsInDim S16x32x8x64 (![] : Fin 0 → Fin S16x32x8x64.rank)
  bcast_S_S16x32x2x64 : S_.BroadcastsInDim S16x32x2x64 (![] : Fin 0 → Fin S16x32x2x64.rank)
  bcast_S_S16x128x2x64 : S_.BroadcastsInDim S16x128x2x64 (![] : Fin 0 → Fin S16x128x2x64.rank)
  bcast_S_S8 : S_.BroadcastsInDim S8 (![] : Fin 0 → Fin S8.rank)

variable [Facts]

def fn {F : FTy → Type} [FloatOps F] (main_arg0 : FVec F S16x32x8x64 .f32) (main_arg1 : FVec F S16x32x2x64 .f32) (main_arg2 : FVec F S16x32x2x64 .f32) (main_arg3 : FVec F S16x128x2x64 .f32) (main_arg4 : FVec F S16x128x2x64 .f32) (main_arg5 : FVec F S8 .f32) : IVec S16x32x8x64 1 × IVec S16x32x2x64 1 × IVec S16x128x2x64 1 × IVec S8 1 :=
  let main_v0 : FVec F S16x32x8x64 .f32 := Host.absf main_arg0
  let main_cst : FVec F S_ .f32 := constant S_ .f32 0x7F800000#32
  let main_v1 : FVec F S16x32x8x64 .f32 := broadcastInDim S16x32x8x64 ![] bcast_S_S16x32x8x64 main_cst
  let main_v2 : IVec S16x32x8x64 1 := cmpf .olt main_v0 main_v1
  let main_v3 : FVec F S16x32x2x64 .f32 := Host.absf main_arg1
  let main_cst_0 : FVec F S_ .f32 := constant S_ .f32 0x7F800000#32
  let main_v4 : FVec F S16x32x2x64 .f32 := broadcastInDim S16x32x2x64 ![] bcast_S_S16x32x2x64 main_cst_0
  let main_v5 : IVec S16x32x2x64 1 := cmpf .olt main_v3 main_v4
  let main_v6 : FVec F S16x128x2x64 .f32 := Host.absf main_arg3
  let main_cst_1 : FVec F S_ .f32 := constant S_ .f32 0x7F800000#32
  let main_v7 : FVec F S16x128x2x64 .f32 := broadcastInDim S16x128x2x64 ![] bcast_S_S16x128x2x64 main_cst_1
  let main_v8 : IVec S16x128x2x64 1 := cmpf .olt main_v6 main_v7
  let main_v9 : FVec F S8 .f32 := Host.absf main_arg5
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Kernel.lean ====
abbrev S33024x1024 : Shape := ⟨2, ![33024, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S32768x1024 : Shape := ⟨2, ![32768, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S33024x1024, .f32⟩
  | .hbm, ⟨1, _⟩ => ⟨S33024x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1024x1024, .bf16⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg0 : BitVec 32 := BitVec.ofNat 32 (i 0).val
  let c2064_i32 : BitVec 32 := 2064#32
  let v0 : BitVec 32 := Scalar.muli arg0 c2064_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def k0_mult2 (i : grid0.Coords) : BitVec 32 :=
  let arg0 : BitVec 32 := BitVec.ofNat 32 (i 0).val
  let c2064_i32 : BitVec 32 := 2064#32
  let v0 : BitVec 32 := Scalar.muli arg0 c2064_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S33024x1024 : Shape := ⟨2, ![33024, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16x2064x1024 : Shape := ⟨3, ![16, 2064, 1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S16x2064x4096 : Shape := ⟨3, ![16, 2064, 4096]⟩
abbrev S16x2048x1024 : Shape := ⟨3, ![16, 2048, 1024]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S33024x1024, .f32⟩
  | .hbm, ⟨1, _⟩ => ⟨S33024x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S16x2064x1024, .f32⟩
  | .hbm, ⟨7, _⟩ => ⟨S33024x1024, .f32⟩
  | .hbm, ⟨8, _⟩ => ⟨S16x2064x1024, .f32⟩
  | .hbm, ⟨9, _⟩ => ⟨S16x2064x1024, .f32⟩
  | .hbm, ⟨10, _⟩ => ⟨S16x2064x1024, .f32⟩
  | .hbm, ⟨11, _⟩ => ⟨S16x2064x1024, .f32⟩
  | .hbm, ⟨12, _⟩ => ⟨S_, .f32⟩
  | .hbm, ⟨13, _⟩ => ⟨S16x2064, .f32⟩
  | .hbm, ⟨14, _⟩ => ⟨S16x2064x1, .f32⟩
  | .hbm, ⟨15, _⟩ => ⟨S_, .f32⟩
  | .hbm, ⟨16, _⟩ => ⟨S16x2064x1, .f32⟩
  | .hbm, ⟨17, _⟩ => ⟨S16x2064x1, .f32⟩
  | .hbm, ⟨18, _⟩ => ⟨S_, .f32⟩
  | .hbm, ⟨19, _⟩ => ⟨S16x2064x1, .f32⟩
  | .hbm, ⟨20, _⟩ => ⟨S16x2064x1, .f32⟩
  | .hbm, ⟨21, _⟩ => ⟨S16x2064x1, .f32⟩
  | .hbm, ⟨22, _⟩ => ⟨S16x2064x1024, .f32⟩
  | .hbm, ⟨23, _⟩ => ⟨S16x2064x1024, .f32⟩
  | .hbm, ⟨24, _⟩ => ⟨S1x1x1024, .f32⟩
  | .hbm, ⟨25, _⟩ => ⟨S16x2064x1024, .f32⟩
  | .hbm, ⟨26, _⟩ => ⟨S16x2064x1024, .f32⟩
  | .hbm, ⟨27, _⟩ => ⟨S16x2064x4096, .f32⟩
  | .hbm, ⟨28, _⟩ => ⟨S_, .f32⟩
  | .hbm, ⟨29, _⟩ => ⟨S16x2064x4096, .f32⟩
  | .hbm, ⟨30, _⟩ => ⟨S16x2064x4096, .f32⟩
  | .hbm, ⟨31, _⟩ => ⟨S16x2064x4096, .f32⟩
  | .hbm, ⟨32, _⟩ => ⟨S16x2064x1024, .f32⟩
  | .hbm, ⟨33, _⟩ => ⟨S16x2064x1024, .f32⟩
  | .hbm, ⟨34, _⟩ => ⟨S16x2048x1024, .f32⟩
  | .hbm, ⟨35, _⟩ => ⟨S32768x1024, .f32⟩
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel2.lean ====
abbrev S33024x1024 : Shape := ⟨2, ![33024, 1024]⟩
abbrev S33024x512 : Shape := ⟨2, ![33024, 512]⟩
abbrev S128 : Shape := ⟨1, ![128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x128 : Shape := ⟨2, ![1, 128]⟩
abbrev S688x1024 : Shape := ⟨2, ![688, 1024]⟩
abbrev S688x512 : Shape := ⟨2, ![688, 512]⟩
abbrev S688x128 : Shape := ⟨2, ![688, 128]⟩
abbrev S688 : Shape := ⟨1, ![688]⟩
abbrev S688x1 : Shape := ⟨2, ![688, 1]⟩
abbrev S512x1024 : Shape := ⟨2, ![512, 1024]⟩

abbrev nBuf : Space → Nat
  | .hbm => 15
  | .vmem => 15
  | .smem => 0
  | _ => 0

abbrev bufTy : (tb : Table) → Fin (tcTables nBuf tb) → BufTy
  | .hbm, ⟨0, _⟩ => ⟨S33024x1024, .f32⟩
  | .hbm, ⟨1, _⟩ => ⟨S33024x512, .bf16⟩
  | .hbm, ⟨2, _⟩ => ⟨S33024x512, .f32⟩
  | .hbm, ⟨3, _⟩ => ⟨S33024x512, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S1024x1024, .bf16⟩
  | .hbm, ⟨13, _⟩ => ⟨S1x128, .f32⟩
  | .hbm, ⟨14, _⟩ => ⟨S33024x1024, .f32⟩
  | .local _ .vmem, ⟨0, _⟩ => ⟨S688x1024, .f32⟩
  | .local _ .vmem, ⟨1, _⟩ => ⟨S688x1024, .f32⟩
  | .local _ .vmem, ⟨2, _⟩ => ⟨S688x512, .bf16⟩
  | .local _ .vmem, ⟨3, _⟩ => ⟨S688x512, .bf16⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | .local _ .vmem, ⟨8, _⟩ => ⟨S1x128, .f32⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S688x1024, .f32⟩
  | .local _ .vmem, ⟨14, _⟩ => ⟨S688x1024, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S688x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S33024x1024 : Shape := ⟨2, ![33024, 1024]⟩
abbrev S33024x512 : Shape := ⟨2, ![33024, 512]⟩
abbrev S128 : Shape := ⟨1, ![128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16x2064x1024 : Shape := ⟨3, ![16, 2064, 1024]⟩
abbrev S16x2064x512 : Shape := ⟨3, ![16, 2064, 512]⟩
abbrev S16x2064x4x128 : Shape := ⟨4, ![16, 2064, 4, 128]⟩
abbrev S_ : Shape := ⟨0, ![]⟩
abbrev S16x2064x4 : Shape := ⟨3, ![16, 2064, 4]⟩
abbrev S16x2064x4x1 : Shape := ⟨4, ![16, 2064, 4, 1]⟩
abbrev S1x1x1x128 : Shape := ⟨4, ![1, 1, 1, 128]⟩
abbrev S16x2064 : Shape := ⟨2, ![16, 2064]⟩
abbrev S16x2064x1 : Shape := ⟨3, ![16, 2064, 1]⟩
abbrev S1x1x1024 : Shape := ⟨3, ![1, 1, 1024]⟩
abbrev S16x2064x4096 : Shape := ⟨3, ![16, 2064, 4096]⟩

abbrev nBuf : Space → Nat
  | .hbm => 68
  | .vmem => 0
  | .smem => 0
  | _ => 0

abbrev bufTy : (tb : Table) → Fin (tcTables nBuf tb) → BufTy
  | .hbm, ⟨0, _⟩ => ⟨S33024x1024, .f32⟩
  | .hbm, ⟨1, _⟩ => ⟨S33024x512, .bf16⟩
  | .hbm, ⟨2, _⟩ => ⟨S33024x512, .f32⟩
  | .hbm, ⟨3, _⟩ => ⟨S33024x512, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S16x2064x1024, .f32⟩
  | .hbm, ⟨10, _⟩ => ⟨S33024x512, .f32⟩
  | .hbm, ⟨11, _⟩ => ⟨S16x2064x512, .f32⟩
  | .hbm, ⟨12, _⟩ => ⟨S16x2064x4x128, .f32⟩
  | .hbm, ⟨13, _⟩ => ⟨S16x2064x512, .f32⟩
  | .hbm, ⟨14, _⟩ => ⟨S16x2064x4x128, .f32⟩
  | .hbm, ⟨15, _⟩ => ⟨S_, .f32⟩
  | .hbm, ⟨16, _⟩ => ⟨S16x2064x4, .f32⟩
  | .hbm, ⟨17, _⟩ => ⟨S16x2064x4x1, .f32⟩
  | .hbm, ⟨18, _⟩ => ⟨S_, .f32⟩
  | .hbm, ⟨19, _⟩ => ⟨S16x2064x4x1, .f32⟩
  | .hbm, ⟨20, _⟩ => ⟨S16x2064x4x1, .f32⟩
  | .hbm, ⟨21, _⟩ => ⟨S_, .f32⟩
  | .hbm, ⟨22, _⟩ => ⟨S16x2064x4x1, .f32⟩
  | .hbm, ⟨23, _⟩ => ⟨S16x2064x4x1, .f32⟩
  | .hbm, ⟨24, _⟩ => ⟨S16x2064x4x1, .f32⟩
  | .hbm, ⟨25, _⟩ => ⟨S16x2064x4x128, .f32⟩
  | .hbm, ⟨26, _⟩ => ⟨S16x2064x4x128, .f32⟩
  | .hbm, ⟨27, _⟩ => ⟨S1x1x1x128, .f32⟩
  | .hbm, ⟨28, _⟩ => ⟨S16x2064x4x128, .f32⟩
  | .hbm, ⟨29, _⟩ => ⟨S16x2064x4x128, .f32⟩
  | .hbm, ⟨30, _⟩ => ⟨S16x2064x512, .f32⟩
  | .hbm, ⟨31, _⟩ => ⟨S16x2064x512, .f32⟩
  | .hbm, ⟨32, _⟩ => ⟨S16x2064x512, .f32⟩
  | .hbm, ⟨33, _⟩ => ⟨S_, .f32⟩
  | .hbm, ⟨34, _⟩ => ⟨S16x2064x512, .f32⟩
  | .hbm, ⟨35, _⟩ => ⟨S16x2064x512, .f32⟩
  | .hbm, ⟨36, _⟩ => ⟨S_, .f32⟩
  | .hbm, ⟨37, _⟩ => ⟨S16x2064x512, .f32⟩
  | .hbm, ⟨38, _⟩ => ⟨S16x2064x512, .f32⟩
  | .hbm, ⟨39, _⟩ => ⟨S16x2064x512, .f32⟩
  | .hbm, ⟨40, _⟩ => ⟨S16x2064x512, .f32⟩
  | .hbm, ⟨41, _⟩ => ⟨S16x2064x1024, .f32⟩
  | .hbm, ⟨42, _⟩ => ⟨S16x2064x1024, .f32⟩
  | .hbm, ⟨43, _⟩ => ⟨S16x2064x1024, .f32⟩
  | .hbm, ⟨44, _⟩ => ⟨S16x2064x1024, .f32⟩
  | .hbm, ⟨45, _⟩ => ⟨S_, .f32⟩
  | .hbm, ⟨46, _⟩ => ⟨S16x2064, .f32⟩
  | .hbm, ⟨47, _⟩ => ⟨S16x2064x1, .f32⟩
  | .hbm, ⟨48, _⟩ => ⟨S_, .f32⟩
  | .hbm, ⟨49, _⟩ => ⟨S16x2064x1, .f32⟩
  | .hbm, ⟨50, _⟩ => ⟨S16x2064x1, .f32⟩
  | .hbm, ⟨51, _⟩ => ⟨S_, .f32⟩
  | .hbm, ⟨52, _⟩ => ⟨S16x2064x1, .f32⟩
  | .hbm, ⟨53, _⟩ => ⟨S16x2064x1, .f32⟩
  | .hbm, ⟨54, _⟩ => ⟨S16x2064x1, .f32⟩
  | .hbm, ⟨55, _⟩ => ⟨S16x2064x1024, .f32⟩
  | .hbm, ⟨56, _⟩ => ⟨S16x2064x1024, .f32⟩
  | .hbm, ⟨57, _⟩ => ⟨S1x1x1024, .f32⟩
  | .hbm, ⟨58, _⟩ => ⟨S16x2064x1024, .f32⟩
  | .hbm, ⟨59, _⟩ => ⟨S16x2064x1024, .f32⟩
  | .hbm, ⟨60, _⟩ => ⟨S16x2064x4096, .f32⟩
  | .hbm, ⟨61, _⟩ => ⟨S_, .f32⟩
  | .hbm, ⟨62, _⟩ => ⟨S16x2064x4096, .f32⟩
  | .hbm, ⟨63, _⟩ => ⟨S16x2064x4096, .f32⟩
  | .hbm, ⟨64, _⟩ => ⟨S16x2064x4096, .f32⟩
  | .hbm, ⟨65, _⟩ => ⟨S16x2064x1024, .f32⟩
  | .hbm, ⟨66, _⟩ => ⟨S16x2064x1024, .f32⟩
  | .hbm, ⟨67, _⟩ => ⟨S33024x1024, .f32⟩
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call1_cst : Ref sig .tc := ⟨.hbm, 61, rfl⟩
abbrev main_call1_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel3.lean ====
abbrev S16x32x1024 : Shape := ⟨3, ![16, 32, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512 : Shape := ⟨1, ![512]⟩
abbrev S512x1 : Shape := ⟨2, ![512, 1]⟩

abbrev nBuf : Space → Nat
  | .hbm => 12
  | .vmem => 7
  | .smem => 0
  | _ => 0

abbrev bufTy : (tb : Table) → Fin (tcTables nBuf tb) → BufTy
  | .hbm, ⟨0, _⟩ => ⟨S16x32x1024, .f32⟩
  | .hbm, ⟨1, _⟩ => ⟨S512x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S512x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S1024x1024, .bf16⟩
  | .hbm, ⟨11, _⟩ => ⟨S512x1024, .f32⟩
  | .local _ .vmem, ⟨0, _⟩ => ⟨S512x1024, .f32⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x4096, .bf16⟩
  | .local _ .vmem, ⟨5, _⟩ => ⟨S4096x1024, .bf16⟩
  | .local _ .vmem, ⟨6, _⟩ => ⟨S512x1024, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference3Ideal.lean ====
abbrev S16x32x1024 : Shape := ⟨3, ![16, 32, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S16x32x4096 : Shape := ⟨3, ![16, 32, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S512x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S512x1024, .f32⟩
  | .hbm, ⟨7, _⟩ => ⟨S16x32x1024, .f32⟩
  | .hbm, ⟨8, _⟩ => ⟨S16x32x1024, .f32⟩
  | .hbm, ⟨9, _⟩ => ⟨S16x32x1024, .f32⟩
  | .hbm, ⟨10, _⟩ => ⟨S16x32x1024, .f32⟩
  | .hbm, ⟨11, _⟩ => ⟨S_, .f32⟩
  | .hbm, ⟨12, _⟩ => ⟨S16x32, .f32⟩
  | .hbm, ⟨13, _⟩ => ⟨S16x32x1, .f32⟩
  | .hbm, ⟨14, _⟩ => ⟨S_, .f32⟩
  | .hbm, ⟨15, _⟩ => ⟨S16x32x1, .f32⟩
  | .hbm, ⟨16, _⟩ => ⟨S16x32x1, .f32⟩
  | .hbm, ⟨17, _⟩ => ⟨S_, .f32⟩
  | .hbm, ⟨18, _⟩ => ⟨S16x32x1, .f32⟩
  | .hbm, ⟨19, _⟩ => ⟨S16x32x1, .f32⟩
  | .hbm, ⟨20, _⟩ => ⟨S16x32x1, .f32⟩
  | .hbm, ⟨21, _⟩ => ⟨S16x32x1024, .f32⟩
  | .hbm, ⟨22, _⟩ => ⟨S16x32x1024, .f32⟩
  | .hbm, ⟨23, _⟩ => ⟨S1x1x1024, .f32⟩
  | .hbm, ⟨24, _⟩ => ⟨S16x32x1024, .f32⟩
  | .hbm, ⟨25, _⟩ => ⟨S16x32x1024, .f32⟩
  | .hbm, ⟨26, _⟩ => ⟨S16x32x4096, .f32⟩
  | .hbm, ⟨27, _⟩ => ⟨S_, .f32⟩
  | .hbm, ⟨28, _⟩ => ⟨S16x32x4096, .f32⟩
  | .hbm, ⟨29, _⟩ => ⟨S16x32x4096, .f32⟩
  | .hbm, ⟨30, _⟩ => ⟨S16x32x4096, .f32⟩
  | .hbm, ⟨31, _⟩ => ⟨S16x32x1024, .f32⟩
  | .hbm, ⟨32, _⟩ => ⟨S16x32x1024, .f32⟩
  | .hbm, ⟨33, _⟩ => ⟨S512x1024, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel4.lean ====
abbrev S16x32x1024 : Shape := ⟨3, ![16, 32, 1024]⟩
abbrev S1024 : Shape := ⟨1, ![1024]⟩
abbrev S1024x3088 : Shape := ⟨2, ![1024, 3088]⟩
abbrev S16 : Shape := ⟨1, ![16]⟩
abbrev S64 : Shape := ⟨1, ![64]⟩
abbrev S1024x3072 : Shape := ⟨2, ![1024, 3072]⟩
abbrev S1024x16 : Shape := ⟨2, ![1024, 16]⟩
abbrev S1x1024x1x16 : Shape := ⟨4, ![1, 1024, 1, 16]⟩
abbrev S1x1024x8x16 : Shape := ⟨4, ![1, 1024, 8, 16]⟩
abbrev S1024x128 : Shape := ⟨2, ![1024, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S512x1024 : Shape := ⟨2, ![512, 1024]⟩
abbrev S1x1024 : Shape := ⟨2, ![1, 1024]⟩
abbrev S256x256 : Shape := ⟨2, ![256, 256]⟩
abbrev S_ : Shape := ⟨0, ![]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S1024x1024 : Shape := ⟨2, ![1024, 1024]⟩
abbrev S512x256 : Shape := ⟨2, ![512, 256]⟩

abbrev nBuf : Space → Nat
  | .hbm => 45
  | .vmem => 12
  | .smem => 0
  | _ => 0

abbrev bufTy : (tb : Table) → Fin (tcTables nBuf tb) → BufTy
  | .hbm, ⟨0, _⟩ => ⟨S16x32x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S64, .f32⟩
  | .hbm, ⟨5, _⟩ => ⟨S64, .f32⟩
  | .hbm, ⟨6, _⟩ => ⟨S1024x3072, .f32⟩
  | .hbm, ⟨7, _⟩ => ⟨S1024x3072, .bf16⟩
  | .hbm, ⟨8, _⟩ => ⟨S1024x16, .f32⟩
  | .hbm, ⟨9, _⟩ => ⟨S1x1024x1x16, .f32⟩
  | .hbm, ⟨10, _⟩ => ⟨S1x1024x8x16, .f32⟩
  | .hbm, ⟨11, _⟩ => ⟨S1024x128, .f32⟩
  | .hbm, ⟨12, _⟩ => ⟨S1024x128, .bf16⟩
  | .hbm, ⟨13, _⟩ => ⟨S1x16, .f32⟩
  | .hbm, ⟨14, _⟩ => ⟨S8x16, .f32⟩
  | .hbm, ⟨15, _⟩ => ⟨S128, .f32⟩
  | .hbm, ⟨16, _⟩ => ⟨S1x128, .f32⟩
  | .hbm, ⟨17, _⟩ => ⟨S1x64, .f32⟩
  | .hbm, ⟨18, _⟩ => ⟨S4x64, .f32⟩
  | .hbm, ⟨19, _⟩ => ⟨S256, .f32⟩
  | .hbm, ⟨20, _⟩ => ⟨S1x256, .f32⟩
  | .hbm, ⟨21, _⟩ => ⟨S1x64, .f32⟩
  | .hbm, ⟨22, _⟩ => ⟨S4x64, .f32⟩
  | .hbm, ⟨23, _⟩ => ⟨S256, .f32⟩
  | .hbm, ⟨24, _⟩ => ⟨S1x256, .f32⟩
  | .hbm, ⟨25, _⟩ => ⟨S512x1024, .f32⟩
  | .hbm, ⟨26, _⟩ => ⟨S1x1024, .f32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S256x256, .i1⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x256, .bf16⟩
  | .hbm, ⟨41, _⟩ => ⟨S512x1024, .bf16⟩
  | .hbm, ⟨42, _⟩ => ⟨S512x1024, .f32⟩
  | .hbm, ⟨43, _⟩ => ⟨S512x1024, .f32⟩
  | .hbm, ⟨44, _⟩ => ⟨S512x128, .f32⟩
  | .local _ .vmem, ⟨0, _⟩ => ⟨S512x1024, .f32⟩
  | .local _ .vmem, ⟨1, _⟩ => ⟨S1x1024, .f32⟩
  | .local _ .vmem, ⟨2, _⟩ => ⟨S1024x3072, .bf16⟩
  | .local _ .vmem, ⟨3, _⟩ => ⟨S1024x128, .bf16⟩
  | .local _ .vmem, ⟨4, _⟩ => ⟨S1x128, .f32⟩
  | .local _ .vmem, ⟨5, _⟩ => ⟨S256x256, .bf16⟩
  | .local _ .vmem, ⟨6, _⟩ => ⟨S1x256, .f32⟩
  | .local _ .vmem, ⟨7, _⟩ => ⟨S1x256, .f32⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x128, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_c_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference4Ideal.lean ====
abbrev S16x32x1024 : Shape := ⟨3, ![16, 32, 1024]⟩
abbrev S1024 : Shape := ⟨1, ![1024]⟩
abbrev S1024x3088 : Shape := ⟨2, ![1024, 3088]⟩
abbrev S16 : Shape := ⟨1, ![16]⟩
abbrev S64 : Shape := ⟨1, ![64]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S16x32x3088 : Shape := ⟨3, ![16, 32, 3088]⟩
abbrev S16x32x16 : Shape := ⟨3, ![16, 32, 16]⟩
abbrev S16x32x16x64 : Shape := ⟨4, ![16, 32, 16, 64]⟩
abbrev S16x32x16x1 : Shape := ⟨4, ![16, 32, 16, 1]⟩
abbrev S1x1x1x64 : Shape := ⟨4, ![1, 1, 1, 64]⟩
abbrev S1x1x16 : Shape := ⟨3, ![1, 1, 16]⟩
abbrev S512x1024 : Shape := ⟨2, ![512, 1024]⟩
abbrev S512x16 : Shape := ⟨2, ![512, 16]⟩
abbrev S1x512x1x16 : Shape := ⟨4, ![1, 512, 1, 16]⟩
abbrev S1x512x8x16 : Shape := ⟨4, ![1, 512, 8, 16]⟩
abbrev S512x128 : Shape := ⟨2, ![512, 128]⟩

abbrev nBuf : Space → Nat
  | .hbm => 92
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S64, .f32⟩
  | .hbm, ⟨5, _⟩ => ⟨S64, .f32⟩
  | .hbm, ⟨6, _⟩ => ⟨S16x32x1024, .f32⟩
  | .hbm, ⟨7, _⟩ => ⟨S_, .f32⟩
  | .hbm, ⟨8, _⟩ => ⟨S16x32, .f32⟩
  | .hbm, ⟨9, _⟩ => ⟨S16x32x1, .f32⟩
  | .hbm, ⟨10, _⟩ => ⟨S_, .f32⟩
  | .hbm, ⟨11, _⟩ => ⟨S16x32x1, .f32⟩
  | .hbm, ⟨12, _⟩ => ⟨S16x32x1, .f32⟩
  | .hbm, ⟨13, _⟩ => ⟨S_, .f32⟩
  | .hbm, ⟨14, _⟩ => ⟨S16x32x1, .f32⟩
  | .hbm, ⟨15, _⟩ => ⟨S16x32x1, .f32⟩
  | .hbm, ⟨16, _⟩ => ⟨S16x32x1, .f32⟩
  | .hbm, ⟨17, _⟩ => ⟨S16x32x1024, .f32⟩
  | .hbm, ⟨18, _⟩ => ⟨S16x32x1024, .f32⟩
  | .hbm, ⟨19, _⟩ => ⟨S1x1x1024, .f32⟩
  | .hbm, ⟨20, _⟩ => ⟨S16x32x1024, .f32⟩
  | .hbm, ⟨21, _⟩ => ⟨S16x32x1024, .f32⟩
  | .hbm, ⟨22, _⟩ => ⟨S16x32x3088, .f32⟩
  | .hbm, ⟨23, _⟩ => ⟨S16x32x1024, .f32⟩
  | .hbm, ⟨24, _⟩ => ⟨S16x32x1024, .f32⟩
  | .hbm, ⟨25, _⟩ => ⟨S16x32x1024, .f32⟩
  | .hbm, ⟨26, _⟩ => ⟨S16x32x16, .f32⟩
  | .hbm, ⟨27, _⟩ => ⟨S16x32x16x64, .f32⟩
  | .hbm, ⟨28, _⟩ => ⟨S16x32x16x64, .f32⟩
  | .hbm, ⟨29, _⟩ => ⟨S_, .f32⟩
  | .hbm, ⟨30, _⟩ => ⟨S16x32x16, .f32⟩
  | .hbm, ⟨31, _⟩ => ⟨S16x32x16x1, .f32⟩
  | .hbm, ⟨32, _⟩ => ⟨S_, .f32⟩
  | .hbm, ⟨33, _⟩ => ⟨S16x32x16x1, .f32⟩
  | .hbm, ⟨34, _⟩ => ⟨S16x32x16x1, .f32⟩
  | .hbm, ⟨35, _⟩ => ⟨S_, .f32⟩
  | .hbm, ⟨36, _⟩ => ⟨S16x32x16x1, .f32⟩
  | .hbm, ⟨37, _⟩ => ⟨S16x32x16x1, .f32⟩
  | .hbm, ⟨38, _⟩ => ⟨S16x32x16x1, .f32⟩
  | .hbm, ⟨39, _⟩ => ⟨S16x32x16x64, .f32⟩
  | .hbm, ⟨40, _⟩ => ⟨S16x32x16x64, .f32⟩
  | .hbm, ⟨41, _⟩ => ⟨S1x1x1x64, .f32⟩
  | .hbm, ⟨42, _⟩ => ⟨S16x32x16x64, .f32⟩
  | .hbm, ⟨43, _⟩ => ⟨S16x32x16x64, .f32⟩
  | .hbm, ⟨44, _⟩ => ⟨S16x32x16x64, .f32⟩
  | .hbm, ⟨45, _⟩ => ⟨S16x32x16x64, .f32⟩
  | .hbm, ⟨46, _⟩ => ⟨S_, .f32⟩
  | .hbm, ⟨47, _⟩ => ⟨S16x32x16, .f32⟩
  | .hbm, ⟨48, _⟩ => ⟨S16x32x16x1, .f32⟩
  | .hbm, ⟨49, _⟩ => ⟨S_, .f32⟩
  | .hbm, ⟨50, _⟩ => ⟨S16x32x16x1, .f32⟩
  | .hbm, ⟨51, _⟩ => ⟨S16x32x16x1, .f32⟩
  | .hbm, ⟨52, _⟩ => ⟨S_, .f32⟩
  | .hbm, ⟨53, _⟩ => ⟨S16x32x16x1, .f32⟩
  | .hbm, ⟨54, _⟩ => ⟨S16x32x16x1, .f32⟩
  | .hbm, ⟨55, _⟩ => ⟨S16x32x16x1, .f32⟩
  | .hbm, ⟨56, _⟩ => ⟨S16x32x16x64, .f32⟩
  | .hbm, ⟨57, _⟩ => ⟨S16x32x16x64, .f32⟩
  | .hbm, ⟨58, _⟩ => ⟨S1x1x1x64, .f32⟩
  | .hbm, ⟨59, _⟩ => ⟨S16x32x16x64, .f32⟩
  | .hbm, ⟨60, _⟩ => ⟨S16x32x16x64, .f32⟩
  | .hbm, ⟨61, _⟩ => ⟨S16x32x16x64, .f32⟩
  | .hbm, ⟨62, _⟩ => ⟨S1x1x16, .f32⟩
  | .hbm, ⟨63, _⟩ => ⟨S16x32x16, .f32⟩
  | .hbm, ⟨64, _⟩ => ⟨S16x32x16, .f32⟩
  | .hbm, ⟨65, _⟩ => ⟨S16x32x16, .f32⟩
  | .hbm, ⟨66, _⟩ => ⟨S_, .f32⟩
  | .hbm, ⟨67, _⟩ => ⟨S16x32x16, .f32⟩
  | .hbm, ⟨68, _⟩ => ⟨S16x32x16, .f32⟩
  | .hbm, ⟨69, _⟩ => ⟨S16x32x16, .f32⟩
  | .hbm, ⟨70, _⟩ => ⟨S16x32x16, .f32⟩
  | .hbm, ⟨71, _⟩ => ⟨S16x32x16, .i1⟩
  | .hbm, ⟨72, _⟩ => ⟨S16x32x16, .f32⟩
  | .hbm, ⟨73, _⟩ => ⟨S16x32x16, .f32⟩
  | .hbm, ⟨74, _⟩ => ⟨S16x32x16, .f32⟩
  | .hbm, ⟨75, _⟩ => ⟨S16x32x16, .f32⟩
  | .hbm, ⟨76, _⟩ => ⟨S16x32x16, .f32⟩
  | .hbm, ⟨77, _⟩ => ⟨S16x32x16, .f32⟩
  | .hbm, ⟨78, _⟩ => ⟨S16x32x16, .f32⟩
  | .hbm, ⟨79, _⟩ => ⟨S16x32x16, .f32⟩
  | .hbm, ⟨80, _⟩ => ⟨S16x32x16, .f32⟩
  | .hbm, ⟨81, _⟩ => ⟨S512x1024, .f32⟩
  | .hbm, ⟨82, _⟩ => ⟨S_, .f32⟩
  | .hbm, ⟨83, _⟩ => ⟨S512x1024, .f32⟩
  | .hbm, ⟨84, _⟩ => ⟨S512x1024, .f32⟩
  | .hbm, ⟨85, _⟩ => ⟨S512x1024, .bf16⟩
  | .hbm, ⟨86, _⟩ => ⟨S512x1024, .f32⟩
  | .hbm, ⟨87, _⟩ => ⟨S512x1024, .f32⟩
  | .hbm, ⟨88, _⟩ => ⟨S512x16, .f32⟩
  | .hbm, ⟨89, _⟩ => ⟨S1x512x1x16, .f32⟩
  | .hbm, ⟨90, _⟩ => ⟨S1x512x8x16, .f32⟩
  | .hbm, ⟨91, _⟩ => ⟨S512x128, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call0_v0 : Ref sig .tc := ⟨.hbm, 65, rfl⟩
abbrev main_call0_call0_cst : Ref sig .tc := ⟨.hbm, 66, rfl⟩
abbrev main_call0_call0_v0 : Ref sig .tc := ⟨.hbm, 67, rfl⟩
abbrev main_call0_call0_v1 : Ref sig .tc := ⟨.hbm, 68, rfl⟩
abbrev main_call0_call0_v2 : Ref sig .tc := ⟨.hbm, 69, rfl⟩
abbrev main_call0_call0_v3 : Ref sig .tc := ⟨.hbm, 70, rfl⟩
abbrev main_call0_call0_v4 : Ref sig .tc := ⟨.hbm, 71, rfl⟩
abbrev main_call0_call0_v5 : Ref sig .tc := ⟨.hbm, 72, rfl⟩
abbrev main_call0_call0_v6 : Ref sig .tc := ⟨.hbm, 73, rfl⟩
abbrev main_call0_call0_v7 : Ref sig .tc := ⟨.hbm, 74, rfl⟩
abbrev main_call0_call0_v8 : Ref sig .tc := ⟨.hbm, 75, rfl⟩
abbrev main_call0_call0_v9 : Ref sig .tc := ⟨.hbm, 76, rfl⟩
abbrev main_call0_call0_v10 : Ref sig .tc := ⟨.hbm, 77, rfl⟩
abbrev main_call0_call0_v11 : Ref sig .tc := ⟨.hbm, 78, rfl⟩
abbrev main_call0_v1 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel5.lean ====
abbrev S33024x1024 : Shape := ⟨2, ![33024, 1024]⟩
abbrev S1024 : Shape := ⟨1, ![1024]⟩
abbrev S1024x3088 : Shape := ⟨2, ![1024, 3088]⟩
abbrev S16 : Shape := ⟨1, ![16]⟩
abbrev S64 : Shape := ⟨1, ![64]⟩
abbrev S1024x3072 : Shape := ⟨2, ![1024, 3072]⟩
abbrev S1024x16 : Shape := ⟨2, ![1024, 16]⟩
abbrev S1x1024x1x16 : Shape := ⟨4, ![1, 1024, 1, 16]⟩
abbrev S1x1024x8x16 : Shape := ⟨4, ![1, 1024, 8, 16]⟩
abbrev S1024x128 : Shape := ⟨2, ![1024, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x1024 : Shape := ⟨2, ![1, 1024]⟩
abbrev S256x256 : Shape := ⟨2, ![256, 256]⟩
abbrev S_ : Shape := ⟨0, ![]⟩
abbrev S33024x128 : Shape := ⟨2, ![33024, 128]⟩
abbrev S688x1024 : Shape := ⟨2, ![688, 1024]⟩
abbrev S688x128 : Shape := ⟨2, ![688, 128]⟩
abbrev S688 : Shape := ⟨1, ![688]⟩
abbrev S688x1 : Shape := ⟨2, ![688, 1]⟩
abbrev S1024x2048 : Shape := ⟨2, ![1024, 2048]⟩
abbrev S688x2048 : Shape := ⟨2, ![688, 2048]⟩
abbrev S1024x1024 : Shape := ⟨2, ![1024, 1024]⟩
abbrev S688x256 : Shape := ⟨2, ![688, 256]⟩

abbrev nBuf : Space → Nat
  | .hbm => 44
  | .vmem => 17
  | .smem => 0
  | _ => 0

abbrev bufTy : (tb : Table) → Fin (tcTables nBuf tb) → BufTy
  | .hbm, ⟨0, _⟩ => ⟨S33024x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S64, .f32⟩
  | .hbm, ⟨5, _⟩ => ⟨S64, .f32⟩
  | .hbm, ⟨6, _⟩ => ⟨S1024x3072, .f32⟩
  | .hbm, ⟨7, _⟩ => ⟨S1024x3072, .bf16⟩
  | .hbm, ⟨8, _⟩ => ⟨S1024x16, .f32⟩
  | .hbm, ⟨9, _⟩ => ⟨S1x1024x1x16, .f32⟩
  | .hbm, ⟨10, _⟩ => ⟨S1x1024x8x16, .f32⟩
  | .hbm, ⟨11, _⟩ => ⟨S1024x128, .f32⟩
  | .hbm, ⟨12, _⟩ => ⟨S1024x128, .bf16⟩
  | .hbm, ⟨13, _⟩ => ⟨S1x16, .f32⟩
  | .hbm, ⟨14, _⟩ => ⟨S8x16, .f32⟩
  | .hbm, ⟨15, _⟩ => ⟨S128, .f32⟩
  | .hbm, ⟨16, _⟩ => ⟨S1x128, .f32⟩
  | .hbm, ⟨17, _⟩ => ⟨S1x64, .f32⟩
  | .hbm, ⟨18, _⟩ => ⟨S4x64, .f32⟩
  | .hbm, ⟨19, _⟩ => ⟨S256, .f32⟩
  | .hbm, ⟨20, _⟩ => ⟨S1x256, .f32⟩
  | .hbm, ⟨21, _⟩ => ⟨S1x64, .f32⟩
  | .hbm, ⟨22, _⟩ => ⟨S4x64, .f32⟩
  | .hbm, ⟨23, _⟩ => ⟨S256, .f32⟩
  | .hbm, ⟨24, _⟩ => ⟨S1x256, .f32⟩
  | .hbm, ⟨25, _⟩ => ⟨S1x1024, .f32⟩
  | .hbm, ⟨26, _⟩ => ⟨S256x256, .i32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i32⟩
  | .hbm, ⟨31, _⟩ => ⟨S_, .i32⟩
  | .hbm, ⟨32, _⟩ => ⟨S256x256, .i32⟩
  | .hbm, ⟨33, _⟩ => ⟨S256x256, .i32⟩
  | .hbm, ⟨34, _⟩ => ⟨S256x256, .i1⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x256, .bf16⟩
  | .hbm, ⟨40, _⟩ => ⟨S33024x1024, .bf16⟩
  | .hbm, ⟨41, _⟩ => ⟨S33024x1024, .f32⟩
  | .hbm, ⟨42, _⟩ => ⟨S33024x1024, .f32⟩
  | .hbm, ⟨43, _⟩ => ⟨S33024x128, .f32⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S688x1024, .bf16⟩
  | .local _ .vmem, ⟨10, _⟩ => ⟨S688x1024, .bf16⟩
  | .local _ .vmem, ⟨11, _⟩ => ⟨S688x1024, .f32⟩
  | .local _ .vmem, ⟨12, _⟩ => ⟨S688x1024, .f32⟩
  | .local _ .vmem, ⟨13, _⟩ => ⟨S688x1024, .f32⟩
  | .local _ .vmem, ⟨14, _⟩ => ⟨S688x1024, .f32⟩
  | .local _ .vmem, ⟨15, _⟩ => ⟨S688x128, .f32⟩
  | .local _ .vmem, ⟨16, _⟩ => ⟨S688x128, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_c_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S33024x1024 : Shape := ⟨2, ![33024, 1024]⟩
abbrev S1024 : Shape := ⟨1, ![1024]⟩
abbrev S1024x3088 : Shape := ⟨2, ![1024, 3088]⟩
abbrev S16 : Shape := ⟨1, ![16]⟩
abbrev S64 : Shape := ⟨1, ![64]⟩
abbrev S16x2064x1024 : Shape := ⟨3, ![16, 2064, 1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S16x2064x3088 : Shape := ⟨3, ![16, 2064, 3088]⟩
abbrev S16x2064x16 : Shape := ⟨3, ![16, 2064, 16]⟩
abbrev S16x2064x16x64 : Shape := ⟨4, ![16, 2064, 16, 64]⟩
abbrev S16x2064x16x1 : Shape := ⟨4, ![16, 2064, 16, 1]⟩
abbrev S1x1x1x64 : Shape := ⟨4, ![1, 1, 1, 64]⟩
abbrev S1x1x16 : Shape := ⟨3, ![1, 1, 16]⟩
abbrev S33024x16 : Shape := ⟨2, ![33024, 16]⟩
abbrev S1x33024x1x16 : Shape := ⟨4, ![1, 33024, 1, 16]⟩
abbrev S1x33024x8x16 : Shape := ⟨4, ![1, 33024, 8, 16]⟩
abbrev S33024x128 : Shape := ⟨2, ![33024, 128]⟩

abbrev nBuf : Space → Nat
  | .hbm => 93
  | .vmem => 0
  | .smem => 0
  | _ => 0

abbrev bufTy : (tb : Table) → Fin (tcTables nBuf tb) → BufTy
  | .hbm, ⟨0, _⟩ => ⟨S33024x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S64, .f32⟩
  | .hbm, ⟨5, _⟩ => ⟨S64, .f32⟩
  | .hbm, ⟨6, _⟩ => ⟨S16x2064x1024, .f32⟩
  | .hbm, ⟨7, _⟩ => ⟨S16x2064x1024, .f32⟩
  | .hbm, ⟨8, _⟩ => ⟨S_, .f32⟩
  | .hbm, ⟨9, _⟩ => ⟨S16x2064, .f32⟩
  | .hbm, ⟨10, _⟩ => ⟨S16x2064x1, .f32⟩
  | .hbm, ⟨11, _⟩ => ⟨S_, .f32⟩
  | .hbm, ⟨12, _⟩ => ⟨S16x2064x1, .f32⟩
  | .hbm, ⟨13, _⟩ => ⟨S16x2064x1, .f32⟩
  | .hbm, ⟨14, _⟩ => ⟨S_, .f32⟩
  | .hbm, ⟨15, _⟩ => ⟨S16x2064x1, .f32⟩
  | .hbm, ⟨16, _⟩ => ⟨S16x2064x1, .f32⟩
  | .hbm, ⟨17, _⟩ => ⟨S16x2064x1, .f32⟩
  | .hbm, ⟨18, _⟩ => ⟨S16x2064x1024, .f32⟩
  | .hbm, ⟨19, _⟩ => ⟨S16x2064x1024, .f32⟩
  | .hbm, ⟨20, _⟩ => ⟨S1x1x1024, .f32⟩
  | .hbm, ⟨21, _⟩ => ⟨S16x2064x1024, .f32⟩
  | .hbm, ⟨22, _⟩ => ⟨S16x2064x1024, .f32⟩
  | .hbm, ⟨23, _⟩ => ⟨S16x2064x3088, .f32⟩
  | .hbm, ⟨24, _⟩ => ⟨S16x2064x1024, .f32⟩
  | .hbm, ⟨25, _⟩ => ⟨S16x2064x1024, .f32⟩
  | .hbm, ⟨26, _⟩ => ⟨S16x2064x1024, .f32⟩
  | .hbm, ⟨27, _⟩ => ⟨S16x2064x16, .f32⟩
  | .hbm, ⟨28, _⟩ => ⟨S16x2064x16x64, .f32⟩
  | .hbm, ⟨29, _⟩ => ⟨S16x2064x16x64, .f32⟩
  | .hbm, ⟨30, _⟩ => ⟨S_, .f32⟩
  | .hbm, ⟨31, _⟩ => ⟨S16x2064x16, .f32⟩
  | .hbm, ⟨32, _⟩ => ⟨S16x2064x16x1, .f32⟩
  | .hbm, ⟨33, _⟩ => ⟨S_, .f32⟩
  | .hbm, ⟨34, _⟩ => ⟨S16x2064x16x1, .f32⟩
  | .hbm, ⟨35, _⟩ => ⟨S16x2064x16x1, .f32⟩
  | .hbm, ⟨36, _⟩ => ⟨S_, .f32⟩
  | .hbm, ⟨37, _⟩ => ⟨S16x2064x16x1, .f32⟩
  | .hbm, ⟨38, _⟩ => ⟨S16x2064x16x1, .f32⟩
  | .hbm, ⟨39, _⟩ => ⟨S16x2064x16x1, .f32⟩
  | .hbm, ⟨40, _⟩ => ⟨S16x2064x16x64, .f32⟩
  | .hbm, ⟨41, _⟩ => ⟨S16x2064x16x64, .f32⟩
  | .hbm, ⟨42, _⟩ => ⟨S1x1x1x64, .f32⟩
  | .hbm, ⟨43, _⟩ => ⟨S16x2064x16x64, .f32⟩
  | .hbm, ⟨44, _⟩ => ⟨S16x2064x16x64, .f32⟩
  | .hbm, ⟨45, _⟩ => ⟨S16x2064x16x64, .f32⟩
  | .hbm, ⟨46, _⟩ => ⟨S16x2064x16x64, .f32⟩
  | .hbm, ⟨47, _⟩ => ⟨S_, .f32⟩
  | .hbm, ⟨48, _⟩ => ⟨S16x2064x16, .f32⟩
  | .hbm, ⟨49, _⟩ => ⟨S16x2064x16x1, .f32⟩
  | .hbm, ⟨50, _⟩ => ⟨S_, .f32⟩
  | .hbm, ⟨51, _⟩ => ⟨S16x2064x16x1, .f32⟩
  | .hbm, ⟨52, _⟩ => ⟨S16x2064x16x1, .f32⟩
  | .hbm, ⟨53, _⟩ => ⟨S_, .f32⟩
  | .hbm, ⟨54, _⟩ => ⟨S16x2064x16x1, .f32⟩
  | .hbm, ⟨55, _⟩ => ⟨S16x2064x16x1, .f32⟩
  | .hbm, ⟨56, _⟩ => ⟨S16x2064x16x1, .f32⟩
  | .hbm, ⟨57, _⟩ => ⟨S16x2064x16x64, .f32⟩
  | .hbm, ⟨58, _⟩ => ⟨S16x2064x16x64, .f32⟩
  | .hbm, ⟨59, _⟩ => ⟨S1x1x1x64, .f32⟩
  | .hbm, ⟨60, _⟩ => ⟨S16x2064x16x64, .f32⟩
  | .hbm, ⟨61, _⟩ => ⟨S16x2064x16x64, .f32⟩
  | .hbm, ⟨62, _⟩ => ⟨S16x2064x16x64, .f32⟩
  | .hbm, ⟨63, _⟩ => ⟨S1x1x16, .f32⟩
  | .hbm, ⟨64, _⟩ => ⟨S16x2064x16, .f32⟩
  | .hbm, ⟨65, _⟩ => ⟨S16x2064x16, .f32⟩
  | .hbm, ⟨66, _⟩ => ⟨S16x2064x16, .f32⟩
  | .hbm, ⟨67, _⟩ => ⟨S_, .f32⟩
  | .hbm, ⟨68, _⟩ => ⟨S16x2064x16, .f32⟩
  | .hbm, ⟨69, _⟩ => ⟨S16x2064x16, .f32⟩
  | .hbm, ⟨70, _⟩ => ⟨S16x2064x16, .f32⟩
  | .hbm, ⟨71, _⟩ => ⟨S16x2064x16, .f32⟩
  | .hbm, ⟨72, _⟩ => ⟨S16x2064x16, .i1⟩
  | .hbm, ⟨73, _⟩ => ⟨S16x2064x16, .f32⟩
  | .hbm, ⟨74, _⟩ => ⟨S16x2064x16, .f32⟩
  | .hbm, ⟨75, _⟩ => ⟨S16x2064x16, .f32⟩
  | .hbm, ⟨76, _⟩ => ⟨S16x2064x16, .f32⟩
  | .hbm, ⟨77, _⟩ => ⟨S16x2064x16, .f32⟩
  | .hbm, ⟨78, _⟩ => ⟨S16x2064x16, .f32⟩
  | .hbm, ⟨79, _⟩ => ⟨S16x2064x16, .f32⟩
  | .hbm, ⟨80, _⟩ => ⟨S16x2064x16, .f32⟩
  | .hbm, ⟨81, _⟩ => ⟨S16x2064x16, .f32⟩
  | .hbm, ⟨82, _⟩ => ⟨S33024x1024, .f32⟩
  | .hbm, ⟨83, _⟩ => ⟨S_, .f32⟩
  | .hbm, ⟨84, _⟩ => ⟨S33024x1024, .f32⟩
  | .hbm, ⟨85, _⟩ => ⟨S33024x1024, .f32⟩
  | .hbm, ⟨86, _⟩ => ⟨S33024x1024, .bf16⟩
  | .hbm, ⟨87, _⟩ => ⟨S33024x1024, .f32⟩
  | .hbm, ⟨88, _⟩ => ⟨S33024x1024, .f32⟩
  | .hbm, ⟨89, _⟩ => ⟨S33024x16, .f32⟩
  | .hbm, ⟨90, _⟩ => ⟨S1x33024x1x16, .f32⟩
  | .hbm, ⟨91, _⟩ => ⟨S1x33024x8x16, .f32⟩
  | .hbm, ⟨92, _⟩ => ⟨S33024x128, .f32⟩
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call0_v0 : Ref sig .tc := ⟨.hbm, 66, rfl⟩
abbrev main_call0_call0_cst : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_call0_v2 : Ref sig .tc := ⟨.hbm, 70, rfl⟩
abbrev main_call0_call0_v3 : Ref sig .tc := ⟨.hbm, 71, rfl⟩
abbrev main_call0_call0_v4 : Ref sig .tc := ⟨.hbm, 72, rfl⟩
abbrev main_call0_call0_v5 : Ref sig .tc := ⟨.hbm, 73, rfl⟩
abbrev main_call0_call0_v6 : Ref sig .tc := ⟨.hbm, 74, rfl⟩
abbrev main_call0_call0_v7 : Ref sig .tc := ⟨.hbm, 75, rfl⟩
abbrev main_call0_call0_v8 : Ref sig .tc := ⟨.hbm, 76, rfl⟩
abbrev main_call0_call0_v9 : Ref sig .tc := ⟨.hbm, 77, rfl⟩
abbrev main_call0_call0_v10 : Ref sig .tc := ⟨.hbm, 78, rfl⟩
abbrev main_call0_call0_v11 : Ref sig .tc := ⟨.hbm, 79, rfl⟩
abbrev main_call0_v1 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Kernel6.lean ====
abbrev S33024x1024 : Shape := ⟨2, ![33024, 1024]⟩
abbrev S1024 : Shape := ⟨1, ![1024]⟩
abbrev S1024x2320 : Shape := ⟨2, ![1024, 2320]⟩
abbrev S64 : Shape := ⟨1, ![64]⟩
abbrev S16x256 : Shape := ⟨2, ![16, 256]⟩
abbrev S256 : Shape := ⟨1, ![256]⟩
abbrev S_ : Shape := ⟨0, ![]⟩
abbrev S1024x2432 : Shape := ⟨2, ![1024, 2432]⟩
abbrev S128x256 : Shape := ⟨2, ![128, 256]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S1x256 : Shape := ⟨2, ![1, 256]⟩
abbrev S2064 : Shape := ⟨1, ![2064]⟩
abbrev S32 : Shape := ⟨1, ![32]⟩
abbrev S2064x1 : Shape := ⟨2, ![2064, 1]⟩
abbrev S1x32 : Shape := ⟨2, ![1, 32]⟩
abbrev S2064x32 : Shape := ⟨2, ![2064, 32]⟩
abbrev S2064x64 : Shape := ⟨2, ![2064, 64]⟩
abbrev S1x2064x1x64 : Shape := ⟨4, ![1, 2064, 1, 64]⟩
abbrev S1x2064x2x64 : Shape := ⟨4, ![1, 2064, 2, 64]⟩
abbrev S2064x128 : Shape := ⟨2, ![2064, 128]⟩
abbrev S1x1024 : Shape := ⟨2, ![1, 1024]⟩
abbrev S256x256 : Shape := ⟨2, ![256, 256]⟩
abbrev S33024x512 : Shape := ⟨2, ![33024, 512]⟩
abbrev S33024x256 : Shape := ⟨2, ![33024, 256]⟩
abbrev S33024x768 : Shape := ⟨2, ![33024, 768]⟩
abbrev S688x1024 : Shape := ⟨2, ![688, 1024]⟩
abbrev S688x128 : Shape := ⟨2, ![688, 128]⟩
abbrev S688x512 : Shape := ⟨2, ![688, 512]⟩
abbrev S688x256 : Shape := ⟨2, ![688, 256]⟩
abbrev S688x768 : Shape := ⟨2, ![688, 768]⟩
abbrev S688 : Shape := ⟨1, ![688]⟩
abbrev S688x1 : Shape := ⟨2, ![688, 1]⟩
abbrev S1024x768 : Shape := ⟨2, ![1024, 768]⟩
abbrev S128x128 : Shape := ⟨2, ![128, 128]⟩
abbrev S1024x512 : Shape := ⟨2, ![1024, 512]⟩
abbrev S1024x640 : Shape := ⟨2, ![1024, 640]⟩
abbrev S688x640 : Shape := ⟨2, ![688, 640]⟩

abbrev nBuf : Space → Nat
  | .hbm => 70
  | .vmem => 23
  | .smem => 0
  | _ => 0

abbrev bufTy : (tb : Table) → Fin (tcTables nBuf tb) → BufTy
  | .hbm, ⟨0, _⟩ => ⟨S33024x1024, .f32⟩
  | .hbm, ⟨1, _⟩ => ⟨S1024, .f32⟩
  | .hbm, ⟨2, _⟩ => ⟨S1024x2320, .f32⟩
  | .hbm, ⟨3, _⟩ => ⟨S64, .f32⟩
  | .hbm, ⟨4, _⟩ => ⟨S64, .f32⟩
  | .hbm, ⟨5, _⟩ => ⟨S16x256, .f32⟩
  | .hbm, ⟨6, _⟩ => ⟨S256, .f32⟩
  | .hbm, ⟨7, _⟩ => ⟨S_, .i32⟩
  | .hbm, ⟨8, _⟩ => ⟨S_, .f32⟩
  | .hbm, ⟨9, _⟩ => ⟨S1024x2432, .f32⟩
  | .hbm, ⟨10, _⟩ => ⟨S1024x2432, .bf16⟩
  | .hbm, ⟨11, _⟩ => ⟨S_, .i32⟩
  | .hbm, ⟨12, _⟩ => ⟨S_, .f32⟩
  | .hbm, ⟨13, _⟩ => ⟨S128x256, .f32⟩
  | .hbm, ⟨14, _⟩ => ⟨S128x256, .bf16⟩
  | .hbm, ⟨15, _⟩ => ⟨S1x64, .f32⟩
  | .hbm, ⟨16, _⟩ => ⟨S8x64, .f32⟩
  | .hbm, ⟨17, _⟩ => ⟨S512, .f32⟩
  | .hbm, ⟨18, _⟩ => ⟨S1x512, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S1x256, .f32⟩
  | .hbm, ⟨24, _⟩ => ⟨S2064, .i32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S2064, .f32⟩
  | .hbm, ⟨34, _⟩ => ⟨S2064x1, .f32⟩
  | .hbm, ⟨35, _⟩ => ⟨S1x32, .f32⟩
  | .hbm, ⟨36, _⟩ => ⟨S2064x32, .f32⟩
  | .hbm, ⟨37, _⟩ => ⟨S2064x32, .f32⟩
  | .hbm, ⟨38, _⟩ => ⟨S2064x32, .f32⟩
  | .hbm, ⟨39, _⟩ => ⟨S2064x32, .f32⟩
  | .hbm, ⟨40, _⟩ => ⟨S2064x32, .f32⟩
  | .hbm, ⟨41, _⟩ => ⟨S2064x64, .f32⟩
  | .hbm, ⟨42, _⟩ => ⟨S2064x32, .f32⟩
  | .hbm, ⟨43, _⟩ => ⟨S2064x64, .f32⟩
  | .hbm, ⟨44, _⟩ => ⟨S1x2064x1x64, .f32⟩
  | .hbm, ⟨45, _⟩ => ⟨S1x2064x2x64, .f32⟩
  | .hbm, ⟨46, _⟩ => ⟨S2064x128, .f32⟩
  | .hbm, ⟨47, _⟩ => ⟨S1x2064x1x64, .f32⟩
  | .hbm, ⟨48, _⟩ => ⟨S1x2064x2x64, .f32⟩
  | .hbm, ⟨49, _⟩ => ⟨S2064x128, .f32⟩
  | .hbm, ⟨50, _⟩ => ⟨S1x1024, .f32⟩
  | .hbm, ⟨51, _⟩ => ⟨S256x256, .i32⟩
  | .hbm, ⟨52, _⟩ => ⟨S256x256, .i32⟩
  | .hbm, ⟨53, _⟩ => ⟨S_, .i32⟩
  | .hbm, ⟨54, _⟩ => ⟨S256x256, .i32⟩
  | .hbm, ⟨55, _⟩ => ⟨S256x256, .i32⟩
  | .hbm, ⟨56, _⟩ => ⟨S_, .i32⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S256x256, .f32⟩
  | .hbm, ⟨61, _⟩ => ⟨S_, .f32⟩
  | .hbm, ⟨62, _⟩ => ⟨S256x256, .f32⟩
  | .hbm, ⟨63, _⟩ => ⟨S256x256, .f32⟩
  | .hbm, ⟨64, _⟩ => ⟨S256x256, .bf16⟩
  | .hbm, ⟨65, _⟩ => ⟨S33024x512, .bf16⟩
  | .hbm, ⟨66, _⟩ => ⟨S33024x256, .f32⟩
  | .hbm, ⟨67, _⟩ => ⟨S33024x768, .f32⟩
  | .hbm, ⟨68, _⟩ => ⟨S33024x512, .f32⟩
  | .hbm, ⟨69, _⟩ => ⟨S33024x512, .f32⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S1024x2432, .bf16⟩
  | .local _ .vmem, ⟨4, _⟩ => ⟨S256x256, .bf16⟩
  | .local _ .vmem, ⟨5, _⟩ => ⟨S1x512, .f32⟩
  | .local _ .vmem, ⟨6, _⟩ => ⟨S1x128, .f32⟩
  | .local _ .vmem, ⟨7, _⟩ => ⟨S688x128, .f32⟩
  | .local _ .vmem, ⟨8, _⟩ => ⟨S688x128, .f32⟩
  | .local _ .vmem, ⟨9, _⟩ => ⟨S688x128, .f32⟩
  | .local _ .vmem, ⟨10, _⟩ => ⟨S688x128, .f32⟩
  | .local _ .vmem, ⟨11, _⟩ => ⟨S128x256, .bf16⟩
  | .local _ .vmem, ⟨12, _⟩ => ⟨S1x256, .f32⟩
  | .local _ .vmem, ⟨13, _⟩ => ⟨S688x512, .bf16⟩
  | .local _ .vmem, ⟨14, _⟩ => ⟨S688x512, .bf16⟩
  | .local _ .vmem, ⟨15, _⟩ => ⟨S688x256, .f32⟩
  | .local _ .vmem, ⟨16, _⟩ => ⟨S688x256, .f32⟩
  | .local _ .vmem, ⟨17, _⟩ => ⟨S688x768, .f32⟩
  | .local _ .vmem, ⟨18, _⟩ => ⟨S688x768, .f32⟩
  | .local _ .vmem, ⟨19, _⟩ => ⟨S688x512, .f32⟩
  | .local _ .vmem, ⟨20, _⟩ => ⟨S688x512, .f32⟩
  | .local _ .vmem, ⟨21, _⟩ => ⟨S688x512, .f32⟩
  | .local _ .vmem, ⟨22, _⟩ => ⟨S688x512, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_2 : Ref sig .tc := ⟨.hbm, 53, rfl⟩
abbrev main_v40 : Ref sig .tc := ⟨.hbm, 54, rfl⟩
abbrev main_v41 : Ref sig .tc := ⟨.hbm, 55, rfl⟩
abbrev main_c_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49_0 : Ref sig .tc := ⟨.hbm, 65, rfl⟩
abbrev main_v49_1 : Ref sig .tc := ⟨.hbm, 66, rfl⟩
abbrev main_v49_2 : Ref sig .tc := ⟨.hbm, 67, rfl⟩
abbrev main_v49_3 : Ref sig .tc := ⟨.hbm, 68, rfl⟩
abbrev main_v49_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S688x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S688x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S688x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S688x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S33024x1024 : Shape := ⟨2, ![33024, 1024]⟩
abbrev S1024 : Shape := ⟨1, ![1024]⟩
abbrev S1024x2320 : Shape := ⟨2, ![1024, 2320]⟩
abbrev S64 : Shape := ⟨1, ![64]⟩
abbrev S16x256 : Shape := ⟨2, ![16, 256]⟩
abbrev S256 : Shape := ⟨1, ![256]⟩
abbrev S16x2064x1024 : Shape := ⟨3, ![16, 2064, 1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S2064 : Shape := ⟨1, ![2064]⟩
abbrev S16x2064x2320 : Shape := ⟨3, ![16, 2064, 2320]⟩
abbrev S16x2064x512 : Shape := ⟨3, ![16, 2064, 512]⟩
abbrev S16x2064x128 : Shape := ⟨3, ![16, 2064, 128]⟩
abbrev S16x2064x256 : Shape := ⟨3, ![16, 2064, 256]⟩
abbrev S16x2064x16 : Shape := ⟨3, ![16, 2064, 16]⟩
abbrev S16x2064x8x64 : Shape := ⟨4, ![16, 2064, 8, 64]⟩
abbrev S16x2064x8 : Shape := ⟨3, ![16, 2064, 8]⟩
abbrev S16x2064x8x1 : Shape := ⟨4, ![16, 2064, 8, 1]⟩
abbrev S1x1x1x64 : Shape := ⟨4, ![1, 1, 1, 64]⟩
abbrev S32 : Shape := ⟨1, ![32]⟩
abbrev S2064x1 : Shape := ⟨2, ![2064, 1]⟩
abbrev S1x32 : Shape := ⟨2, ![1, 32]⟩
abbrev S2064x32 : Shape := ⟨2, ![2064, 32]⟩
abbrev S1x2064x1x32 : Shape := ⟨4, ![1, 2064, 1, 32]⟩
abbrev S16x2064x8x32 : Shape := ⟨4, ![16, 2064, 8, 32]⟩
abbrev S16x2064x2x64 : Shape := ⟨4, ![16, 2064, 2, 64]⟩
abbrev S16x2064x2 : Shape := ⟨3, ![16, 2064, 2]⟩
abbrev S16x2064x2x1 : Shape := ⟨4, ![16, 2064, 2, 1]⟩
abbrev S16x2064x2x32 : Shape := ⟨4, ![16, 2064, 2, 32]⟩
abbrev S16x2064x4x64 : Shape := ⟨4, ![16, 2064, 4, 64]⟩
abbrev S16x2064x4x128 : Shape := ⟨4, ![16, 2064, 4, 128]⟩
abbrev S1x1x256 : Shape := ⟨3, ![1, 1, 256]⟩
abbrev S33024x128 : Shape := ⟨2, ![33024, 128]⟩
abbrev S33024x256 : Shape := ⟨2, ![33024, 256]⟩
abbrev S33024x768 : Shape := ⟨2, ![33024, 768]⟩
abbrev S33024x512 : Shape := ⟨2, ![33024, 512]⟩

abbrev nBuf : Space → Nat
  | .hbm => 175
  | .vmem => 0
  | .smem => 0
  | _ => 0

abbrev hbmTy0_0 (i : Nat) : BufTy := match i % 128 with
  | 0 => ⟨S33024x1024, .f32⟩
  | 1 => ⟨S1024, .f32⟩
  | 2 => ⟨S1024x2320, .f32⟩
  | 3 => ⟨S64, .f32⟩
  | 4 => ⟨S64, .f32⟩
  | 5 => ⟨S16x256, .f32⟩
  | 6 => ⟨S256, .f32⟩
  | 7 => ⟨S16x2064x1024, .f32⟩
  | 8 => ⟨S16x2064x1024, .f32⟩
  | 9 => ⟨S_, .f32⟩
  | 10 => ⟨S16x2064, .f32⟩
  | 11 => ⟨S16x2064x1, .f32⟩
  | 12 => ⟨S_, .f32⟩
  | 13 => ⟨S16x2064x1, .f32⟩
  | 14 => ⟨S16x2064x1, .f32⟩
  | 15 => ⟨S_, .f32⟩
  | 16 => ⟨S16x2064x1, .f32⟩
  | 17 => ⟨S16x2064x1, .f32⟩
  | 18 => ⟨S16x2064x1, .f32⟩
  | 19 => ⟨S16x2064x1024, .f32⟩
  | 20 => ⟨S16x2064x1024, .f32⟩
  | 21 => ⟨S1x1x1024, .f32⟩
  | 22 => ⟨S16x2064x1024, .f32⟩
  | 23 => ⟨S16x2064x1024, .f32⟩
  | 24 => ⟨S2064, .i32⟩
  | 25 => ⟨S16x2064x2320, .f32⟩
  | 26 => ⟨S16x2064x512, .f32⟩
  | 27 => ⟨S16x2064x128, .f32⟩
  | 28 => ⟨S16x2064x128, .f32⟩
  | 29 => ⟨S16x2064x256, .f32⟩
  | 30 => ⟨S16x2064x256, .f32⟩
  | 31 => ⟨S16x2064x512, .f32⟩
  | 32 => ⟨S16x2064x512, .f32⟩
  | 33 => ⟨S16x2064x16, .f32⟩
  | 34 => ⟨S16x2064x8x64, .f32⟩
  | 35 => ⟨S16x2064x8x64, .f32⟩
  | 36 => ⟨S_, .f32⟩
  | 37 => ⟨S16x2064x8, .f32⟩
  | 38 => ⟨S16x2064x8x1, .f32⟩
  | 39 => ⟨S_, .f32⟩
  | 40 => ⟨S16x2064x8x1, .f32⟩
  | 41 => ⟨S16x2064x8x1, .f32⟩
  | 42 => ⟨S_, .f32⟩
  | 43 => ⟨S16x2064x8x1, .f32⟩
  | 44 => ⟨S16x2064x8x1, .f32⟩
  | 45 => ⟨S16x2064x8x1, .f32⟩
  | 46 => ⟨S16x2064x8x64, .f32⟩
  | 47 => ⟨S16x2064x8x64, .f32⟩
  | 48 => ⟨S1x1x1x64, .f32⟩
  | 49 => ⟨S16x2064x8x64, .f32⟩
  | 50 => ⟨S16x2064x8x64, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S2064, .f32⟩
  | 60 => ⟨S2064x1, .f32⟩
  | 61 => ⟨S1x32, .f32⟩
  | 62 => ⟨S2064x32, .f32⟩
  | 63 => ⟨S2064x32, .f32⟩
  | 64 => ⟨S2064x32, .f32⟩
  | 65 => ⟨S2064x32, .f32⟩
  | 66 => ⟨S1x2064x1x32, .f32⟩
  | 67 => ⟨S2064x32, .f32⟩
  | 68 => ⟨S1x2064x1x32, .f32⟩
  | 69 => ⟨S16x2064x8x32, .f32⟩
  | 70 => ⟨S16x2064x8x32, .f32⟩
  | 71 => ⟨S16x2064x8x32, .f32⟩
  | 72 => ⟨S16x2064x8x32, .f32⟩
  | 73 => ⟨S16x2064x8x32, .f32⟩
  | 74 => ⟨S16x2064x8x32, .f32⟩
  | 75 => ⟨S16x2064x8x32, .f32⟩
  | 76 => ⟨S16x2064x8x32, .f32⟩
  | 77 => ⟨S16x2064x8x32, .f32⟩
  | 78 => ⟨S16x2064x8x32, .f32⟩
  | 79 => ⟨S16x2064x8x32, .f32⟩
  | 80 => ⟨S16x2064x8x32, .f32⟩
  | 81 => ⟨S16x2064x8x64, .f32⟩
  | 82 => ⟨S16x2064x2x64, .f32⟩
  | 83 => ⟨S16x2064x2x64, .f32⟩
  | 84 => ⟨S_, .f32⟩
  | 85 => ⟨S16x2064x2, .f32⟩
  | 86 => ⟨S16x2064x2x1, .f32⟩
  | 87 => ⟨S_, .f32⟩
  | 88 => ⟨S16x2064x2x1, .f32⟩
  | 89 => ⟨S16x2064x2x1, .f32⟩
  | 90 => ⟨S_, .f32⟩
  | 91 => ⟨S16x2064x2x1, .f32⟩
  | 92 => ⟨S16x2064x2x1, .f32⟩
  | 93 => ⟨S16x2064x2x1, .f32⟩
  | 94 => ⟨S16x2064x2x64, .f32⟩
  | 95 => ⟨S16x2064x2x64, .f32⟩
  | 96 => ⟨S1x1x1x64, .f32⟩
  | 97 => ⟨S16x2064x2x64, .f32⟩
  | 98 => ⟨S16x2064x2x64, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S2064, .f32⟩
  | 108 => ⟨S2064x1, .f32⟩
  | 109 => ⟨S1x32, .f32⟩
  | 110 => ⟨S2064x32, .f32⟩
  | 111 => ⟨S2064x32, .f32⟩
  | 112 => ⟨S2064x32, .f32⟩
  | 113 => ⟨S2064x32, .f32⟩
  | 114 => ⟨S1x2064x1x32, .f32⟩
  | 115 => ⟨S2064x32, .f32⟩
  | 116 => ⟨S1x2064x1x32, .f32⟩
  | 117 => ⟨S16x2064x2x32, .f32⟩
  | 118 => ⟨S16x2064x2x32, .f32⟩
  | 119 => ⟨S16x2064x2x32, .f32⟩
  | 120 => ⟨S16x2064x2x32, .f32⟩
  | 121 => ⟨S16x2064x2x32, .f32⟩
  | 122 => ⟨S16x2064x2x32, .f32⟩
  | 123 => ⟨S16x2064x2x32, .f32⟩
  | 124 => ⟨S16x2064x2x32, .f32⟩
  | 125 => ⟨S16x2064x2x32, .f32⟩
  | 126 => ⟨S16x2064x2x32, .f32⟩
  | 127 => ⟨S16x2064x2x32, .f32⟩
  | _ => ⟨S33024x1024, .f32⟩

abbrev hbmTy0_1 (i : Nat) : BufTy := match i % 128 with
  | 0 => ⟨S16x2064x2x32, .f32⟩
  | 1 => ⟨S16x2064x2x64, .f32⟩
  | 2 => ⟨S16x2064x2x64, .f32⟩
  | 3 => ⟨S16x2064x4x64, .f32⟩
  | 4 => ⟨S_, .f32⟩
  | 5 => ⟨S16x2064x4x64, .f32⟩
  | 6 => ⟨S16x2064x4x64, .f32⟩
  | 7 => ⟨S16x2064x4x64, .f32⟩
  | 8 => ⟨S16x2064x4x128, .f32⟩
  | 9 => ⟨S16x2064x256, .f32⟩
  | 10 => ⟨S1x1x256, .f32⟩
  | 11 => ⟨S16x2064x256, .f32⟩
  | 12 => ⟨S16x2064x256, .f32⟩
  | 13 => ⟨S16x2064x256, .f32⟩
  | 14 => ⟨S_, .f32⟩
  | 15 => ⟨S16x2064x256, .f32⟩
  | 16 => ⟨S16x2064x256, .f32⟩
  | 17 => ⟨S16x2064x256, .f32⟩
  | 18 => ⟨S16x2064x256, .f32⟩
  | 19 => ⟨S16x2064x256, .i1⟩
  | 20 => ⟨S16x2064x256, .f32⟩
  | 21 => ⟨S16x2064x256, .f32⟩
  | 22 => ⟨S16x2064x256, .f32⟩
  | 23 => ⟨S16x2064x256, .f32⟩
  | 24 => ⟨S16x2064x256, .f32⟩
  | 25 => ⟨S16x2064x256, .f32⟩
  | 26 => ⟨S16x2064x256, .f32⟩
  | 27 => ⟨S16x2064x256, .f32⟩
  | 28 => ⟨S16x2064x256, .f32⟩
  | 29 => ⟨S_, .f32⟩
  | 30 => ⟨S16x2064x256, .f32⟩
  | 31 => ⟨S16x2064x256, .f32⟩
  | 32 => ⟨S16x2064x4x64, .f32⟩
  | 33 => ⟨S33024x128, .f32⟩
  | 34 => ⟨S33024x128, .f32⟩
  | 35 => ⟨S33024x256, .f32⟩
  | 36 => ⟨S33024x256, .f32⟩
  | 37 => ⟨S33024x256, .f32⟩
  | 38 => ⟨S33024x256, .f32⟩
  | 39 => ⟨S_, .f32⟩
  | 40 => ⟨S33024x256, .f32⟩
  | 41 => ⟨S33024x256, .f32⟩
  | 42 => ⟨S33024x768, .f32⟩
  | 43 => ⟨S33024x512, .f32⟩
  | 44 => ⟨S33024x512, .bf16⟩
  | 45 => ⟨S33024x512, .f32⟩
  | 46 => ⟨S33024x512, .f32⟩
  | _ => ⟨S33024x1024, .f32⟩

abbrev hbmTy (i : Nat) : BufTy := match i / 128 with
  | 0 => hbmTy0_0 i
  | 1 => hbmTy0_1 i
  | _ => ⟨S33024x1024, .f32⟩

abbrev bufTy : (tb : Table) → Fin (tcTables nBuf tb) → BufTy
  | .hbm, ⟨i, _⟩ => hbmTy i
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_7 : Ref sig .tc := ⟨.hbm, 84, rfl⟩
abbrev main_v69 : Ref sig .tc := ⟨.hbm, 85, rfl⟩
abbrev main_v70 : Ref sig .tc := ⟨.hbm, 86, rfl⟩
abbrev main_cst_8 : Ref sig .tc := ⟨.hbm, 87, rfl⟩
abbrev main_v71 : Ref sig .tc := ⟨.hbm, 88, rfl⟩
abbrev main_v72 : Ref sig .tc := ⟨.hbm, 89, rfl⟩
abbrev main_cst_9 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_cst_11 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_12 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_call0_v0 : Ref sig .tc := ⟨.hbm, 141, rfl⟩
abbrev main_call0_call0_cst : Ref sig .tc := ⟨.hbm, 142, rfl⟩
abbrev main_call0_call0_v0 : Ref sig .tc := ⟨.hbm, 143, rfl⟩
abbrev main_call0_call0_v1 : Ref sig .tc := ⟨.hbm, 144, rfl⟩
abbrev main_call0_call0_v2 : Ref sig .tc := ⟨.hbm, 145, rfl⟩
abbrev main_call0_call0_v3 : Ref sig .tc := ⟨.hbm, 146, rfl⟩
abbrev main_call0_call0_v4 : Ref sig .tc := ⟨.hbm, 147, rfl⟩
abbrev main_call0_call0_v5 : Ref sig .tc := ⟨.hbm, 148, rfl⟩
abbrev main_call0_call0_v6 : Ref sig .tc := ⟨.hbm, 149, rfl⟩
abbrev main_call0_call0_v7 : Ref sig .tc := ⟨.hbm, 150, rfl⟩
abbrev main_call0_call0_v8 : Ref sig .tc := ⟨.hbm, 151, rfl⟩
abbrev main_call0_call0_v9 : Ref sig .tc := ⟨.hbm, 152, rfl⟩
abbrev main_call0_call0_v10 : Ref sig .tc := ⟨.hbm, 153, rfl⟩
abbrev main_call0_call0_v11 : Ref sig .tc := ⟨.hbm, 154, rfl⟩
abbrev main_call0_v1 : Ref sig .tc := ⟨.hbm, 155, rfl⟩
abbrev main_v120 : Ref sig .tc := ⟨.hbm, 156, rfl⟩
abbrev main_cst_13 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_14 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩

abbrev nD : Nat := 1
abbrev τ : Topo := Topo.v7x

variable {F : FTy → Type} [FloatOps F]
-- ==== Kernel7.lean ====
abbrev S16x32x8x64 : Shape := ⟨4, ![16, 32, 8, 64]⟩
abbrev S16x32x2x64 : Shape := ⟨4, ![16, 32, 2, 64]⟩
abbrev S16x128x2x64 : Shape := ⟨4, ![16, 128, 2, 64]⟩
abbrev S8 : Shape := ⟨1, ![8]⟩
abbrev S512x512 : Shape := ⟨2, ![512, 512]⟩
abbrev S512x128 : Shape := ⟨2, ![512, 128]⟩
abbrev S512x256 : Shape := ⟨2, ![512, 256]⟩
abbrev S16x128x128 : Shape := ⟨3, ![16, 128, 128]⟩
abbrev S32x512 : Shape := ⟨2, ![32, 512]⟩
abbrev S32x256 : Shape := ⟨2, ![32, 256]⟩
abbrev S1x128x128 : Shape := ⟨3, ![1, 128, 128]⟩
abbrev S128x128 : Shape := ⟨2, ![128, 128]⟩
abbrev S32x128 : Shape := ⟨2, ![32, 128]⟩
abbrev S160x128 : Shape := ⟨2, ![160, 128]⟩
abbrev S1 : Shape := ⟨1, ![1]⟩
abbrev S128x160 : Shape := ⟨2, ![128, 160]⟩
abbrev S128x1 : Shape := ⟨2, ![128, 1]⟩
abbrev S128 : Shape := ⟨1, ![128]⟩

abbrev nBuf : Space → Nat
  | .hbm => 16
  | .vmem => 14
  | .smem => 1
  | _ => 0

abbrev bufTy : (tb : Table) → Fin (tcTables nBuf tb) → BufTy
  | .hbm, ⟨0, _⟩ => ⟨S16x32x8x64, .f32⟩
  | .hbm, ⟨1, _⟩ => ⟨S16x32x2x64, .f32⟩
  | .hbm, ⟨2, _⟩ => ⟨S16x32x2x64, .f32⟩
  | .hbm, ⟨3, _⟩ => ⟨S16x128x2x64, .f32⟩
  | .hbm, ⟨4, _⟩ => ⟨S16x128x2x64, .f32⟩
  | .hbm, ⟨5, _⟩ => ⟨S8, .f32⟩
  | .hbm, ⟨6, _⟩ => ⟨S512x512, .f32⟩
  | .hbm, ⟨7, _⟩ => ⟨S512x512, .bf16⟩
  | .hbm, ⟨8, _⟩ => ⟨S512x128, .f32⟩
  | .hbm, ⟨9, _⟩ => ⟨S512x128, .f32⟩
  | .hbm, ⟨10, _⟩ => ⟨S512x256, .f32⟩
  | .hbm, ⟨11, _⟩ => ⟨S16x128x128, .f32⟩
  | .hbm, ⟨12, _⟩ => ⟨S16x128x128, .f32⟩
  | .hbm, ⟨13, _⟩ => ⟨S512x512, .bf16⟩
  | .hbm, ⟨14, _⟩ => ⟨S16x128x128, .f32⟩
  | .hbm, ⟨15, _⟩ => ⟨S16x128x128, .f32⟩
  | .local _ .vmem, ⟨0, _⟩ => ⟨S32x512, .bf16⟩
  | .local _ .vmem, ⟨1, _⟩ => ⟨S32x512, .bf16⟩
  | .local _ .vmem, ⟨2, _⟩ => ⟨S32x256, .f32⟩
  | .local _ .vmem, ⟨3, _⟩ => ⟨S32x256, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S32x512, .bf16⟩
  | .local _ .vmem, ⟨9, _⟩ => ⟨S32x512, .bf16⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .smem, ⟨0, _⟩ => ⟨S8, .f32⟩
  | _, _ => ⟨S16x32x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S16x32x8x64 : Shape := ⟨4, ![16, 32, 8, 64]⟩
abbrev S16x32x2x64 : Shape := ⟨4, ![16, 32, 2, 64]⟩
abbrev S16x128x2x64 : Shape := ⟨4, ![16, 128, 2, 64]⟩
abbrev S8 : Shape := ⟨1, ![8]⟩
abbrev S16x160x2x64 : Shape := ⟨4, ![16, 160, 2, 64]⟩
abbrev S16x32x2x4x64 : Shape := ⟨5, ![16, 32, 2, 4, 64]⟩
abbrev S16x2x160x32x4 : Shape := ⟨5, ![16, 2, 160, 32, 4]⟩
abbrev S16x2x4x32x160 : Shape := ⟨5, ![16, 2, 4, 32, 160]⟩
abbrev S_ : Shape := ⟨0, ![]⟩
abbrev S1x2x4x1x1 : Shape := ⟨5, ![1, 2, 4, 1, 1]⟩
abbrev S16x2x4x32 : Shape := ⟨4, ![16, 2, 4, 32]⟩
abbrev S16x2x4x32x1 : Shape := ⟨5, ![16, 2, 4, 32, 1]⟩
abbrev S16x2x64x4x32 : Shape := ⟨5, ![16, 2, 64, 4, 32]⟩
abbrev S16x32x512 : Shape := ⟨3, ![16, 32, 512]⟩
abbrev S512x512 : Shape := ⟨2, ![512, 512]⟩
abbrev S16x128x128 : Shape := ⟨3, ![16, 128, 128]⟩

abbrev nBuf : Space → Nat
  | .hbm => 41
  | .vmem => 0
  | .smem => 0
  | _ => 0

abbrev bufTy : (tb : Table) → Fin (tcTables nBuf tb) → BufTy
  | .hbm, ⟨0, _⟩ => ⟨S16x32x8x64, .f32⟩
  | .hbm, ⟨1, _⟩ => ⟨S16x32x2x64, .f32⟩
  | .hbm, ⟨2, _⟩ => ⟨S16x32x2x64, .f32⟩
  | .hbm, ⟨3, _⟩ => ⟨S16x128x2x64, .f32⟩
  | .hbm, ⟨4, _⟩ => ⟨S16x128x2x64, .f32⟩
  | .hbm, ⟨5, _⟩ => ⟨S8, .f32⟩
  | .hbm, ⟨6, _⟩ => ⟨S16x160x2x64, .f32⟩
  | .hbm, ⟨7, _⟩ => ⟨S16x160x2x64, .f32⟩
  | .hbm, ⟨8, _⟩ => ⟨S16x32x2x4x64, .f32⟩
  | .hbm, ⟨9, _⟩ => ⟨S16x2x160x32x4, .f32⟩
  | .hbm, ⟨10, _⟩ => ⟨S16x2x4x32x160, .f32⟩
  | .hbm, ⟨11, _⟩ => ⟨S_, .f32⟩
  | .hbm, ⟨12, _⟩ => ⟨S16x2x4x32x160, .f32⟩
  | .hbm, ⟨13, _⟩ => ⟨S16x2x4x32x160, .f32⟩
  | .hbm, ⟨14, _⟩ => ⟨S1x2x4x1x1, .f32⟩
  | .hbm, ⟨15, _⟩ => ⟨S_, .f32⟩
  | .hbm, ⟨16, _⟩ => ⟨S16x2x4x32, .f32⟩
  | .hbm, ⟨17, _⟩ => ⟨S16x2x4x32x1, .f32⟩
  | .hbm, ⟨18, _⟩ => ⟨S16x2x4x32x1, .f32⟩
  | .hbm, ⟨19, _⟩ => ⟨S16x2x4x32x1, .f32⟩
  | .hbm, ⟨20, _⟩ => ⟨S16x2x4x32x160, .f32⟩
  | .hbm, ⟨21, _⟩ => ⟨S16x2x4x32x160, .f32⟩
  | .hbm, ⟨22, _⟩ => ⟨S16x2x4x32x160, .f32⟩
  | .hbm, ⟨23, _⟩ => ⟨S_, .f32⟩
  | .hbm, ⟨24, _⟩ => ⟨S16x2x4x32, .f32⟩
  | .hbm, ⟨25, _⟩ => ⟨S16x2x4x32x1, .f32⟩
  | .hbm, ⟨26, _⟩ => ⟨S16x2x4x32x1, .f32⟩
  | .hbm, ⟨27, _⟩ => ⟨S16x2x4x32x1, .f32⟩
  | .hbm, ⟨28, _⟩ => ⟨S16x2x4x32x1, .f32⟩
  | .hbm, ⟨29, _⟩ => ⟨S16x2x4x32x1, .f32⟩
  | .hbm, ⟨30, _⟩ => ⟨S16x2x4x32x160, .f32⟩
  | .hbm, ⟨31, _⟩ => ⟨S16x2x4x32x160, .f32⟩
  | .hbm, ⟨32, _⟩ => ⟨S16x2x64x4x32, .f32⟩
  | .hbm, ⟨33, _⟩ => ⟨S16x32x2x4x64, .f32⟩
  | .hbm, ⟨34, _⟩ => ⟨S16x32x512, .f32⟩
  | .hbm, ⟨35, _⟩ => ⟨S16x128x2x64, .f32⟩
  | .hbm, ⟨36, _⟩ => ⟨S16x128x2x64, .f32⟩
  | .hbm, ⟨37, _⟩ => ⟨S512x512, .f32⟩
  | .hbm, ⟨38, _⟩ => ⟨S512x512, .bf16⟩
  | .hbm, ⟨39, _⟩ => ⟨S16x128x128, .f32⟩
  | .hbm, ⟨40, _⟩ => ⟨S16x128x128, .f32⟩
  | _, _ => ⟨S16x32x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel8.lean ====
abbrev S16x32x4x64 : Shape := ⟨4, ![16, 32, 4, 64]⟩
abbrev S16x32x4x128 : Shape := ⟨4, ![16, 32, 4, 128]⟩
abbrev S16x4x64x128 : Shape := ⟨4, ![16, 4, 64, 128]⟩
abbrev S512x256 : Shape := ⟨2, ![512, 256]⟩
abbrev S512x768 : Shape := ⟨2, ![512, 768]⟩
abbrev S512x512 : Shape := ⟨2, ![512, 512]⟩
abbrev S4x4 : Shape := ⟨2, ![4, 4]⟩
abbrev S_ : Shape := ⟨0, ![]⟩
abbrev S16x4x128x64 : Shape := ⟨4, ![16, 4, 128, 64]⟩
abbrev S16x4x128x1x64 : Shape := ⟨5, ![16, 4, 128, 1, 64]⟩
abbrev S4x1x4x1 : Shape := ⟨4, ![4, 1, 4, 1]⟩
abbrev S1x4x1x4x1 : Shape := ⟨5, ![1, 4, 1, 4, 1]⟩
abbrev S16x4x128x4x64 : Shape := ⟨5, ![16, 4, 128, 4, 64]⟩
abbrev S16x512x256 : Shape := ⟨3, ![16, 512, 256]⟩
abbrev S64x64 : Shape := ⟨2, ![64, 64]⟩
abbrev S256x256 : Shape := ⟨2, ![256, 256]⟩
abbrev S32x768 : Shape := ⟨2, ![32, 768]⟩
abbrev S32x512 : Shape := ⟨2, ![32, 512]⟩
abbrev S1x512x256 : Shape := ⟨3, ![1, 512, 256]⟩
abbrev S32x256 : Shape := ⟨2, ![32, 256]⟩
abbrev S32x32 : Shape := ⟨2, ![32, 32]⟩
abbrev S1x256 : Shape := ⟨2, ![1, 256]⟩
abbrev S128x256 : Shape := ⟨2, ![128, 256]⟩
abbrev S128x32 : Shape := ⟨2, ![128, 32]⟩
abbrev S256x512 : Shape := ⟨2, ![256, 512]⟩
abbrev S128x512 : Shape := ⟨2, ![128, 512]⟩

abbrev nBuf : Space → Nat
  | .hbm => 57
  | .vmem => 13
  | .smem => 0
  | _ => 0

abbrev bufTy : (tb : Table) → Fin (tcTables nBuf tb) → BufTy
  | .hbm, ⟨0, _⟩ => ⟨S16x32x4x64, .f32⟩
  | .hbm, ⟨1, _⟩ => ⟨S16x32x4x64, .f32⟩
  | .hbm, ⟨2, _⟩ => ⟨S16x32x4x128, .f32⟩
  | .hbm, ⟨3, _⟩ => ⟨S16x32x4x64, .f32⟩
  | .hbm, ⟨4, _⟩ => ⟨S16x4x64x128, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x768, .f32⟩
  | .hbm, ⟨9, _⟩ => ⟨S512x512, .f32⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .f32⟩
  | .hbm, ⟨17, _⟩ => ⟨S16x4x128x64, .f32⟩
  | .hbm, ⟨18, _⟩ => ⟨S16x4x128x1x64, .f32⟩
  | .hbm, ⟨19, _⟩ => ⟨S4x1x4x1, .f32⟩
  | .hbm, ⟨20, _⟩ => ⟨S1x4x1x4x1, .f32⟩
  | .hbm, ⟨21, _⟩ => ⟨S16x4x128x4x64, .f32⟩
  | .hbm, ⟨22, _⟩ => ⟨S16x4x128x4x64, .f32⟩
  | .hbm, ⟨23, _⟩ => ⟨S16x4x128x4x64, .f32⟩
  | .hbm, ⟨24, _⟩ => ⟨S16x512x256, .f32⟩
  | .hbm, ⟨25, _⟩ => ⟨S64x64, .i32⟩
  | .hbm, ⟨26, _⟩ => ⟨S_, .i32⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i32⟩
  | .hbm, ⟨38, _⟩ => ⟨S256x256, .i32⟩
  | .hbm, ⟨39, _⟩ => ⟨S_, .i32⟩
  | .hbm, ⟨40, _⟩ => ⟨S256x256, .i32⟩
  | .hbm, ⟨41, _⟩ => ⟨S256x256, .i32⟩
  | .hbm, ⟨42, _⟩ => ⟨S256x256, .i1⟩
  | .hbm, ⟨43, _⟩ => ⟨S512x256, .i32⟩
  | .hbm, ⟨44, _⟩ => ⟨S_, .i32⟩
  | .hbm, ⟨45, _⟩ => ⟨S512x256, .i32⟩
  | .hbm, ⟨46, _⟩ => ⟨S512x256, .i32⟩
  | .hbm, ⟨47, _⟩ => ⟨S512x256, .i32⟩
  | .hbm, ⟨48, _⟩ => ⟨S_, .i32⟩
  | .hbm, ⟨49, _⟩ => ⟨S512x256, .i32⟩
  | .hbm, ⟨50, _⟩ => ⟨S512x256, .i32⟩
  | .hbm, ⟨51, _⟩ => ⟨S512x256, .i1⟩
  | .hbm, ⟨52, _⟩ => ⟨S64x64, .bf16⟩
  | .hbm, ⟨53, _⟩ => ⟨S256x256, .bf16⟩
  | .hbm, ⟨54, _⟩ => ⟨S512x256, .f32⟩
  | .hbm, ⟨55, _⟩ => ⟨S512x512, .f32⟩
  | .hbm, ⟨56, _⟩ => ⟨S16x512x256, .f32⟩
  | .local _ .vmem, ⟨0, _⟩ => ⟨S32x768, .f32⟩
  | .local _ .vmem, ⟨1, _⟩ => ⟨S32x768, .f32⟩
  | .local _ .vmem, ⟨2, _⟩ => ⟨S32x512, .f32⟩
  | .local _ .vmem, ⟨3, _⟩ => ⟨S32x512, .f32⟩
  | .local _ .vmem, ⟨4, _⟩ => ⟨S1x512x256, .f32⟩
  | .local _ .vmem, ⟨5, _⟩ => ⟨S1x512x256, .f32⟩
  | .local _ .vmem, ⟨6, _⟩ => ⟨S64x64, .bf16⟩
  | .local _ .vmem, ⟨7, _⟩ => ⟨S256x256, .bf16⟩
  | .local _ .vmem, ⟨8, _⟩ => ⟨S512x256, .f32⟩
  | .local _ .vmem, ⟨9, _⟩ => ⟨S32x512, .f32⟩
  | .local _ .vmem, ⟨10, _⟩ => ⟨S32x512, .f32⟩
  | .local _ .vmem, ⟨11, _⟩ => ⟨S1x512x256, .f32⟩
  | .local _ .vmem, ⟨12, _⟩ => ⟨S1x512x256, .f32⟩
  | _, _ => ⟨S16x32x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43_0 : Ref sig .tc := ⟨.hbm, 55, rfl⟩
abbrev main_v43_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel8Ideal.lean ====
variable {F : FTy → Type} [FloatOps F] [Named F]
def κ : String → Option EReal := fun
  | "log2e" => some (((Real.log 2)⁻¹ : ℝ) : EReal)
  | _ => none
-- ==== Reference8Ideal.lean ====
abbrev S16x32x4x64 : Shape := ⟨4, ![16, 32, 4, 64]⟩
abbrev S16x32x4x128 : Shape := ⟨4, ![16, 32, 4, 128]⟩
abbrev S16x4x64x128 : Shape := ⟨4, ![16, 4, 64, 128]⟩
abbrev S16x4x32x64 : Shape := ⟨4, ![16, 4, 32, 64]⟩
abbrev S16x4x32x128 : Shape := ⟨4, ![16, 4, 32, 128]⟩
abbrev S_ : Shape := ⟨0, ![]⟩
abbrev S16x4x1x64 : Shape := ⟨4, ![16, 4, 1, 64]⟩
abbrev S16x4x64 : Shape := ⟨3, ![16, 4, 64]⟩
abbrev S16x4x64x1 : Shape := ⟨4, ![16, 4, 64, 1]⟩
abbrev S16x4x128x64 : Shape := ⟨4, ![16, 4, 128, 64]⟩
abbrev S4 : Shape := ⟨1, ![4]⟩
abbrev S4x1x1x1 : Shape := ⟨4, ![4, 1, 1, 1]⟩
abbrev S1x1x4x1 : Shape := ⟨4, ![1, 1, 4, 1]⟩
abbrev S4x1x4x1 : Shape := ⟨4, ![4, 1, 4, 1]⟩
abbrev S16x4x128x1x64 : Shape := ⟨5, ![16, 4, 128, 1, 64]⟩
abbrev S16x4x128x4x64 : Shape := ⟨5, ![16, 4, 128, 4, 64]⟩
abbrev S16x512x256 : Shape := ⟨3, ![16, 512, 256]⟩

abbrev nBuf : Space → Nat
  | .hbm => 40
  | .vmem => 0
  | .smem => 0
  | _ => 0

abbrev bufTy : (tb : Table) → Fin (tcTables nBuf tb) → BufTy
  | .hbm, ⟨0, _⟩ => ⟨S16x32x4x64, .f32⟩
  | .hbm, ⟨1, _⟩ => ⟨S16x32x4x64, .f32⟩
  | .hbm, ⟨2, _⟩ => ⟨S16x32x4x128, .f32⟩
  | .hbm, ⟨3, _⟩ => ⟨S16x32x4x64, .f32⟩
  | .hbm, ⟨4, _⟩ => ⟨S16x4x64x128, .f32⟩
  | .hbm, ⟨5, _⟩ => ⟨S16x4x32x64, .f32⟩
  | .hbm, ⟨6, _⟩ => ⟨S16x4x32x64, .f32⟩
  | .hbm, ⟨7, _⟩ => ⟨S16x4x32x128, .f32⟩
  | .hbm, ⟨8, _⟩ => ⟨S16x4x32x64, .f32⟩
  | .hbm, ⟨9, _⟩ => ⟨S_, .f32⟩
  | .hbm, ⟨10, _⟩ => ⟨S_, .f32⟩
  | .hbm, ⟨11, _⟩ => ⟨S16x4x32x64, .f32⟩
  | .hbm, ⟨12, _⟩ => ⟨S16x4x1x64, .f32⟩
  | .hbm, ⟨13, _⟩ => ⟨S16x4x64, .f32⟩
  | .hbm, ⟨14, _⟩ => ⟨S16x4x64x1, .f32⟩
  | .hbm, ⟨15, _⟩ => ⟨S16x4x64x1, .f32⟩
  | .hbm, ⟨16, _⟩ => ⟨S16x4x64x128, .f32⟩
  | .hbm, ⟨17, _⟩ => ⟨S16x4x64x128, .f32⟩
  | .hbm, ⟨18, _⟩ => ⟨S16x4x32x64, .f32⟩
  | .hbm, ⟨19, _⟩ => ⟨S16x4x32x64, .f32⟩
  | .hbm, ⟨20, _⟩ => ⟨S16x4x32x64, .f32⟩
  | .hbm, ⟨21, _⟩ => ⟨S16x4x32x64, .f32⟩
  | .hbm, ⟨22, _⟩ => ⟨S16x4x64x128, .f32⟩
  | .hbm, ⟨23, _⟩ => ⟨S16x4x64x128, .f32⟩
  | .hbm, ⟨24, _⟩ => ⟨S16x4x128x64, .f32⟩
  | .hbm, ⟨25, _⟩ => ⟨S4, .i32⟩
  | .hbm, ⟨26, _⟩ => ⟨S4x1x1x1, .i32⟩
  | .hbm, ⟨27, _⟩ => ⟨S4, .i32⟩
  | .hbm, ⟨28, _⟩ => ⟨S1x1x4x1, .i32⟩
  | .hbm, ⟨29, _⟩ => ⟨S4x1x4x1, .i32⟩
  | .hbm, ⟨30, _⟩ => ⟨S4x1x4x1, .i32⟩
  | .hbm, ⟨31, _⟩ => ⟨S4x1x4x1, .i1⟩
  | .hbm, ⟨32, _⟩ => ⟨S16x4x128x1x64, .f32⟩
  | .hbm, ⟨33, _⟩ => ⟨S_, .f32⟩
  | .hbm, ⟨34, _⟩ => ⟨S_, .f32⟩
  | .hbm, ⟨35, _⟩ => ⟨S16x4x128x4x64, .i1⟩
  | .hbm, ⟨36, _⟩ => ⟨S16x4x128x4x64, .f32⟩
  | .hbm, ⟨37, _⟩ => ⟨S16x4x128x4x64, .f32⟩
  | .hbm, ⟨38, _⟩ => ⟨S16x4x128x4x64, .f32⟩
  | .hbm, ⟨39, _⟩ => ⟨S16x512x256, .f32⟩
  | _, _ => ⟨S16x32x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel9.lean ====
abbrev S33024x1024 : Shape := ⟨2, ![33024, 1024]⟩
abbrev S33024x128 : Shape := ⟨2, ![33024, 128]⟩
abbrev S1x16x1024x2064 : Shape := ⟨4, ![1, 16, 1024, 2064]⟩
abbrev S256x256 : Shape := ⟨2, ![256, 256]⟩
abbrev S2x16x1024x2064 : Shape := ⟨4, ![2, 16, 1024, 2064]⟩
abbrev S2064x128 : Shape := ⟨2, ![2064, 128]⟩
abbrev S1x1x128x2064 : Shape := ⟨4, ![1, 1, 128, 2064]⟩
abbrev S2x1x128x2064 : Shape := ⟨4, ![2, 1, 128, 2064]⟩
abbrev S2x2064x128 : Shape := ⟨3, ![2, 2064, 128]⟩
abbrev S8x2x80x256 : Shape := ⟨4, ![8, 2, 80, 256]⟩
abbrev S2x80x128 : Shape := ⟨3, ![2, 80, 128]⟩
abbrev S128x2064 : Shape := ⟨2, ![128, 2064]⟩
abbrev S16x128 : Shape := ⟨2, ![16, 128]⟩
abbrev S1x128 : Shape := ⟨2, ![1, 128]⟩
abbrev S16x16 : Shape := ⟨2, ![16, 16]⟩
abbrev S256x128 : Shape := ⟨2, ![256, 128]⟩
abbrev S1x2064x128 : Shape := ⟨3, ![1, 2064, 128]⟩
abbrev S128x128 : Shape := ⟨2, ![128, 128]⟩
abbrev S64x128 : Shape := ⟨2, ![64, 128]⟩
abbrev S80x128 : Shape := ⟨2, ![80, 128]⟩
abbrev S1x80x128 : Shape := ⟨3, ![1, 80, 128]⟩
abbrev S128x16 : Shape := ⟨2, ![128, 16]⟩
abbrev S128x256 : Shape := ⟨2, ![128, 256]⟩
abbrev S64x256 : Shape := ⟨2, ![64, 256]⟩
abbrev S16x256 : Shape := ⟨2, ![16, 256]⟩
abbrev S80x256 : Shape := ⟨2, ![80, 256]⟩
abbrev S1x1x80x256 : Shape := ⟨4, ![1, 1, 80, 256]⟩
abbrev S1x16x128 : Shape := ⟨3, ![1, 16, 128]⟩
abbrev S128 : Shape := ⟨1, ![128]⟩
abbrev S112x128 : Shape := ⟨2, ![112, 128]⟩
abbrev S1x272x128 : Shape := ⟨3, ![1, 272, 128]⟩
abbrev S272x128 : Shape := ⟨2, ![272, 128]⟩
abbrev S272x256 : Shape := ⟨2, ![272, 256]⟩
abbrev S1x256x128 : Shape := ⟨3, ![1, 256, 128]⟩
abbrev S256 : Shape := ⟨1, ![256]⟩
abbrev S1x256 : Shape := ⟨2, ![1, 256]⟩
abbrev S112x256 : Shape := ⟨2, ![112, 256]⟩

abbrev nBuf : Space → Nat
  | .hbm => 13
  | .vmem => 24
  | .smem => 0
  | _ => 0

abbrev bufTy : (tb : Table) → Fin (tcTables nBuf tb) → BufTy
  | .hbm, ⟨0, _⟩ => ⟨S33024x1024, .bf16⟩
  | .hbm, ⟨1, _⟩ => ⟨S33024x1024, .f32⟩
  | .hbm, ⟨2, _⟩ => ⟨S33024x1024, .f32⟩
  | .hbm, ⟨3, _⟩ => ⟨S33024x128, .f32⟩
  | .hbm, ⟨4, _⟩ => ⟨S1x16x1024x2064, .f32⟩
  | .hbm, ⟨5, _⟩ => ⟨S1x16x1024x2064, .f32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .bf16⟩
  | .hbm, ⟨10, _⟩ => ⟨S33024x1024, .bf16⟩
  | .hbm, ⟨11, _⟩ => ⟨S2x16x1024x2064, .f32⟩
  | .hbm, ⟨12, _⟩ => ⟨S2x16x1024x2064, .f32⟩
  | .local _ .vmem, ⟨0, _⟩ => ⟨S2064x128, .bf16⟩
  | .local _ .vmem, ⟨1, _⟩ => ⟨S2064x128, .bf16⟩
  | .local _ .vmem, ⟨2, _⟩ => ⟨S2064x128, .f32⟩
  | .local _ .vmem, ⟨3, _⟩ => ⟨S2064x128, .f32⟩
  | .local _ .vmem, ⟨4, _⟩ => ⟨S2064x128, .f32⟩
  | .local _ .vmem, ⟨5, _⟩ => ⟨S2064x128, .f32⟩
  | .local _ .vmem, ⟨6, _⟩ => ⟨S2064x128, .f32⟩
  | .local _ .vmem, ⟨7, _⟩ => ⟨S2064x128, .f32⟩
  | .local _ .vmem, ⟨8, _⟩ => ⟨S256x256, .bf16⟩
  | .local _ .vmem, ⟨9, _⟩ => ⟨S1x1x128x2064, .f32⟩
  | .local _ .vmem, ⟨10, _⟩ => ⟨S1x1x128x2064, .f32⟩
  | .local _ .vmem, ⟨11, _⟩ => ⟨S1x1x128x2064, .f32⟩
  | .local _ .vmem, ⟨12, _⟩ => ⟨S1x1x128x2064, .f32⟩
  | .local _ .vmem, ⟨13, _⟩ => ⟨S2064x128, .bf16⟩
  | .local _ .vmem, ⟨14, _⟩ => ⟨S2064x128, .bf16⟩
  | .local _ .vmem, ⟨15, _⟩ => ⟨S2x1x128x2064, .f32⟩
  | .local _ .vmem, ⟨16, _⟩ => ⟨S2x1x128x2064, .f32⟩
  | .local _ .vmem, ⟨17, _⟩ => ⟨S2x1x128x2064, .f32⟩
  | .local _ .vmem, ⟨18, _⟩ => ⟨S2x1x128x2064, .f32⟩
  | .local _ .vmem, ⟨19, _⟩ => ⟨S2064x128, .bf16⟩
  | .local _ .vmem, ⟨20, _⟩ => ⟨S2064x128, .bf16⟩
  | .local _ .vmem, ⟨21, _⟩ => ⟨S2x2064x128, .bf16⟩
  | .local _ .vmem, ⟨22, _⟩ => ⟨S8x2x80x256, .bf16⟩
  | .local _ .vmem, ⟨23, _⟩ => ⟨S2x80x128, .bf16⟩
  | _, _ => ⟨S33024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2064x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2064x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128x2064 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x2064 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2064x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x128x2064 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x128x2064 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference9Ideal.lean ====
abbrev S33024x1024 : Shape := ⟨2, ![33024, 1024]⟩
abbrev S33024x128 : Shape := ⟨2, ![33024, 128]⟩
abbrev S1x16x1024x2064 : Shape := ⟨4, ![1, 16, 1024, 2064]⟩
abbrev S16x2064x1024 : Shape := ⟨3, ![16, 2064, 1024]⟩
abbrev S16x1024x2064 : Shape := ⟨3, ![16, 1024, 2064]⟩
abbrev S2x16x1024x2064 : Shape := ⟨4, ![2, 16, 1024, 2064]⟩

abbrev nBuf : Space → Nat
  | .hbm => 14
  | .vmem => 0
  | .smem => 0
  | _ => 0

abbrev bufTy : (tb : Table) → Fin (tcTables nBuf tb) → BufTy
  | .hbm, ⟨0, _⟩ => ⟨S33024x1024, .bf16⟩
  | .hbm, ⟨1, _⟩ => ⟨S33024x1024, .f32⟩
  | .hbm, ⟨2, _⟩ => ⟨S33024x1024, .f32⟩
  | .hbm, ⟨3, _⟩ => ⟨S33024x128, .f32⟩
  | .hbm, ⟨4, _⟩ => ⟨S1x16x1024x2064, .f32⟩
  | .hbm, ⟨5, _⟩ => ⟨S1x16x1024x2064, .f32⟩
  | .hbm, ⟨6, _⟩ => ⟨S16x2064x1024, .f32⟩
  | .hbm, ⟨7, _⟩ => ⟨S16x1024x2064, .f32⟩
  | .hbm, ⟨8, _⟩ => ⟨S1x16x1024x2064, .f32⟩
  | .hbm, ⟨9, _⟩ => ⟨S2x16x1024x2064, .f32⟩
  | .hbm, ⟨10, _⟩ => ⟨S16x2064x1024, .f32⟩
  | .hbm, ⟨11, _⟩ => ⟨S16x1024x2064, .f32⟩
  | .hbm, ⟨12, _⟩ => ⟨S1x16x1024x2064, .f32⟩
  | .hbm, ⟨13, _⟩ => ⟨S2x16x1024x2064, .f32⟩
  | _, _ => ⟨S33024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel10.lean ====
abbrev S33024x1024 : Shape := ⟨2, ![33024, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 11
  | .vmem => 10
  | .smem => 0
  | _ => 0

abbrev bufTy : (tb : Table) → Fin (tcTables nBuf tb) → BufTy
  | .hbm, ⟨0, _⟩ => ⟨S33024x1024, .f32⟩
  | .hbm, ⟨1, _⟩ => ⟨S33024x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1024x1024, .bf16⟩
  | .hbm, ⟨10, _⟩ => ⟨S33024x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .bf16⟩
  | .local _ .vmem, ⟨3, _⟩ => ⟨S688x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S688x1024, .f32⟩
  | .local _ .vmem, ⟨9, _⟩ => ⟨S688x1024, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S33024x1024 : Shape := ⟨2, ![33024, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16x2064x1024 : Shape := ⟨3, ![16, 2064, 1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S16x2064x4096 : Shape := ⟨3, ![16, 2064, 4096]⟩

abbrev nBuf : Space → Nat
  | .hbm => 35
  | .vmem => 0
  | .smem => 0
  | _ => 0

abbrev bufTy : (tb : Table) → Fin (tcTables nBuf tb) → BufTy
  | .hbm, ⟨0, _⟩ => ⟨S33024x1024, .f32⟩
  | .hbm, ⟨1, _⟩ => ⟨S33024x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S16x2064x1024, .f32⟩
  | .hbm, ⟨7, _⟩ => ⟨S33024x1024, .f32⟩
  | .hbm, ⟨8, _⟩ => ⟨S16x2064x1024, .f32⟩
  | .hbm, ⟨9, _⟩ => ⟨S16x2064x1024, .f32⟩
  | .hbm, ⟨10, _⟩ => ⟨S16x2064x1024, .f32⟩
  | .hbm, ⟨11, _⟩ => ⟨S16x2064x1024, .f32⟩
  | .hbm, ⟨12, _⟩ => ⟨S_, .f32⟩
  | .hbm, ⟨13, _⟩ => ⟨S16x2064, .f32⟩
  | .hbm, ⟨14, _⟩ => ⟨S16x2064x1, .f32⟩
  | .hbm, ⟨15, _⟩ => ⟨S_, .f32⟩
  | .hbm, ⟨16, _⟩ => ⟨S16x2064x1, .f32⟩
  | .hbm, ⟨17, _⟩ => ⟨S16x2064x1, .f32⟩
  | .hbm, ⟨18, _⟩ => ⟨S_, .f32⟩
  | .hbm, ⟨19, _⟩ => ⟨S16x2064x1, .f32⟩
  | .hbm, ⟨20, _⟩ => ⟨S16x2064x1, .f32⟩
  | .hbm, ⟨21, _⟩ => ⟨S16x2064x1, .f32⟩
  | .hbm, ⟨22, _⟩ => ⟨S16x2064x1024, .f32⟩
  | .hbm, ⟨23, _⟩ => ⟨S16x2064x1024, .f32⟩
  | .hbm, ⟨24, _⟩ => ⟨S1x1x1024, .f32⟩
  | .hbm, ⟨25, _⟩ => ⟨S16x2064x1024, .f32⟩
  | .hbm, ⟨26, _⟩ => ⟨S16x2064x1024, .f32⟩
  | .hbm, ⟨27, _⟩ => ⟨S16x2064x4096, .f32⟩
  | .hbm, ⟨28, _⟩ => ⟨S_, .f32⟩
  | .hbm, ⟨29, _⟩ => ⟨S16x2064x4096, .f32⟩
  | .hbm, ⟨30, _⟩ => ⟨S16x2064x4096, .f32⟩
  | .hbm, ⟨31, _⟩ => ⟨S16x2064x4096, .f32⟩
  | .hbm, ⟨32, _⟩ => ⟨S16x2064x1024, .f32⟩
  | .hbm, ⟨33, _⟩ => ⟨S16x2064x1024, .f32⟩
  | .hbm, ⟨34, _⟩ => ⟨S33024x1024, .f32⟩
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel11.lean ====
abbrev S512x1024 : Shape := ⟨2, ![512, 1024]⟩
abbrev S512x512 : Shape := ⟨2, ![512, 512]⟩
abbrev S128 : Shape := ⟨1, ![128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .f32⟩
  | .hbm, ⟨3, _⟩ => ⟨S512x512, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S1024x1024, .bf16⟩
  | .hbm, ⟨13, _⟩ => ⟨S1x128, .f32⟩
  | .hbm, ⟨14, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S1024x1024, .bf16⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference11Ideal.lean ====
abbrev S512x1024 : Shape := ⟨2, ![512, 1024]⟩
abbrev S512x512 : Shape := ⟨2, ![512, 512]⟩
abbrev S128 : Shape := ⟨1, ![128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16x32x1024 : Shape := ⟨3, ![16, 32, 1024]⟩
abbrev S16x32x512 : Shape := ⟨3, ![16, 32, 512]⟩
abbrev S16x32x4x128 : Shape := ⟨4, ![16, 32, 4, 128]⟩
abbrev S_ : Shape := ⟨0, ![]⟩
abbrev S16x32x4 : Shape := ⟨3, ![16, 32, 4]⟩
abbrev S16x32x4x1 : Shape := ⟨4, ![16, 32, 4, 1]⟩
abbrev S1x1x1x128 : Shape := ⟨4, ![1, 1, 1, 128]⟩
abbrev S16x32 : Shape := ⟨2, ![16, 32]⟩
abbrev S16x32x1 : Shape := ⟨3, ![16, 32, 1]⟩
abbrev S1x1x1024 : Shape := ⟨3, ![1, 1, 1024]⟩
abbrev S16x32x4096 : Shape := ⟨3, ![16, 32, 4096]⟩

abbrev nBuf : Space → Nat
  | .hbm => 68
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .f32⟩
  | .hbm, ⟨3, _⟩ => ⟨S512x512, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S16x32x1024, .f32⟩
  | .hbm, ⟨10, _⟩ => ⟨S512x512, .f32⟩
  | .hbm, ⟨11, _⟩ => ⟨S16x32x512, .f32⟩
  | .hbm, ⟨12, _⟩ => ⟨S16x32x4x128, .f32⟩
  | .hbm, ⟨13, _⟩ => ⟨S16x32x512, .f32⟩
  | .hbm, ⟨14, _⟩ => ⟨S16x32x4x128, .f32⟩
  | .hbm, ⟨15, _⟩ => ⟨S_, .f32⟩
  | .hbm, ⟨16, _⟩ => ⟨S16x32x4, .f32⟩
  | .hbm, ⟨17, _⟩ => ⟨S16x32x4x1, .f32⟩
  | .hbm, ⟨18, _⟩ => ⟨S_, .f32⟩
  | .hbm, ⟨19, _⟩ => ⟨S16x32x4x1, .f32⟩
  | .hbm, ⟨20, _⟩ => ⟨S16x32x4x1, .f32⟩
  | .hbm, ⟨21, _⟩ => ⟨S_, .f32⟩
  | .hbm, ⟨22, _⟩ => ⟨S16x32x4x1, .f32⟩
  | .hbm, ⟨23, _⟩ => ⟨S16x32x4x1, .f32⟩
  | .hbm, ⟨24, _⟩ => ⟨S16x32x4x1, .f32⟩
  | .hbm, ⟨25, _⟩ => ⟨S16x32x4x128, .f32⟩
  | .hbm, ⟨26, _⟩ => ⟨S16x32x4x128, .f32⟩
  | .hbm, ⟨27, _⟩ => ⟨S1x1x1x128, .f32⟩
  | .hbm, ⟨28, _⟩ => ⟨S16x32x4x128, .f32⟩
  | .hbm, ⟨29, _⟩ => ⟨S16x32x4x128, .f32⟩
  | .hbm, ⟨30, _⟩ => ⟨S16x32x512, .f32⟩
  | .hbm, ⟨31, _⟩ => ⟨S16x32x512, .f32⟩
  | .hbm, ⟨32, _⟩ => ⟨S16x32x512, .f32⟩
  | .hbm, ⟨33, _⟩ => ⟨S_, .f32⟩
  | .hbm, ⟨34, _⟩ => ⟨S16x32x512, .f32⟩
  | .hbm, ⟨35, _⟩ => ⟨S16x32x512, .f32⟩
  | .hbm, ⟨36, _⟩ => ⟨S_, .f32⟩
  | .hbm, ⟨37, _⟩ => ⟨S16x32x512, .f32⟩
  | .hbm, ⟨38, _⟩ => ⟨S16x32x512, .f32⟩
  | .hbm, ⟨39, _⟩ => ⟨S16x32x512, .f32⟩
  | .hbm, ⟨40, _⟩ => ⟨S16x32x512, .f32⟩
  | .hbm, ⟨41, _⟩ => ⟨S16x32x1024, .f32⟩
  | .hbm, ⟨42, _⟩ => ⟨S16x32x1024, .f32⟩
  | .hbm, ⟨43, _⟩ => ⟨S16x32x1024, .f32⟩
  | .hbm, ⟨44, _⟩ => ⟨S16x32x1024, .f32⟩
  | .hbm, ⟨45, _⟩ => ⟨S_, .f32⟩
  | .hbm, ⟨46, _⟩ => ⟨S16x32, .f32⟩
  | .hbm, ⟨47, _⟩ => ⟨S16x32x1, .f32⟩
  | .hbm, ⟨48, _⟩ => ⟨S_, .f32⟩
  | .hbm, ⟨49, _⟩ => ⟨S16x32x1, .f32⟩
  | .hbm, ⟨50, _⟩ => ⟨S16x32x1, .f32⟩
  | .hbm, ⟨51, _⟩ => ⟨S_, .f32⟩
  | .hbm, ⟨52, _⟩ => ⟨S16x32x1, .f32⟩
  | .hbm, ⟨53, _⟩ => ⟨S16x32x1, .f32⟩
  | .hbm, ⟨54, _⟩ => ⟨S16x32x1, .f32⟩
  | .hbm, ⟨55, _⟩ => ⟨S16x32x1024, .f32⟩
  | .hbm, ⟨56, _⟩ => ⟨S16x32x1024, .f32⟩
  | .hbm, ⟨57, _⟩ => ⟨S1x1x1024, .f32⟩
  | .hbm, ⟨58, _⟩ => ⟨S16x32x1024, .f32⟩
  | .hbm, ⟨59, _⟩ => ⟨S16x32x1024, .f32⟩
  | .hbm, ⟨60, _⟩ => ⟨S16x32x4096, .f32⟩
  | .hbm, ⟨61, _⟩ => ⟨S_, .f32⟩
  | .hbm, ⟨62, _⟩ => ⟨S16x32x4096, .f32⟩
  | .hbm, ⟨63, _⟩ => ⟨S16x32x4096, .f32⟩
  | .hbm, ⟨64, _⟩ => ⟨S16x32x4096, .f32⟩
  | .hbm, ⟨65, _⟩ => ⟨S16x32x1024, .f32⟩
  | .hbm, ⟨66, _⟩ => ⟨S16x32x1024, .f32⟩
  | .hbm, ⟨67, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call1_cst : Ref sig .tc := ⟨.hbm, 61, rfl⟩
abbrev main_call1_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel12.lean ====
abbrev S512x1024 : Shape := ⟨2, ![512, 1024]⟩
abbrev S1024 : Shape := ⟨1, ![1024]⟩
abbrev S1024x2320 : Shape := ⟨2, ![1024, 2320]⟩
abbrev S64 : Shape := ⟨1, ![64]⟩
abbrev S16x256 : Shape := ⟨2, ![16, 256]⟩
abbrev S256 : Shape := ⟨1, ![256]⟩
abbrev S_ : Shape := ⟨0, ![]⟩
abbrev S1024x2432 : Shape := ⟨2, ![1024, 2432]⟩
abbrev S128x256 : Shape := ⟨2, ![128, 256]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S1x256 : Shape := ⟨2, ![1, 256]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S1x32x1x128 : Shape := ⟨4, ![1, 32, 1, 128]⟩
abbrev S16x32x1x128 : Shape := ⟨4, ![16, 32, 1, 128]⟩
abbrev S512x128 : Shape := ⟨2, ![512, 128]⟩
abbrev S1x1024 : Shape := ⟨2, ![1, 1024]⟩
abbrev S256x256 : Shape := ⟨2, ![256, 256]⟩
abbrev S512x512 : Shape := ⟨2, ![512, 512]⟩
abbrev S512x256 : Shape := ⟨2, ![512, 256]⟩
abbrev S512x768 : Shape := ⟨2, ![512, 768]⟩
abbrev S512x1 : Shape := ⟨2, ![512, 1]⟩
abbrev S1024x768 : Shape := ⟨2, ![1024, 768]⟩
abbrev S128x128 : Shape := ⟨2, ![128, 128]⟩
abbrev S1024x512 : Shape := ⟨2, ![1024, 512]⟩
abbrev S1024x640 : Shape := ⟨2, ![1024, 640]⟩
abbrev S512x640 : Shape := ⟨2, ![512, 640]⟩

abbrev nBuf : Space → Nat
  | .hbm => 79
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x2320, .f32⟩
  | .hbm, ⟨3, _⟩ => ⟨S64, .f32⟩
  | .hbm, ⟨4, _⟩ => ⟨S64, .f32⟩
  | .hbm, ⟨5, _⟩ => ⟨S16x256, .f32⟩
  | .hbm, ⟨6, _⟩ => ⟨S256, .f32⟩
  | .hbm, ⟨7, _⟩ => ⟨S_, .i32⟩
  | .hbm, ⟨8, _⟩ => ⟨S_, .f32⟩
  | .hbm, ⟨9, _⟩ => ⟨S1024x2432, .f32⟩
  | .hbm, ⟨10, _⟩ => ⟨S1024x2432, .bf16⟩
  | .hbm, ⟨11, _⟩ => ⟨S_, .i32⟩
  | .hbm, ⟨12, _⟩ => ⟨S_, .f32⟩
  | .hbm, ⟨13, _⟩ => ⟨S128x256, .f32⟩
  | .hbm, ⟨14, _⟩ => ⟨S128x256, .bf16⟩
  | .hbm, ⟨15, _⟩ => ⟨S1x64, .f32⟩
  | .hbm, ⟨16, _⟩ => ⟨S8x64, .f32⟩
  | .hbm, ⟨17, _⟩ => ⟨S512, .f32⟩
  | .hbm, ⟨18, _⟩ => ⟨S1x512, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S1x256, .f32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S32x1, .f32⟩
  | .hbm, ⟨38, _⟩ => ⟨S1x32, .f32⟩
  | .hbm, ⟨39, _⟩ => ⟨S32x32, .f32⟩
  | .hbm, ⟨40, _⟩ => ⟨S32x32, .f32⟩
  | .hbm, ⟨41, _⟩ => ⟨S32x32, .f32⟩
  | .hbm, ⟨42, _⟩ => ⟨S32x32, .f32⟩
  | .hbm, ⟨43, _⟩ => ⟨S32x32, .f32⟩
  | .hbm, ⟨44, _⟩ => ⟨S32x64, .f32⟩
  | .hbm, ⟨45, _⟩ => ⟨S32x32, .f32⟩
  | .hbm, ⟨46, _⟩ => ⟨S32x64, .f32⟩
  | .hbm, ⟨47, _⟩ => ⟨S1x32x1x64, .f32⟩
  | .hbm, ⟨48, _⟩ => ⟨S1x32x2x64, .f32⟩
  | .hbm, ⟨49, _⟩ => ⟨S32x128, .f32⟩
  | .hbm, ⟨50, _⟩ => ⟨S1x32x1x64, .f32⟩
  | .hbm, ⟨51, _⟩ => ⟨S1x32x2x64, .f32⟩
  | .hbm, ⟨52, _⟩ => ⟨S32x128, .f32⟩
  | .hbm, ⟨53, _⟩ => ⟨S1x32x1x128, .f32⟩
  | .hbm, ⟨54, _⟩ => ⟨S16x32x1x128, .f32⟩
  | .hbm, ⟨55, _⟩ => ⟨S512x128, .f32⟩
  | .hbm, ⟨56, _⟩ => ⟨S1x32x1x128, .f32⟩
  | .hbm, ⟨57, _⟩ => ⟨S16x32x1x128, .f32⟩
  | .hbm, ⟨58, _⟩ => ⟨S512x128, .f32⟩
  | .hbm, ⟨59, _⟩ => ⟨S1x1024, .f32⟩
  | .hbm, ⟨60, _⟩ => ⟨S256x256, .i32⟩
  | .hbm, ⟨61, _⟩ => ⟨S256x256, .i32⟩
  | .hbm, ⟨62, _⟩ => ⟨S_, .i32⟩
  | .hbm, ⟨63, _⟩ => ⟨S256x256, .i32⟩
  | .hbm, ⟨64, _⟩ => ⟨S256x256, .i32⟩
  | .hbm, ⟨65, _⟩ => ⟨S_, .i32⟩
  | .hbm, ⟨66, _⟩ => ⟨S256x256, .i32⟩
  | .hbm, ⟨67, _⟩ => ⟨S256x256, .i32⟩
  | .hbm, ⟨68, _⟩ => ⟨S256x256, .i1⟩
  | .hbm, ⟨69, _⟩ => ⟨S256x256, .f32⟩
  | .hbm, ⟨70, _⟩ => ⟨S_, .f32⟩
  | .hbm, ⟨71, _⟩ => ⟨S256x256, .f32⟩
  | .hbm, ⟨72, _⟩ => ⟨S256x256, .f32⟩
  | .hbm, ⟨73, _⟩ => ⟨S256x256, .bf16⟩
  | .hbm, ⟨74, _⟩ => ⟨S512x512, .bf16⟩
  | .hbm, ⟨75, _⟩ => ⟨S512x256, .f32⟩
  | .hbm, ⟨76, _⟩ => ⟨S512x768, .f32⟩
  | .hbm, ⟨77, _⟩ => ⟨S512x512, .f32⟩
  | .hbm, ⟨78, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x2432, .bf16⟩
  | .local _ .vmem, ⟨3, _⟩ => ⟨S256x256, .bf16⟩
  | .local _ .vmem, ⟨4, _⟩ => ⟨S1x512, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S128x256, .bf16⟩
  | .local _ .vmem, ⟨9, _⟩ => ⟨S1x256, .f32⟩
  | .local _ .vmem, ⟨10, _⟩ => ⟨S512x512, .bf16⟩
  | .local _ .vmem, ⟨11, _⟩ => ⟨S512x256, .f32⟩
  | .local _ .vmem, ⟨12, _⟩ => ⟨S512x768, .f32⟩
  | .local _ .vmem, ⟨13, _⟩ => ⟨S512x512, .f32⟩
  | .local _ .vmem, ⟨14, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_3 : Ref sig .tc := ⟨.hbm, 62, rfl⟩
abbrev main_v48 : Ref sig .tc := ⟨.hbm, 63, rfl⟩
abbrev main_v49 : Ref sig .tc := ⟨.hbm, 64, rfl⟩
abbrev main_c_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_5 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57_0 : Ref sig .tc := ⟨.hbm, 74, rfl⟩
abbrev main_v57_1 : Ref sig .tc := ⟨.hbm, 75, rfl⟩
abbrev main_v57_2 : Ref sig .tc := ⟨.hbm, 76, rfl⟩
abbrev main_v57_3 : Ref sig .tc := ⟨.hbm, 77, rfl⟩
abbrev main_v57_4 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference12Ideal.lean ====
abbrev S512x1024 : Shape := ⟨2, ![512, 1024]⟩
abbrev S1024 : Shape := ⟨1, ![1024]⟩
abbrev S1024x2320 : Shape := ⟨2, ![1024, 2320]⟩
abbrev S64 : Shape := ⟨1, ![64]⟩
abbrev S16x256 : Shape := ⟨2, ![16, 256]⟩
abbrev S256 : Shape := ⟨1, ![256]⟩
abbrev S16x32x1024 : Shape := ⟨3, ![16, 32, 1024]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S32 : Shape := ⟨1, ![32]⟩
abbrev S16x32x2320 : Shape := ⟨3, ![16, 32, 2320]⟩
abbrev S16x32x512 : Shape := ⟨3, ![16, 32, 512]⟩
abbrev S16x32x128 : Shape := ⟨3, ![16, 32, 128]⟩
abbrev S16x32x256 : Shape := ⟨3, ![16, 32, 256]⟩
abbrev S16x32x16 : Shape := ⟨3, ![16, 32, 16]⟩
abbrev S16x32x8x64 : Shape := ⟨4, ![16, 32, 8, 64]⟩
abbrev S16x32x8 : Shape := ⟨3, ![16, 32, 8]⟩
abbrev S16x32x8x1 : Shape := ⟨4, ![16, 32, 8, 1]⟩
abbrev S1x1x1x64 : Shape := ⟨4, ![1, 1, 1, 64]⟩
abbrev S32x1 : Shape := ⟨2, ![32, 1]⟩
abbrev S1x32 : Shape := ⟨2, ![1, 32]⟩
abbrev S32x32 : Shape := ⟨2, ![32, 32]⟩
abbrev S1x32x1x32 : Shape := ⟨4, ![1, 32, 1, 32]⟩
abbrev S16x32x8x32 : Shape := ⟨4, ![16, 32, 8, 32]⟩
abbrev S16x32x2x64 : Shape := ⟨4, ![16, 32, 2, 64]⟩
abbrev S16x32x2 : Shape := ⟨3, ![16, 32, 2]⟩
abbrev S16x32x2x1 : Shape := ⟨4, ![16, 32, 2, 1]⟩
abbrev S16x32x2x32 : Shape := ⟨4, ![16, 32, 2, 32]⟩
abbrev S16x32x4x64 : Shape := ⟨4, ![16, 32, 4, 64]⟩
abbrev S16x32x4x128 : Shape := ⟨4, ![16, 32, 4, 128]⟩
abbrev S1x1x256 : Shape := ⟨3, ![1, 1, 256]⟩
abbrev S512x128 : Shape := ⟨2, ![512, 128]⟩
abbrev S512x256 : Shape := ⟨2, ![512, 256]⟩
abbrev S512x768 : Shape := ⟨2, ![512, 768]⟩
abbrev S512x512 : Shape := ⟨2, ![512, 512]⟩

abbrev nBuf : Space → Nat
  | .hbm => 178
  | .vmem => 0
  | .smem => 0
  | _ => 0

abbrev hbmTy0_0 (i : Nat) : BufTy := match i % 128 with
  | 0 => ⟨S512x1024, .f32⟩
  | 1 => ⟨S1024, .f32⟩
  | 2 => ⟨S1024x2320, .f32⟩
  | 3 => ⟨S64, .f32⟩
  | 4 => ⟨S64, .f32⟩
  | 5 => ⟨S16x256, .f32⟩
  | 6 => ⟨S256, .f32⟩
  | 7 => ⟨S16x32x1024, .f32⟩
  | 8 => ⟨S16x32x1024, .f32⟩
  | 9 => ⟨S_, .f32⟩
  | 10 => ⟨S16x32, .f32⟩
  | 11 => ⟨S16x32x1, .f32⟩
  | 12 => ⟨S_, .f32⟩
  | 13 => ⟨S16x32x1, .f32⟩
  | 14 => ⟨S16x32x1, .f32⟩
  | 15 => ⟨S_, .f32⟩
  | 16 => ⟨S16x32x1, .f32⟩
  | 17 => ⟨S16x32x1, .f32⟩
  | 18 => ⟨S16x32x1, .f32⟩
  | 19 => ⟨S16x32x1024, .f32⟩
  | 20 => ⟨S16x32x1024, .f32⟩
  | 21 => ⟨S1x1x1024, .f32⟩
  | 22 => ⟨S16x32x1024, .f32⟩
  | 23 => ⟨S16x32x1024, .f32⟩
  | 24 => ⟨S32, .i32⟩
  | 25 => ⟨S_, .i32⟩
  | 26 => ⟨S32, .i32⟩
  | 27 => ⟨S32, .i32⟩
  | 28 => ⟨S16x32x2320, .f32⟩
  | 29 => ⟨S16x32x512, .f32⟩
  | 30 => ⟨S16x32x128, .f32⟩
  | 31 => ⟨S16x32x128, .f32⟩
  | 32 => ⟨S16x32x256, .f32⟩
  | 33 => ⟨S16x32x256, .f32⟩
  | 34 => ⟨S16x32x512, .f32⟩
  | 35 => ⟨S16x32x512, .f32⟩
  | 36 => ⟨S16x32x16, .f32⟩
  | 37 => ⟨S16x32x8x64, .f32⟩
  | 38 => ⟨S16x32x8x64, .f32⟩
  | 39 => ⟨S_, .f32⟩
  | 40 => ⟨S16x32x8, .f32⟩
  | 41 => ⟨S16x32x8x1, .f32⟩
  | 42 => ⟨S_, .f32⟩
  | 43 => ⟨S16x32x8x1, .f32⟩
  | 44 => ⟨S16x32x8x1, .f32⟩
  | 45 => ⟨S_, .f32⟩
  | 46 => ⟨S16x32x8x1, .f32⟩
  | 47 => ⟨S16x32x8x1, .f32⟩
  | 48 => ⟨S16x32x8x1, .f32⟩
  | 49 => ⟨S16x32x8x64, .f32⟩
  | 50 => ⟨S16x32x8x64, .f32⟩
  | 51 => ⟨S1x1x1x64, .f32⟩
  | 52 => ⟨S16x32x8x64, .f32⟩
  | 53 => ⟨S16x32x8x64, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S32, .f32⟩
  | 63 => ⟨S32x1, .f32⟩
  | 64 => ⟨S1x32, .f32⟩
  | 65 => ⟨S32x32, .f32⟩
  | 66 => ⟨S32x32, .f32⟩
  | 67 => ⟨S32x32, .f32⟩
  | 68 => ⟨S32x32, .f32⟩
  | 69 => ⟨S1x32x1x32, .f32⟩
  | 70 => ⟨S32x32, .f32⟩
  | 71 => ⟨S1x32x1x32, .f32⟩
  | 72 => ⟨S16x32x8x32, .f32⟩
  | 73 => ⟨S16x32x8x32, .f32⟩
  | 74 => ⟨S16x32x8x32, .f32⟩
  | 75 => ⟨S16x32x8x32, .f32⟩
  | 76 => ⟨S16x32x8x32, .f32⟩
  | 77 => ⟨S16x32x8x32, .f32⟩
  | 78 => ⟨S16x32x8x32, .f32⟩
  | 79 => ⟨S16x32x8x32, .f32⟩
  | 80 => ⟨S16x32x8x32, .f32⟩
  | 81 => ⟨S16x32x8x32, .f32⟩
  | 82 => ⟨S16x32x8x32, .f32⟩
  | 83 => ⟨S16x32x8x32, .f32⟩
  | 84 => ⟨S16x32x8x64, .f32⟩
  | 85 => ⟨S16x32x2x64, .f32⟩
  | 86 => ⟨S16x32x2x64, .f32⟩
  | 87 => ⟨S_, .f32⟩
  | 88 => ⟨S16x32x2, .f32⟩
  | 89 => ⟨S16x32x2x1, .f32⟩
  | 90 => ⟨S_, .f32⟩
  | 91 => ⟨S16x32x2x1, .f32⟩
  | 92 => ⟨S16x32x2x1, .f32⟩
  | 93 => ⟨S_, .f32⟩
  | 94 => ⟨S16x32x2x1, .f32⟩
  | 95 => ⟨S16x32x2x1, .f32⟩
  | 96 => ⟨S16x32x2x1, .f32⟩
  | 97 => ⟨S16x32x2x64, .f32⟩
  | 98 => ⟨S16x32x2x64, .f32⟩
  | 99 => ⟨S1x1x1x64, .f32⟩
  | 100 => ⟨S16x32x2x64, .f32⟩
  | 101 => ⟨S16x32x2x64, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S32, .f32⟩
  | 111 => ⟨S32x1, .f32⟩
  | 112 => ⟨S1x32, .f32⟩
  | 113 => ⟨S32x32, .f32⟩
  | 114 => ⟨S32x32, .f32⟩
  | 115 => ⟨S32x32, .f32⟩
  | 116 => ⟨S32x32, .f32⟩
  | 117 => ⟨S1x32x1x32, .f32⟩
  | 118 => ⟨S32x32, .f32⟩
  | 119 => ⟨S1x32x1x32, .f32⟩
  | 120 => ⟨S16x32x2x32, .f32⟩
  | 121 => ⟨S16x32x2x32, .f32⟩
  | 122 => ⟨S16x32x2x32, .f32⟩
  | 123 => ⟨S16x32x2x32, .f32⟩
  | 124 => ⟨S16x32x2x32, .f32⟩
  | 125 => ⟨S16x32x2x32, .f32⟩
  | 126 => ⟨S16x32x2x32, .f32⟩
  | 127 => ⟨S16x32x2x32, .f32⟩
  | _ => ⟨S512x1024, .f32⟩

abbrev hbmTy0_1 (i : Nat) : BufTy := match i % 128 with
  | 0 => ⟨S16x32x2x32, .f32⟩
  | 1 => ⟨S16x32x2x32, .f32⟩
  | 2 => ⟨S16x32x2x32, .f32⟩
  | 3 => ⟨S16x32x2x32, .f32⟩
  | 4 => ⟨S16x32x2x64, .f32⟩
  | 5 => ⟨S16x32x2x64, .f32⟩
  | 6 => ⟨S16x32x4x64, .f32⟩
  | 7 => ⟨S_, .f32⟩
  | 8 => ⟨S16x32x4x64, .f32⟩
  | 9 => ⟨S16x32x4x64, .f32⟩
  | 10 => ⟨S16x32x4x64, .f32⟩
  | 11 => ⟨S16x32x4x128, .f32⟩
  | 12 => ⟨S16x32x256, .f32⟩
  | 13 => ⟨S1x1x256, .f32⟩
  | 14 => ⟨S16x32x256, .f32⟩
  | 15 => ⟨S16x32x256, .f32⟩
  | 16 => ⟨S16x32x256, .f32⟩
  | 17 => ⟨S_, .f32⟩
  | 18 => ⟨S16x32x256, .f32⟩
  | 19 => ⟨S16x32x256, .f32⟩
  | 20 => ⟨S16x32x256, .f32⟩
  | 21 => ⟨S16x32x256, .f32⟩
  | 22 => ⟨S16x32x256, .i1⟩
  | 23 => ⟨S16x32x256, .f32⟩
  | 24 => ⟨S16x32x256, .f32⟩
  | 25 => ⟨S16x32x256, .f32⟩
  | 26 => ⟨S16x32x256, .f32⟩
  | 27 => ⟨S16x32x256, .f32⟩
  | 28 => ⟨S16x32x256, .f32⟩
  | 29 => ⟨S16x32x256, .f32⟩
  | 30 => ⟨S16x32x256, .f32⟩
  | 31 => ⟨S16x32x256, .f32⟩
  | 32 => ⟨S_, .f32⟩
  | 33 => ⟨S16x32x256, .f32⟩
  | 34 => ⟨S16x32x256, .f32⟩
  | 35 => ⟨S16x32x4x64, .f32⟩
  | 36 => ⟨S512x128, .f32⟩
  | 37 => ⟨S512x128, .f32⟩
  | 38 => ⟨S512x256, .f32⟩
  | 39 => ⟨S512x256, .f32⟩
  | 40 => ⟨S512x256, .f32⟩
  | 41 => ⟨S512x256, .f32⟩
  | 42 => ⟨S_, .f32⟩
  | 43 => ⟨S512x256, .f32⟩
  | 44 => ⟨S512x256, .f32⟩
  | 45 => ⟨S512x768, .f32⟩
  | 46 => ⟨S512x512, .f32⟩
  | 47 => ⟨S512x512, .bf16⟩
  | 48 => ⟨S512x512, .f32⟩
  | 49 => ⟨S512x512, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_cst_11 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_12 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_call0_v0 : Ref sig .tc := ⟨.hbm, 144, rfl⟩
abbrev main_call0_call0_cst : Ref sig .tc := ⟨.hbm, 145, rfl⟩
abbrev main_call0_call0_v0 : Ref sig .tc := ⟨.hbm, 146, rfl⟩
abbrev main_call0_call0_v1 : Ref sig .tc := ⟨.hbm, 147, rfl⟩
abbrev main_call0_call0_v2 : Ref sig .tc := ⟨.hbm, 148, rfl⟩
abbrev main_call0_call0_v3 : Ref sig .tc := ⟨.hbm, 149, rfl⟩
abbrev main_call0_call0_v4 : Ref sig .tc := ⟨.hbm, 150, rfl⟩
abbrev main_call0_call0_v5 : Ref sig .tc := ⟨.hbm, 151, rfl⟩
abbrev main_call0_call0_v6 : Ref sig .tc := ⟨.hbm, 152, rfl⟩
abbrev main_call0_call0_v7 : Ref sig .tc := ⟨.hbm, 153, rfl⟩
abbrev main_call0_call0_v8 : Ref sig .tc := ⟨.hbm, 154, rfl⟩
abbrev main_call0_call0_v9 : Ref sig .tc := ⟨.hbm, 155, rfl⟩
abbrev main_call0_call0_v10 : Ref sig .tc := ⟨.hbm, 156, rfl⟩
abbrev main_call0_call0_v11 : Ref sig .tc := ⟨.hbm, 157, rfl⟩
abbrev main_call0_v1 : Ref sig .tc := ⟨.hbm, 158, rfl⟩
abbrev main_v122 : Ref sig .tc := ⟨.hbm, 159, rfl⟩
abbrev main_cst_13 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_14 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩

abbrev nD : Nat := 1
abbrev τ : Topo := Topo.v7x

variable {F : FTy → Type} [FloatOps F]
-- ==== Proof.Mlp.lean ====
/-
  The row mathematics that the layer's closing step shares: one row of the residual stream is normalised by its root
  mean square, sent through the squared-relu MLP and added back. The kernel walks the hidden width of 4096 in four
  chunks of 1024; the reference sums over the whole width. Over the extended reals the two are one sum cut in four.
-/
module

public import Idealize.ShloMosaic.Lib.Pointwise

@[expose] public section

noncomputable section

namespace Cert.Mlp

open Idealize.ShloMosaic

/-- The root-mean-square normalised row, times its gain. The two literals are the words of 1024 and of 1e-6. -/
def hidden (x g : Fin 1024 → EReal) (k : Fin 1024) : EReal :=
  x k * Ideal.rsqrt (Ideal.div (∑ j, x j * x j) (Ideal.ofBits FTy.f32 1149239296#32) + Ideal.ofBits FTy.f32 897988541#32)
    * g k

/-- One hidden unit after the squared relu. -/
def unit (h : Fin 1024 → EReal) (w : Fin 1024 → EReal) : EReal :=
  max (∑ k, h k * w k) 0 * max (∑ k, h k * w k) 0

/-- The MLP's contribution to column `l`, summed over the whole hidden width. -/
def full (h : Fin 1024 → EReal) (wu : Fin 1024 → Fin 4096 → EReal) (wd : Fin 4096 → Fin 1024 → EReal) (l : Fin 1024) : EReal :=
  ∑ f : Fin 4096, unit h (fun k => wu k f) * wd f l

/-- The same over the 1024 hidden units from `o` on. -/
def chunk (h : Fin 1024 → EReal) (wu : Fin 1024 → Fin 4096 → EReal) (wd : Fin 4096 → Fin 1024 → EReal) (o : ℕ)
    (ho : o + 1024 ≤ 4096) (l : Fin 1024) : EReal :=
  ∑ f : Fin 1024, unit h (fun k => wu k ⟨o + f, by omega⟩) * wd ⟨o + f, by omega⟩ l

/-- The row with its MLP added: what both programs' closing step leaves. -/
def row (x g : Fin 1024 → EReal) (wu : Fin 1024 → Fin 4096 → EReal) (wd : Fin 4096 → Fin 1024 → EReal) (l : Fin 1024) : EReal :=
  x l + full (hidden x g) wu wd l

/-- A sum over 4096 is four sums over 1024. -/
theorem sum_four (f : Fin 4096 → EReal) :
    ∑ i, f i = (∑ i : Fin 1024, f ⟨0 + i, by omega⟩) + (∑ i : Fin 1024, f ⟨1024 + i, by omega⟩)
      + (∑ i : Fin 1024, f ⟨2048 + i, by omega⟩) + (∑ i : Fin 1024, f ⟨3072 + i, by omega⟩) := by
  rw [Fin.sum_univ_two_halves 3072 1024 rfl f, Fin.sum_univ_two_halves 2048 1024 rfl (fun i : Fin 3072 => f ⟨i, by omega⟩),
    Fin.sum_univ_two_halves 1024 1024 rfl (fun i : Fin 2048 => f ⟨i, by omega⟩)]
  simp only [Nat.zero_add]

/-- The four chunks added one after another to the row are the row with the whole MLP added. -/
theorem row_eq_chunks (x g : Fin 1024 → EReal) (wu : Fin 1024 → Fin 4096 → EReal) (wd : Fin 4096 → Fin 1024 → EReal) (l : Fin 1024) :
    row x g wu wd l = x l + chunk (hidden x g) wu wd 0 (by omega) l + chunk (hidden x g) wu wd 1024 (by omega) l
      + chunk (hidden x g) wu wd 2048 (by omega) l + chunk (hidden x g) wu wd 3072 (by omega) l := by
  unfold row full chunk
  rw [sum_four]
  simp only [add_assoc]

end Cert.Mlp

end
-- ==== Proof.FramesKernel.lean ====
/-
  The last layer's closing call (the one with the element-indexed windows): what its result array holds after the run.
  A grid point stands for one batch entry and one half of its 2048 frames; its rows of the residual stream and of the
  attention output start 16 rows (the meta tokens) into the entry's 2064 rows. First what one point computes from its
  blocks, then each block at its place in the arrays, then the array.
-/
module

public import proofs.«01_k».proof.Proof.Gen.KernelIdeal.Value
public import proofs.«01_k».proof.Proof.Mlp
public import Idealize.ShloMosaic.Lib.Pipeline.ValueKit
public import Idealize.ShloMosaic.Lib.StableHlo.ReadAt

@[expose] public section

set_option maxRecDepth 16384

noncomputable section

namespace Cert.Frames

open Idealize.ShloMosaic Idealize.ShloMosaic.TcCoe Idealize.SL.Sem
open Cert.KernelIdeal Cert.KernelIdeal.Gen

/-! ## One block -/

section block

variable (o w : Vec Ideal S1024x1024 .bf16) (x : Vec Ideal S1024x1024 .f32) (g : Vec Ideal S1x1024 .f32)

/-- Row `r` of the block after the attention output's projection is added to it. -/
def mid (r l : Fin 1024) : EReal := x (ix2 r l) + ∑ k, o (ix2 r k) * w (ix2 k l)

theorem pay2_at (r l : Fin 1024) : k0_pay2 o w x (ix2 r l) = mid o w x r l := by
  pointwise [k0_pay2, mid]

theorem pay3_at (r l : Fin 1024) :
    k0_pay3 o w x g (ix2 r l) = Mlp.hidden (mid o w x r) (fun k => g (ix2 0 k)) l := by
  pointwise [k0_pay3]
  simp only [pay2_at]
  rfl

theorem pay5_at (u : Vec Ideal S1024x1024 .bf16) (r l : Fin 1024) :
    k0_pay5 o w x g u (ix2 r l) = ∑ k, Mlp.hidden (mid o w x r) (fun k => g (ix2 0 k)) k * u (ix2 k l) := by
  pointwise [k0_pay5]
  simp only [pay3_at]

theorem pay4_at (u d : Vec Ideal S1024x1024 .bf16) (r l : Fin 1024) :
    k0_pay4 o w x g u d (ix2 r l) = mid o w x r l
      + ∑ f, Mlp.unit (Mlp.hidden (mid o w x r) (fun k => g (ix2 0 k))) (fun k => u (ix2 k f)) * d (ix2 f l) := by
  pointwise [k0_pay4]
  simp only [pay2_at, pay3_at]
  rfl

/-- What a grid point writes, at row `r` and column `l` of its block. -/
theorem out_at (wu : Vec Ideal S1024x4096 .bf16) (wd : Vec Ideal S4096x1024 .bf16) (r l : Fin 1024) :
    out0_6 x o w g wu wd (ix2 r l)
      = Mlp.row (mid o w x r) (fun k => g (ix2 0 k)) (fun k f => wu (ix2 k f)) (fun f k => wd (ix2 f k)) l := by
  rw [Mlp.row_eq_chunks]
  frame_out
  pointwise [k0_pay1]
  simp only [pay3_at, pay4_at, pay5_at]
  pointwise []
  simp only [Mlp.chunk, Mlp.unit, Nat.zero_add]

end block

/-! ## The blocks in the arrays -/

variable (m : (ℓ : Loc nD τ sig) → Buf (Elt Ideal) ℓ)

/-- The array row that row `r` of the result is computed from: its batch entry's rows, the 16 meta tokens skipped. -/
def src (r : Fin 32768) : Fin 33024 := ⟨r.val / 2048 * 2064 + (16 + r.val % 2048), by omega⟩

theorem point_lt (t : Fin cfg0.N) : t.val < 32 := lt_of_lt_of_eq t.isLt N_0

/-- The array row of row `r` of point `t`'s block. -/
def dst (t : Fin cfg0.N) (r : Fin 1024) : Fin 32768 := ⟨t.val * 1024 + r, by have := point_lt t; omega⟩

theorem idx0 : ∀ t : Fin cfg0.N, win0_0.index t = ![(t.val / 2) * 2064 + (t.val % 2) * 1024 + 16, 0] :=
  (by decide +kernel : ∀ t : Fin grid0.N, _)

theorem idx1 : ∀ t : Fin cfg0.N, win0_1.index t = ![(t.val / 2) * 2064 + (t.val % 2) * 1024 + 16, 0] :=
  (by decide +kernel : ∀ t : Fin grid0.N, _)

theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

/-- The residual stream's block: element-indexed rows of the argument. -/
theorem blk0 (c : Dev nD) (t : Fin cfg0.N) (r k : Fin 1024) :
    iblk m c 0 t (ix2 r k) = m ((c : Thread nD τ).loc main_arg0) (ix2 (src (dst t r)) k) := by
  have ht := point_lt t
  rw [← V_main_arg0 m c]
  blk_ext [iblk, idx0 t]
  · refine (win0_0.rect_emb_val_off t (ix2 r k) 0).trans ?_
    rw [idx0 t]
    show (t.val / 2) * 2064 + (t.val % 2) * 1024 + 16 + r.val = (t.val * 1024 + r.val) / 2048 * 2064 + (16 + (t.val * 1024 + r.val) % 2048)
    omega
  · refine (win0_0.rect_emb_val_off t (ix2 r k) 1).trans ?_
    rw [idx0 t]
    exact Nat.zero_add _

/-- The attention output's block, at the same rows. -/
theorem blk1 (c : Dev nD) (t : Fin cfg0.N) (r k : Fin 1024) :
    iblk m c 1 t (ix2 r k) = m ((c : Thread nD τ).loc main_arg1) (ix2 (src (dst t r)) k) := by
  have ht := point_lt t
  rw [← V_main_arg1 m c]
  blk_ext [iblk, idx1 t]
  · refine (win0_1.rect_emb_val_off t (ix2 r k) 0).trans ?_
    rw [idx1 t]
    show (t.val / 2) * 2064 + (t.val % 2) * 1024 + 16 + r.val = (t.val * 1024 + r.val) / 2048 * 2064 + (16 + (t.val * 1024 + r.val) % 2048)
    omega
  · refine (win0_1.rect_emb_val_off t (ix2 r k) 1).trans ?_
    rw [idx1 t]
    exact Nat.zero_add _

/-- The host's narrowed weights, and the gain as a row, are the arguments at an index. -/
theorem wout_at (c : Dev nD) (k l : Fin 1024) : V m c main_v3 (ix2 k l) = m ((c : Thread nD τ).loc main_arg2) (ix2 k l) := by
  unfold V
  after_reads_at

theorem gain_at (c : Dev nD) (l : Fin 1024) : V m c main_v2 (ix2 0 l) = m ((c : Thread nD τ).loc main_arg3) (ix1 l) := by
  unfold V
  after_reads_at

theorem wup_at (c : Dev nD) (k : Fin 1024) (f : Fin 4096) : V m c main_v0 (ix2 k f) = m ((c : Thread nD τ).loc main_arg4) (ix2 k f) := by
  unfold V
  after_reads_at

theorem wdown_at (c : Dev nD) (f : Fin 4096) (l : Fin 1024) : V m c main_v1 (ix2 f l) = m ((c : Thread nD τ).loc main_arg5) (ix2 f l) := by
  unfold V
  after_reads_at

theorem blk2 (c : Dev nD) (t : Fin cfg0.N) (k l : Fin 1024) :
    iblk m c 2 t (ix2 k l) = m ((c : Thread nD τ).loc main_arg2) (ix2 k l) := by
  rw [← wout_at m c]
  blk_ext [iblk, idx2 t]

theorem blk3 (c : Dev nD) (t : Fin cfg0.N) (l : Fin 1024) :
    iblk m c 3 t (ix2 0 l) = m ((c : Thread nD τ).loc main_arg3) (ix1 l) := by
  rw [← gain_at m c]
  blk_ext [iblk, idx3 t]

theorem blk4 (c : Dev nD) (t : Fin cfg0.N) (k : Fin 1024) (f : Fin 4096) :
    iblk m c 4 t (ix2 k f) = m ((c : Thread nD τ).loc main_arg4) (ix2 k f) := by
  rw [← wup_at m c]
  blk_ext [iblk, idx4 t]

theorem blk5 (c : Dev nD) (t : Fin cfg0.N) (f : Fin 4096) (l : Fin 1024) :
    iblk m c 5 t (ix2 f l) = m ((c : Thread nD τ).loc main_arg5) (ix2 f l) := by
  rw [← wdown_at m c]
  blk_ext [iblk, idx5 t]

/-! ## The array -/

/-- The closing step as a function of the six arguments, row by row: the result row `r` is the source row plus its
    attention output's projection, with the MLP of the normalised sum added. -/
def result (x : Vec Ideal S33024x1024 .f32) (o : Vec Ideal S33024x1024 .bf16) (w : Vec Ideal S1024x1024 .f32) (g : Vec Ideal S1024 .f32)
    (wu : Vec Ideal S1024x4096 .f32) (wd : Vec Ideal S4096x1024 .f32) (r : Fin 32768) (l : Fin 1024) : EReal :=
  Mlp.row (fun j => x (ix2 (src r) j) + ∑ k, o (ix2 (src r) k) * w (ix2 k j)) (fun k => g (ix1 k)) (fun k f => wu (ix2 k f))
    (fun f k => wd (ix2 f k)) l

/-- After the run the result array holds that function of the arguments. -/
theorem final (c : Dev nD) : (dats m 0 c).arrAt 6 cfg0.N = fun i : S32768x1024.Idx =>
    result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  blk_simp
  rw [after0_6]
  obtain ⟨r, l, rfl⟩ : ∃ (a : Fin 1024) (b : Fin 1024), y = ix2 a b := ⟨y 0, y 1, eq_ix2 y⟩
  have e : (win0_6.blk t).view.emb (ix2 r l) = ix2 (dst t r) l := by
    have ht := point_lt t
    blk_ext [idx6 t, dst]
  refine (out_at _ _ _ _ _ _ r l).trans ?_
  rw [e]
  show _ = result _ _ _ _ _ _ (dst t r) l
  unfold result mid
  simp only [blk0, blk1, blk2, blk3, blk4, blk5]

variable (ρ : Dev nD → PrngReg)

/-- The run, read: the result array at that function of the arguments, the arguments unchanged. -/
theorem run : θ_run defs (onTc (τ := τ) (main (F := Ideal))) ⟨m, fun _ => 0, ρ⟩ fun r => ∀ c : Dev nD,
      (r.2.mem ((c : Thread nD τ).loc main_v4) = fun i : S32768x1024.Idx =>
        result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.Frames

end
-- ==== Proof.FramesReference.lean ====
/-
  The last layer's closing step as the reference states it, read row by row: the same function of the six arguments.
-/
module

public import proofs.«01_k».proof.Proof.Gen.ReferenceIdeal.Read
public import proofs.«01_k».proof.Proof.FramesKernel

@[expose] public section

set_option maxRecDepth 16384

noncomputable section

namespace Cert.FramesRef

open Idealize.ShloMosaic Cert.ReferenceIdeal Cert.ReferenceIdeal.Read

variable (x0 : (⟨S33024x1024, .f32⟩ : BufTy).Contents (Elt Ideal)) (x1 : (⟨S33024x1024, .bf16⟩ : BufTy).Contents (Elt Ideal))
  (x2 : (⟨S1024x1024, .f32⟩ : BufTy).Contents (Elt Ideal)) (x3 : (⟨S1024, .f32⟩ : BufTy).Contents (Elt Ideal))
  (x4 : (⟨S1024x4096, .f32⟩ : BufTy).Contents (Elt Ideal)) (x5 : (⟨S4096x1024, .f32⟩ : BufTy).Contents (Elt Ideal))

/-- The stream after the attention output's projection, at batch entry `b` and row `s`. -/
def mid (b : Fin 16) (s : Fin 2064) (l : Fin 1024) : EReal :=
  x0 (ix2 ⟨b.val * 2064 + s.val, by omega⟩ l) + ∑ k, x1 (ix2 ⟨b.val * 2064 + s.val, by omega⟩ k) * x2 (ix2 k l)

theorem v4_at (b : Fin 16) (s : Fin 2064) (l : Fin 1024) :
    val_main_v4 (F := Ideal) x0 x1 x2 (ix3 b s l) = mid x0 x1 x2 b s l := by
  pointwise [val_main_v4, val_main_v3, val_main_v2, val_main_v1, val_main_v0, mid]

theorem v17_at (b : Fin 16) (s : Fin 2064) (l : Fin 1024) :
    val_main_v17 (F := Ideal) x0 x1 x2 x3 (ix3 b s l) = Mlp.hidden (mid x0 x1 x2 b s) (fun k => x3 (ix1 k)) l := by
  pointwise [val_main_v17, val_main_v16, val_main_v15, val_main_v14, val_main_v13, val_main_v12, val_main_v11, val_main_v10,
    val_main_cst_1, val_main_v9, val_main_v8, val_main_cst_0, val_main_v7, val_main_v6, val_main_cst, val_main_v5]
  simp only [v4_at]
  rfl

theorem v20_at (b : Fin 16) (s : Fin 2064) (f : Fin 4096) :
    val_main_v20 (F := Ideal) x0 x1 x2 x3 x4 (ix3 b s f)
      = Mlp.unit (Mlp.hidden (mid x0 x1 x2 b s) (fun k => x3 (ix1 k))) (fun k => x4 (ix2 k f)) := by
  pointwise [val_main_v20, val_main_v19, val_main_v18, val_main_call0_v0, val_main_call0_cst]
  simp only [v17_at]
  rfl

/-- The reference's result at row `r`: the slice that drops the 16 meta tokens of each batch entry reads the source row. -/
theorem v24_at (r : Fin 32768) (l : Fin 1024) :
    val_main_v24 (F := Ideal) x0 x1 x2 x3 x4 x5 (ix2 r l) = Frames.result x0 x1 x2 x3 x4 x5 r l := by
  pointwise [val_main_v24, val_main_v23, val_main_v22, val_main_v21]
  simp only [v4_at, v20_at]
  rfl

/-- The reference's result array. -/
theorem result_eq (m : (ℓ : Loc nD τ sig) → Buf (Elt Ideal) ℓ) (c : Dev nD) :
    Value.res_main_v24 m c = fun i : S32768x1024.Idx => Frames.result (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (i 0) (i 1) := by
  rw [val_main_v24_eq]
  funext i
  obtain ⟨r, l, rfl⟩ : ∃ (a : Fin 32768) (b : Fin 1024), i = ix2 a b := ⟨i 0, i 1, eq_ix2 i⟩
  exact v24_at _ _ _ _ _ _ r l

end Cert.FramesRef

end
-- ==== Proof.FramesClaims.lean ====
/-
  The claims about the last layer's closing call.
-/
module

public import proofs.«01_k».proof.Defs
public import proofs.«01_k».proof.Proof.Gen.Kernel.Frame
public import proofs.«01_k».proof.Proof.FramesKernel
public import proofs.«01_k».proof.Proof.FramesReference
public import Idealize.ShloMosaic.Lib.Quiescent

@[expose] public section

noncomputable section

namespace Cert.FramesClaims

open Idealize.ShloMosaic Idealize.ShloMosaic.TcCoe Idealize.SL.Sem

theorem frame_k : Cert.quiescent_Kernel := fun m ρ _ => Cert.Kernel.Gen.frame m ρ
theorem frame_ki : Cert.quiescent_KernelIdeal := fun m ρ _ => Cert.KernelIdeal.Gen.frame m ρ

/-- The reference is host code: its run read at the arguments, and it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs' result arrays are the one function of the arguments. -/
theorem algebraic : Cert.algebraic_KernelIdeal_ReferenceIdeal := by
  intro m ρ m' ρ' _ hagree
  refine ⟨_, Cert.Frames.run m ρ, ?_⟩
  refine (θ_run Cert.ReferenceIdeal.defs _ _).mono (fun _ h c => ⟨(h c).1.trans ?_, (h c).2⟩)
    (Cert.ReferenceIdeal.Value.run (F := Ideal) m' ρ')
  rw [Cert.FramesRef.result_eq, (hagree c).1, (hagree c).2.1, (hagree c).2.2.1, (hagree c).2.2.2.1, (hagree c).2.2.2.2.1,
    (hagree c).2.2.2.2.2]

end Cert.FramesClaims

end
-- ==== Proof.PostAbKernel.lean ====
/-
  An even layer's closing call over the prompt: what its result array holds after the run. A grid point holds 688 rows;
  the heads of the gated linear attention's output are normalised one by one and gated, both mixers' outputs go through
  the output projection, and the squared-relu MLP follows.
-/
module

public import proofs.«01_k».proof.Proof.Gen.Kernel2Ideal.Value
public import proofs.«01_k».proof.Proof.Mlp
public import Idealize.ShloMosaic.Lib.Pipeline.ValueKit
public import Idealize.ShloMosaic.Lib.StableHlo.ReadAt

@[expose] public section

set_option maxRecDepth 16384

noncomputable section

namespace Cert.PostAb

open Idealize.ShloMosaic Idealize.ShloMosaic.TcCoe Idealize.SL.Sem
open Cert.Kernel2Ideal Cert.Kernel2Ideal.Gen

/-! ## One row -/

/-- A head's 128 values normalised by their root mean square, times the gain. The literals are the words of 128 and 1e-6. -/
def headNorm (y g : Fin 128 → EReal) (k : Fin 128) : EReal :=
  y k * Ideal.rsqrt (Ideal.div (∑ j, y j * y j) (Ideal.ofBits FTy.f32 1124073472#32) + Ideal.ofBits FTy.f32 897988541#32)
    * g k

/-- The normalised and gated value of lane `k`, lane `k % 128` of head `k / 128`. -/
def gated (y : Fin 512 → EReal) (g : Fin 128 → EReal) (r : Fin 512 → EReal) (k : Fin 512) : EReal :=
  headNorm (fun j => y ⟨k.val / 128 * 128 + j.val, by omega⟩) g ⟨k.val % 128, by omega⟩
    * Ideal.div (r k) (1 + Ideal.exp (0 - r k))

theorem gated_eq (y : Fin 512 → EReal) (g : Fin 128 → EReal) (r : Fin 512 → EReal) (k : Fin 512) (o : ℕ) (ho : o + 128 ≤ 512)
    (b : Fin 128) (h1 : k.val / 128 * 128 = o) (h2 : k.val % 128 = b.val) :
    gated y g r k = headNorm (fun j => y ⟨o + j.val, by omega⟩) g b * Ideal.div (r k) (1 + Ideal.exp (0 - r k)) := by
  subst h1
  unfold gated
  exact congrArg (fun z => headNorm _ g z * _) (Fin.ext h2)

/-- The row of the residual stream with both mixers' projected outputs added. -/
def mid (x : Fin 1024 → EReal) (oa ob rb : Fin 512 → EReal) (og : Fin 128 → EReal) (w : Fin 1024 → Fin 1024 → EReal)
    (l : Fin 1024) : EReal :=
  x l + (∑ k : Fin 512, oa k * w ⟨k.val, by omega⟩ l + ∑ k : Fin 512, gated ob og rb k * w ⟨512 + k.val, by omega⟩ l)

section block

variable (x : Vec Ideal S688x1024 .f32) (oa : Vec Ideal S688x512 .bf16) (ob rb : Vec Ideal S688x512 .f32)
  (og : Vec Ideal S1x128 .f32) (w : Vec Ideal S1024x1024 .bf16) (g : Vec Ideal S1x1024 .f32)
  (wu : Vec Ideal S1024x4096 .bf16) (wd : Vec Ideal S4096x1024 .bf16)

theorem pay2_at (r : Fin 688) (l : Fin 128) :
    k0_pay2 ob og (ix2 r l) = headNorm (fun j => ob (ix2 r ⟨0 + j.val, by omega⟩)) (fun k => og (ix2 0 k)) l := by
  pointwise [k0_pay2]
  rfl

theorem pay3_at (r : Fin 688) (l : Fin 128) :
    k0_pay3 ob og (ix2 r l) = headNorm (fun j => ob (ix2 r ⟨128 + j.val, by omega⟩)) (fun k => og (ix2 0 k)) l := by
  pointwise [k0_pay3]
  rfl

/-- The row of the block that the MLP takes. -/
def row (r : Fin 688) (l : Fin 1024) : EReal :=
  mid (fun k => x (ix2 r k)) (fun k => oa (ix2 r k)) (fun k => ob (ix2 r k)) (fun k => rb (ix2 r k)) (fun k => og (ix2 0 k))
    (fun k l => w (ix2 k l)) l

theorem pay5_at (w1 w2 : Vec Ideal S512x1024 .bf16) (h1 : ∀ k l, w1 (ix2 k l) = w (ix2 ⟨k.val, by omega⟩ l))
    (h2 : ∀ k l, w2 (ix2 k l) = w (ix2 ⟨512 + k.val, by omega⟩ l)) (r : Fin 688) (l : Fin 1024) :
    k0_pay5 ob (k0_pay2 ob og) (k0_pay3 ob og) (k0_pay4 ob) og og rb oa w1 w2 x (ix2 r l) = row x oa ob rb og w r l := by
  pointwise [k0_pay5, k0_pay4]
  simp only [pay2_at, pay3_at, h1, h2]
  unfold row mid
  refine congrArg (fun z => _ + (_ + z)) (Finset.sum_congr rfl fun k _ => congrArg (fun z => z * _) ?_)
  by_cases c1 : k.val < 128
  · rw [dif_pos c1, gated_eq _ _ _ k 0 (by omega) ⟨k.val, c1⟩ (by omega) (by show k.val % 128 = k.val; omega)]
  · rw [dif_neg c1]
    by_cases c2 : k.val - 128 < 128
    · rw [dif_pos c2, gated_eq _ _ _ k 128 (by omega) ⟨k.val - 128, c2⟩ (by omega) (by show k.val % 128 = k.val - 128; omega)]
    · rw [dif_neg c2]
      by_cases c3 : k.val - 128 - 128 < 128
      · rw [dif_pos c3, gated_eq _ _ _ k 256 (by omega) ⟨k.val - 128 - 128, c3⟩ (by omega)
          (by show k.val % 128 = k.val - 128 - 128; omega)]
        rfl
      · rw [dif_neg c3, gated_eq _ _ _ k 384 (by omega) ⟨k.val - 128 - 128 - 128, by omega⟩ (by omega)
          (by show k.val % 128 = k.val - 128 - 128 - 128; omega)]
        rfl

theorem pay6_at (z : Vec Ideal S688x1024 .f32) (r : Fin 688) (l : Fin 1024) :
    k0_pay6 z g (ix2 r l) = Mlp.hidden (fun k => z (ix2 r k)) (fun k => g (ix2 0 k)) l := by
  pointwise [k0_pay6]
  rfl

theorem pay7_at (z : Vec Ideal S688x1024 .f32) (u1 d1 u2 d2 : Vec Ideal S1024x1024 .bf16) (r : Fin 688) (l : Fin 1024) :
    k0_pay7 z g u1 d1 u2 d2 (ix2 r l) = z (ix2 r l)
      + ∑ f, Mlp.unit (Mlp.hidden (fun k => z (ix2 r k)) (fun k => g (ix2 0 k))) (fun k => u1 (ix2 k f)) * d1 (ix2 f l)
      + ∑ f, Mlp.unit (Mlp.hidden (fun k => z (ix2 r k)) (fun k => g (ix2 0 k))) (fun k => u2 (ix2 k f)) * d2 (ix2 f l) := by
  pointwise [k0_pay7]
  simp only [pay6_at]
  rfl

theorem pay8_at (z : Vec Ideal S688x1024 .f32) (u : Vec Ideal S1024x1024 .bf16) (r : Fin 688) (l : Fin 1024) :
    k0_pay8 z g u (ix2 r l) = ∑ k, Mlp.hidden (fun k => z (ix2 r k)) (fun k => g (ix2 0 k)) k * u (ix2 k l) := by
  pointwise [k0_pay8]
  simp only [pay6_at]

theorem pay9_at (r : Fin 688) (l : Fin 1024) : k0_pay9 x oa ob rb og w g wu wd (ix2 r l) = row x oa ob rb og w r l := by
  unfold k0_pay9
  frame_out
  refine pay5_at x oa ob rb og w _ _ (fun k l => ?_) (fun k l => ?_) r l <;> pointwise []

/-- What a grid point writes, at row `r` and column `l` of its block. -/
theorem out_at (r : Fin 688) (l : Fin 1024) :
    out0_9 x oa ob rb og w g wu wd (ix2 r l)
      = Mlp.row (row x oa ob rb og w r) (fun k => g (ix2 0 k)) (fun k f => wu (ix2 k f)) (fun f k => wd (ix2 f k)) l := by
  rw [Mlp.row_eq_chunks]
  frame_out
  pointwise [k0_pay1]
  simp only [pay6_at, pay7_at, pay8_at, pay9_at]
  pointwise []
  simp only [Mlp.chunk, Mlp.unit, Nat.zero_add]

end block

/-! ## The blocks in the arrays -/

variable (m : (ℓ : Loc nD τ sig) → Buf (Elt Ideal) ℓ)

theorem point_lt (t : Fin cfg0.N) : t.val < 48 := lt_of_lt_of_eq t.isLt N_0

/-- The array row of row `r` of point `t`'s block. -/
def dst (t : Fin cfg0.N) (r : Fin 688) : Fin 33024 := ⟨t.val * 688 + r, by have := point_lt t; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)

theorem onorm_at (c : Dev nD) (l : Fin 128) : V m c main_v4 (ix2 0 l) = m ((c : Thread nD τ).loc main_arg4) (ix1 l) := by
  unfold V
  after_reads_at

theorem wout_at (c : Dev nD) (k l : Fin 1024) : V m c main_v3 (ix2 k l) = m ((c : Thread nD τ).loc main_arg5) (ix2 k l) := by
  unfold V
  after_reads_at

theorem gain_at (c : Dev nD) (l : Fin 1024) : V m c main_v2 (ix2 0 l) = m ((c : Thread nD τ).loc main_arg6) (ix1 l) := by
  unfold V
  after_reads_at

theorem wup_at (c : Dev nD) (k : Fin 1024) (f : Fin 4096) : V m c main_v0 (ix2 k f) = m ((c : Thread nD τ).loc main_arg7) (ix2 k f) := by
  unfold V
  after_reads_at

theorem wdown_at (c : Dev nD) (f : Fin 4096) (l : Fin 1024) : V m c main_v1 (ix2 f l) = m ((c : Thread nD τ).loc main_arg8) (ix2 f l) := by
  unfold V
  after_reads_at

theorem blk0 (c : Dev nD) (t : Fin cfg0.N) (r : Fin 688) (k : Fin 1024) :
    iblk m c 0 t (ix2 r k) = m ((c : Thread nD τ).loc main_arg0) (ix2 (dst t r) k) := by
  rw [← V_main_arg0 m c]
  blk_ext [iblk, idx0 t, dst]

theorem blk1 (c : Dev nD) (t : Fin cfg0.N) (r : Fin 688) (k : Fin 512) :
    iblk m c 1 t (ix2 r k) = m ((c : Thread nD τ).loc main_arg1) (ix2 (dst t r) k) := by
  rw [← V_main_arg1 m c]
  blk_ext [iblk, idx1 t, dst]

theorem blk2 (c : Dev nD) (t : Fin cfg0.N) (r : Fin 688) (k : Fin 512) :
    iblk m c 2 t (ix2 r k) = m ((c : Thread nD τ).loc main_arg2) (ix2 (dst t r) k) := by
  rw [← V_main_arg2 m c]
  blk_ext [iblk, idx2 t, dst]

theorem blk3 (c : Dev nD) (t : Fin cfg0.N) (r : Fin 688) (k : Fin 512) :
    iblk m c 3 t (ix2 r k) = m ((c : Thread nD τ).loc main_arg3) (ix2 (dst t r) k) := by
  rw [← V_main_arg3 m c]
  blk_ext [iblk, idx3 t, dst]

theorem blk4 (c : Dev nD) (t : Fin cfg0.N) (l : Fin 128) :
    iblk m c 4 t (ix2 0 l) = m ((c : Thread nD τ).loc main_arg4) (ix1 l) := by
  rw [← onorm_at m c]
  blk_ext [iblk, idx4 t]

theorem blk5 (c : Dev nD) (t : Fin cfg0.N) (k l : Fin 1024) :
    iblk m c 5 t (ix2 k l) = m ((c : Thread nD τ).loc main_arg5) (ix2 k l) := by
  rw [← wout_at m c]
  blk_ext [iblk, idx5 t]

theorem blk6 (c : Dev nD) (t : Fin cfg0.N) (l : Fin 1024) :
    iblk m c 6 t (ix2 0 l) = m ((c : Thread nD τ).loc main_arg6) (ix1 l) := by
  rw [← gain_at m c]
  blk_ext [iblk, idx6 t]

theorem blk7 (c : Dev nD) (t : Fin cfg0.N) (k : Fin 1024) (f : Fin 4096) :
    iblk m c 7 t (ix2 k f) = m ((c : Thread nD τ).loc main_arg7) (ix2 k f) := by
  rw [← wup_at m c]
  blk_ext [iblk, idx7 t]

theorem blk8 (c : Dev nD) (t : Fin cfg0.N) (f : Fin 4096) (l : Fin 1024) :
    iblk m c 8 t (ix2 f l) = m ((c : Thread nD τ).loc main_arg8) (ix2 f l) := by
  rw [← wdown_at m c]
  blk_ext [iblk, idx8 t]

/-! ## The array -/

/-- The closing step as a function of its arguments, row by row. -/
def result (x : Vec Ideal S33024x1024 .f32) (oa : Vec Ideal S33024x512 .bf16) (ob rb : Vec Ideal S33024x512 .f32)
    (og : Vec Ideal S128 .f32) (w : Vec Ideal S1024x1024 .f32) (g : Vec Ideal S1024 .f32)
    (wu : Vec Ideal S1024x4096 .f32) (wd : Vec Ideal S4096x1024 .f32) (r : Fin 33024) (l : Fin 1024) : EReal :=
  Mlp.row (mid (fun k => x (ix2 r k)) (fun k => oa (ix2 r k)) (fun k => ob (ix2 r k)) (fun k => rb (ix2 r k)) (fun k => og (ix1 k))
    (fun k l => w (ix2 k l))) (fun k => g (ix1 k)) (fun k f => wu (ix2 k f)) (fun f k => wd (ix2 f k)) l

/-- After the run the result array holds that function of the arguments. -/
theorem final (c : Dev nD) : (dats m 0 c).arrAt 9 cfg0.N = fun i : S33024x1024.Idx =>
    result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) := by
  refine (dats m 0 c).arrAt_eq_of_covers 9 _ (by decide +kernel) fun t hf y => ?_
  blk_simp
  rw [after0_9]
  obtain ⟨r, l, rfl⟩ : ∃ (a : Fin 688) (b : Fin 1024), y = ix2 a b := ⟨y 0, y 1, eq_ix2 y⟩
  have e : (win0_9.blk t).view.emb (ix2 r l) = ix2 (dst t r) l := by
    blk_ext [idx9 t, dst]
  refine (out_at _ _ _ _ _ _ _ _ _ r l).trans ?_
  rw [e]
  show _ = result _ _ _ _ _ _ _ _ _ (dst t r) l
  unfold result row
  simp only [blk0, blk1, blk2, blk3, blk4, blk5, blk6, blk7, blk8]

variable (ρ : Dev nD → PrngReg)

/-- The run, read: the result array at that function of the arguments, the arguments unchanged. -/
theorem run : θ_run defs (onTc (τ := τ) (main (F := Ideal))) ⟨m, fun _ => 0, ρ⟩ fun r => ∀ c : Dev nD,
      (r.2.mem ((c : Thread nD τ).loc main_v5) = fun i : S33024x1024.Idx => result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks m ρ)

end Cert.PostAb

end
-- ==== Proof.Ext.lean ====
/-
  Small facts about the extended reals that several calls' mathematics share.
-/
module

public import Idealize.ShloMosaic.Lib.IdealHost

@[expose] public section

noncomputable section

namespace Cert.Ext

open Idealize.ShloMosaic

/-- An exponential is never negative. -/
theorem exp_nonneg (x : EReal) : 0 ≤ Ideal.exp x := by
  induction x using EReal.rec with
  | bot => show (0 : EReal) ≤ 0; exact le_rfl
  | top => show (0 : EReal) ≤ ⊤; exact le_top
  | coe r => exact EReal.coe_nonneg.mpr (Real.exp_pos r).le

/-- The denominator of a logistic is not zero. -/
theorem one_add_exp_ne_zero (x : EReal) : 1 + Ideal.exp x ≠ 0 := by
  have h : (0 : EReal) < 1 + Ideal.exp x := by
    calc (0 : EReal) < 1 := zero_lt_one
      _ = 1 + 0 := (add_zero 1).symm
      _ ≤ 1 + Ideal.exp x := add_le_add le_rfl (exp_nonneg x)
  exact h.ne'

/-- A quotient by something that is neither zero nor an infinity is a product. -/
theorem div_eq_mul (x : EReal) {y : EReal} (hy : y ≠ 0) : Ideal.div x y = x * y⁻¹ := if_neg hy

/-- A factor that is neither negative nor `⊤` comes out of a sum. -/
theorem sum_mul {ι : Type} (s : Finset ι) (f : ι → EReal) {c : EReal} (h0 : 0 ≤ c) (ht : c ≠ ⊤) : (∑ i ∈ s, f i) * c = ∑ i ∈ s, f i * c := by
  classical
  induction s using Finset.induction_on with
  | empty => simp
  | insert a s ha ih =>
    rw [Finset.sum_insert ha, Finset.sum_insert ha, mul_comm, EReal.left_distrib_of_nonneg_of_ne_top h0 ht, mul_comm c, mul_comm c, ih]

/-- A sum over 256 lanes, as four groups of 64. -/
theorem sum_groups (f : Fin 256 → EReal) : ∑ i, f i = ∑ a : Fin 4, ∑ d : Fin 64, f ⟨a.val * 64 + d.val, by omega⟩ := by
  rw [← Fintype.sum_prod_type' (f := fun (a : Fin 4) (d : Fin 64) => f ⟨a.val * 64 + d.val, by omega⟩)]
  refine (Fintype.sum_equiv (finProdFinEquiv (m := 4) (n := 64)) _ f fun x => congrArg f (Fin.ext ?_)).symm
  show x.1.val * 64 + x.2.val = x.2.val + 64 * x.1.val
  omega

end Cert.Ext

end
-- ==== Proof.PostAbReference.lean ====
/-
  An even layer's closing step as the reference states it, read row by row: the same function of its arguments.
-/
module

public import proofs.«01_k».proof.Proof.Ext
public import proofs.«01_k».proof.Proof.Gen.Reference2Ideal.Read
public import proofs.«01_k».proof.Proof.PostAbKernel

@[expose] public section

set_option maxRecDepth 16384

noncomputable section

namespace Cert.PostAbRef

open Idealize.ShloMosaic Cert.Reference2Ideal Cert.Reference2Ideal.Read

variable (x0 : (⟨S33024x1024, .f32⟩ : BufTy).Contents (Elt Ideal)) (x1 : (⟨S33024x512, .bf16⟩ : BufTy).Contents (Elt Ideal))
  (x2 x3 : (⟨S33024x512, .f32⟩ : BufTy).Contents (Elt Ideal)) (x4 : (⟨S128, .f32⟩ : BufTy).Contents (Elt Ideal))
  (x5 : (⟨S1024x1024, .f32⟩ : BufTy).Contents (Elt Ideal)) (x6 : (⟨S1024, .f32⟩ : BufTy).Contents (Elt Ideal))
  (x7 : (⟨S1024x4096, .f32⟩ : BufTy).Contents (Elt Ideal)) (x8 : (⟨S4096x1024, .f32⟩ : BufTy).Contents (Elt Ideal))

/-- The array row of batch entry `b`'s position `s`. -/
def at_ (b : Fin 16) (s : Fin 2064) : Fin 33024 := ⟨b.val * 2064 + s.val, by omega⟩

theorem v17_at (b : Fin 16) (s : Fin 2064) (h : Fin 4) (l : Fin 128) :
    val_main_v17 (F := Ideal) x2 x4 (ix4 b s h l)
      = PostAb.headNorm (fun j => x2 (ix2 (at_ b s) ⟨h.val * 128 + j.val, by omega⟩)) (fun k => x4 (ix1 k)) l := by
  pointwise [val_main_v17, val_main_v16, val_main_v15, val_main_v14, val_main_v13, val_main_v12, val_main_v11, val_main_v10,
    val_main_cst_1, val_main_v9, val_main_v8, val_main_cst_0, val_main_v7, val_main_v6, val_main_cst, val_main_v5, val_main_v3]
  rfl

theorem v20_at (b : Fin 16) (s : Fin 2064) (k : Fin 512) :
    val_main_v20 (F := Ideal) x2 x3 x4 (ix3 b s k)
      = PostAb.gated (fun k => x2 (ix2 (at_ b s) k)) (fun k => x4 (ix1 k)) (fun k => x3 (ix2 (at_ b s) k)) k := by
  pointwise [val_main_v20, val_main_v19, val_main_v18, val_main_v4, val_main_call0_v0, val_main_call0_v1, val_main_call0_v2, val_main_call0_v3,
    val_main_call0_v4, val_main_call0_v5, val_main_call0_cst, val_main_call0_cst_0]
  rw [v17_at]
  rw [Ideal.mul_one_div (Ext.one_add_exp_ne_zero _)]
  unfold PostAb.gated
  rw [zero_sub]
  rfl

/-- The stream with both mixers' projected outputs added, at batch entry `b` and position `s`. -/
def mid (b : Fin 16) (s : Fin 2064) (l : Fin 1024) : EReal :=
  PostAb.mid (fun k => x0 (ix2 (at_ b s) k)) (fun k => x1 (ix2 (at_ b s) k)) (fun k => x2 (ix2 (at_ b s) k)) (fun k => x3 (ix2 (at_ b s) k))
    (fun k => x4 (ix1 k)) (fun k l => x5 (ix2 k l)) l

theorem v23_at (b : Fin 16) (s : Fin 2064) (l : Fin 1024) :
    val_main_v23 (F := Ideal) x0 x1 x2 x3 x4 x5 (ix3 b s l) = mid x0 x1 x2 x3 x4 x5 b s l := by
  pointwise [val_main_v23, val_main_v22, val_main_v21, val_main_v2, val_main_v1, val_main_v0]
  simp only [v20_at]
  rfl

theorem v36_at (b : Fin 16) (s : Fin 2064) (l : Fin 1024) :
    val_main_v36 (F := Ideal) x0 x1 x2 x3 x4 x5 x6 (ix3 b s l)
      = Mlp.hidden (mid x0 x1 x2 x3 x4 x5 b s) (fun k => x6 (ix1 k)) l := by
  pointwise [val_main_v36, val_main_v35, val_main_v34, val_main_v33, val_main_v32, val_main_v31, val_main_v30, val_main_v29,
    val_main_cst_4, val_main_v28, val_main_v27, val_main_cst_3, val_main_v26, val_main_v25, val_main_cst_2, val_main_v24]
  simp only [v23_at]
  rfl

theorem v39_at (b : Fin 16) (s : Fin 2064) (f : Fin 4096) :
    val_main_v39 (F := Ideal) x0 x1 x2 x3 x4 x5 x6 x7 (ix3 b s f)
      = Mlp.unit (Mlp.hidden (mid x0 x1 x2 x3 x4 x5 b s) (fun k => x6 (ix1 k))) (fun k => x7 (ix2 k f)) := by
  pointwise [val_main_v39, val_main_v38, val_main_v37, val_main_call1_v0, val_main_call1_cst]
  simp only [v36_at]
  rfl

theorem at_split (r : Fin 33024) : at_ ⟨r.val / 2064, by omega⟩ ⟨r.val % 2064, by omega⟩ = r :=
  Fin.ext (by show r.val / 2064 * 2064 + r.val % 2064 = r.val; omega)

/-- The reference's result at row `r`. -/
theorem v42_at (r : Fin 33024) (l : Fin 1024) :
    val_main_v42 (F := Ideal) x0 x1 x2 x3 x4 x5 x6 x7 x8 (ix2 r l) = PostAb.result x0 x1 x2 x3 x4 x5 x6 x7 x8 r l := by
  pointwise [val_main_v42, val_main_v41, val_main_v40]
  simp only [v23_at, v39_at]
  unfold mid
  rw [at_split r]
  rfl

/-- The reference's result array. -/
theorem result_eq (m : (ℓ : Loc nD τ sig) → Buf (Elt Ideal) ℓ) (c : Dev nD) :
    Value.res_main_v42 m c = fun i : S33024x1024.Idx => PostAb.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0) (i 1) := by
  rw [val_main_v42_eq]
  funext i
  obtain ⟨r, l, rfl⟩ : ∃ (a : Fin 33024) (b : Fin 1024), i = ix2 a b := ⟨i 0, i 1, eq_ix2 i⟩
  exact v42_at _ _ _ _ _ _ _ _ _ r l

end Cert.PostAbRef

end
-- ==== Proof.PostAbClaims.lean ====
/-
  The claims about an even layer's closing call.
-/
module

public import proofs.«01_k».proof.Defs
public import proofs.«01_k».proof.Proof.Gen.Kernel2.Frame
public import proofs.«01_k».proof.Proof.PostAbKernel
public import proofs.«01_k».proof.Proof.PostAbReference
public import Idealize.ShloMosaic.Lib.Quiescent

@[expose] public section

noncomputable section

namespace Cert.PostAbClaims

open Idealize.ShloMosaic Idealize.ShloMosaic.TcCoe Idealize.SL.Sem

theorem frame_k : Cert.quiescent_Kernel2 := fun m ρ _ => Cert.Kernel2.Gen.frame m ρ
theorem frame_ki : Cert.quiescent_Kernel2Ideal := fun m ρ _ => Cert.Kernel2Ideal.Gen.frame m ρ

/-- The reference is host code: its run read at the arguments, and it declares no semaphore. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both programs' result arrays are the one function of the arguments. -/
theorem algebraic : Cert.algebraic_Kernel2Ideal_Reference2Ideal := by
  intro m ρ m' ρ' _ hagree
  refine ⟨_, Cert.PostAb.run m ρ, ?_⟩
  refine (θ_run Cert.Reference2Ideal.defs _ _).mono (fun _ h c => ⟨(h c).1.trans ?_, (h c).2⟩)
    (Cert.Reference2Ideal.Value.run (F := Ideal) m' ρ')
  rw [Cert.PostAbRef.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

end Cert.PostAbClaims

end
-- ==== Proof.PostCKernel.lean ====
/-
  The odd layers' closing call on the sampled frames: what its result array holds after the run. The grid is one point,
  whose blocks are the whole arrays; the stream arrives as 16 entries of 32 frames and the host lays it out as 512 rows.
-/
module

public import proofs.«01_k».proof.Proof.Gen.Kernel3Ideal.Value
public import proofs.«01_k».proof.Proof.Mlp
public import Idealize.ShloMosaic.Lib.Pipeline.ValueKit
public import Idealize.ShloMosaic.Lib.StableHlo.ReadAt

@[expose] public section

set_option maxRecDepth 16384

noncomputable section

namespace Cert.PostC

open Idealize.ShloMosaic Idealize.ShloMosaic.TcCoe Idealize.SL.Sem
open Cert.Kernel3Ideal Cert.Kernel3Ideal.Gen

/-! ## One block -/

section block

variable (o : Vec Ideal S512x1024 .bf16) (w : Vec Ideal S1024x1024 .bf16) (x : Vec Ideal S512x1024 .f32) (g : Vec Ideal S1x1024 .f32)

/-- Row `r` of the block after the attention output's projection is added to it. -/
def mid (r : Fin 512) (l : Fin 1024) : EReal := x (ix2 r l) + ∑ k, o (ix2 r k) * w (ix2 k l)

theorem pay2_at (r : Fin 512) (l : Fin 1024) : k0_pay2 o w x (ix2 r l) = mid o w x r l := by
  pointwise [k0_pay2, mid]

theorem pay3_at (r : Fin 512) (l : Fin 1024) :
    k0_pay3 o w x g (ix2 r l) = Mlp.hidden (mid o w x r) (fun k => g (ix2 0 k)) l := by
  pointwise [k0_pay3]
  simp only [pay2_at]
  rfl

theorem pay5_at (u : Vec Ideal S1024x1024 .bf16) (r : Fin 512) (l : Fin 1024) :
    k0_pay5 o w x g u (ix2 r l) = ∑ k, Mlp.hidden (mid o w x r) (fun k => g (ix2 0 k)) k * u (ix2 k l) := by
  pointwise [k0_pay5]
  simp only [pay3_at]

theorem pay4_at (u d : Vec Ideal S1024x1024 .bf16) (r : Fin 512) (l : Fin 1024) :
    k0_pay4 o w x g u d (ix2 r l) = mid o w x r l
      + ∑ f, Mlp.unit (Mlp.hidden (mid o w x r) (fun k => g (ix2 0 k))) (fun k => u (ix2 k f)) * d (ix2 f l) := by
  pointwise [k0_pay4]
  simp only [pay2_at, pay3_at]
  rfl

/-- What a grid point writes, at row `r` and column `l` of its block. -/
theorem out_at (wu : Vec Ideal S1024x4096 .bf16) (wd : Vec Ideal S4096x1024 .bf16) (r : Fin 512) (l : Fin 1024) :
    out0_6 x o w g wu wd (ix2 r l)
      = Mlp.row (mid o w x r) (fun k => g (ix2 0 k)) (fun k f => wu (ix2 k f)) (fun f k => wd (ix2 f k)) l := by
  rw [Mlp.row_eq_chunks]
  frame_out
  pointwise [k0_pay1]
  simp only [pay3_at, pay4_at, pay5_at]
  pointwise []
  simp only [Mlp.chunk, Mlp.unit, Nat.zero_add]

end block

/-! ## The blocks in the arrays -/

variable (m : (ℓ : Loc nD τ sig) → Buf (Elt Ideal) ℓ)

/-- The batch entry and the frame that row `r` of the host's layout stands for. -/
def src (x : Vec Ideal S16x32x1024 .f32) (r : Fin 512) (l : Fin 1024) : EReal := x (ix3 ⟨r.val / 32, by omega⟩ ⟨r.val % 32, by omega⟩ l)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

/-- The stream, laid out as rows by the host. -/
theorem stream_at (c : Dev nD) (r : Fin 512) (k : Fin 1024) : V m c main_v0 (ix2 r k) = src (m ((c : Thread nD τ).loc main_arg0)) r k := by
  unfold V src
  after_reads_at

theorem blk0 (c : Dev nD) (t : Fin cfg0.N) (r : Fin 512) (k : Fin 1024) :
    iblk m c 0 t (ix2 r k) = src (m ((c : Thread nD τ).loc main_arg0)) r k := by
  rw [← stream_at m c]
  blk_ext [iblk, idx0 t]

theorem blk1 (c : Dev nD) (t : Fin cfg0.N) (r : Fin 512) (k : Fin 1024) :
    iblk m c 1 t (ix2 r k) = m ((c : Thread nD τ).loc main_arg1) (ix2 r k) := by
  rw [← V_main_arg1 m c]
  blk_ext [iblk, idx1 t]

/-- The host's narrowed weights, and the gain as a row, are the arguments at an index. -/
theorem wout_at (c : Dev nD) (k l : Fin 1024) : V m c main_v4 (ix2 k l) = m ((c : Thread nD τ).loc main_arg2) (ix2 k l) := by
  unfold V
  after_reads_at

theorem gain_at (c : Dev nD) (l : Fin 1024) : V m c main_v3 (ix2 0 l) = m ((c : Thread nD τ).loc main_arg3) (ix1 l) := by
  unfold V
  after_reads_at

theorem wup_at (c : Dev nD) (k : Fin 1024) (f : Fin 4096) : V m c main_v1 (ix2 k f) = m ((c : Thread nD τ).loc main_arg4) (ix2 k f) := by
  unfold V
  after_reads_at

theorem wdown_at (c : Dev nD) (f : Fin 4096) (l : Fin 1024) : V m c main_v2 (ix2 f l) = m ((c : Thread nD τ).loc main_arg5) (ix2 f l) := by
  unfold V
  after_reads_at

theorem blk2 (c : Dev nD) (t : Fin cfg0.N) (k l : Fin 1024) :
    iblk m c 2 t (ix2 k l) = m ((c : Thread nD τ).loc main_arg2) (ix2 k l) := by
  rw [← wout_at m c]
  blk_ext [iblk, idx2 t]

theorem blk3 (c : Dev nD) (t : Fin cfg0.N) (l : Fin 1024) :
    iblk m c 3 t (ix2 0 l) = m ((c : Thread nD τ).loc main_arg3) (ix1 l) := by
  rw [← gain_at m c]
  blk_ext [iblk, idx3 t]

theorem blk4 (c : Dev nD) (t : Fin cfg0.N) (k : Fin 1024) (f : Fin 4096) :
    iblk m c 4 t (ix2 k f) = m ((c : Thread nD τ).loc main_arg4) (ix2 k f) := by
  rw [← wup_at m c]
  blk_ext [iblk, idx4 t]

theorem blk5 (c : Dev nD) (t : Fin cfg0.N) (f : Fin 4096) (l : Fin 1024) :
    iblk m c 5 t (ix2 f l) = m ((c : Thread nD τ).loc main_arg5) (ix2 f l) := by
  rw [← wdown_at m c]
  blk_ext [iblk, idx5 t]

/-! ## The array -/

/-- The closing step as a function of the six arguments, row by row: the result row `r` is the stream's row plus its
    attention output's projection, with the MLP of the normalised sum added. -/
def result (x : Vec Ideal S16x32x1024 .f32) (o : Vec Ideal S512x1024 .bf16) (w : Vec Ideal S1024x1024 .f32) (g : Vec Ideal S1024 .f32)
    (wu : Vec Ideal S1024x4096 .f32) (wd : Vec Ideal S4096x1024 .f32) (r : Fin 512) (l : Fin 1024) : EReal :=
  Mlp.row (fun j => src x r j + ∑ k, o (ix2 r k) * w (ix2 k j)) (fun k => g (ix1 k)) (fun k f => wu (ix2 k f))
    (fun f k => wd (ix2 f k)) l

/-- After the run the result array holds that function of the arguments. -/
theorem final (c : Dev nD) : (dats m 0 c).arrAt 6 cfg0.N = fun i : S512x1024.Idx =>
    result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  blk_simp
  rw [after0_6]
  obtain ⟨r, l, rfl⟩ : ∃ (a : Fin 512) (b : Fin 1024), y = ix2 a b := ⟨y 0, y 1, eq_ix2 y⟩
  have e : (win0_6.blk t).view.emb (ix2 r l) = ix2 r l := by
    blk_ext [idx6 t]
  refine (out_at _ _ _ _ _ _ r l).trans ?_
  rw [e]
  show _ = result _ _ _ _ _ _ r l
  unfold result mid
  simp only [blk0, blk1, blk2, blk3, blk4, blk5]

variable (ρ : Dev nD → PrngReg)

/-- The run, read: the result array at that function of the arguments, the arguments unchanged. -/
theorem run : θ_run defs (onTc (τ := τ) (main (F := Ideal))) ⟨m, fun _ => 0, ρ⟩ fun r => ∀ c : Dev nD,
      (r.2.mem ((c : Thread nD τ).loc main_v5) = fun i : S512x1024.Idx =>
        result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.PostC

end
-- ==== Proof.PostCReference.lean ====
/-
  The odd layers' closing step on the sampled frames as the reference states it, read row by row: the same function of
  the six arguments.
-/
module

public import proofs.«01_k».proof.Proof.Gen.Reference3Ideal.Read
public import proofs.«01_k».proof.Proof.PostCKernel

@[expose] public section

set_option maxRecDepth 16384

noncomputable section

namespace Cert.PostCRef

open Idealize.ShloMosaic Cert.Reference3Ideal Cert.Reference3Ideal.Read

variable (x0 : (⟨S16x32x1024, .f32⟩ : BufTy).Contents (Elt Ideal)) (x1 : (⟨S512x1024, .bf16⟩ : BufTy).Contents (Elt Ideal))
  (x2 : (⟨S1024x1024, .f32⟩ : BufTy).Contents (Elt Ideal)) (x3 : (⟨S1024, .f32⟩ : BufTy).Contents (Elt Ideal))
  (x4 : (⟨S1024x4096, .f32⟩ : BufTy).Contents (Elt Ideal)) (x5 : (⟨S4096x1024, .f32⟩ : BufTy).Contents (Elt Ideal))

/-- The stream after the attention output's projection, at batch entry `b` and row `s`. -/
def mid (b : Fin 16) (s : Fin 32) (l : Fin 1024) : EReal :=
  x0 (ix3 b s l) + ∑ k, x1 (ix2 ⟨b.val * 32 + s.val, by omega⟩ k) * x2 (ix2 k l)

theorem v3_at (b : Fin 16) (s : Fin 32) (l : Fin 1024) :
    val_main_v3 (F := Ideal) x0 x1 x2 (ix3 b s l) = mid x0 x1 x2 b s l := by
  pointwise [val_main_v3, val_main_v2, val_main_v1, val_main_v0, val_main_v0, mid]

theorem v16_at (b : Fin 16) (s : Fin 32) (l : Fin 1024) :
    val_main_v16 (F := Ideal) x0 x1 x2 x3 (ix3 b s l) = Mlp.hidden (mid x0 x1 x2 b s) (fun k => x3 (ix1 k)) l := by
  pointwise [val_main_v16, val_main_v15, val_main_v14, val_main_v13, val_main_v12, val_main_v11, val_main_v10, val_main_v9,
    val_main_cst_1, val_main_v8, val_main_v7, val_main_cst_0, val_main_v6, val_main_v5, val_main_cst, val_main_v4]
  simp only [v3_at]
  rfl

theorem v19_at (b : Fin 16) (s : Fin 32) (f : Fin 4096) :
    val_main_v19 (F := Ideal) x0 x1 x2 x3 x4 (ix3 b s f)
      = Mlp.unit (Mlp.hidden (mid x0 x1 x2 b s) (fun k => x3 (ix1 k))) (fun k => x4 (ix2 k f)) := by
  pointwise [val_main_v19, val_main_v18, val_main_v17, val_main_call0_v0, val_main_call0_cst]
  simp only [v16_at]
  rfl

theorem at_split (r : Fin 512) : (⟨r.val / 32 * 32 + r.val % 32, by omega⟩ : Fin 512) = r :=
  Fin.ext (by show r.val / 32 * 32 + r.val % 32 = r.val; omega)

/-- The reference's result at row `r`. -/
theorem v22_at (r : Fin 512) (l : Fin 1024) :
    val_main_v22 (F := Ideal) x0 x1 x2 x3 x4 x5 (ix2 r l) = PostC.result x0 x1 x2 x3 x4 x5 r l := by
  pointwise [val_main_v22, val_main_v21, val_main_v20]
  simp only [v3_at, v19_at]
  unfold mid
  rw [at_split r]
  rfl

/-- The reference's result array. -/
theorem result_eq : val_main_v22 (F := Ideal) x0 x1 x2 x3 x4 x5 = fun i : S512x1024.Idx => PostC.result x0 x1 x2 x3 x4 x5 (i 0) (i 1) := by
  funext i
  obtain ⟨r, l, rfl⟩ : ∃ (a : Fin 512) (b : Fin 1024), i = ix2 a b := ⟨i 0, i 1, eq_ix2 i⟩
  exact v22_at _ _ _ _ _ _ r l

end Cert.PostCRef

end
-- ==== Proof.PostCClaims.lean ====
/-
  The claims about the odd layers' closing call on the sampled frames.
-/
module

public import proofs.«01_k».proof.Defs
public import proofs.«01_k».proof.Proof.Gen.Kernel3.Frame
public import proofs.«01_k».proof.Proof.PostCKernel
public import proofs.«01_k».proof.Proof.PostCReference
public import Idealize.ShloMosaic.Lib.Quiescent

@[expose] public section

noncomputable section

namespace Cert.PostCClaims

open Idealize.ShloMosaic Idealize.ShloMosaic.TcCoe Idealize.SL.Sem

theorem frame_k : Cert.quiescent_Kernel3 := fun m ρ _ => Cert.Kernel3.Gen.frame m ρ
theorem frame_ki : Cert.quiescent_Kernel3Ideal := fun m ρ _ => Cert.Kernel3Ideal.Gen.frame m ρ

/-- The reference is host code: its run read at the arguments, and it declares no semaphore. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both programs' result arrays are the one function of the arguments. -/
theorem algebraic : Cert.algebraic_Kernel3Ideal_Reference3Ideal := by
  intro m ρ m' ρ' _ hagree
  refine ⟨_, Cert.PostC.run m ρ, ?_⟩
  refine (θ_run Cert.Reference3Ideal.defs _ _).mono (fun _ h c => ⟨(h c).1.trans ((Cert.Reference3Ideal.Read.val_main_v22_eq _ _ _ _ _ _).trans ?_), (h c).2⟩)
    (Cert.Reference3Ideal.Value.run (F := Ideal) m' ρ')
  rw [Cert.PostCRef.result_eq, (hagree c).1, (hagree c).2.1, (hagree c).2.2.1, (hagree c).2.2.2.1, (hagree c).2.2.2.2.1, (hagree c).2.2.2.2.2]

end Cert.PostCClaims

end
-- ==== Proof.Heads.lean ====
/-
  The per-head root-mean-square norm, as a kernel computes it (a product with a matrix that averages within each head of
  64 of its 256 lanes) and as the reference states it; and the forget gate's log-sigmoid in its two spellings.
-/
module

public import proofs.«01_k».proof.Proof.Ext
public import Idealize.ShloMosaic.Lib.Pointwise

@[expose] public section

noncomputable section

namespace Cert.Heads

open Idealize.ShloMosaic

/-- The word of 64 as a number. -/
theorem sixtyFour : Ideal.ofBits FTy.f32 1115684864#32 = ((64 : ℝ) : EReal) := by
  simp [Ideal.ofBits, Ideal.ieee, -EReal.coe_mul]; norm_num

theorem sixtyFour_ne : Ideal.ofBits FTy.f32 1115684864#32 ≠ 0 := by
  rw [sixtyFour]
  exact_mod_cast (by norm_num : (64 : ℝ) ≠ 0)

/-- The averaging matrix's entry: a sixty-fourth within a head, nothing across heads. -/
def avg (i j : Fin 256) : EReal := Ideal.div (if i.val / 64 = j.val / 64 then 1 else 0) (Ideal.ofBits FTy.f32 1115684864#32)

/-- A product with the averaging matrix is the mean over the head. -/
theorem mean_eq (f : Fin 256 → EReal) (j : Fin 256) :
    ∑ i, f i * avg i j = Ideal.div (∑ d : Fin 64, f ⟨j.val / 64 * 64 + d.val, by omega⟩) (Ideal.ofBits FTy.f32 1115684864#32) := by
  have h0 : (0 : EReal) ≤ (Ideal.ofBits FTy.f32 1115684864#32)⁻¹ := by
    rw [sixtyFour, ← EReal.coe_inv]; exact EReal.coe_nonneg.mpr (by norm_num)
  have ht : (Ideal.ofBits FTy.f32 1115684864#32)⁻¹ ≠ ⊤ := by
    rw [sixtyFour, ← EReal.coe_inv]; exact EReal.coe_ne_top _
  rw [Ext.div_eq_mul _ sixtyFour_ne, Ext.sum_mul _ _ h0 ht, Ext.sum_groups,
    Finset.sum_eq_single (⟨j.val / 64, by omega⟩ : Fin 4)]
  · refine Finset.sum_congr rfl fun d _ => ?_
    have e : (j.val / 64 * 64 + d.val) / 64 = j.val / 64 := by omega
    unfold avg
    rw [if_pos (show (j.val / 64 * 64 + d.val) / 64 = j.val / 64 from e), Ext.div_eq_mul _ sixtyFour_ne, one_mul]
  · intro a _ ha
    refine Finset.sum_eq_zero fun d _ => ?_
    have e : ¬ (a.val * 64 + d.val) / 64 = j.val / 64 := fun e => ha (Fin.ext (by show a.val = j.val / 64; omega))
    unfold avg
    rw [if_neg (show ¬ (a.val * 64 + d.val) / 64 = j.val / 64 from e), Ext.div_eq_mul _ sixtyFour_ne, zero_mul, mul_zero]
  · exact fun h => absurd (Finset.mem_univ _) h

/-- One head's root-mean-square norm with its gain, as the reference states it. -/
def norm (y g : Fin 64 → EReal) (d : Fin 64) : EReal :=
  y d * Ideal.rsqrt (Ideal.div (∑ j, y j * y j) (Ideal.ofBits FTy.f32 1115684864#32) + Ideal.ofBits FTy.f32 897988541#32) * g d

/-- The kernel's norm of a group of four heads is the norm of the head. -/
theorem norm_eq (y : Fin 256 → EReal) (g : Fin 64 → EReal) (k : Fin 256) :
    y k * Ideal.rsqrt (∑ j, y j * y j * avg j k + Ideal.ofBits FTy.f32 897988541#32) * g ⟨k.val % 64, by omega⟩
      = norm (fun j => y ⟨k.val / 64 * 64 + j.val, by omega⟩) g ⟨k.val % 64, by omega⟩ := by
  have e : (⟨k.val / 64 * 64 + k.val % 64, by omega⟩ : Fin 256) = k := Fin.ext (by show k.val / 64 * 64 + k.val % 64 = k.val; omega)
  rw [mean_eq (fun j => y j * y j)]
  show _ = y ⟨k.val / 64 * 64 + k.val % 64, by omega⟩ * _ * _
  rw [e]

/-- The integer quotient of a lane number by 64. -/
theorem div_lane : ∀ i : Fin 256, IntOp.divsi ArithUnit.host (BitVec.ofNat 32 i.val) 64#32 = BitVec.ofNat 32 (i.val / 64) := by
  decide +kernel

/-- The averaging matrix as the host builds it from lane numbers. -/
theorem avg_built (i j : Fin 256) :
    Ideal.div (FloatOps.uitofp (F := Ideal) FTy.f32 (IntOp.cmpi CmpIPredicate.eq (IntOp.divsi ArithUnit.host (BitVec.ofNat 32 i.val) 64#32)
      (IntOp.divsi ArithUnit.host (BitVec.ofNat 32 j.val) 64#32))) (Ideal.ofBits FTy.f32 1115684864#32) = avg i j := by
  rw [div_lane, div_lane]
  unfold avg
  congr 1
  by_cases h : i.val / 64 = j.val / 64
  · rw [if_pos h, h]
    show (((BitVec.ofBool (BitVec.ofNat 32 (j.val / 64) == BitVec.ofNat 32 (j.val / 64))).toNat : ℝ) : EReal) = 1
    rw [beq_self_eq_true]
    norm_num
    rfl
  · rw [if_neg h]
    have : BitVec.ofNat 32 (i.val / 64) ≠ BitVec.ofNat 32 (j.val / 64) := by
      intro e
      have e := congrArg BitVec.toNat e
      simp only [BitVec.toNat_ofNat] at e
      omega
    show (((BitVec.ofBool (BitVec.ofNat 32 (i.val / 64) == BitVec.ofNat 32 (j.val / 64))).toNat : ℝ) : EReal) = 0
    rw [beq_eq_false_iff_ne.mpr this]
    norm_num

end Cert.Heads

end
-- ==== Proof.ProjC.lean ====
/-
  The mathematics the odd layers' q/k/v projection call shares between its two batches: columns of a projection of the
  normalised row, per-head norms of them, and the forget gate's log-sigmoid in its two spellings.
-/
module

public import proofs.«01_k».proof.Proof.Heads
public import proofs.«01_k».proof.Proof.Mlp

@[expose] public section

noncomputable section

namespace Cert.ProjC

open Idealize.ShloMosaic

/-- Column `j` of a row's projection. -/
def proj {n : ℕ} (h : Fin 1024 → EReal) (w : Fin 1024 → Fin n → EReal) (j : Fin n) : EReal := ∑ k, h k * w k j

/-- Column `c` of 16 heads of 64 columns, normalised head by head. -/
def headed (y : Fin 1024 → EReal) (g : Fin 64 → EReal) (c : Fin 1024) : EReal :=
  Heads.norm (fun d => y ⟨c.val / 64 * 64 + d.val, by omega⟩) g ⟨c.val % 64, by omega⟩

/-- The kernel's treatment of the 256 columns from `o` on is the per-head norm there. -/
theorem group_eq (z : Fin 256 → EReal) (y : Fin 1024 → EReal) (g : Fin 64 → EReal) (o : ℕ) (ho : o % 64 = 0) (hb : o + 256 ≤ 1024)
    (hz : ∀ k : Fin 256, z k = y ⟨o + k.val, by omega⟩) (k : Fin 256) (c : Fin 1024) (hc : c.val = o + k.val) :
    z k * Ideal.rsqrt (∑ j : Fin 256, z j * z j * Heads.avg j k + Ideal.ofBits FTy.f32 897988541#32) * g ⟨k.val % 64, by omega⟩
      = headed y g c := by
  refine (Heads.norm_eq z g k).trans ?_
  unfold headed
  have e : (⟨k.val % 64, by omega⟩ : Fin 64) = ⟨c.val % 64, by omega⟩ := Fin.ext (by show k.val % 64 = c.val % 64; omega)
  rw [e]
  congr 1
  funext d
  rw [hz]
  exact congrArg y (Fin.ext (by show o + (k.val / 64 * 64 + d.val) = c.val / 64 * 64 + d.val; omega))

/-- The logarithm of the logistic of `z`, as the kernel spells it. -/
def logSig (z : EReal) : EReal := min z 0 - Ideal.log1p (Ideal.exp (0 - FloatOps.absf (F := Ideal) (φ := .f32) z))

/-- A logarithm of one more than an exponential is not `⊥`. -/
theorem log1p_exp_ne_bot (w : EReal) : Ideal.log1p (Ideal.exp w) ≠ ⊥ := by
  induction w using EReal.rec with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | top =>
    show Ideal.log (1 + ⊤) ≠ ⊥
    exact (bot_lt_top).ne'
  | coe r =>
    show Ideal.log (1 + ((Real.exp r : ℝ) : EReal)) ≠ ⊥
    rw [← EReal.coe_one, ← EReal.coe_add]
    show (if (1 + Real.exp r : ℝ) ≤ 0 then (⊥ : EReal) else (Real.log (1 + Real.exp r) : EReal)) ≠ ⊥
    rw [if_neg (by have := Real.exp_pos r; linarith)]
    exact EReal.coe_ne_bot _

/-- The reference's spelling: the negated softplus of `-z`. -/
theorem logSig_eq (z : EReal) :
    -(max (-z) 0 + Ideal.log1p (Ideal.exp (-FloatOps.absf (F := Ideal) (φ := .f32) (-z)))) = logSig z := by
  unfold logSig
  have ha : FloatOps.absf (F := Ideal) (φ := .f32) (-z) = FloatOps.absf (F := Ideal) (φ := .f32) z := by
    show max (-z) (- -z) = max z (-z)
    rw [neg_neg, max_comm]
  rw [ha, zero_sub, EReal.neg_add (Or.inl (by
      have : (0 : EReal) ≤ max (-z) 0 := le_max_right _ _
      exact (lt_of_lt_of_le EReal.bot_lt_zero this).ne')) (Or.inr (log1p_exp_ne_bot _))]
  congr 1
  rcases le_total z 0 with h | h
  · rw [min_eq_left h, max_eq_left (by simpa using h), neg_neg]
  · rw [min_eq_right h, max_eq_right (by simpa using h), neg_zero]

/-- The 1024 columns of a row's projection from column `o` on. -/
def cols (h : Fin 1024 → EReal) (w : Fin 1024 → Fin 3088 → EReal) (o : ℕ) (ho : o + 1024 ≤ 3088) (j : Fin 1024) : EReal :=
  proj h w ⟨o + j.val, by omega⟩

/-- A row's queries: normalised by head, scaled. The literal is the word of the scale. -/
def qOf (h : Fin 1024 → EReal) (w : Fin 1024 → Fin 3088 → EReal) (g : Fin 64 → EReal) (l : Fin 1024) : EReal :=
  headed (cols h w 0 (by omega)) g l * Ideal.ofBits FTy.f32 1043900987#32

/-- A row's keys: normalised by head. -/
def kOf (h : Fin 1024 → EReal) (w : Fin 1024 → Fin 3088 → EReal) (g : Fin 64 → EReal) (l : Fin 1024) : EReal :=
  headed (cols h w 1024 (by omega)) g l

/-- A row's values. -/
def vOf (h : Fin 1024 → EReal) (w : Fin 1024 → Fin 3088 → EReal) (l : Fin 1024) : EReal := cols h w 2048 (by omega) l

/-- A row's log forget gates, the 16 of them laid out eight times. -/
def lfOf (h : Fin 1024 → EReal) (w : Fin 1024 → Fin 3088 → EReal) (b : Fin 16 → EReal) (l : Fin 128) : EReal :=
  logSig (proj h w ⟨3072 + l.val % 16, by omega⟩ + b ⟨l.val % 16, by omega⟩)

end Cert.ProjC

end
-- ==== Proof.ProjCSampleKernel.lean ====
/-
  The odd layers' q/k/v projection call on the sampled frames: what its result arrays hold after the run. The grid is
  one point, whose blocks are the whole arrays.
-/
module

public import proofs.«01_k».proof.Proof.Gen.Kernel4Ideal.Value
public import proofs.«01_k».proof.Proof.ProjC
public import Idealize.ShloMosaic.Lib.Pipeline.ValueKit
public import Idealize.ShloMosaic.Lib.StableHlo.ReadAt

@[expose] public section

set_option maxRecDepth 16384

noncomputable section

namespace Cert.ProjCSample

open Idealize.ShloMosaic Idealize.ShloMosaic.TcCoe Idealize.SL.Sem
open Cert.Kernel4Ideal Cert.Kernel4Ideal.Gen

/-! ## One block -/

section block

variable (x0 : Vec Ideal S512x1024 .f32) (x1 : Vec Ideal S1x1024 .f32) (x2 : Vec Ideal S1024x3072 .bf16) (x3 : Vec Ideal S1024x128 .bf16)
  (x4 : Vec Ideal S1x128 .f32) (x5 : Vec Ideal S256x256 .bf16) (x6 x7 : Vec Ideal S1x256 .f32)

/-- The normalised row `r` of the block. -/
def hid (r : Fin 512) (k : Fin 1024) : EReal := Mlp.hidden (fun j => x0 (ix2 r j)) (fun j => x1 (ix2 0 j)) k

/-- Column `l` of the block's projection, from column `o` of the weights on. -/
def col (o : ℕ) (ho : o + 1024 ≤ 3072) (r : Fin 512) (l : Fin 1024) : EReal :=
  ProjC.proj (hid x0 x1 r) (fun k j => x2 (ix2 k j)) ⟨o + l.val, by omega⟩

theorem pay3_at (r : Fin 512) (l : Fin 1024) : k0_pay3 x0 x1 (ix2 r l) = hid x0 x1 r l := by
  pointwise [k0_pay3]
  rfl

/-- The first 2048 columns of the projection. -/
theorem pay4_at (w : Vec Ideal S1024x2048 .bf16) (r : Fin 512) (l : Fin 2048) :
    k0_pay4 x0 x1 w (ix2 r l) = ProjC.proj (hid x0 x1 r) (fun k j => w (ix2 k j)) l := by
  pointwise [k0_pay4]
  simp only [pay3_at]
  rfl

theorem ld0 : View.ld x0 r0_0 = x0 := by
  funext i
  obtain ⟨r, l, rfl⟩ : ∃ (a : Fin 512) (b : Fin 1024), i = ix2 a b := ⟨i 0, i 1, eq_ix2 i⟩
  pointwise []

theorem ld1 : View.ld x1 r0_1 = x1 := by
  funext i
  obtain ⟨r, l, rfl⟩ : ∃ (a : Fin 1) (b : Fin 1024), i = ix2 a b := ⟨i 0, i 1, eq_ix2 i⟩
  rw [Subsingleton.elim r 0]
  pointwise []

theorem pay19_at (r : Fin 512) (l : Fin 2048) : k0_pay19 x0 x1 x2 x3 x4 x5 x6 x7 (ix2 r l)
    = ProjC.proj (hid x0 x1 r) (fun k j => View.ld x2 r0_2 (ix2 k j)) l := by
  unfold k0_pay19
  rw [ld0, ld1]
  exact pay4_at x0 x1 _ r l

theorem cols_at (o : ℕ) (ho : o + 1024 ≤ 2048) (r : Fin 512) (l : Fin 1024) :
    ProjC.proj (hid x0 x1 r) (fun k j => View.ld x2 r0_2 (ix2 k j)) ⟨o + l.val, by omega⟩ = col x0 x1 x2 o (by omega) r l := by
  unfold col ProjC.proj
  pointwise []

theorem v_at (r : Fin 512) (l : Fin 1024) : out0_10 x0 x1 x2 x3 x4 x5 x6 x7 (ix2 r l) = col x0 x1 x2 2048 (by omega) r l := by
  frame_out
  pointwise [k0_pay5]
  simp only [pay3_at]
  rfl

theorem lf_at (r : Fin 512) (l : Fin 128) : out0_11 x0 x1 x2 x3 x4 x5 x6 x7 (ix2 r l)
    = ProjC.logSig (ProjC.proj (hid x0 x1 r) (fun k j => x3 (ix2 k j)) l + x4 (ix2 0 l)) := by
  frame_out
  pointwise [k0_pay2]
  simp only [pay3_at]
  rfl

section norms

variable (g : Fin 64 → EReal) (h5 : ∀ i j : Fin 256, x5 (ix2 i j) = Heads.avg i j)
  (h6 : ∀ j : Fin 256, x6 (ix2 0 j) = g ⟨j.val % 64, by omega⟩)

include h5 h6

theorem q0 (w : Vec Ideal S1024x2048 .bf16) (Y : Fin 1024 → EReal) (r : Fin 512)
    (hY : ∀ j : Fin 1024, ProjC.proj (hid x0 x1 r) (fun k j => w (ix2 k j)) ⟨0 + j.val, by omega⟩ = Y j)
    (l : Fin 256) : k0_pay8 (k0_pay6 x0 x1 w x5) (k0_pay7 x6) (ix2 r l) = ProjC.headed Y g ⟨l.val, by omega⟩ * Ideal.ofBits FTy.f32 1043900987#32 := by
  pointwise [k0_pay8, k0_pay7, k0_pay6, k0_pay4]
  simp only [pay3_at, h5, h6]
  have h := ProjC.group_eq (fun j => ∑ x, hid x0 x1 r x * w (ix2 x ⟨j.val, by omega⟩)) Y g 0 (by omega) (by omega)
    (fun j => (congrArg (ProjC.proj (hid x0 x1 r) (fun k j => w (ix2 k j))) (Fin.ext (by show j.val = 0 + (0 + j.val); omega))).trans
      (hY ⟨0 + j.val, by omega⟩)) l ⟨l.val, by omega⟩ (Nat.zero_add _).symm
  exact congrArg (fun e : EReal => e * Ideal.ofBits FTy.f32 1043900987#32) h

theorem q1 (y : FVec Ideal S512x2048 .f32) (Y : Fin 1024 → EReal) (r : Fin 512) (hY : ∀ j : Fin 1024, y (ix2 r ⟨0 + j.val, by omega⟩) = Y j)
    (l : Fin 256) : k0_pay10 y x5 x6 (ix2 r l) = ProjC.headed Y g ⟨256 + l.val, by omega⟩ * Ideal.ofBits FTy.f32 1043900987#32 := by
  pointwise [k0_pay10]
  simp only [h5, h6]
  exact congrArg (fun e : EReal => e * Ideal.ofBits FTy.f32 1043900987#32) (ProjC.group_eq (fun j => y (ix2 r ⟨256 + j.val, by omega⟩)) Y g 256 (by omega) (by omega)
    (fun j => (congrArg (fun i => y (ix2 r i)) (Fin.ext (by show 256 + j.val = 0 + (256 + j.val); omega))).trans (hY ⟨256 + j.val, by omega⟩)) l ⟨256 + l.val, by omega⟩ (by show _ = 256 + l.val; first | rfl | exact (Nat.zero_add _).symm))

theorem q2 (y : FVec Ideal S512x2048 .f32) (Y : Fin 1024 → EReal) (r : Fin 512) (hY : ∀ j : Fin 1024, y (ix2 r ⟨0 + j.val, by omega⟩) = Y j)
    (l : Fin 256) : k0_pay12 y x5 x6 (ix2 r l) = ProjC.headed Y g ⟨512 + l.val, by omega⟩ * Ideal.ofBits FTy.f32 1043900987#32 := by
  pointwise [k0_pay12]
  simp only [h5, h6]
  exact congrArg (fun e : EReal => e * Ideal.ofBits FTy.f32 1043900987#32) (ProjC.group_eq (fun j => y (ix2 r ⟨512 + j.val, by omega⟩)) Y g 512 (by omega) (by omega)
    (fun j => (congrArg (fun i => y (ix2 r i)) (Fin.ext (by show 512 + j.val = 0 + (512 + j.val); omega))).trans (hY ⟨512 + j.val, by omega⟩)) l ⟨512 + l.val, by omega⟩ (by show _ = 512 + l.val; first | rfl | exact (Nat.zero_add _).symm))

theorem q3 (y : FVec Ideal S512x2048 .f32) (Y : Fin 1024 → EReal) (r : Fin 512) (hY : ∀ j : Fin 1024, y (ix2 r ⟨0 + j.val, by omega⟩) = Y j)
    (l : Fin 256) : k0_pay17 y x5 x6 (ix2 r l) = ProjC.headed Y g ⟨768 + l.val, by omega⟩ * Ideal.ofBits FTy.f32 1043900987#32 := by
  pointwise [k0_pay17]
  simp only [h5, h6]
  exact congrArg (fun e : EReal => e * Ideal.ofBits FTy.f32 1043900987#32) (ProjC.group_eq (fun j => y (ix2 r ⟨768 + j.val, by omega⟩)) Y g 768 (by omega) (by omega)
    (fun j => (congrArg (fun i => y (ix2 r i)) (Fin.ext (by show 768 + j.val = 0 + (768 + j.val); omega))).trans (hY ⟨768 + j.val, by omega⟩)) l ⟨768 + l.val, by omega⟩ (by show _ = 768 + l.val; first | rfl | exact (Nat.zero_add _).symm))

theorem k0 (y : FVec Ideal S512x2048 .f32) (Y : Fin 1024 → EReal) (r : Fin 512) (hY : ∀ j : Fin 1024, y (ix2 r ⟨1024 + j.val, by omega⟩) = Y j)
    (l : Fin 256) : k0_pay9 y x5 x6 (ix2 r l) = ProjC.headed Y g ⟨l.val, by omega⟩ := by
  pointwise [k0_pay9]
  simp only [h5, h6]
  exact ProjC.group_eq (fun j => y (ix2 r ⟨1024 + j.val, by omega⟩)) Y g 0 (by omega) (by omega)
    (fun j => (congrArg (fun i => y (ix2 r i)) (Fin.ext (by show 1024 + j.val = 1024 + (0 + j.val); omega))).trans (hY ⟨0 + j.val, by omega⟩)) l ⟨l.val, by omega⟩ (by show _ = 0 + l.val; first | rfl | exact (Nat.zero_add _).symm)

theorem k1 (y : FVec Ideal S512x2048 .f32) (Y : Fin 1024 → EReal) (r : Fin 512) (hY : ∀ j : Fin 1024, y (ix2 r ⟨1024 + j.val, by omega⟩) = Y j)
    (l : Fin 256) : k0_pay11 y x5 x6 (ix2 r l) = ProjC.headed Y g ⟨256 + l.val, by omega⟩ := by
  pointwise [k0_pay11]
  simp only [h5, h6]
  exact ProjC.group_eq (fun j => y (ix2 r ⟨1280 + j.val, by omega⟩)) Y g 256 (by omega) (by omega)
    (fun j => (congrArg (fun i => y (ix2 r i)) (Fin.ext (by show 1280 + j.val = 1024 + (256 + j.val); omega))).trans (hY ⟨256 + j.val, by omega⟩)) l ⟨256 + l.val, by omega⟩ (by show _ = 256 + l.val; first | rfl | exact (Nat.zero_add _).symm)

theorem k2 (y : FVec Ideal S512x2048 .f32) (Y : Fin 1024 → EReal) (r : Fin 512) (hY : ∀ j : Fin 1024, y (ix2 r ⟨1024 + j.val, by omega⟩) = Y j)
    (l : Fin 256) : k0_pay16 (k0_pay13 y) (k0_pay14 y) (k0_pay15 x5) x6 (ix2 r l) = ProjC.headed Y g ⟨512 + l.val, by omega⟩ := by
  pointwise [k0_pay16, k0_pay15, k0_pay14, k0_pay13]
  simp only [h5, h6]
  exact ProjC.group_eq (fun j => y (ix2 r ⟨1536 + j.val, by omega⟩)) Y g 512 (by omega) (by omega)
    (fun j => (congrArg (fun i => y (ix2 r i)) (Fin.ext (by show 1536 + j.val = 1024 + (512 + j.val); omega))).trans (hY ⟨512 + j.val, by omega⟩)) l ⟨512 + l.val, by omega⟩ (by show _ = 512 + l.val; first | rfl | exact (Nat.zero_add _).symm)

theorem k3 (y : FVec Ideal S512x2048 .f32) (Y : Fin 1024 → EReal) (r : Fin 512) (hY : ∀ j : Fin 1024, y (ix2 r ⟨1024 + j.val, by omega⟩) = Y j)
    (l : Fin 256) : k0_pay1 (k0_pay18 y x5) x6 (ix2 r l) = ProjC.headed Y g ⟨768 + l.val, by omega⟩ := by
  pointwise [k0_pay1, k0_pay18]
  simp only [h5, h6]
  exact ProjC.group_eq (fun j => y (ix2 r ⟨1792 + j.val, by omega⟩)) Y g 768 (by omega) (by omega)
    (fun j => (congrArg (fun i => y (ix2 r i)) (Fin.ext (by show 1792 + j.val = 1024 + (768 + j.val); omega))).trans (hY ⟨768 + j.val, by omega⟩)) l ⟨768 + l.val, by omega⟩ (by show _ = 768 + l.val; first | rfl | exact (Nat.zero_add _).symm)

end norms

theorem emb6 (r : Fin 512) (l : Fin 256) : r0_6.emb (ix2 r l) = ix2 r ⟨l.val, by omega⟩ := by blk_ext []
theorem emb7 (r : Fin 512) (l : Fin 256) : r0_7.emb (ix2 r l) = ix2 r ⟨256 + l.val, by omega⟩ := by blk_ext []
theorem emb8 (r : Fin 512) (l : Fin 256) : r0_8.emb (ix2 r l) = ix2 r ⟨512 + l.val, by omega⟩ := by blk_ext []
theorem emb9 (r : Fin 512) (l : Fin 256) : r0_9.emb (ix2 r l) = ix2 r ⟨768 + l.val, by omega⟩ := by blk_ext []

/-- The block's q columns. -/
theorem q_at (g : Fin 64 → EReal) (h5 : ∀ i j : Fin 256, x5 (ix2 i j) = Heads.avg i j)
    (h6 : ∀ j : Fin 256, x6 (ix2 0 j) = g ⟨j.val % 64, by omega⟩) (r : Fin 512) (l : Fin 1024) :
    out0_8 x0 x1 x2 x3 x4 x5 x6 x7 (ix2 r l) = ProjC.headed (col x0 x1 x2 0 (by omega) r) g l * Ideal.ofBits FTy.f32 1043900987#32 := by
  frame_out
  refine View.canon_apply_of_pieces (Val := Elt Ideal) (e := .bf16) (fun i : S512x1024.Idx => ProjC.headed (col x0 x1 x2 0 (by omega) (i 0)) g (i 1) * Ideal.ofBits FTy.f32 1043900987#32)
    _ ?_ _ (cover0_8 _ _ _ _ _)
  simp only [List.forall_mem_cons, List.not_mem_nil, false_imp_iff, implies_true, and_true]
  refine ⟨fun x => ?_, fun x => ?_, fun x => ?_, fun x => ?_⟩
  · obtain ⟨r, l, rfl⟩ : ∃ (a : Fin 512) (b : Fin 256), x = ix2 a b := ⟨x 0, x 1, eq_ix2 x⟩
    rw [emb9]
    show _ = ProjC.headed (col x0 x1 x2 0 (by omega) r) g ⟨768 + l.val, by omega⟩ * Ideal.ofBits FTy.f32 1043900987#32
    exact q3 _ _ g h5 h6 _ (col x0 x1 x2 0 (by omega) r) r (fun j => (pay19_at x0 x1 x2 x3 x4 x5 x6 x7 r _).trans (cols_at x0 x1 x2 0 (by omega) r j)) l
  · obtain ⟨r, l, rfl⟩ : ∃ (a : Fin 512) (b : Fin 256), x = ix2 a b := ⟨x 0, x 1, eq_ix2 x⟩
    rw [emb8]
    show _ = ProjC.headed (col x0 x1 x2 0 (by omega) r) g ⟨512 + l.val, by omega⟩ * Ideal.ofBits FTy.f32 1043900987#32
    exact q2 _ _ g h5 h6 _ (col x0 x1 x2 0 (by omega) r) r (fun j => (pay19_at x0 x1 x2 x3 x4 x5 x6 x7 r _).trans (cols_at x0 x1 x2 0 (by omega) r j)) l
  · obtain ⟨r, l, rfl⟩ : ∃ (a : Fin 512) (b : Fin 256), x = ix2 a b := ⟨x 0, x 1, eq_ix2 x⟩
    rw [emb7]
    show _ = ProjC.headed (col x0 x1 x2 0 (by omega) r) g ⟨256 + l.val, by omega⟩ * Ideal.ofBits FTy.f32 1043900987#32
    exact q1 _ _ g h5 h6 _ (col x0 x1 x2 0 (by omega) r) r (fun j => (pay19_at x0 x1 x2 x3 x4 x5 x6 x7 r _).trans (cols_at x0 x1 x2 0 (by omega) r j)) l
  · obtain ⟨r, l, rfl⟩ : ∃ (a : Fin 512) (b : Fin 256), x = ix2 a b := ⟨x 0, x 1, eq_ix2 x⟩
    rw [emb6]
    show _ = ProjC.headed (col x0 x1 x2 0 (by omega) r) g ⟨l.val, by omega⟩ * Ideal.ofBits FTy.f32 1043900987#32
    exact q0 _ _ _ _ g h5 h6 _ (col x0 x1 x2 0 (by omega) r) r (fun j => cols_at x0 x1 x2 0 (by omega) r j) l

/-- The block's k columns. -/
theorem k_at (g : Fin 64 → EReal) (h5 : ∀ i j : Fin 256, x5 (ix2 i j) = Heads.avg i j)
    (h6 : ∀ j : Fin 256, x7 (ix2 0 j) = g ⟨j.val % 64, by omega⟩) (r : Fin 512) (l : Fin 1024) :
    out0_9 x0 x1 x2 x3 x4 x5 x6 x7 (ix2 r l) = ProjC.headed (col x0 x1 x2 1024 (by omega) r) g l := by
  frame_out
  refine View.canon_apply_of_pieces (Val := Elt Ideal) (e := .f32) (fun i : S512x1024.Idx => ProjC.headed (col x0 x1 x2 1024 (by omega) (i 0)) g (i 1))
    _ ?_ _ (cover0_9 _ _ _ _ _)
  simp only [List.forall_mem_cons, List.not_mem_nil, false_imp_iff, implies_true, and_true]
  refine ⟨fun x => ?_, fun x => ?_, fun x => ?_, fun x => ?_⟩
  · obtain ⟨r, l, rfl⟩ : ∃ (a : Fin 512) (b : Fin 256), x = ix2 a b := ⟨x 0, x 1, eq_ix2 x⟩
    rw [emb9]
    show _ = ProjC.headed (col x0 x1 x2 1024 (by omega) r) g ⟨768 + l.val, by omega⟩
    exact k3 _ _ g h5 h6 _ (col x0 x1 x2 1024 (by omega) r) r (fun j => (pay19_at x0 x1 x2 x3 x4 x5 x6 x7 r _).trans (cols_at x0 x1 x2 1024 (by omega) r j)) l
  · obtain ⟨r, l, rfl⟩ : ∃ (a : Fin 512) (b : Fin 256), x = ix2 a b := ⟨x 0, x 1, eq_ix2 x⟩
    rw [emb8]
    show _ = ProjC.headed (col x0 x1 x2 1024 (by omega) r) g ⟨512 + l.val, by omega⟩
    exact k2 _ _ g h5 h6 _ (col x0 x1 x2 1024 (by omega) r) r (fun j => (pay19_at x0 x1 x2 x3 x4 x5 x6 x7 r _).trans (cols_at x0 x1 x2 1024 (by omega) r j)) l
  · obtain ⟨r, l, rfl⟩ : ∃ (a : Fin 512) (b : Fin 256), x = ix2 a b := ⟨x 0, x 1, eq_ix2 x⟩
    rw [emb7]
    show _ = ProjC.headed (col x0 x1 x2 1024 (by omega) r) g ⟨256 + l.val, by omega⟩
    exact k1 _ _ g h5 h6 _ (col x0 x1 x2 1024 (by omega) r) r (fun j => (pay19_at x0 x1 x2 x3 x4 x5 x6 x7 r _).trans (cols_at x0 x1 x2 1024 (by omega) r j)) l
  · obtain ⟨r, l, rfl⟩ : ∃ (a : Fin 512) (b : Fin 256), x = ix2 a b := ⟨x 0, x 1, eq_ix2 x⟩
    rw [emb6]
    show _ = ProjC.headed (col x0 x1 x2 1024 (by omega) r) g ⟨l.val, by omega⟩
    exact k0 _ _ g h5 h6 _ (col x0 x1 x2 1024 (by omega) r) r (fun j => (pay19_at x0 x1 x2 x3 x4 x5 x6 x7 r _).trans (cols_at x0 x1 x2 1024 (by omega) r j)) l

end block

/-! ## The blocks in the arrays -/

variable (m : (ℓ : Loc nD τ sig) → Buf (Elt Ideal) ℓ)

/-- The array row of row `r` of the one block. -/
def dst (_ : Fin cfg0.N) (r : Fin 512) : Fin 512 := r

/-- The stream's row `r`: the host lays 16 entries of 32 frames out as 512 rows. -/
def src (x : Vec Ideal S16x32x1024 .f32) (r : Fin 512) (k : Fin 1024) : EReal := x (ix3 ⟨r.val / 32, by omega⟩ ⟨r.val % 32, by omega⟩ k)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

theorem stream_at (c : Dev nD) (r : Fin 512) (k : Fin 1024) : V m c main_v19 (ix2 r k) = src (m ((c : Thread nD τ).loc main_arg0)) r k := by
  unfold V src
  after_reads_at

theorem norm_at (c : Dev nD) (k : Fin 1024) : V m c main_v20 (ix2 0 k) = (m ((c : Thread nD τ).loc main_arg1)) (ix1 k) := by
  unfold V
  after_reads_at

theorem w_at (c : Dev nD) (r : Fin 1024) (k : Fin 3072) : V m c main_v1 (ix2 r k) = (m ((c : Thread nD τ).loc main_arg2)) (ix2 r ⟨k.val, by omega⟩) := by
  unfold V
  after_reads_at

theorem wf_at (c : Dev nD) (r : Fin 1024) (k : Fin 128) : V m c main_v6 (ix2 r k) = (m ((c : Thread nD τ).loc main_arg2)) (ix2 r ⟨3072 + k.val % 16, by omega⟩) := by
  unfold V
  after_reads_at

theorem bf_at (c : Dev nD) (k : Fin 128) : V m c main_v10 (ix2 0 k) = (m ((c : Thread nD τ).loc main_arg3)) (ix1 ⟨k.val % 16, by omega⟩) := by
  unfold V
  after_reads_at

theorem bd_at (c : Dev nD) (i j : Fin 256) : V m c main_v31 (ix2 i j) = Heads.avg i j := by
  unfold V
  after_reads_at
  exact Heads.avg_built i j

theorem qn_at (c : Dev nD) (k : Fin 256) : V m c main_v14 (ix2 0 k) = (m ((c : Thread nD τ).loc main_arg4)) (ix1 ⟨k.val % 64, by omega⟩) := by
  unfold V
  after_reads_at

theorem kn_at (c : Dev nD) (k : Fin 256) : V m c main_v18 (ix2 0 k) = (m ((c : Thread nD τ).loc main_arg5)) (ix1 ⟨k.val % 64, by omega⟩) := by
  unfold V
  after_reads_at

theorem blk0 (c : Dev nD) (t : Fin cfg0.N) (r : Fin 512) (k : Fin 1024) : iblk m c 0 t (ix2 r k) = src (m ((c : Thread nD τ).loc main_arg0)) (dst t r) k := by
  rw [← stream_at m c]
  blk_ext [iblk, idx0 t, dst]

theorem blk1 (c : Dev nD) (t : Fin cfg0.N) (k : Fin 1024) : iblk m c 1 t (ix2 0 k) = (m ((c : Thread nD τ).loc main_arg1)) (ix1 k) := by
  rw [← norm_at m c]
  blk_ext [iblk, idx1 t]

theorem blk2 (c : Dev nD) (t : Fin cfg0.N) (r : Fin 1024) (k : Fin 3072) : iblk m c 2 t (ix2 r k) = (m ((c : Thread nD τ).loc main_arg2)) (ix2 r ⟨k.val, by omega⟩) := by
  rw [← w_at m c]
  blk_ext [iblk, idx2 t]

theorem blk3 (c : Dev nD) (t : Fin cfg0.N) (r : Fin 1024) (k : Fin 128) : iblk m c 3 t (ix2 r k) = (m ((c : Thread nD τ).loc main_arg2)) (ix2 r ⟨3072 + k.val % 16, by omega⟩) := by
  rw [← wf_at m c]
  blk_ext [iblk, idx3 t]

theorem blk4 (c : Dev nD) (t : Fin cfg0.N) (k : Fin 128) : iblk m c 4 t (ix2 0 k) = (m ((c : Thread nD τ).loc main_arg3)) (ix1 ⟨k.val % 16, by omega⟩) := by
  rw [← bf_at m c]
  blk_ext [iblk, idx4 t]

theorem blk5 (c : Dev nD) (t : Fin cfg0.N) (i j : Fin 256) : iblk m c 5 t (ix2 i j) = Heads.avg i j := by
  rw [← bd_at m c]
  blk_ext [iblk, idx5 t]

theorem blk6 (c : Dev nD) (t : Fin cfg0.N) (k : Fin 256) : iblk m c 6 t (ix2 0 k) = (m ((c : Thread nD τ).loc main_arg4)) (ix1 ⟨k.val % 64, by omega⟩) := by
  rw [← qn_at m c]
  blk_ext [iblk, idx6 t]

theorem blk7 (c : Dev nD) (t : Fin cfg0.N) (k : Fin 256) : iblk m c 7 t (ix2 0 k) = (m ((c : Thread nD τ).loc main_arg5)) (ix1 ⟨k.val % 64, by omega⟩) := by
  rw [← kn_at m c]
  blk_ext [iblk, idx7 t]

/-! ## The arrays -/

/-- The normalised row `r` of the stream. -/
def row (x : Vec Ideal S16x32x1024 .f32) (g : Vec Ideal S1024 .f32) (r : Fin 512) (k : Fin 1024) : EReal :=
  Mlp.hidden (src x r) (fun j => g (ix1 j)) k

theorem hid_at (c : Dev nD) (t : Fin cfg0.N) (r : Fin 512) :
    hid (iblk m c 0 t) (iblk m c 1 t) r = row (m ((c : Thread nD τ).loc main_arg0)) (m ((c : Thread nD τ).loc main_arg1)) (dst t r) := by
  funext k
  unfold hid row
  simp only [blk0, blk1]

theorem col_at (c : Dev nD) (t : Fin cfg0.N) (o : ℕ) (ho : o + 1024 ≤ 3072) (r : Fin 512) :
    col (iblk m c 0 t) (iblk m c 1 t) (iblk m c 2 t) o ho r
      = ProjC.cols (row (m ((c : Thread nD τ).loc main_arg0)) (m ((c : Thread nD τ).loc main_arg1)) (dst t r)) (fun k j => (m ((c : Thread nD τ).loc main_arg2)) (ix2 k j)) o (by omega) := by
  funext l
  unfold col ProjC.cols ProjC.proj
  simp only [blk2, hid_at]

/-- The four results as functions of the arguments, row by row. -/
def qAt (x : Vec Ideal S16x32x1024 .f32) (g : Vec Ideal S1024 .f32) (w : Vec Ideal S1024x3088 .f32) (qn : Vec Ideal S64 .f32)
    (r : Fin 512) (l : Fin 1024) : EReal :=
  ProjC.qOf (row x g r) (fun k j => w (ix2 k j)) (fun d => qn (ix1 d)) l

def kAt (x : Vec Ideal S16x32x1024 .f32) (g : Vec Ideal S1024 .f32) (w : Vec Ideal S1024x3088 .f32) (kn : Vec Ideal S64 .f32)
    (r : Fin 512) (l : Fin 1024) : EReal :=
  ProjC.kOf (row x g r) (fun k j => w (ix2 k j)) (fun d => kn (ix1 d)) l

def vAt (x : Vec Ideal S16x32x1024 .f32) (g : Vec Ideal S1024 .f32) (w : Vec Ideal S1024x3088 .f32) (r : Fin 512) (l : Fin 1024) : EReal :=
  ProjC.vOf (row x g r) (fun k j => w (ix2 k j)) l

def lfAt (x : Vec Ideal S16x32x1024 .f32) (g : Vec Ideal S1024 .f32) (w : Vec Ideal S1024x3088 .f32) (b : Vec Ideal S16 .f32)
    (r : Fin 512) (l : Fin 128) : EReal :=
  ProjC.lfOf (row x g r) (fun k j => w (ix2 k j)) (fun h => b (ix1 h)) l

theorem final_q (c : Dev nD) : (dats m 0 c).arrAt 8 cfg0.N = fun i : S512x1024.Idx =>
    qAt (m ((c : Thread nD τ).loc main_arg0)) (m ((c : Thread nD τ).loc main_arg1)) (m ((c : Thread nD τ).loc main_arg2)) (m ((c : Thread nD τ).loc main_arg4)) (i 0) (i 1) := by
  refine (dats m 0 c).arrAt_eq_of_covers 8 _ (by decide +kernel) fun t hf y => ?_
  blk_simp
  rw [after0_8]
  obtain ⟨r, l, rfl⟩ : ∃ (a : Fin 512) (b : Fin 1024), y = ix2 a b := ⟨y 0, y 1, eq_ix2 y⟩
  have e : (win0_8.blk t).view.emb (ix2 r l) = ix2 (dst t r) l := by
    blk_ext [idx8 t, dst]
  refine (q_at _ _ _ _ _ _ _ _ (fun d => (m ((c : Thread nD τ).loc main_arg4)) (ix1 d)) (fun i j => blk5 m c t i j) (fun j => blk6 m c t j) r l).trans ?_
  rw [e, col_at]
  rfl

theorem final_k (c : Dev nD) : (dats m 0 c).arrAt 9 cfg0.N = fun i : S512x1024.Idx =>
    kAt (m ((c : Thread nD τ).loc main_arg0)) (m ((c : Thread nD τ).loc main_arg1)) (m ((c : Thread nD τ).loc main_arg2)) (m ((c : Thread nD τ).loc main_arg5)) (i 0) (i 1) := by
  refine (dats m 0 c).arrAt_eq_of_covers 9 _ (by decide +kernel) fun t hf y => ?_
  blk_simp
  rw [after0_9]
  obtain ⟨r, l, rfl⟩ : ∃ (a : Fin 512) (b : Fin 1024), y = ix2 a b := ⟨y 0, y 1, eq_ix2 y⟩
  have e : (win0_9.blk t).view.emb (ix2 r l) = ix2 (dst t r) l := by
    blk_ext [idx9 t, dst]
  refine (k_at _ _ _ _ _ _ _ _ (fun d => (m ((c : Thread nD τ).loc main_arg5)) (ix1 d)) (fun i j => blk5 m c t i j) (fun j => blk7 m c t j) r l).trans ?_
  rw [e, col_at]
  rfl

theorem final_v (c : Dev nD) : (dats m 0 c).arrAt 10 cfg0.N = fun i : S512x1024.Idx =>
    vAt (m ((c : Thread nD τ).loc main_arg0)) (m ((c : Thread nD τ).loc main_arg1)) (m ((c : Thread nD τ).loc main_arg2)) (i 0) (i 1) := by
  refine (dats m 0 c).arrAt_eq_of_covers 10 _ (by decide +kernel) fun t hf y => ?_
  blk_simp
  rw [after0_10]
  obtain ⟨r, l, rfl⟩ : ∃ (a : Fin 512) (b : Fin 1024), y = ix2 a b := ⟨y 0, y 1, eq_ix2 y⟩
  have e : (win0_10.blk t).view.emb (ix2 r l) = ix2 (dst t r) l := by
    blk_ext [idx10 t, dst]
  refine (v_at _ _ _ _ _ _ _ _ r l).trans ?_
  rw [e, col_at]
  rfl

theorem final_lf (c : Dev nD) : (dats m 0 c).arrAt 11 cfg0.N = fun i : S512x128.Idx =>
    lfAt (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 11 _ (by decide +kernel) fun t hf y => ?_
  blk_simp
  rw [after0_11]
  obtain ⟨r, l, rfl⟩ : ∃ (a : Fin 512) (b : Fin 128), y = ix2 a b := ⟨y 0, y 1, eq_ix2 y⟩
  have e : (win0_11.blk t).view.emb (ix2 r l) = ix2 (dst t r) l := by
    blk_ext [idx11 t, dst]
  refine (lf_at _ _ _ _ _ _ _ _ r l).trans ?_
  rw [e]
  show _ = lfAt _ _ _ _ (dst t r) l
  unfold lfAt ProjC.lfOf ProjC.proj
  simp only [blk3, blk4, hid_at]

variable (ρ : Dev nD → PrngReg)

/-- The run, read: the four result arrays at those functions of the arguments, the arguments unchanged. -/
theorem run : θ_run defs (onTc (τ := τ) (main (F := Ideal))) ⟨m, fun _ => 0, ρ⟩ fun r => ∀ c : Dev nD,
      r.2.mem ((c : Thread nD τ).loc main_v32_0) = (fun j : S512x1024.Idx => qAt (m ((c : Thread nD τ).loc main_arg0)) (m ((c : Thread nD τ).loc main_arg1)) (m ((c : Thread nD τ).loc main_arg2)) (m ((c : Thread nD τ).loc main_arg4)) (j 0) (j 1))
      ∧ r.2.mem ((c : Thread nD τ).loc main_v32_1) = (fun j : S512x1024.Idx => kAt (m ((c : Thread nD τ).loc main_arg0)) (m ((c : Thread nD τ).loc main_arg1)) (m ((c : Thread nD τ).loc main_arg2)) (m ((c : Thread nD τ).loc main_arg5)) (j 0) (j 1))
      ∧ r.2.mem ((c : Thread nD τ).loc main_v32_2) = (fun j : S512x1024.Idx => vAt (m ((c : Thread nD τ).loc main_arg0)) (m ((c : Thread nD τ).loc main_arg1)) (m ((c : Thread nD τ).loc main_arg2)) (j 0) (j 1))
      ∧ r.2.mem ((c : Thread nD τ).loc main_v32_3) = (fun j : S512x128.Idx => lfAt (m ((c : Thread nD τ).loc main_arg0)) (m ((c : Thread nD τ).loc main_arg1)) (m ((c : Thread nD τ).loc main_arg2)) (m ((c : Thread nD τ).loc main_arg3)) (j 0) (j 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_q m c), (h c).2.1.trans (final_k m c), (h c).2.2.1.trans (final_v m c),
    (h c).2.2.2.1.trans (final_lf m c), (h c).2.2.2.2⟩) (Value.run_blocks m ρ)

end Cert.ProjCSample

end
-- ==== Proof.ProjCSampleReference.lean ====
/-
  The odd layers' q/k/v projection on the sampled frames as the reference states it, read row by row: the same functions of the
  arguments.
-/
module

public import proofs.«01_k».proof.Proof.Gen.Reference4Ideal.Read
public import proofs.«01_k».proof.Proof.ProjCSampleKernel

@[expose] public section

set_option maxRecDepth 16384

noncomputable section

namespace Cert.ProjCSampleRef

open Idealize.ShloMosaic Idealize.ShloMosaic.TcCoe Cert.Reference4Ideal Cert.Reference4Ideal.Read

variable (x0 : (⟨S16x32x1024, .f32⟩ : BufTy).Contents (Elt Ideal)) (x1 : (⟨S1024, .f32⟩ : BufTy).Contents (Elt Ideal))
  (x2 : (⟨S1024x3088, .f32⟩ : BufTy).Contents (Elt Ideal)) (x3 : (⟨S16, .f32⟩ : BufTy).Contents (Elt Ideal))
  (x4 x5 : (⟨S64, .f32⟩ : BufTy).Contents (Elt Ideal))

/-- The array row of batch entry `b`, position `s`. -/
def at_ (b : Fin 16) (s : Fin 32) : Fin 512 := ⟨b.val * 32 + s.val, by omega⟩

theorem at_split (r : Fin 512) : at_ ⟨r.val / 32, by omega⟩ ⟨r.val % 32, by omega⟩ = r :=
  Fin.ext (by show r.val / 32 * 32 + r.val % 32 = r.val; omega)

theorem src_at (b : Fin 16) (s : Fin 32) (k : Fin 1024) : ProjCSample.src x0 (at_ b s) k = x0 (ix3 b s k) := by
  have e1 : (⟨(at_ b s).val / 32, by omega⟩ : Fin 16) = b := Fin.ext (by show (b.val * 32 + s.val) / 32 = b.val; omega)
  have e2 : (⟨(at_ b s).val % 32, by omega⟩ : Fin 32) = s := Fin.ext (by show (b.val * 32 + s.val) % 32 = s.val; omega)
  unfold ProjCSample.src
  rw [e1, e2]

theorem hid_at (b : Fin 16) (s : Fin 32) (k : Fin 1024) : val_main_v12 (F := Ideal) x0 x1 (ix3 b s k) = ProjCSample.row x0 x1 (at_ b s) k := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  unfold ProjCSample.row Mlp.hidden
  simp only [src_at]
  try rfl

theorem proj_at (b : Fin 16) (s : Fin 32) (l : Fin 3088) : val_main_v13 (F := Ideal) x0 x1 x2 (ix3 b s l) = ProjC.proj (ProjCSample.row x0 x1 (at_ b s)) (fun k j => x2 (ix2 k j)) l := by
  pointwise [val_main_v13]
  simp only [hid_at]
  rfl

theorem q_at (b : Fin 16) (s : Fin 32) (h : Fin 16) (l : Fin 64) : val_main_v31 (F := Ideal) x0 x1 x2 x4 (ix4 b s h l)
    = Heads.norm (fun d => ProjC.cols (ProjCSample.row x0 x1 (at_ b s)) (fun k j => x2 (ix2 k j)) 0 (by omega) ⟨h.val * 64 + d.val, by omega⟩) (fun d => x4 (ix1 d)) l := by
  pointwise [val_main_v31, val_main_v30, val_main_v29, val_main_v28, val_main_v27, val_main_v26, val_main_v25, val_main_v24, val_main_cst_4, val_main_v23, val_main_v22, val_main_cst_3, val_main_v21, val_main_v20, val_main_cst_2, val_main_v19, val_main_v18, val_main_v14]
  simp only [proj_at]
  unfold Heads.norm ProjC.cols
  simp only [Nat.zero_add]

theorem k_at (b : Fin 16) (s : Fin 32) (h : Fin 16) (l : Fin 64) : val_main_v45 (F := Ideal) x0 x1 x2 x5 (ix4 b s h l)
    = Heads.norm (fun d => ProjC.cols (ProjCSample.row x0 x1 (at_ b s)) (fun k j => x2 (ix2 k j)) 1024 (by omega) ⟨h.val * 64 + d.val, by omega⟩) (fun d => x5 (ix1 d)) l := by
  pointwise [val_main_v45, val_main_v44, val_main_v43, val_main_v42, val_main_v41, val_main_v40, val_main_v39, val_main_v38, val_main_cst_7, val_main_v37, val_main_v36, val_main_cst_6, val_main_v35, val_main_v34, val_main_cst_5, val_main_v33, val_main_v32, val_main_v15]
  simp only [proj_at]
  unfold Heads.norm ProjC.cols
  rfl

theorem lf_at (b : Fin 16) (s : Fin 32) (h : Fin 16) : val_main_v50 (F := Ideal) x0 x1 x2 x3 (ix3 b s h)
    = ProjC.logSig (ProjC.proj (ProjCSample.row x0 x1 (at_ b s)) (fun k j => x2 (ix2 k j)) ⟨3072 + h.val, by omega⟩ + x3 (ix1 h)) := by
  pointwise [val_main_v50, val_main_call0_v1, val_main_call0_call0_v11, val_main_call0_call0_v10, val_main_call0_call0_v9, val_main_call0_call0_v8,
    val_main_call0_call0_v7, val_main_call0_call0_v6, val_main_call0_call0_v5, val_main_call0_call0_v4, val_main_call0_call0_v3,
    val_main_call0_call0_v2, val_main_call0_call0_v1, val_main_call0_call0_v0, val_main_call0_call0_cst, val_main_call0_v0, val_main_v49, val_main_v48, val_main_v47, val_main_v17]
  simp only [proj_at]
  generalize ProjC.proj _ _ _ + _ = z
  refine Eq.trans ?_ (ProjC.logSig_eq z)
  simp

/-- The four result arrays, row by row. -/
theorem q_row (r : Fin 512) (l : Fin 1024) : val_main_v54 (F := Ideal) x0 x1 x2 x4 (ix2 r l) = ProjCSample.qAt x0 x1 x2 x4 r l := by
  pointwise [val_main_v54, val_main_v53, val_main_v52, val_main_cst_8, val_main_v51]
  simp only [q_at, at_split]
  rfl

theorem k_row (r : Fin 512) (l : Fin 1024) : val_main_v55 (F := Ideal) x0 x1 x2 x5 (ix2 r l) = ProjCSample.kAt x0 x1 x2 x5 r l := by
  pointwise [val_main_v55]
  simp only [k_at, at_split]
  rfl

theorem v_row (r : Fin 512) (l : Fin 1024) : val_main_v56 (F := Ideal) x0 x1 x2 (ix2 r l) = ProjCSample.vAt x0 x1 x2 r l := by
  pointwise [val_main_v56, val_main_v46, val_main_v16]
  simp only [proj_at, at_split]
  unfold ProjCSample.vAt ProjC.vOf ProjC.cols
  congr 1

theorem lf_row (r : Fin 512) (l : Fin 128) : val_main_v60 (F := Ideal) x0 x1 x2 x3 (ix2 r l) = ProjCSample.lfAt x0 x1 x2 x3 r l := by
  pointwise [val_main_v60, val_main_v59, val_main_v58, val_main_v57]
  simp only [lf_at, at_split]
  rfl

theorem q_eq : val_main_v54 (F := Ideal) x0 x1 x2 x4 = fun j : S512x1024.Idx => ProjCSample.qAt x0 x1 x2 x4 (j 0) (j 1) := by
  funext j
  obtain ⟨r, l, rfl⟩ : ∃ (a : Fin 512) (b : Fin 1024), j = ix2 a b := ⟨j 0, j 1, eq_ix2 j⟩
  exact q_row x0 x1 x2 x4 r l

theorem k_eq : val_main_v55 (F := Ideal) x0 x1 x2 x5 = fun j : S512x1024.Idx => ProjCSample.kAt x0 x1 x2 x5 (j 0) (j 1) := by
  funext j
  obtain ⟨r, l, rfl⟩ : ∃ (a : Fin 512) (b : Fin 1024), j = ix2 a b := ⟨j 0, j 1, eq_ix2 j⟩
  exact k_row x0 x1 x2 x5 r l

theorem v_eq : val_main_v56 (F := Ideal) x0 x1 x2 = fun j : S512x1024.Idx => ProjCSample.vAt x0 x1 x2 (j 0) (j 1) := by
  funext j
  obtain ⟨r, l, rfl⟩ : ∃ (a : Fin 512) (b : Fin 1024), j = ix2 a b := ⟨j 0, j 1, eq_ix2 j⟩
  exact v_row x0 x1 x2 r l

theorem lf_eq : val_main_v60 (F := Ideal) x0 x1 x2 x3 = fun j : S512x128.Idx => ProjCSample.lfAt x0 x1 x2 x3 (j 0) (j 1) := by
  funext j
  obtain ⟨r, l, rfl⟩ : ∃ (a : Fin 512) (b : Fin 128), j = ix2 a b := ⟨j 0, j 1, eq_ix2 j⟩
  exact lf_row x0 x1 x2 x3 r l

end Cert.ProjCSampleRef

end
-- ==== Proof.ProjCSampleClaims.lean ====
/-
  The claims about the odd layers' q/k/v projection call on the sampled frames.
-/
module

public import proofs.«01_k».proof.Defs
public import proofs.«01_k».proof.Proof.Gen.Kernel4.Frame
public import proofs.«01_k».proof.Proof.ProjCSampleKernel
public import proofs.«01_k».proof.Proof.ProjCSampleReference
public import Idealize.ShloMosaic.Lib.Quiescent

@[expose] public section

noncomputable section

namespace Cert.ProjCSampleClaims

open Idealize.ShloMosaic Idealize.ShloMosaic.TcCoe Idealize.SL.Sem

theorem frame_k : Cert.quiescent_Kernel4 := fun m ρ _ => Cert.Kernel4.Gen.frame m ρ
theorem frame_ki : Cert.quiescent_Kernel4Ideal := fun m ρ _ => Cert.Kernel4Ideal.Gen.frame m ρ

/-- The reference is host code: its run read at the arguments, and it declares no semaphore. -/
theorem frame_ri : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- Both programs' result arrays are the same functions of the arguments. -/
theorem algebraic : Cert.algebraic_Kernel4Ideal_Reference4Ideal := by
  intro m ρ m' ρ' _ hagree
  refine ⟨_, _, _, _, Cert.ProjCSample.run m ρ, ?_⟩
  refine (θ_run Cert.Reference4Ideal.defs _ _).mono (fun _ h c => ⟨(h c).1.trans ((Cert.Reference4Ideal.Read.val_main_v54_eq _ _ _ _).trans ?_), (h c).2.1.trans ((Cert.Reference4Ideal.Read.val_main_v55_eq _ _ _ _).trans ?_),
    (h c).2.2.1.trans ((Cert.Reference4Ideal.Read.val_main_v56_eq _ _ _).trans ?_), (h c).2.2.2.1.trans ((Cert.Reference4Ideal.Read.val_main_v60_eq m' c).trans ?_), (h c).2.2.2.2⟩)
    (Cert.Reference4Ideal.Value.run (F := Ideal) m' ρ')
  · rw [Cert.ProjCSampleRef.q_eq, (hagree c).1, (hagree c).2.1, (hagree c).2.2.1, (hagree c).2.2.2.2.1]
  · rw [Cert.ProjCSampleRef.k_eq, (hagree c).1, (hagree c).2.1, (hagree c).2.2.1, (hagree c).2.2.2.2.2]
  · rw [Cert.ProjCSampleRef.v_eq, (hagree c).1, (hagree c).2.1, (hagree c).2.2.1]
  · rw [Cert.ProjCSampleRef.lf_eq, (hagree c).1, (hagree c).2.1, (hagree c).2.2.1, (hagree c).2.2.2.1]

end Cert.ProjCSampleClaims

end
-- ==== Proof.ProjCKernel.lean ====
/-
  The odd layers' q/k/v projection call on the prompt: what its result arrays hold after the run. Grid point `t` works
  on 688 rows and writes those rows of the four results.
-/
module

public import proofs.«01_k».proof.Proof.Gen.Kernel5Ideal.Value
public import proofs.«01_k».proof.Proof.ProjC
public import Idealize.ShloMosaic.Lib.Pipeline.ValueKit
public import Idealize.ShloMosaic.Lib.StableHlo.ReadAt

@[expose] public section

set_option maxRecDepth 16384

noncomputable section

namespace Cert.ProjCPrompt

open Idealize.ShloMosaic Idealize.ShloMosaic.TcCoe Idealize.SL.Sem
open Cert.Kernel5Ideal Cert.Kernel5Ideal.Gen

/-! ## One block -/

section block

variable (x0 : Vec Ideal S688x1024 .f32) (x1 : Vec Ideal S1x1024 .f32) (x2 : Vec Ideal S1024x3072 .bf16) (x3 : Vec Ideal S1024x128 .bf16)
  (x4 : Vec Ideal S1x128 .f32) (x5 : Vec Ideal S256x256 .bf16) (x6 x7 : Vec Ideal S1x256 .f32)

/-- The normalised row `r` of the block. -/
def hid (r : Fin 688) (k : Fin 1024) : EReal := Mlp.hidden (fun j => x0 (ix2 r j)) (fun j => x1 (ix2 0 j)) k

/-- Column `l` of the block's projection, from column `o` of the weights on. -/
def col (o : ℕ) (ho : o + 1024 ≤ 3072) (r : Fin 688) (l : Fin 1024) : EReal :=
  ProjC.proj (hid x0 x1 r) (fun k j => x2 (ix2 k j)) ⟨o + l.val, by omega⟩

theorem pay3_at (r : Fin 688) (l : Fin 1024) : k0_pay3 x0 x1 (ix2 r l) = hid x0 x1 r l := by
  pointwise [k0_pay3]
  rfl

/-- The first 2048 columns of the projection. -/
theorem pay4_at (w : Vec Ideal S1024x2048 .bf16) (r : Fin 688) (l : Fin 2048) :
    k0_pay4 x0 x1 w (ix2 r l) = ProjC.proj (hid x0 x1 r) (fun k j => w (ix2 k j)) l := by
  pointwise [k0_pay4]
  simp only [pay3_at]
  rfl

theorem ld0 : View.ld x0 r0_0 = x0 := by
  funext i
  obtain ⟨r, l, rfl⟩ : ∃ (a : Fin 688) (b : Fin 1024), i = ix2 a b := ⟨i 0, i 1, eq_ix2 i⟩
  pointwise []

theorem ld1 : View.ld x1 r0_1 = x1 := by
  funext i
  obtain ⟨r, l, rfl⟩ : ∃ (a : Fin 1) (b : Fin 1024), i = ix2 a b := ⟨i 0, i 1, eq_ix2 i⟩
  rw [Subsingleton.elim r 0]
  pointwise []

theorem pay18_at (r : Fin 688) (l : Fin 2048) : k0_pay18 x0 x1 x2 x3 x4 x5 x6 x7 (ix2 r l)
    = ProjC.proj (hid x0 x1 r) (fun k j => View.ld x2 r0_2 (ix2 k j)) l := by
  unfold k0_pay18
  rw [ld0, ld1]
  exact pay4_at x0 x1 _ r l

theorem cols_at (o : ℕ) (ho : o + 1024 ≤ 2048) (r : Fin 688) (l : Fin 1024) :
    ProjC.proj (hid x0 x1 r) (fun k j => View.ld x2 r0_2 (ix2 k j)) ⟨o + l.val, by omega⟩ = col x0 x1 x2 o (by omega) r l := by
  unfold col ProjC.proj
  pointwise []

theorem v_at (r : Fin 688) (l : Fin 1024) : out0_10 x0 x1 x2 x3 x4 x5 x6 x7 (ix2 r l) = col x0 x1 x2 2048 (by omega) r l := by
  frame_out
  pointwise [k0_pay5]
  simp only [pay3_at]
  rfl

theorem lf_at (r : Fin 688) (l : Fin 128) : out0_11 x0 x1 x2 x3 x4 x5 x6 x7 (ix2 r l)
    = ProjC.logSig (ProjC.proj (hid x0 x1 r) (fun k j => x3 (ix2 k j)) l + x4 (ix2 0 l)) := by
  frame_out
  pointwise [k0_pay2]
  simp only [pay3_at]
  rfl

section norms

variable (g : Fin 64 → EReal) (h5 : ∀ i j : Fin 256, x5 (ix2 i j) = Heads.avg i j)
  (h6 : ∀ j : Fin 256, x6 (ix2 0 j) = g ⟨j.val % 64, by omega⟩)

include h5 h6

theorem q0 (w : Vec Ideal S1024x2048 .bf16) (Y : Fin 1024 → EReal) (r : Fin 688)
    (hY : ∀ j : Fin 1024, ProjC.proj (hid x0 x1 r) (fun k j => w (ix2 k j)) ⟨0 + j.val, by omega⟩ = Y j)
    (l : Fin 256) : k0_pay7 (k0_pay6 x0 x1 w x5 x6) (ix2 r l) = ProjC.headed Y g ⟨l.val, by omega⟩ * Ideal.ofBits FTy.f32 1043900987#32 := by
  pointwise [k0_pay7, k0_pay6, k0_pay4]
  simp only [pay3_at, h5, h6]
  have h := ProjC.group_eq (fun j => ∑ x, hid x0 x1 r x * w (ix2 x ⟨j.val, by omega⟩)) Y g 0 (by omega) (by omega)
    (fun j => (congrArg (ProjC.proj (hid x0 x1 r) (fun k j => w (ix2 k j))) (Fin.ext (by show j.val = 0 + (0 + j.val); omega))).trans
      (hY ⟨0 + j.val, by omega⟩)) l ⟨l.val, by omega⟩ (Nat.zero_add _).symm
  exact congrArg (fun e : EReal => e * Ideal.ofBits FTy.f32 1043900987#32) h

theorem q1 (y : FVec Ideal S688x2048 .f32) (Y : Fin 1024 → EReal) (r : Fin 688) (hY : ∀ j : Fin 1024, y (ix2 r ⟨0 + j.val, by omega⟩) = Y j)
    (l : Fin 256) : k0_pay9 y x5 x6 (ix2 r l) = ProjC.headed Y g ⟨256 + l.val, by omega⟩ * Ideal.ofBits FTy.f32 1043900987#32 := by
  pointwise [k0_pay9]
  simp only [h5, h6]
  exact congrArg (fun e : EReal => e * Ideal.ofBits FTy.f32 1043900987#32) (ProjC.group_eq (fun j => y (ix2 r ⟨256 + j.val, by omega⟩)) Y g 256 (by omega) (by omega)
    (fun j => (congrArg (fun i => y (ix2 r i)) (Fin.ext (by show 256 + j.val = 0 + (256 + j.val); omega))).trans (hY ⟨256 + j.val, by omega⟩)) l ⟨256 + l.val, by omega⟩ (by show _ = 256 + l.val; first | rfl | exact (Nat.zero_add _).symm))

theorem q2 (y : FVec Ideal S688x2048 .f32) (Y : Fin 1024 → EReal) (r : Fin 688) (hY : ∀ j : Fin 1024, y (ix2 r ⟨0 + j.val, by omega⟩) = Y j)
    (l : Fin 256) : k0_pay11 y x5 x6 (ix2 r l) = ProjC.headed Y g ⟨512 + l.val, by omega⟩ * Ideal.ofBits FTy.f32 1043900987#32 := by
  pointwise [k0_pay11]
  simp only [h5, h6]
  exact congrArg (fun e : EReal => e * Ideal.ofBits FTy.f32 1043900987#32) (ProjC.group_eq (fun j => y (ix2 r ⟨512 + j.val, by omega⟩)) Y g 512 (by omega) (by omega)
    (fun j => (congrArg (fun i => y (ix2 r i)) (Fin.ext (by show 512 + j.val = 0 + (512 + j.val); omega))).trans (hY ⟨512 + j.val, by omega⟩)) l ⟨512 + l.val, by omega⟩ (by show _ = 512 + l.val; first | rfl | exact (Nat.zero_add _).symm))

theorem q3 (y : FVec Ideal S688x2048 .f32) (Y : Fin 1024 → EReal) (r : Fin 688) (hY : ∀ j : Fin 1024, y (ix2 r ⟨0 + j.val, by omega⟩) = Y j)
    (l : Fin 256) : k0_pay16 y x5 x6 (ix2 r l) = ProjC.headed Y g ⟨768 + l.val, by omega⟩ * Ideal.ofBits FTy.f32 1043900987#32 := by
  pointwise [k0_pay16]
  simp only [h5, h6]
  exact congrArg (fun e : EReal => e * Ideal.ofBits FTy.f32 1043900987#32) (ProjC.group_eq (fun j => y (ix2 r ⟨768 + j.val, by omega⟩)) Y g 768 (by omega) (by omega)
    (fun j => (congrArg (fun i => y (ix2 r i)) (Fin.ext (by show 768 + j.val = 0 + (768 + j.val); omega))).trans (hY ⟨768 + j.val, by omega⟩)) l ⟨768 + l.val, by omega⟩ (by show _ = 768 + l.val; first | rfl | exact (Nat.zero_add _).symm))

theorem k0 (y : FVec Ideal S688x2048 .f32) (Y : Fin 1024 → EReal) (r : Fin 688) (hY : ∀ j : Fin 1024, y (ix2 r ⟨1024 + j.val, by omega⟩) = Y j)
    (l : Fin 256) : k0_pay8 y x5 x6 (ix2 r l) = ProjC.headed Y g ⟨l.val, by omega⟩ := by
  pointwise [k0_pay8]
  simp only [h5, h6]
  exact ProjC.group_eq (fun j => y (ix2 r ⟨1024 + j.val, by omega⟩)) Y g 0 (by omega) (by omega)
    (fun j => (congrArg (fun i => y (ix2 r i)) (Fin.ext (by show 1024 + j.val = 1024 + (0 + j.val); omega))).trans (hY ⟨0 + j.val, by omega⟩)) l ⟨l.val, by omega⟩ (by show _ = 0 + l.val; first | rfl | exact (Nat.zero_add _).symm)

theorem k1 (y : FVec Ideal S688x2048 .f32) (Y : Fin 1024 → EReal) (r : Fin 688) (hY : ∀ j : Fin 1024, y (ix2 r ⟨1024 + j.val, by omega⟩) = Y j)
    (l : Fin 256) : k0_pay10 y x5 x6 (ix2 r l) = ProjC.headed Y g ⟨256 + l.val, by omega⟩ := by
  pointwise [k0_pay10]
  simp only [h5, h6]
  exact ProjC.group_eq (fun j => y (ix2 r ⟨1280 + j.val, by omega⟩)) Y g 256 (by omega) (by omega)
    (fun j => (congrArg (fun i => y (ix2 r i)) (Fin.ext (by show 1280 + j.val = 1024 + (256 + j.val); omega))).trans (hY ⟨256 + j.val, by omega⟩)) l ⟨256 + l.val, by omega⟩ (by show _ = 256 + l.val; first | rfl | exact (Nat.zero_add _).symm)

theorem k2 (y : FVec Ideal S688x2048 .f32) (Y : Fin 1024 → EReal) (r : Fin 688) (hY : ∀ j : Fin 1024, y (ix2 r ⟨1024 + j.val, by omega⟩) = Y j)
    (l : Fin 256) : k0_pay15 (k0_pay12 y) (k0_pay13 y) (k0_pay14 x5) (constant S688x256 .f32 0x00000000#32) x6 (ix2 r l) = ProjC.headed Y g ⟨512 + l.val, by omega⟩ := by
  pointwise [k0_pay15, k0_pay14, k0_pay13, k0_pay12]
  simp only [h5, h6]
  exact ProjC.group_eq (fun j => y (ix2 r ⟨1536 + j.val, by omega⟩)) Y g 512 (by omega) (by omega)
    (fun j => (congrArg (fun i => y (ix2 r i)) (Fin.ext (by show 1536 + j.val = 1024 + (512 + j.val); omega))).trans (hY ⟨512 + j.val, by omega⟩)) l ⟨512 + l.val, by omega⟩ (by show _ = 512 + l.val; first | rfl | exact (Nat.zero_add _).symm)

theorem k3 (y : FVec Ideal S688x2048 .f32) (Y : Fin 1024 → EReal) (r : Fin 688) (hY : ∀ j : Fin 1024, y (ix2 r ⟨1024 + j.val, by omega⟩) = Y j)
    (l : Fin 256) : k0_pay1 (k0_pay17 y x5) x6 (ix2 r l) = ProjC.headed Y g ⟨768 + l.val, by omega⟩ := by
  pointwise [k0_pay1, k0_pay17]
  simp only [h5, h6]
  exact ProjC.group_eq (fun j => y (ix2 r ⟨1792 + j.val, by omega⟩)) Y g 768 (by omega) (by omega)
    (fun j => (congrArg (fun i => y (ix2 r i)) (Fin.ext (by show 1792 + j.val = 1024 + (768 + j.val); omega))).trans (hY ⟨768 + j.val, by omega⟩)) l ⟨768 + l.val, by omega⟩ (by show _ = 768 + l.val; first | rfl | exact (Nat.zero_add _).symm)

end norms

theorem emb6 (r : Fin 688) (l : Fin 256) : r0_6.emb (ix2 r l) = ix2 r ⟨l.val, by omega⟩ := by blk_ext []
theorem emb7 (r : Fin 688) (l : Fin 256) : r0_7.emb (ix2 r l) = ix2 r ⟨256 + l.val, by omega⟩ := by blk_ext []
theorem emb8 (r : Fin 688) (l : Fin 256) : r0_8.emb (ix2 r l) = ix2 r ⟨512 + l.val, by omega⟩ := by blk_ext []
theorem emb9 (r : Fin 688) (l : Fin 256) : r0_9.emb (ix2 r l) = ix2 r ⟨768 + l.val, by omega⟩ := by blk_ext []

/-- The block's q columns. -/
theorem q_at (g : Fin 64 → EReal) (h5 : ∀ i j : Fin 256, x5 (ix2 i j) = Heads.avg i j)
    (h6 : ∀ j : Fin 256, x6 (ix2 0 j) = g ⟨j.val % 64, by omega⟩) (r : Fin 688) (l : Fin 1024) :
    out0_8 x0 x1 x2 x3 x4 x5 x6 x7 (ix2 r l) = ProjC.headed (col x0 x1 x2 0 (by omega) r) g l * Ideal.ofBits FTy.f32 1043900987#32 := by
  frame_out
  refine View.canon_apply_of_pieces (Val := Elt Ideal) (e := .bf16) (fun i : S688x1024.Idx => ProjC.headed (col x0 x1 x2 0 (by omega) (i 0)) g (i 1) * Ideal.ofBits FTy.f32 1043900987#32)
    _ ?_ _ (cover0_8 _ _ _ _ _)
  simp only [List.forall_mem_cons, List.not_mem_nil, false_imp_iff, implies_true, and_true]
  refine ⟨fun x => ?_, fun x => ?_, fun x => ?_, fun x => ?_⟩
  · obtain ⟨r, l, rfl⟩ : ∃ (a : Fin 688) (b : Fin 256), x = ix2 a b := ⟨x 0, x 1, eq_ix2 x⟩
    rw [emb9]
    show _ = ProjC.headed (col x0 x1 x2 0 (by omega) r) g ⟨768 + l.val, by omega⟩ * Ideal.ofBits FTy.f32 1043900987#32
    exact q3 _ _ g h5 h6 _ (col x0 x1 x2 0 (by omega) r) r (fun j => (pay18_at x0 x1 x2 x3 x4 x5 x6 x7 r _).trans (cols_at x0 x1 x2 0 (by omega) r j)) l
  · obtain ⟨r, l, rfl⟩ : ∃ (a : Fin 688) (b : Fin 256), x = ix2 a b := ⟨x 0, x 1, eq_ix2 x⟩
    rw [emb8]
    show _ = ProjC.headed (col x0 x1 x2 0 (by omega) r) g ⟨512 + l.val, by omega⟩ * Ideal.ofBits FTy.f32 1043900987#32
    exact q2 _ _ g h5 h6 _ (col x0 x1 x2 0 (by omega) r) r (fun j => (pay18_at x0 x1 x2 x3 x4 x5 x6 x7 r _).trans (cols_at x0 x1 x2 0 (by omega) r j)) l
  · obtain ⟨r, l, rfl⟩ : ∃ (a : Fin 688) (b : Fin 256), x = ix2 a b := ⟨x 0, x 1, eq_ix2 x⟩
    rw [emb7]
    show _ = ProjC.headed (col x0 x1 x2 0 (by omega) r) g ⟨256 + l.val, by omega⟩ * Ideal.ofBits FTy.f32 1043900987#32
    exact q1 _ _ g h5 h6 _ (col x0 x1 x2 0 (by omega) r) r (fun j => (pay18_at x0 x1 x2 x3 x4 x5 x6 x7 r _).trans (cols_at x0 x1 x2 0 (by omega) r j)) l
  · obtain ⟨r, l, rfl⟩ : ∃ (a : Fin 688) (b : Fin 256), x = ix2 a b := ⟨x 0, x 1, eq_ix2 x⟩
    rw [emb6]
    show _ = ProjC.headed (col x0 x1 x2 0 (by omega) r) g ⟨l.val, by omega⟩ * Ideal.ofBits FTy.f32 1043900987#32
    exact q0 _ _ _ _ g h5 h6 _ (col x0 x1 x2 0 (by omega) r) r (fun j => cols_at x0 x1 x2 0 (by omega) r j) l

/-- The block's k columns. -/
theorem k_at (g : Fin 64 → EReal) (h5 : ∀ i j : Fin 256, x5 (ix2 i j) = Heads.avg i j)
    (h6 : ∀ j : Fin 256, x7 (ix2 0 j) = g ⟨j.val % 64, by omega⟩) (r : Fin 688) (l : Fin 1024) :
    out0_9 x0 x1 x2 x3 x4 x5 x6 x7 (ix2 r l) = ProjC.headed (col x0 x1 x2 1024 (by omega) r) g l := by
  frame_out
  refine View.canon_apply_of_pieces (Val := Elt Ideal) (e := .f32) (fun i : S688x1024.Idx => ProjC.headed (col x0 x1 x2 1024 (by omega) (i 0)) g (i 1))
    _ ?_ _ (cover0_9 _ _ _ _ _)
  simp only [List.forall_mem_cons, List.not_mem_nil, false_imp_iff, implies_true, and_true]
  refine ⟨fun x => ?_, fun x => ?_, fun x => ?_, fun x => ?_⟩
  · obtain ⟨r, l, rfl⟩ : ∃ (a : Fin 688) (b : Fin 256), x = ix2 a b := ⟨x 0, x 1, eq_ix2 x⟩
    rw [emb9]
    show _ = ProjC.headed (col x0 x1 x2 1024 (by omega) r) g ⟨768 + l.val, by omega⟩
    exact k3 _ _ g h5 h6 _ (col x0 x1 x2 1024 (by omega) r) r (fun j => (pay18_at x0 x1 x2 x3 x4 x5 x6 x7 r _).trans (cols_at x0 x1 x2 1024 (by omega) r j)) l
  · obtain ⟨r, l, rfl⟩ : ∃ (a : Fin 688) (b : Fin 256), x = ix2 a b := ⟨x 0, x 1, eq_ix2 x⟩
    rw [emb8]
    show _ = ProjC.headed (col x0 x1 x2 1024 (by omega) r) g ⟨512 + l.val, by omega⟩
    exact k2 _ _ g h5 h6 _ (col x0 x1 x2 1024 (by omega) r) r (fun j => (pay18_at x0 x1 x2 x3 x4 x5 x6 x7 r _).trans (cols_at x0 x1 x2 1024 (by omega) r j)) l
  · obtain ⟨r, l, rfl⟩ : ∃ (a : Fin 688) (b : Fin 256), x = ix2 a b := ⟨x 0, x 1, eq_ix2 x⟩
    rw [emb7]
    show _ = ProjC.headed (col x0 x1 x2 1024 (by omega) r) g ⟨256 + l.val, by omega⟩
    exact k1 _ _ g h5 h6 _ (col x0 x1 x2 1024 (by omega) r) r (fun j => (pay18_at x0 x1 x2 x3 x4 x5 x6 x7 r _).trans (cols_at x0 x1 x2 1024 (by omega) r j)) l
  · obtain ⟨r, l, rfl⟩ : ∃ (a : Fin 688) (b : Fin 256), x = ix2 a b := ⟨x 0, x 1, eq_ix2 x⟩
    rw [emb6]
    show _ = ProjC.headed (col x0 x1 x2 1024 (by omega) r) g ⟨l.val, by omega⟩
    exact k0 _ _ g h5 h6 _ (col x0 x1 x2 1024 (by omega) r) r (fun j => (pay18_at x0 x1 x2 x3 x4 x5 x6 x7 r _).trans (cols_at x0 x1 x2 1024 (by omega) r j)) l

end block

/-! ## The blocks in the arrays -/

variable (m : (ℓ : Loc nD τ sig) → Buf (Elt Ideal) ℓ)

theorem point_lt (t : Fin cfg0.N) : t.val < 48 := lt_of_lt_of_eq t.isLt N_0

/-- The array row of row `r` of point `t`'s block. -/
def dst (t : Fin cfg0.N) (r : Fin 688) : Fin 33024 := ⟨t.val * 688 + r, by have := point_lt t; omega⟩

/-- The stream's row `r`. -/
def src (x : Vec Ideal S33024x1024 .f32) (r : Fin 33024) (k : Fin 1024) : EReal := x (ix2 r k)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

theorem norm_at (c : Dev nD) (k : Fin 1024) : V m c main_v19 (ix2 0 k) = (m ((c : Thread nD τ).loc main_arg1)) (ix1 k) := by
  unfold V
  after_reads_at

theorem w_at (c : Dev nD) (r : Fin 1024) (k : Fin 3072) : V m c main_v1 (ix2 r k) = (m ((c : Thread nD τ).loc main_arg2)) (ix2 r ⟨k.val, by omega⟩) := by
  unfold V
  after_reads_at

theorem wf_at (c : Dev nD) (r : Fin 1024) (k : Fin 128) : V m c main_v6 (ix2 r k) = (m ((c : Thread nD τ).loc main_arg2)) (ix2 r ⟨3072 + k.val % 16, by omega⟩) := by
  unfold V
  after_reads_at

theorem bf_at (c : Dev nD) (k : Fin 128) : V m c main_v10 (ix2 0 k) = (m ((c : Thread nD τ).loc main_arg3)) (ix1 ⟨k.val % 16, by omega⟩) := by
  unfold V
  after_reads_at

theorem bd_at (c : Dev nD) (i j : Fin 256) : V m c main_v30 (ix2 i j) = Heads.avg i j := by
  unfold V
  after_reads_at
  exact Heads.avg_built i j

theorem qn_at (c : Dev nD) (k : Fin 256) : V m c main_v14 (ix2 0 k) = (m ((c : Thread nD τ).loc main_arg4)) (ix1 ⟨k.val % 64, by omega⟩) := by
  unfold V
  after_reads_at

theorem kn_at (c : Dev nD) (k : Fin 256) : V m c main_v18 (ix2 0 k) = (m ((c : Thread nD τ).loc main_arg5)) (ix1 ⟨k.val % 64, by omega⟩) := by
  unfold V
  after_reads_at

theorem blk0 (c : Dev nD) (t : Fin cfg0.N) (r : Fin 688) (k : Fin 1024) : iblk m c 0 t (ix2 r k) = src (m ((c : Thread nD τ).loc main_arg0)) (dst t r) k := by
  unfold src
  rw [← V_main_arg0 m c]
  blk_ext [iblk, idx0 t, dst]

theorem blk1 (c : Dev nD) (t : Fin cfg0.N) (k : Fin 1024) : iblk m c 1 t (ix2 0 k) = (m ((c : Thread nD τ).loc main_arg1)) (ix1 k) := by
  rw [← norm_at m c]
  blk_ext [iblk, idx1 t]

theorem blk2 (c : Dev nD) (t : Fin cfg0.N) (r : Fin 1024) (k : Fin 3072) : iblk m c 2 t (ix2 r k) = (m ((c : Thread nD τ).loc main_arg2)) (ix2 r ⟨k.val, by omega⟩) := by
  rw [← w_at m c]
  blk_ext [iblk, idx2 t]

theorem blk3 (c : Dev nD) (t : Fin cfg0.N) (r : Fin 1024) (k : Fin 128) : iblk m c 3 t (ix2 r k) = (m ((c : Thread nD τ).loc main_arg2)) (ix2 r ⟨3072 + k.val % 16, by omega⟩) := by
  rw [← wf_at m c]
  blk_ext [iblk, idx3 t]

theorem blk4 (c : Dev nD) (t : Fin cfg0.N) (k : Fin 128) : iblk m c 4 t (ix2 0 k) = (m ((c : Thread nD τ).loc main_arg3)) (ix1 ⟨k.val % 16, by omega⟩) := by
  rw [← bf_at m c]
  blk_ext [iblk, idx4 t]

theorem blk5 (c : Dev nD) (t : Fin cfg0.N) (i j : Fin 256) : iblk m c 5 t (ix2 i j) = Heads.avg i j := by
  rw [← bd_at m c]
  blk_ext [iblk, idx5 t]

theorem blk6 (c : Dev nD) (t : Fin cfg0.N) (k : Fin 256) : iblk m c 6 t (ix2 0 k) = (m ((c : Thread nD τ).loc main_arg4)) (ix1 ⟨k.val % 64, by omega⟩) := by
  rw [← qn_at m c]
  blk_ext [iblk, idx6 t]

theorem blk7 (c : Dev nD) (t : Fin cfg0.N) (k : Fin 256) : iblk m c 7 t (ix2 0 k) = (m ((c : Thread nD τ).loc main_arg5)) (ix1 ⟨k.val % 64, by omega⟩) := by
  rw [← kn_at m c]
  blk_ext [iblk, idx7 t]

/-! ## The arrays -/

/-- The normalised row `r` of the stream. -/
def row (x : Vec Ideal S33024x1024 .f32) (g : Vec Ideal S1024 .f32) (r : Fin 33024) (k : Fin 1024) : EReal :=
  Mlp.hidden (src x r) (fun j => g (ix1 j)) k

theorem hid_at (c : Dev nD) (t : Fin cfg0.N) (r : Fin 688) :
    hid (iblk m c 0 t) (iblk m c 1 t) r = row (m ((c : Thread nD τ).loc main_arg0)) (m ((c : Thread nD τ).loc main_arg1)) (dst t r) := by
  funext k
  unfold hid row
  simp only [blk0, blk1]

theorem col_at (c : Dev nD) (t : Fin cfg0.N) (o : ℕ) (ho : o + 1024 ≤ 3072) (r : Fin 688) :
    col (iblk m c 0 t) (iblk m c 1 t) (iblk m c 2 t) o ho r
      = ProjC.cols (row (m ((c : Thread nD τ).loc main_arg0)) (m ((c : Thread nD τ).loc main_arg1)) (dst t r)) (fun k j => (m ((c : Thread nD τ).loc main_arg2)) (ix2 k j)) o (by omega) := by
  funext l
  unfold col ProjC.cols ProjC.proj
  simp only [blk2, hid_at]

/-- The four results as functions of the arguments, row by row. -/
def qAt (x : Vec Ideal S33024x1024 .f32) (g : Vec Ideal S1024 .f32) (w : Vec Ideal S1024x3088 .f32) (qn : Vec Ideal S64 .f32)
    (r : Fin 33024) (l : Fin 1024) : EReal :=
  ProjC.qOf (row x g r) (fun k j => w (ix2 k j)) (fun d => qn (ix1 d)) l

def kAt (x : Vec Ideal S33024x1024 .f32) (g : Vec Ideal S1024 .f32) (w : Vec Ideal S1024x3088 .f32) (kn : Vec Ideal S64 .f32)
    (r : Fin 33024) (l : Fin 1024) : EReal :=
  ProjC.kOf (row x g r) (fun k j => w (ix2 k j)) (fun d => kn (ix1 d)) l

def vAt (x : Vec Ideal S33024x1024 .f32) (g : Vec Ideal S1024 .f32) (w : Vec Ideal S1024x3088 .f32) (r : Fin 33024) (l : Fin 1024) : EReal :=
  ProjC.vOf (row x g r) (fun k j => w (ix2 k j)) l

def lfAt (x : Vec Ideal S33024x1024 .f32) (g : Vec Ideal S1024 .f32) (w : Vec Ideal S1024x3088 .f32) (b : Vec Ideal S16 .f32)
    (r : Fin 33024) (l : Fin 128) : EReal :=
  ProjC.lfOf (row x g r) (fun k j => w (ix2 k j)) (fun h => b (ix1 h)) l

theorem final_q (c : Dev nD) : (dats m 0 c).arrAt 8 cfg0.N = fun i : S33024x1024.Idx =>
    qAt (m ((c : Thread nD τ).loc main_arg0)) (m ((c : Thread nD τ).loc main_arg1)) (m ((c : Thread nD τ).loc main_arg2)) (m ((c : Thread nD τ).loc main_arg4)) (i 0) (i 1) := by
  refine (dats m 0 c).arrAt_eq_of_covers 8 _ (by decide +kernel) fun t hf y => ?_
  blk_simp
  rw [after0_8]
  obtain ⟨r, l, rfl⟩ : ∃ (a : Fin 688) (b : Fin 1024), y = ix2 a b := ⟨y 0, y 1, eq_ix2 y⟩
  have e : (win0_8.blk t).view.emb (ix2 r l) = ix2 (dst t r) l := by
    blk_ext [idx8 t, dst]
  refine (q_at _ _ _ _ _ _ _ _ (fun d => (m ((c : Thread nD τ).loc main_arg4)) (ix1 d)) (fun i j => blk5 m c t i j) (fun j => blk6 m c t j) r l).trans ?_
  rw [e, col_at]
  rfl

theorem final_k (c : Dev nD) : (dats m 0 c).arrAt 9 cfg0.N = fun i : S33024x1024.Idx =>
    kAt (m ((c : Thread nD τ).loc main_arg0)) (m ((c : Thread nD τ).loc main_arg1)) (m ((c : Thread nD τ).loc main_arg2)) (m ((c : Thread nD τ).loc main_arg5)) (i 0) (i 1) := by
  refine (dats m 0 c).arrAt_eq_of_covers 9 _ (by decide +kernel) fun t hf y => ?_
  blk_simp
  rw [after0_9]
  obtain ⟨r, l, rfl⟩ : ∃ (a : Fin 688) (b : Fin 1024), y = ix2 a b := ⟨y 0, y 1, eq_ix2 y⟩
  have e : (win0_9.blk t).view.emb (ix2 r l) = ix2 (dst t r) l := by
    blk_ext [idx9 t, dst]
  refine (k_at _ _ _ _ _ _ _ _ (fun d => (m ((c : Thread nD τ).loc main_arg5)) (ix1 d)) (fun i j => blk5 m c t i j) (fun j => blk7 m c t j) r l).trans ?_
  rw [e, col_at]
  rfl

theorem final_v (c : Dev nD) : (dats m 0 c).arrAt 10 cfg0.N = fun i : S33024x1024.Idx =>
    vAt (m ((c : Thread nD τ).loc main_arg0)) (m ((c : Thread nD τ).loc main_arg1)) (m ((c : Thread nD τ).loc main_arg2)) (i 0) (i 1) := by
  refine (dats m 0 c).arrAt_eq_of_covers 10 _ (by decide +kernel) fun t hf y => ?_
  blk_simp
  rw [after0_10]
  obtain ⟨r, l, rfl⟩ : ∃ (a : Fin 688) (b : Fin 1024), y = ix2 a b := ⟨y 0, y 1, eq_ix2 y⟩
  have e : (win0_10.blk t).view.emb (ix2 r l) = ix2 (dst t r) l := by
    blk_ext [idx10 t, dst]
  refine (v_at _ _ _ _ _ _ _ _ r l).trans ?_
  rw [e, col_at]
  rfl

theorem final_lf (c : Dev nD) : (dats m 0 c).arrAt 11 cfg0.N = fun i : S33024x128.Idx =>
    lfAt (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 11 _ (by decide +kernel) fun t hf y => ?_
  blk_simp
  rw [after0_11]
  obtain ⟨r, l, rfl⟩ : ∃ (a : Fin 688) (b : Fin 128), y = ix2 a b := ⟨y 0, y 1, eq_ix2 y⟩
  have e : (win0_11.blk t).view.emb (ix2 r l) = ix2 (dst t r) l := by
    blk_ext [idx11 t, dst]
  refine (lf_at _ _ _ _ _ _ _ _ r l).trans ?_
  rw [e]
  show _ = lfAt _ _ _ _ (dst t r) l
  unfold lfAt ProjC.lfOf ProjC.proj
  simp only [blk3, blk4, hid_at]

variable (ρ : Dev nD → PrngReg)

/-- The run, read: the four result arrays at those functions of the arguments, the arguments unchanged. -/
theorem run : θ_run defs (onTc (τ := τ) (main (F := Ideal))) ⟨m, fun _ => 0, ρ⟩ fun r => ∀ c : Dev nD,
      r.2.mem ((c : Thread nD τ).loc main_v31_0) = (fun j : S33024x1024.Idx => qAt (m ((c : Thread nD τ).loc main_arg0)) (m ((c : Thread nD τ).loc main_arg1)) (m ((c : Thread nD τ).loc main_arg2)) (m ((c : Thread nD τ).loc main_arg4)) (j 0) (j 1))
      ∧ r.2.mem ((c : Thread nD τ).loc main_v31_1) = (fun j : S33024x1024.Idx => kAt (m ((c : Thread nD τ).loc main_arg0)) (m ((c : Thread nD τ).loc main_arg1)) (m ((c : Thread nD τ).loc main_arg2)) (m ((c : Thread nD τ).loc main_arg5)) (j 0) (j 1))
      ∧ r.2.mem ((c : Thread nD τ).loc main_v31_2) = (fun j : S33024x1024.Idx => vAt (m ((c : Thread nD τ).loc main_arg0)) (m ((c : Thread nD τ).loc main_arg1)) (m ((c : Thread nD τ).loc main_arg2)) (j 0) (j 1))
      ∧ r.2.mem ((c : Thread nD τ).loc main_v31_3) = (fun j : S33024x128.Idx => lfAt (m ((c : Thread nD τ).loc main_arg0)) (m ((c : Thread nD τ).loc main_arg1)) (m ((c : Thread nD τ).loc main_arg2)) (m ((c : Thread nD τ).loc main_arg3)) (j 0) (j 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_q m c), (h c).2.1.trans (final_k m c), (h c).2.2.1.trans (final_v m c),
    (h c).2.2.2.1.trans (final_lf m c), (h c).2.2.2.2⟩) (Value.run_blocks m ρ)

end Cert.ProjCPrompt

end
-- ==== Proof.ProjCReference.lean ====
/-
  The odd layers' q/k/v projection on the prompt as the reference states it, read row by row: the same functions of the
  arguments.
-/
module

public import proofs.«01_k».proof.Proof.Gen.Reference5Ideal.Read
public import proofs.«01_k».proof.Proof.ProjCKernel

@[expose] public section

set_option maxRecDepth 16384

noncomputable section

namespace Cert.ProjCRef

open Idealize.ShloMosaic Idealize.ShloMosaic.TcCoe Cert.Reference5Ideal Cert.Reference5Ideal.Read

variable (x0 : (⟨S33024x1024, .f32⟩ : BufTy).Contents (Elt Ideal)) (x1 : (⟨S1024, .f32⟩ : BufTy).Contents (Elt Ideal))
  (x2 : (⟨S1024x3088, .f32⟩ : BufTy).Contents (Elt Ideal)) (x3 : (⟨S16, .f32⟩ : BufTy).Contents (Elt Ideal))
  (x4 x5 : (⟨S64, .f32⟩ : BufTy).Contents (Elt Ideal))

/-- The array row of batch entry `b`, position `s`. -/
def at_ (b : Fin 16) (s : Fin 2064) : Fin 33024 := ⟨b.val * 2064 + s.val, by omega⟩

theorem at_split (r : Fin 33024) : at_ ⟨r.val / 2064, by omega⟩ ⟨r.val % 2064, by omega⟩ = r :=
  Fin.ext (by show r.val / 2064 * 2064 + r.val % 2064 = r.val; omega)

theorem src_at (b : Fin 16) (s : Fin 2064) (k : Fin 1024) : ProjCPrompt.src x0 (at_ b s) k = x0 (ix2 (at_ b s) k) := by
  rfl

theorem hid_at (b : Fin 16) (s : Fin 2064) (k : Fin 1024) : val_main_v13 (F := Ideal) x0 x1 (ix3 b s k) = ProjCPrompt.row x0 x1 (at_ b s) k := by
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  unfold ProjCPrompt.row Mlp.hidden
  simp only [src_at]
  try rfl

theorem proj_at (b : Fin 16) (s : Fin 2064) (l : Fin 3088) : val_main_v14 (F := Ideal) x0 x1 x2 (ix3 b s l) = ProjC.proj (ProjCPrompt.row x0 x1 (at_ b s)) (fun k j => x2 (ix2 k j)) l := by
  pointwise [val_main_v14]
  simp only [hid_at]
  rfl

theorem q_at (b : Fin 16) (s : Fin 2064) (h : Fin 16) (l : Fin 64) : val_main_v32 (F := Ideal) x0 x1 x2 x4 (ix4 b s h l)
    = Heads.norm (fun d => ProjC.cols (ProjCPrompt.row x0 x1 (at_ b s)) (fun k j => x2 (ix2 k j)) 0 (by omega) ⟨h.val * 64 + d.val, by omega⟩) (fun d => x4 (ix1 d)) l := by
  pointwise [val_main_v32, val_main_v31, val_main_v30, val_main_v29, val_main_v28, val_main_v27, val_main_v26, val_main_v25, val_main_cst_4, val_main_v24, val_main_v23, val_main_cst_3, val_main_v22, val_main_v21, val_main_cst_2, val_main_v20, val_main_v19, val_main_v15]
  simp only [proj_at]
  unfold Heads.norm ProjC.cols
  simp only [Nat.zero_add]

theorem k_at (b : Fin 16) (s : Fin 2064) (h : Fin 16) (l : Fin 64) : val_main_v46 (F := Ideal) x0 x1 x2 x5 (ix4 b s h l)
    = Heads.norm (fun d => ProjC.cols (ProjCPrompt.row x0 x1 (at_ b s)) (fun k j => x2 (ix2 k j)) 1024 (by omega) ⟨h.val * 64 + d.val, by omega⟩) (fun d => x5 (ix1 d)) l := by
  pointwise [val_main_v46, val_main_v45, val_main_v44, val_main_v43, val_main_v42, val_main_v41, val_main_v40, val_main_v39, val_main_cst_7, val_main_v38, val_main_v37, val_main_cst_6, val_main_v36, val_main_v35, val_main_cst_5, val_main_v34, val_main_v33, val_main_v16]
  simp only [proj_at]
  unfold Heads.norm ProjC.cols
  rfl

theorem lf_at (b : Fin 16) (s : Fin 2064) (h : Fin 16) : val_main_v51 (F := Ideal) x0 x1 x2 x3 (ix3 b s h)
    = ProjC.logSig (ProjC.proj (ProjCPrompt.row x0 x1 (at_ b s)) (fun k j => x2 (ix2 k j)) ⟨3072 + h.val, by omega⟩ + x3 (ix1 h)) := by
  pointwise [val_main_v51, val_main_call0_v1, val_main_call0_call0_v11, val_main_call0_call0_v10, val_main_call0_call0_v9, val_main_call0_call0_v8,
    val_main_call0_call0_v7, val_main_call0_call0_v6, val_main_call0_call0_v5, val_main_call0_call0_v4, val_main_call0_call0_v3,
    val_main_call0_call0_v2, val_main_call0_call0_v1, val_main_call0_call0_v0, val_main_call0_call0_cst, val_main_call0_v0, val_main_v50, val_main_v49, val_main_v48, val_main_v18]
  simp only [proj_at]
  generalize ProjC.proj _ _ _ + _ = z
  refine Eq.trans ?_ (ProjC.logSig_eq z)
  simp

/-- The four result arrays, row by row. -/
theorem q_row (r : Fin 33024) (l : Fin 1024) : val_main_v55 (F := Ideal) x0 x1 x2 x4 (ix2 r l) = ProjCPrompt.qAt x0 x1 x2 x4 r l := by
  pointwise [val_main_v55, val_main_v54, val_main_v53, val_main_cst_8, val_main_v52]
  simp only [q_at, at_split]
  rfl

theorem k_row (r : Fin 33024) (l : Fin 1024) : val_main_v56 (F := Ideal) x0 x1 x2 x5 (ix2 r l) = ProjCPrompt.kAt x0 x1 x2 x5 r l := by
  pointwise [val_main_v56]
  simp only [k_at, at_split]
  rfl

theorem v_row (r : Fin 33024) (l : Fin 1024) : val_main_v57 (F := Ideal) x0 x1 x2 (ix2 r l) = ProjCPrompt.vAt x0 x1 x2 r l := by
  pointwise [val_main_v57, val_main_v47, val_main_v17]
  simp only [proj_at, at_split]
  unfold ProjCPrompt.vAt ProjC.vOf ProjC.cols
  congr 1

theorem lf_row (r : Fin 33024) (l : Fin 128) : val_main_v61 (F := Ideal) x0 x1 x2 x3 (ix2 r l) = ProjCPrompt.lfAt x0 x1 x2 x3 r l := by
  pointwise [val_main_v61, val_main_v60, val_main_v59, val_main_v58]
  simp only [lf_at, at_split]
  rfl

theorem q_eq : val_main_v55 (F := Ideal) x0 x1 x2 x4 = fun j : S33024x1024.Idx => ProjCPrompt.qAt x0 x1 x2 x4 (j 0) (j 1) := by
  funext j
  obtain ⟨r, l, rfl⟩ : ∃ (a : Fin 33024) (b : Fin 1024), j = ix2 a b := ⟨j 0, j 1, eq_ix2 j⟩
  exact q_row x0 x1 x2 x4 r l

theorem k_eq : val_main_v56 (F := Ideal) x0 x1 x2 x5 = fun j : S33024x1024.Idx => ProjCPrompt.kAt x0 x1 x2 x5 (j 0) (j 1) := by
  funext j
  obtain ⟨r, l, rfl⟩ : ∃ (a : Fin 33024) (b : Fin 1024), j = ix2 a b := ⟨j 0, j 1, eq_ix2 j⟩
  exact k_row x0 x1 x2 x5 r l

theorem v_eq : val_main_v57 (F := Ideal) x0 x1 x2 = fun j : S33024x1024.Idx => ProjCPrompt.vAt x0 x1 x2 (j 0) (j 1) := by
  funext j
  obtain ⟨r, l, rfl⟩ : ∃ (a : Fin 33024) (b : Fin 1024), j = ix2 a b := ⟨j 0, j 1, eq_ix2 j⟩
  exact v_row x0 x1 x2 r l

theorem lf_eq : val_main_v61 (F := Ideal) x0 x1 x2 x3 = fun j : S33024x128.Idx => ProjCPrompt.lfAt x0 x1 x2 x3 (j 0) (j 1) := by
  funext j
  obtain ⟨r, l, rfl⟩ : ∃ (a : Fin 33024) (b : Fin 128), j = ix2 a b := ⟨j 0, j 1, eq_ix2 j⟩
  exact lf_row x0 x1 x2 x3 r l

end Cert.ProjCRef

end
-- ==== Proof.ProjCClaims.lean ====
/-
  The claims about the odd layers' q/k/v projection call on the prompt.
-/
module

public import proofs.«01_k».proof.Defs
public import proofs.«01_k».proof.Proof.Gen.Kernel5.Frame
public import proofs.«01_k».proof.Proof.ProjCKernel
public import proofs.«01_k».proof.Proof.ProjCReference
public import Idealize.ShloMosaic.Lib.Quiescent

@[expose] public section

noncomputable section

namespace Cert.ProjCClaims

open Idealize.ShloMosaic Idealize.ShloMosaic.TcCoe Idealize.SL.Sem

theorem frame_k : Cert.quiescent_Kernel5 := fun m ρ _ => Cert.Kernel5.Gen.frame m ρ
theorem frame_ki : Cert.quiescent_Kernel5Ideal := fun m ρ _ => Cert.Kernel5Ideal.Gen.frame m ρ

/-- The reference is host code: its run read at the arguments, and it declares no semaphore. -/
theorem frame_ri : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- Both programs' result arrays are the same functions of the arguments. -/
theorem algebraic : Cert.algebraic_Kernel5Ideal_Reference5Ideal := by
  intro m ρ m' ρ' _ hagree
  refine ⟨_, _, _, _, Cert.ProjCPrompt.run m ρ, ?_⟩
  refine (θ_run Cert.Reference5Ideal.defs _ _).mono (fun _ h c => ⟨(h c).1.trans ((Cert.Reference5Ideal.Read.val_main_v55_eq m' c).trans ?_), (h c).2.1.trans ((Cert.Reference5Ideal.Read.val_main_v56_eq m' c).trans ?_),
    (h c).2.2.1.trans ((Cert.Reference5Ideal.Read.val_main_v57_eq _ _ _).trans ?_), (h c).2.2.2.1.trans ((Cert.Reference5Ideal.Read.val_main_v61_eq m' c).trans ?_), (h c).2.2.2.2⟩)
    (Cert.Reference5Ideal.Value.run (F := Ideal) m' ρ')
  · rw [Cert.ProjCRef.q_eq, (hagree c).1, (hagree c).2.1, (hagree c).2.2.1, (hagree c).2.2.2.2.1]
  · rw [Cert.ProjCRef.k_eq, (hagree c).1, (hagree c).2.1, (hagree c).2.2.1, (hagree c).2.2.2.2.2]
  · rw [Cert.ProjCRef.v_eq, (hagree c).1, (hagree c).2.1, (hagree c).2.2.1]
  · rw [Cert.ProjCRef.lf_eq, (hagree c).1, (hagree c).2.1, (hagree c).2.2.1, (hagree c).2.2.2.1]

end Cert.ProjCClaims

end
-- ==== Proof.ProjAb.lean ====
/-
  The mathematics of the even layers' projection call: columns of a projection of the normalised row, per-head norms of
  some of them, the rotary embedding in the kernel's spelling and in the reference's, and the gate of the linear attention.
-/
module

public import proofs.«01_k».proof.Proof.ProjC

@[expose] public section

noncomputable section

namespace Cert.ProjAb

open Idealize.ShloMosaic

/-- Column `j` of a row's projection; past the last column, nothing. -/
def col (h : Fin 1024 → EReal) (w : Fin 1024 → Fin 2320 → EReal) (j : ℕ) : EReal :=
  if hj : j < 2320 then ∑ k, h k * w k ⟨j, hj⟩ else 0

/-- A projection by the weights padded with zero columns. -/
theorem padded (h : Fin 1024 → EReal) (w : Fin 1024 → Fin 2320 → EReal) (z : Fin 1024 → EReal) (j : ℕ)
    (hz : ∀ k, z k = if hj : j < 2320 then w k ⟨j, hj⟩ else 0) : ∑ k, h k * z k = col h w j := by
  unfold col
  by_cases hj : j < 2320
  · simp only [hz, dif_pos hj]
  · simp only [hz, dif_neg hj, mul_zero, Finset.sum_const_zero]

/-- Column `j` of heads of 64 columns, normalised head by head. -/
def headed (y : ℕ → EReal) (g : Fin 64 → EReal) (j : ℕ) : EReal :=
  Heads.norm (fun d => y (j / 64 * 64 + d.val)) g ⟨j % 64, Nat.mod_lt _ (by norm_num)⟩

/-- The kernel's treatment of the 256 columns from `o` on is the per-head norm there. -/
theorem group_eq (z : Fin 256 → EReal) (y : ℕ → EReal) (g : Fin 64 → EReal) (o : ℕ) (ho : o % 64 = 0)
    (hz : ∀ k : Fin 256, z k = y (o + k.val)) (k : Fin 256) (c : ℕ) (hc : c = o + k.val) (gc : EReal)
    (hg : gc = g ⟨c % 64, Nat.mod_lt _ (by norm_num)⟩) :
    z k * Ideal.rsqrt (∑ j : Fin 256, z j * z j * Heads.avg j k + Ideal.ofBits FTy.f32 897988541#32) * gc = headed y g c := by
  have e : (⟨c % 64, Nat.mod_lt _ (by norm_num)⟩ : Fin 64) = ⟨k.val % 64, by omega⟩ := Fin.ext (by show c % 64 = k.val % 64; omega)
  rw [hg]
  unfold headed
  rw [e]
  refine (Heads.norm_eq z g k).trans ?_
  congr 1
  funext d
  rw [hz]
  exact congrArg y (by show o + (k.val / 64 * 64 + d.val) = c / 64 * 64 + d.val; omega)

/-- The same of 128 columns with a corner of the averaging matrix. -/
theorem half_eq (z : Fin 128 → EReal) (y : ℕ → EReal) (g : Fin 64 → EReal)
    (hz : ∀ k : Fin 128, z k = y k.val) (k : Fin 128) (gc : EReal) (hg : gc = g ⟨k.val % 64, by omega⟩) :
    z k * Ideal.rsqrt (∑ j : Fin 128, z j * z j * Heads.avg ⟨j.val, by omega⟩ ⟨k.val, by omega⟩ + Ideal.ofBits FTy.f32 897988541#32) * gc
      = headed y g k.val := by
  have h := group_eq (fun j => if h : j.val < 128 then z ⟨j.val, h⟩ else 0) (fun n => if n < 128 then y n else 0) g 0 rfl
    (fun j => by
      show (if h : j.val < 128 then z ⟨j.val, h⟩ else 0) = if 0 + j.val < 128 then y (0 + j.val) else 0
      rw [Nat.zero_add]
      by_cases h : j.val < 128
      · rw [dif_pos h, if_pos h, hz]
      · rw [dif_neg h, if_neg h])
    ⟨k.val, by omega⟩ k.val (Nat.zero_add _).symm gc hg
  have hs : ∑ j : Fin 256, (if h : j.val < 128 then z ⟨j.val, h⟩ else 0) * (if h : j.val < 128 then z ⟨j.val, h⟩ else 0) * Heads.avg j ⟨k.val, by omega⟩
      = ∑ j : Fin 128, z j * z j * Heads.avg ⟨j.val, by omega⟩ ⟨k.val, by omega⟩ := by
    rw [Fin.sum_univ_add (a := 128) (b := 128) (fun j : Fin (128 + 128) => (if h : j.val < 128 then z ⟨j.val, h⟩ else 0) * (if h : j.val < 128 then z ⟨j.val, h⟩ else 0) * Heads.avg j ⟨k.val, by omega⟩)]
    have hl : ∀ j : Fin 128, (Fin.castAdd 128 j).val < 128 := fun j => j.isLt
    have hr : ∀ j : Fin 128, ¬ (Fin.natAdd 128 j).val < 128 := fun j => by show ¬ 128 + j.val < 128; omega
    simp only [dif_pos (hl _), dif_neg (hr _), zero_mul, Finset.sum_const_zero, add_zero]
    rfl
  rw [hs] at h
  simp only [dif_pos k.isLt] at h
  refine h.trans ?_
  unfold headed
  congr 1
  funext d
  exact if_pos (by show k.val / 64 * 64 + d.val < 128; omega)

/-- The rotary angle of position `s` and pair `i`. -/
def angle (s i : ℕ) : EReal :=
  FloatOps.sitofp (F := Ideal) FTy.f32 (BitVec.ofNat 32 s) * Ideal.pow (Ideal.ofBits FTy.f32 1176256512#32)
    (Ideal.div (-FloatOps.sitofp (F := Ideal) FTy.f32 (BitVec.ofNat 32 i)) (Ideal.ofBits FTy.f32 1107296256#32))

/-- The rotary embedding of one head at position `s`. -/
def rope (y : Fin 64 → EReal) (s : ℕ) (l : Fin 64) : EReal :=
  if h : l.val < 32 then
    y l * Ideal.cos (angle s l.val) - y ⟨32 + l.val, by omega⟩ * Ideal.sin (angle s l.val)
  else
    y ⟨32 + (l.val - 32), by omega⟩ * Ideal.cos (angle s (l.val - 32)) + y ⟨l.val - 32, by omega⟩ * Ideal.sin (angle s (l.val - 32))

/-- The cosine table's lane `j` at position `s`. -/
def cosT (s j : ℕ) : EReal := if j % 64 < 32 then Ideal.cos (angle s (j % 64)) else Ideal.cos (angle s (j % 64 - 32))

/-- The signed sine table's lane `j` at position `s`. -/
def sinT (s j : ℕ) : EReal := if j % 64 < 32 then -Ideal.sin (angle s (j % 64)) else Ideal.sin (angle s (j % 64 - 32))

theorem cosT_congr (s : ℕ) {a b : ℕ} (h : a % 64 = b % 64) : cosT s a = cosT s b := by
  unfold cosT
  rw [h]

theorem sinT_congr (s : ℕ) {a b : ℕ} (h : a % 64 = b % 64) : sinT s a = sinT s b := by
  unfold sinT
  rw [h]

/-- The lane test of the kernel: whether a lane lies in the first half of its head. -/
theorem lane_half : ∀ l : Fin 512, IntOp.cmpi CmpIPredicate.slt
            (Scalar.select
              (IntOp.andi
                (IntOp.xori
                  (IntOp.cmpi CmpIPredicate.slt
                    (IntOp.remsi ArithUnit.vector (BitVec.ofNat 32 l.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 l.val)
                    (Scalar.select (Scalar.cmpi CmpIPredicate.eq 64#32 0#32) 1#32 64#32))
                  0#32))
              (IntOp.addi
                (IntOp.remsi ArithUnit.vector (BitVec.ofNat 32 l.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 l.val)
                (Scalar.select (Scalar.cmpi CmpIPredicate.eq 64#32 0#32) 1#32 64#32)))
            32#32 = BitVec.ofBool (decide (l.val % 64 < 32)) := by
  decide +kernel

/-- The kernel's spelling of the rotary embedding: lane `l` times its cosine, plus the lane half a head further on times
    the signed sine. -/
theorem rope_built (y : Fin 64 → EReal) (s l : ℕ) (t : BitVec 1) (ht : t = BitVec.ofBool (decide (l % 64 < 32))) (a b c C S : EReal)
    (ha : a = y ⟨l % 64, Nat.mod_lt _ (by norm_num)⟩)
    (hb : ∀ h : l % 64 < 32, b = y ⟨32 + l % 64, by omega⟩)
    (hc : ∀ h : ¬ l % 64 < 32, c = y ⟨l % 64 - 32, by omega⟩)
    (hC : C = cosT s l) (hS : S = sinT s l) :
    a * C + Scalar.select t b c * S = rope y s ⟨l % 64, Nat.mod_lt _ (by norm_num)⟩ := by
  subst ht hC hS
  unfold rope cosT sinT
  by_cases h : l % 64 < 32
  · rw [if_pos h, if_pos h, dif_pos (show (⟨l % 64, Nat.mod_lt _ (by norm_num)⟩ : Fin 64).val < 32 from h), decide_eq_true h]
    show a * _ + b * _ = _
    rw [ha, hb h, mul_neg]
    rfl
  · rw [if_neg h, if_neg h, dif_neg (show ¬ (⟨l % 64, Nat.mod_lt _ (by norm_num)⟩ : Fin 64).val < 32 from h), decide_eq_false h]
    show a * _ + c * _ = _
    rw [ha, hc h]
    have e : (⟨32 + (l % 64 - 32), by omega⟩ : Fin 64) = ⟨l % 64, Nat.mod_lt _ (by norm_num)⟩ := Fin.ext (by show 32 + (l % 64 - 32) = l % 64; omega)
    rw [e]

/-- Column `l` of heads, normalised and rotated at position `s`. -/
def roped (y : ℕ → EReal) (g : Fin 64 → EReal) (s l : ℕ) : EReal :=
  rope (fun d => headed y g (l / 64 * 64 + d.val)) s ⟨l % 64, Nat.mod_lt _ (by norm_num)⟩

/-- A gate's sum over the rank, padded with zero rows to 128. -/
theorem padded_gate (y : Fin 128 → EReal) (v : Fin 128 → EReal) (w : Fin 16 → EReal)
    (hv : ∀ k : Fin 128, v k = if h : k.val < 16 then w ⟨k.val, h⟩ else 0) :
    ∑ k, y k * v k = ∑ k : Fin 16, y ⟨k.val, by omega⟩ * w k := by
  rw [Fin.sum_univ_add (a := 16) (b := 112) (fun j : Fin (16 + 112) => y j * v j)]
  have hl : ∀ j : Fin 16, (Fin.castAdd 112 j).val < 16 := fun j => j.isLt
  have hr : ∀ j : Fin 112, ¬ (Fin.natAdd 16 j).val < 16 := fun j => by show ¬ 16 + j.val < 16; omega
  simp only [hv, dif_pos (hl _), dif_neg (hr _), mul_zero, Finset.sum_const_zero, add_zero]
  rfl

/-- Dividing by 16 and scaling is scaling by a sixteenth of the scale. -/
theorem gate_scale (a : EReal) : Ideal.div a (Ideal.ofBits FTy.f32 1098907648#32) * Ideal.ofBits FTy.f32 1069066811#32
    = a * Ideal.ofBits FTy.f32 1035512379#32 := by
  have h1 : Ideal.ofBits FTy.f32 1098907648#32 = ((16 : ℝ) : EReal) := by
    simp [Ideal.ofBits, Ideal.ieee, -EReal.coe_mul]; norm_num
  have h2 : Ideal.ofBits FTy.f32 1069066811#32 = ((12102203 / 8388608 : ℝ) : EReal) := by
    simp [Ideal.ofBits, Ideal.ieee, -EReal.coe_mul]; norm_num
  have h3 : Ideal.ofBits FTy.f32 1035512379#32 = ((12102203 / 134217728 : ℝ) : EReal) := by
    simp [Ideal.ofBits, Ideal.ieee, -EReal.coe_mul]; norm_num
  have h0 : ((16 : ℝ) : EReal) ≠ 0 := by exact_mod_cast (by norm_num : (16 : ℝ) ≠ 0)
  rw [h1, h2, h3, Ext.div_eq_mul _ h0, mul_assoc, ← EReal.coe_inv, ← EReal.coe_mul]
  norm_num

/-- The signed zero word as a number. -/
theorem zero_word : FloatOps.sitofp (F := Ideal) FTy.f32 (0#32) = 0 := by
  show (((0#32 : BitVec 32).toInt : ℝ) : EReal) = 0
  simp

/-- The five results of a row, from its normalised row `h` and its position `s`: the rotated queries of the windowed attention, -/
def qaOf (h : Fin 1024 → EReal) (w : Fin 1024 → Fin 2320 → EReal) (g : Fin 64 → EReal) (s l : ℕ) : EReal := roped (col h w) g s l

/-- its rotated keys beside its values, -/
def kvaOf (h : Fin 1024 → EReal) (w : Fin 1024 → Fin 2320 → EReal) (g : Fin 64 → EReal) (s l : ℕ) : EReal :=
  if l < 128 then roped (fun j => col h w (512 + j)) g s l else col h w (640 + (l - 128))

/-- the linear attention's scaled queries, keys and log gates, the literals being the words of the scales; -/
def qkgOf (h : Fin 1024 → EReal) (w : Fin 1024 → Fin 2320 → EReal) (v : Fin 16 → Fin 256 → EReal) (b : Fin 256 → EReal) (l : Fin 768) : EReal :=
  if l.val < 256 then col h w (768 + l.val) * Ideal.ofBits FTy.f32 1040187392#32
  else if l.val < 512 then col h w (1024 + (l.val - 256))
  else ProjC.logSig (∑ k : Fin 16, col h w (2304 + k.val) * v k ⟨l.val - 512, by omega⟩ + b ⟨l.val - 512, by omega⟩) * Ideal.ofBits FTy.f32 1035512379#32

end Cert.ProjAb

end
-- ==== Proof.ProjAbKernel.lean ====
/-
  The even layers' projection call on the prompt: what its result arrays hold after the run. Grid point `t` works on 688
  rows, a third of a batch entry's positions, and writes those rows of the five results.
-/
module

public import proofs.«01_k».proof.Proof.Gen.Kernel6Ideal.Value
public import proofs.«01_k».proof.Proof.ProjAb
public import Idealize.ShloMosaic.Lib.Pipeline.ValueKit
public import Idealize.ShloMosaic.Lib.StableHlo.ReadAt

@[expose] public section

set_option maxRecDepth 16384

noncomputable section

namespace Cert.ProjAbPrompt

open Idealize.ShloMosaic Idealize.ShloMosaic.TcCoe Idealize.SL.Sem
open Cert.Kernel6Ideal Cert.Kernel6Ideal.Gen

/-! ## One block -/

section block

variable (x0 : Vec Ideal S688x1024 .f32) (x1 : Vec Ideal S1x1024 .f32) (x2 : Vec Ideal S1024x2432 .bf16) (x3 : Vec Ideal S256x256 .bf16)
  (x4 : Vec Ideal S1x512 .f32) (x5 : Vec Ideal S1x128 .f32) (x6 x7 : Vec Ideal S688x128 .f32) (x8 : Vec Ideal S128x256 .bf16) (x9 : Vec Ideal S1x256 .f32)

/-- The normalised row `r` of the block. -/
def hid (r : Fin 688) (k : Fin 1024) : EReal := Mlp.hidden (fun j => x0 (ix2 r j)) (fun j => x1 (ix2 0 j)) k

theorem pay1_at (r : Fin 688) (l : Fin 1024) : k0_pay1 x0 x1 (ix2 r l) = hid x0 x1 r l := by
  pointwise [k0_pay1]
  rfl

/-- The first 768 columns of the projection. -/
theorem pay2_at (v : Vec Ideal S1024x768 .bf16) (r : Fin 688) (l : Fin 768) :
    k0_pay2 x0 x1 v (ix2 r l) = ∑ k, hid x0 x1 r k * v (ix2 k l) := by
  pointwise [k0_pay2]
  simp only [pay1_at]

theorem ld0 : View.ld x0 r0_0 = x0 := by
  funext i
  obtain ⟨r, l, rfl⟩ : ∃ (a : Fin 688) (b : Fin 1024), i = ix2 a b := ⟨i 0, i 1, eq_ix2 i⟩
  pointwise []

theorem ld1 : View.ld x1 r0_1 = x1 := by
  funext i
  obtain ⟨r, l, rfl⟩ : ∃ (a : Fin 1) (b : Fin 1024), i = ix2 a b := ⟨i 0, i 1, eq_ix2 i⟩
  rw [Subsingleton.elim r 0]
  pointwise []

theorem pay21_at (r : Fin 688) (l : Fin 1024) : k0_pay21 x0 x1 x2 x3 x4 x5 x6 x7 x8 x9 (ix2 r l) = hid x0 x1 r l := by
  unfold k0_pay21
  rw [ld0, ld1]
  exact pay1_at x0 x1 r l

theorem pay23_at (r : Fin 688) (l : Fin 128) : k0_pay23 x0 x1 x2 x3 x4 x5 x6 x7 x8 x9 (ix2 r l) = x6 (ix2 r l) := by
  unfold k0_pay23
  pointwise [k0_pay3]

theorem pay24_at (r : Fin 688) (l : Fin 128) : k0_pay24 x0 x1 x2 x3 x4 x5 x6 x7 x8 x9 (ix2 r l) = x7 (ix2 r l) := by
  unfold k0_pay24
  pointwise [k0_pay4]

/-- Four copies of a table of 128 lanes, side by side. -/
theorem four_tiles (c : Fin 128 → EReal) (T : ℕ → EReal) (hc : ∀ j, c j = T j.val) (hT : ∀ a b, a % 64 = b % 64 → T a = T b) (l : Fin 512) :
    (if h : l.val < 128 then c ⟨l.val, h⟩
        else
          if h : l.val - 128 < 128 then c ⟨l.val - 128, h⟩
          else
            if h : l.val - 128 - 128 < 128 then c ⟨l.val - 128 - 128, h⟩ else c ⟨l.val - 128 - 128 - 128, by omega⟩) = T l.val := by
  by_cases h1 : l.val < 128
  · rw [dif_pos h1]; exact hc _
  rw [dif_neg h1]
  by_cases h2 : l.val - 128 < 128
  · rw [dif_pos h2]; exact (hc _).trans (hT _ _ (by show (l.val - 128) % 64 = l.val % 64; omega))
  rw [dif_neg h2]
  by_cases h3 : l.val - 128 - 128 < 128
  · rw [dif_pos h3]; exact (hc _).trans (hT _ _ (by show (l.val - 128 - 128) % 64 = l.val % 64; omega))
  rw [dif_neg h3]; exact (hc _).trans (hT _ _ (by show (l.val - 128 - 128 - 128) % 64 = l.val % 64; omega))

/-- The rotation of the 512 query columns, from the columns, their reciprocal norms and the gain. -/
theorem pay7_at (c s : FVec Ideal S688x128 .f32) (y z : FVec Ideal S688x512 .f32) (g : Vec Ideal S1x512 .f32) (p : ℕ) (N : ℕ → EReal)
    (r : Fin 688) (hN : ∀ j : Fin 512, y (ix2 r j) * z (ix2 r j) * g (ix2 0 j) = N j.val)
    (hc : ∀ j : Fin 128, c (ix2 r j) = ProjAb.cosT p j.val) (hs : ∀ j : Fin 128, s (ix2 r j) = ProjAb.sinT p j.val) (l : Fin 512) :
    k0_pay7 c s y z g (ix2 r l)
      = ProjAb.rope (fun d => N (l.val / 64 * 64 + d.val)) p ⟨l.val % 64, Nat.mod_lt _ (by norm_num)⟩ := by
  pointwise [k0_pay7]
  refine ProjAb.rope_built (fun d => N (l.val / 64 * 64 + d.val)) p l.val _ (ProjAb.lane_half l) _ _ _ _ _ ?_ (fun h => ?_) (fun h => ?_) ?_ ?_
  · refine (hN l).trans (congrArg N ?_)
    show l.val = l.val / 64 * 64 + l.val % 64
    omega
  · refine (hN _).trans (congrArg N ?_)
    show (l.val + 512 - 480) % 512 = l.val / 64 * 64 + (32 + l.val % 64)
    omega
  · refine (hN _).trans (congrArg N ?_)
    show (l.val + 512 - 32) % 512 = l.val / 64 * 64 + (l.val % 64 - 32)
    omega
  · exact four_tiles (fun j => c (ix2 r j)) (ProjAb.cosT p) hc (fun a b h => ProjAb.cosT_congr p h) l
  · exact four_tiles (fun j => s (ix2 r j)) (ProjAb.sinT p) hs (fun a b h => ProjAb.sinT_congr p h) l

/-- The rotation of the 128 key columns. -/
theorem pay10_at (c s y z : FVec Ideal S688x128 .f32) (g : Vec Ideal S1x128 .f32) (p : ℕ) (N : ℕ → EReal)
    (r : Fin 688) (hN : ∀ j : Fin 128, y (ix2 r j) * Ideal.rsqrt (z (ix2 r j)) * g (ix2 0 j) = N j.val)
    (hc : ∀ j : Fin 128, c (ix2 r j) = ProjAb.cosT p j.val) (hs : ∀ j : Fin 128, s (ix2 r j) = ProjAb.sinT p j.val) (l : Fin 128) :
    k0_pay10 c s y z g (ix2 r l)
      = ProjAb.rope (fun d => N (l.val / 64 * 64 + d.val)) p ⟨l.val % 64, Nat.mod_lt _ (by norm_num)⟩ := by
  pointwise [k0_pay10]
  refine ProjAb.rope_built (fun d => N (l.val / 64 * 64 + d.val)) p l.val _ (ProjAb.lane_half ⟨l.val, by omega⟩) _ _ _ _ _ ?_ (fun h => ?_) (fun h => ?_) (hc l) (hs l)
  · refine (hN l).trans (congrArg N ?_)
    show l.val = l.val / 64 * 64 + l.val % 64
    omega
  · refine (hN _).trans (congrArg N ?_)
    show (l.val + 128 - 96) % 128 = l.val / 64 * 64 + (32 + l.val % 64)
    omega
  · refine (hN _).trans (congrArg N ?_)
    show (l.val + 128 - 32) % 128 = l.val / 64 * 64 + (l.val % 64 - 32)
    omega

/-- The query columns' norm, head by head. -/
theorem qnorm_at (v : Vec Ideal S1024x768 .bf16) (Y : ℕ → EReal) (g : Fin 64 → EReal) (r : Fin 688)
    (hY : ∀ j : Fin 512, k0_pay5 x0 x1 v (ix2 r j) = Y j.val) (h3 : ∀ i j : Fin 256, x3 (ix2 i j) = Heads.avg i j)
    (h4 : ∀ j : Fin 512, x4 (ix2 0 j) = g ⟨j.val % 64, by omega⟩) (l : Fin 512) :
    k0_pay5 x0 x1 v (ix2 r l) * k0_pay6 x0 x1 v x3 x3 (ix2 r l) * x4 (ix2 0 l) = ProjAb.headed Y g l.val := by
  pointwise [k0_pay6]
  simp only [h3]
  by_cases h : l.val < 256
  · rw [dif_pos h]
    exact ProjAb.group_eq (fun j => k0_pay5 x0 x1 v (ix2 r ⟨j.val, by omega⟩)) Y g 0 rfl
      (fun j => (hY _).trans (congrArg Y (Nat.zero_add _).symm)) ⟨l.val, h⟩ l.val (Nat.zero_add _).symm _ (h4 l)
  · rw [dif_neg h]
    have e : (⟨256 + (l.val - 256), by omega⟩ : Fin 512) = l := Fin.ext (by show 256 + (l.val - 256) = l.val; omega)
    have := ProjAb.group_eq (fun j => k0_pay5 x0 x1 v (ix2 r ⟨256 + j.val, by omega⟩)) Y g 256 rfl
      (fun j => hY _) ⟨l.val - 256, by omega⟩ l.val (by show l.val = 256 + (l.val - 256); omega) _ (h4 l)
    simp only [e] at this
    exact this

/-- The key columns' norm, head by head. -/
theorem knorm_at (y : FVec Ideal S688x768 .f32) (v : Vec Ideal S128x128 .bf16) (Y : ℕ → EReal) (g : Fin 64 → EReal) (r : Fin 688)
    (hY : ∀ j : Fin 128, y (ix2 r ⟨512 + j.val, by omega⟩) = Y j.val)
    (h3 : ∀ i j : Fin 128, v (ix2 i j) = Heads.avg ⟨i.val, by omega⟩ ⟨j.val, by omega⟩)
    (h5 : ∀ j : Fin 128, x5 (ix2 0 j) = g ⟨j.val % 64, by omega⟩) (l : Fin 128) :
    k0_pay8 y (ix2 r l) * Ideal.rsqrt (k0_pay9 y v (ix2 r l)) * x5 (ix2 0 l) = ProjAb.headed Y g l.val := by
  pointwise [k0_pay9, k0_pay8]
  simp only [h3]
  exact ProjAb.half_eq (fun j => y (ix2 r ⟨512 + j.val, by omega⟩)) Y g hY l _ (h5 l)

theorem emb9 (r : Fin 688) (l : Fin 128) : r0_9.emb (ix2 r l) = ix2 r ⟨l.val, by omega⟩ := by blk_ext []
theorem emb10 (r : Fin 688) (l : Fin 128) : r0_10.emb (ix2 r l) = ix2 r ⟨128 + l.val, by omega⟩ := by blk_ext []
theorem emb12 (r : Fin 688) (l : Fin 256) : r0_12.emb (ix2 r l) = ix2 r ⟨l.val, by omega⟩ := by blk_ext []
theorem emb13 (r : Fin 688) (l : Fin 256) : r0_13.emb (ix2 r l) = ix2 r ⟨256 + l.val, by omega⟩ := by blk_ext []
theorem emb18 (r : Fin 688) (l : Fin 256) : r0_18.emb (ix2 r l) = ix2 r ⟨512 + l.val, by omega⟩ := by blk_ext []

section cols

variable (w : Fin 1024 → Fin 2320 → EReal) (h2 : ∀ (k : Fin 1024) (j : Fin 2432), x2 (ix2 k j) = if h : j.val < 2320 then w k ⟨j.val, h⟩ else 0)

include h2

theorem pay22_at (r : Fin 688) (l : Fin 768) : k0_pay22 x0 x1 x2 x3 x4 x5 x6 x7 x8 x9 (ix2 r l) = ProjAb.col (hid x0 x1 r) w l.val := by
  unfold k0_pay22
  rw [ld0, ld1]
  refine (pay2_at x0 x1 _ r l).trans (ProjAb.padded _ w (fun k => View.ld x2 r0_2 (ix2 k l)) l.val fun k => ?_)
  refine Eq.trans ?_ (h2 k ⟨l.val, by omega⟩)
  pointwise []

theorem pay5_at (r : Fin 688) (l : Fin 512) : k0_pay5 x0 x1 (View.ld x2 r0_2) (ix2 r l) = ProjAb.col (hid x0 x1 r) w l.val := by
  pointwise [k0_pay5]
  refine (pay2_at x0 x1 _ r _).trans (ProjAb.padded _ w (fun k => View.ld x2 r0_2 (ix2 k ⟨l.val, by omega⟩)) l.val fun k => ?_)
  refine Eq.trans ?_ (h2 k ⟨l.val, by omega⟩)
  pointwise []

theorem pay17_at (r : Fin 688) (l : Fin 512) : k0_pay17 (k0_pay21 x0 x1 x2 x3 x4 x5 x6 x7 x8 x9) (View.ld x2 r0_14) (ix2 r l)
    = ProjAb.col (hid x0 x1 r) w (1280 + l.val) := by
  pointwise [k0_pay17]
  simp only [pay21_at]
  exact ProjAb.padded _ w _ _ fun k => h2 k ⟨1280 + l.val, by omega⟩

theorem pay18_at (r : Fin 688) (l : Fin 640) : k0_pay18 (k0_pay21 x0 x1 x2 x3 x4 x5 x6 x7 x8 x9) (View.ld x2 r0_15) (ix2 r l)
    = ProjAb.col (hid x0 x1 r) w (1792 + l.val) := by
  pointwise [k0_pay18]
  simp only [pay21_at]
  exact ProjAb.padded _ w _ _ fun k => h2 k ⟨1792 + l.val, by omega⟩

theorem pay12_at (r : Fin 688) (l : Fin 512) : k0_pay12 (k0_pay21 x0 x1 x2 x3 x4 x5 x6 x7 x8 x9) (View.ld x2 r0_11) (ix2 r l)
    = ProjAb.col (hid x0 x1 r) w (768 + l.val) := by
  pointwise [k0_pay12]
  simp only [pay21_at]
  exact ProjAb.padded _ w _ _ fun k => h2 k ⟨768 + l.val, by omega⟩

/-- The block's scaled queries of the linear attention. -/
theorem qb_at (r : Fin 688) (l : Fin 256) : k0_pay15 (k0_pay13 (k0_pay21 x0 x1 x2 x3 x4 x5 x6 x7 x8 x9) (View.ld x2 r0_11)) k0_pay14 (ix2 r l)
    = ProjAb.col (hid x0 x1 r) w (768 + l.val) * Ideal.ofBits FTy.f32 1040187392#32 := by
  pointwise [k0_pay15, k0_pay14, k0_pay13]
  refine congrArg (fun e : EReal => e * Ideal.ofBits FTy.f32 1040187392#32) ?_
  exact pay12_at x0 x1 x2 x3 x4 x5 x6 x7 x8 x9 w h2 r ⟨l.val, by omega⟩

/-- Its keys. -/
theorem kb_at (r : Fin 688) (l : Fin 256) : k0_pay16 (k0_pay12 (k0_pay21 x0 x1 x2 x3 x4 x5 x6 x7 x8 x9) (View.ld x2 r0_11)) (ix2 r l)
    = ProjAb.col (hid x0 x1 r) w (1024 + l.val) := by
  pointwise [k0_pay16]
  refine (pay12_at x0 x1 x2 x3 x4 x5 x6 x7 x8 x9 w h2 r ⟨256 + l.val, by omega⟩).trans (congrArg (ProjAb.col (hid x0 x1 r) w) ?_)
  show 768 + (256 + l.val) = 1024 + l.val
  omega

/-- Its log gates. -/
theorem gate_at (v : Fin 16 → Fin 256 → EReal) (h8 : ∀ (k : Fin 128) (j : Fin 256), x8 (ix2 k j) = if h : k.val < 16 then v ⟨k.val, h⟩ j else 0)
    (r : Fin 688) (l : Fin 256) : k0_pay20 (k0_pay21 x0 x1 x2 x3 x4 x5 x6 x7 x8 x9) (View.ld x2 r0_15) x8 x9 (ix2 r l)
    = ProjC.logSig (∑ k : Fin 16, ProjAb.col (hid x0 x1 r) w (2304 + k.val) * v k l + x9 (ix2 0 l)) * Ideal.ofBits FTy.f32 1035512379#32 := by
  pointwise [k0_pay20]
  simp only [pay18_at x0 x1 x2 x3 x4 x5 x6 x7 x8 x9 w h2]
  have e := ProjAb.padded_gate (fun k => ProjAb.col (hid x0 x1 r) w (1792 + (512 + k.val))) (fun k => x8 (ix2 k l)) (fun k => v k l) (fun k => h8 k l)
  have e' : ∀ k : Fin 16, ProjAb.col (hid x0 x1 r) w (1792 + (512 + k.val)) = ProjAb.col (hid x0 x1 r) w (2304 + k.val) :=
    fun k => congrArg (ProjAb.col (hid x0 x1 r) w) (by omega)
  simp only [e'] at e
  rw [e]
  rfl

theorem qa_at (g : Fin 64 → EReal) (p : ℕ) (r : Fin 688) (h3 : ∀ i j : Fin 256, x3 (ix2 i j) = Heads.avg i j)
    (h4 : ∀ j : Fin 512, x4 (ix2 0 j) = g ⟨j.val % 64, by omega⟩)
    (hc : ∀ j : Fin 128, x6 (ix2 r j) = ProjAb.cosT p j.val) (hs : ∀ j : Fin 128, x7 (ix2 r j) = ProjAb.sinT p j.val) (l : Fin 512) :
    out0_10 x0 x1 x2 x3 x4 x5 x6 x7 x8 x9 (ix2 r l) = ProjAb.qaOf (hid x0 x1 r) w g p l.val := by
  frame_out
  exact pay7_at _ _ _ _ x4 p (ProjAb.headed (ProjAb.col (hid x0 x1 r) w) g) r
    (qnorm_at x0 x1 x3 x4 _ (ProjAb.col (hid x0 x1 r) w) g r (pay5_at x0 x1 x2 w h2 r) h3 h4)
    (fun j => (pay23_at x0 x1 x2 x3 x4 x5 x6 x7 x8 x9 r j).trans (hc j)) (fun j => (pay24_at x0 x1 x2 x3 x4 x5 x6 x7 x8 x9 r j).trans (hs j)) l

theorem kva_at (g : Fin 64 → EReal) (p : Fin 688 → ℕ) (h3 : ∀ i j : Fin 256, x3 (ix2 i j) = Heads.avg i j)
    (h5 : ∀ j : Fin 128, x5 (ix2 0 j) = g ⟨j.val % 64, by omega⟩)
    (hc : ∀ (r : Fin 688) (j : Fin 128), x6 (ix2 r j) = ProjAb.cosT (p r) j.val)
    (hs : ∀ (r : Fin 688) (j : Fin 128), x7 (ix2 r j) = ProjAb.sinT (p r) j.val) (r : Fin 688) (l : Fin 256) :
    out0_11 x0 x1 x2 x3 x4 x5 x6 x7 x8 x9 (ix2 r l) = ProjAb.kvaOf (hid x0 x1 r) w g (p r) l.val := by
  frame_out
  refine View.canon_apply_of_pieces (Val := Elt Ideal) (e := .f32) (fun i : S688x256.Idx => ProjAb.kvaOf (hid x0 x1 (i 0)) w g (p (i 0)) (i 1).val)
    _ ?_ _ (cover0_11 _ _ _)
  simp only [List.forall_mem_cons, List.not_mem_nil, false_imp_iff, implies_true, and_true]
  refine ⟨fun x => ?_, fun x => ?_⟩
  · obtain ⟨r, l, rfl⟩ : ∃ (a : Fin 688) (b : Fin 128), x = ix2 a b := ⟨x 0, x 1, eq_ix2 x⟩
    rw [emb10]
    show _ = ProjAb.kvaOf (hid x0 x1 r) w g (p r) (128 + l.val)
    unfold ProjAb.kvaOf
    rw [if_neg (by omega)]
    pointwise [k0_pay11]
    exact pay22_at x0 x1 x2 x3 x4 x5 x6 x7 x8 x9 w h2 r ⟨640 + l.val, by omega⟩
  · obtain ⟨r, l, rfl⟩ : ∃ (a : Fin 688) (b : Fin 128), x = ix2 a b := ⟨x 0, x 1, eq_ix2 x⟩
    rw [emb9]
    show _ = ProjAb.kvaOf (hid x0 x1 r) w g (p r) l.val
    unfold ProjAb.kvaOf
    rw [if_pos l.isLt]
    refine pay10_at _ _ _ _ x5 (p r) (ProjAb.headed (fun j => ProjAb.col (hid x0 x1 r) w (512 + j)) g) r
      (knorm_at x5 _ _ (fun j => ProjAb.col (hid x0 x1 r) w (512 + j)) g r (fun j => pay22_at x0 x1 x2 x3 x4 x5 x6 x7 x8 x9 w h2 r ⟨512 + j.val, by omega⟩) (fun i j => ?_) h5)
      (fun j => (pay23_at x0 x1 x2 x3 x4 x5 x6 x7 x8 x9 r j).trans (hc r j)) (fun j => (pay24_at x0 x1 x2 x3 x4 x5 x6 x7 x8 x9 r j).trans (hs r j)) l
    refine Eq.trans ?_ (h3 ⟨i.val, by omega⟩ ⟨j.val, by omega⟩)
    pointwise []

theorem qkg_at (v : Fin 16 → Fin 256 → EReal) (b : Fin 256 → EReal) (h8 : ∀ (k : Fin 128) (j : Fin 256), x8 (ix2 k j) = if h : k.val < 16 then v ⟨k.val, h⟩ j else 0)
    (h9 : ∀ j : Fin 256, x9 (ix2 0 j) = b j) (r : Fin 688) (l : Fin 768) :
    out0_12 x0 x1 x2 x3 x4 x5 x6 x7 x8 x9 (ix2 r l) = ProjAb.qkgOf (hid x0 x1 r) w v b l := by
  frame_out
  refine View.canon_apply_of_pieces (Val := Elt Ideal) (e := .f32) (fun i : S688x768.Idx => ProjAb.qkgOf (hid x0 x1 (i 0)) w v b (i 1))
    _ ?_ _ (cover0_12 _ _ _ _)
  simp only [List.forall_mem_cons, List.not_mem_nil, false_imp_iff, implies_true, and_true]
  refine ⟨fun x => ?_, fun x => ?_, fun x => ?_⟩
  · obtain ⟨r, l, rfl⟩ : ∃ (a : Fin 688) (b : Fin 256), x = ix2 a b := ⟨x 0, x 1, eq_ix2 x⟩
    rw [emb18]
    show _ = ProjAb.qkgOf (hid x0 x1 r) w v b ⟨512 + l.val, by omega⟩
    unfold ProjAb.qkgOf
    rw [if_neg (show ¬ 512 + l.val < 256 by omega), if_neg (show ¬ 512 + l.val < 512 by omega)]
    refine (gate_at x0 x1 x2 x3 x4 x5 x6 x7 x8 x9 w h2 v h8 r l).trans ?_
    have e : (⟨512 + l.val - 512, by omega⟩ : Fin 256) = l := Fin.ext (by show 512 + l.val - 512 = l.val; omega)
    simp only [e, h9]
  · obtain ⟨r, l, rfl⟩ : ∃ (a : Fin 688) (b : Fin 256), x = ix2 a b := ⟨x 0, x 1, eq_ix2 x⟩
    rw [emb13]
    show _ = ProjAb.qkgOf (hid x0 x1 r) w v b ⟨256 + l.val, by omega⟩
    unfold ProjAb.qkgOf
    rw [if_neg (show ¬ 256 + l.val < 256 by omega), if_pos (show 256 + l.val < 512 by omega)]
    refine (kb_at x0 x1 x2 x3 x4 x5 x6 x7 x8 x9 w h2 r l).trans (congrArg (ProjAb.col (hid x0 x1 r) w) ?_)
    show 1024 + l.val = 1024 + (256 + l.val - 256)
    omega
  · obtain ⟨r, l, rfl⟩ : ∃ (a : Fin 688) (b : Fin 256), x = ix2 a b := ⟨x 0, x 1, eq_ix2 x⟩
    rw [emb12]
    show _ = ProjAb.qkgOf (hid x0 x1 r) w v b ⟨l.val, by omega⟩
    unfold ProjAb.qkgOf
    rw [if_pos (show l.val < 256 from l.isLt)]
    exact qb_at x0 x1 x2 x3 x4 x5 x6 x7 x8 x9 w h2 r l

theorem vb_at (r : Fin 688) (l : Fin 512) : out0_13 x0 x1 x2 x3 x4 x5 x6 x7 x8 x9 (ix2 r l) = ProjAb.col (hid x0 x1 r) w (1280 + l.val) := by
  frame_out
  exact pay17_at x0 x1 x2 x3 x4 x5 x6 x7 x8 x9 w h2 r l

theorem rb_at (r : Fin 688) (l : Fin 512) : out0_14 x0 x1 x2 x3 x4 x5 x6 x7 x8 x9 (ix2 r l) = ProjAb.col (hid x0 x1 r) w (1792 + l.val) := by
  frame_out
  pointwise [k0_pay19]
  exact pay18_at x0 x1 x2 x3 x4 x5 x6 x7 x8 x9 w h2 r ⟨l.val, by omega⟩

end cols

end block

/-! ## The blocks in the arrays -/

variable (m : (ℓ : Loc nD τ sig) → Buf (Elt Ideal) ℓ)

theorem point_lt (t : Fin cfg0.N) : t.val < 48 := lt_of_lt_of_eq t.isLt N_0

/-- The array row of row `r` of point `t`'s block. -/
def dst (t : Fin cfg0.N) (r : Fin 688) : Fin 33024 := ⟨t.val * 688 + r, by have := point_lt t; omega⟩

/-- The stream's row `r`. -/
def src (x : Vec Ideal S33024x1024 .f32) (r : Fin 33024) (k : Fin 1024) : EReal := x (ix2 r k)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val % 3, 0] := (by decide +kernel : ∀ t : Fin grid0.N, _)
theorem idx7 : ∀ t : Fin cfg0.N, win0_7.index t = ![t.val % 3, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)

theorem norm_at (c : Dev nD) (k : Fin 1024) : V m c main_v37 (ix2 0 k) = (m ((c : Thread nD τ).loc main_arg1)) (ix1 k) := by
  unfold V
  after_reads_at

theorem w_at (c : Dev nD) (r : Fin 1024) (k : Fin 2432) : V m c main_v1 (ix2 r k) = (if h : k.val < 2320 then (m ((c : Thread nD τ).loc main_arg2)) (ix2 r ⟨k.val, h⟩) else (0 : EReal)) := by
  unfold V
  after_reads_at
  rw [ProjAb.zero_word]

theorem bd_at (c : Dev nD) (i j : Fin 256) : V m c main_v48 (ix2 i j) = Heads.avg i j := by
  unfold V
  after_reads_at
  exact Heads.avg_built i j

theorem qn_at (c : Dev nD) (k : Fin 512) : V m c main_v7 (ix2 0 k) = (m ((c : Thread nD τ).loc main_arg3)) (ix1 ⟨k.val % 64, by omega⟩) := by
  unfold V
  after_reads_at

theorem kn_at (c : Dev nD) (k : Fin 128) : V m c main_v11 (ix2 0 k) = (m ((c : Thread nD τ).loc main_arg4)) (ix1 ⟨k.val % 64, by omega⟩) := by
  unfold V
  after_reads_at

theorem cos_at (c : Dev nD) (s : Fin 2064) (k : Fin 128) : V m c main_v33 (ix2 s k) = ProjAb.cosT s.val k.val := by
  unfold V
  after_reads_at
  unfold ProjAb.cosT
  by_cases h : k.val % 64 < 32
  · rw [dif_pos h, if_pos h]
    after_reads_at
    rfl
  · rw [dif_neg h, if_neg h]
    after_reads_at
    rfl

theorem sin_at (c : Dev nD) (s : Fin 2064) (k : Fin 128) : V m c main_v36 (ix2 s k) = ProjAb.sinT s.val k.val := by
  unfold V
  after_reads_at
  unfold ProjAb.sinT
  by_cases h : k.val % 64 < 32
  · rw [dif_pos h, if_pos h]
    after_reads_at
    rfl
  · rw [dif_neg h, if_neg h]
    after_reads_at
    rfl

theorem wg_at (c : Dev nD) (r : Fin 128) (k : Fin 256) : V m c main_v3 (ix2 r k) = (if h : r.val < 16 then (m ((c : Thread nD τ).loc main_arg5)) (ix2 ⟨r.val, h⟩ k) else (0 : EReal)) := by
  unfold V
  after_reads_at
  rw [ProjAb.zero_word]

theorem b_at (c : Dev nD) (k : Fin 256) : V m c main_v12 (ix2 0 k) = (m ((c : Thread nD τ).loc main_arg6)) (ix1 k) := by
  unfold V
  after_reads_at

theorem blk0 (c : Dev nD) (t : Fin cfg0.N) (r : Fin 688) (k : Fin 1024) : iblk m c 0 t (ix2 r k) = src (m ((c : Thread nD τ).loc main_arg0)) (dst t r) k := by
  unfold src
  rw [← V_main_arg0 m c]
  blk_ext [iblk, idx0 t, dst]

theorem blk1 (c : Dev nD) (t : Fin cfg0.N) (k : Fin 1024) : iblk m c 1 t (ix2 0 k) = (m ((c : Thread nD τ).loc main_arg1)) (ix1 k) := by
  rw [← norm_at m c]
  blk_ext [iblk, idx1 t]

theorem blk2 (c : Dev nD) (t : Fin cfg0.N) (r : Fin 1024) (k : Fin 2432) : iblk m c 2 t (ix2 r k) = (if h : k.val < 2320 then (m ((c : Thread nD τ).loc main_arg2)) (ix2 r ⟨k.val, h⟩) else (0 : EReal)) := by
  rw [← w_at m c]
  blk_ext [iblk, idx2 t]

theorem blk3 (c : Dev nD) (t : Fin cfg0.N) (i j : Fin 256) : iblk m c 3 t (ix2 i j) = Heads.avg i j := by
  rw [← bd_at m c]
  blk_ext [iblk, idx3 t]

theorem blk4 (c : Dev nD) (t : Fin cfg0.N) (k : Fin 512) : iblk m c 4 t (ix2 0 k) = (m ((c : Thread nD τ).loc main_arg3)) (ix1 ⟨k.val % 64, by omega⟩) := by
  rw [← qn_at m c]
  blk_ext [iblk, idx4 t]

theorem blk5 (c : Dev nD) (t : Fin cfg0.N) (k : Fin 128) : iblk m c 5 t (ix2 0 k) = (m ((c : Thread nD τ).loc main_arg4)) (ix1 ⟨k.val % 64, by omega⟩) := by
  rw [← kn_at m c]
  blk_ext [iblk, idx5 t]

/-- The position of row `r` of point `t`'s block. -/
def pos (t : Fin cfg0.N) (r : Fin 688) : Fin 2064 := ⟨t.val % 3 * 688 + r.val, by omega⟩

theorem blk6 (c : Dev nD) (t : Fin cfg0.N) (r : Fin 688) (k : Fin 128) : iblk m c 6 t (ix2 r k) = ProjAb.cosT (pos t r).val k.val := by
  rw [← cos_at m c]
  blk_ext [iblk, idx6 t, pos]

theorem blk7 (c : Dev nD) (t : Fin cfg0.N) (r : Fin 688) (k : Fin 128) : iblk m c 7 t (ix2 r k) = ProjAb.sinT (pos t r).val k.val := by
  rw [← sin_at m c]
  blk_ext [iblk, idx7 t, pos]

theorem blk8 (c : Dev nD) (t : Fin cfg0.N) (r : Fin 128) (k : Fin 256) : iblk m c 8 t (ix2 r k) = (if h : r.val < 16 then (m ((c : Thread nD τ).loc main_arg5)) (ix2 ⟨r.val, h⟩ k) else (0 : EReal)) := by
  rw [← wg_at m c]
  blk_ext [iblk, idx8 t]

theorem blk9 (c : Dev nD) (t : Fin cfg0.N) (k : Fin 256) : iblk m c 9 t (ix2 0 k) = (m ((c : Thread nD τ).loc main_arg6)) (ix1 k) := by
  rw [← b_at m c]
  blk_ext [iblk, idx9 t]

/-! ## The arrays -/

/-- The normalised row `r` of the stream. -/
def row (x : Vec Ideal S33024x1024 .f32) (g : Vec Ideal S1024 .f32) (r : Fin 33024) (k : Fin 1024) : EReal :=
  Mlp.hidden (src x r) (fun j => g (ix1 j)) k

theorem hid_at (c : Dev nD) (t : Fin cfg0.N) (r : Fin 688) :
    hid (iblk m c 0 t) (iblk m c 1 t) r = row (m ((c : Thread nD τ).loc main_arg0)) (m ((c : Thread nD τ).loc main_arg1)) (dst t r) := by
  funext k
  unfold hid row
  simp only [blk0, blk1]

theorem pos_eq (t : Fin cfg0.N) (r : Fin 688) : (pos t r).val = (dst t r).val % 2064 := by
  show t.val % 3 * 688 + r.val = (t.val * 688 + r.val) % 2064
  omega

/-- The five results as functions of the arguments, row by row. -/
def qaAt (x : Vec Ideal S33024x1024 .f32) (g : Vec Ideal S1024 .f32) (w : Vec Ideal S1024x2320 .f32) (qn : Vec Ideal S64 .f32)
    (r : Fin 33024) (l : Fin 512) : EReal :=
  ProjAb.qaOf (row x g r) (fun k j => w (ix2 k j)) (fun d => qn (ix1 d)) (r.val % 2064) l.val

def kvaAt (x : Vec Ideal S33024x1024 .f32) (g : Vec Ideal S1024 .f32) (w : Vec Ideal S1024x2320 .f32) (kn : Vec Ideal S64 .f32)
    (r : Fin 33024) (l : Fin 256) : EReal :=
  ProjAb.kvaOf (row x g r) (fun k j => w (ix2 k j)) (fun d => kn (ix1 d)) (r.val % 2064) l.val

def qkgAt (x : Vec Ideal S33024x1024 .f32) (g : Vec Ideal S1024 .f32) (w : Vec Ideal S1024x2320 .f32) (v : Vec Ideal S16x256 .f32) (b : Vec Ideal S256 .f32)
    (r : Fin 33024) (l : Fin 768) : EReal :=
  ProjAb.qkgOf (row x g r) (fun k j => w (ix2 k j)) (fun k j => v (ix2 k j)) (fun j => b (ix1 j)) l

/-- Column `l` of the projection, from column `o` on. -/
def colAt (o : ℕ) (x : Vec Ideal S33024x1024 .f32) (g : Vec Ideal S1024 .f32) (w : Vec Ideal S1024x2320 .f32) (r : Fin 33024) (l : Fin 512) : EReal :=
  ProjAb.col (row x g r) (fun k j => w (ix2 k j)) (o + l.val)

theorem final_qa (c : Dev nD) : (dats m 0 c).arrAt 10 cfg0.N = fun i : S33024x512.Idx =>
    qaAt (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 10 _ (by decide +kernel) fun t hf y => ?_
  blk_simp
  rw [after0_10]
  obtain ⟨r, l, rfl⟩ : ∃ (a : Fin 688) (b : Fin 512), y = ix2 a b := ⟨y 0, y 1, eq_ix2 y⟩
  have e : (win0_10.blk t).view.emb (ix2 r l) = ix2 (dst t r) l := by
    blk_ext [idx10 t, dst]
  refine (qa_at _ _ _ _ _ _ _ _ _ _ (fun k j => (m ((c : Thread nD τ).loc main_arg2)) (ix2 k j)) (fun k j => blk2 m c t k j) (fun d => (m ((c : Thread nD τ).loc main_arg3)) (ix1 d)) _ r (fun i j => blk3 m c t i j) (fun j => blk4 m c t j) (fun j => blk6 m c t r j) (fun j => blk7 m c t r j) l).trans ?_
  rw [e, hid_at, pos_eq]
  rfl

theorem final_kva (c : Dev nD) : (dats m 0 c).arrAt 11 cfg0.N = fun i : S33024x256.Idx =>
    kvaAt (m ((c : Thread nD τ).loc main_arg0)) (m ((c : Thread nD τ).loc main_arg1)) (m ((c : Thread nD τ).loc main_arg2)) (m ((c : Thread nD τ).loc main_arg4)) (i 0) (i 1) := by
  refine (dats m 0 c).arrAt_eq_of_covers 11 _ (by decide +kernel) fun t hf y => ?_
  blk_simp
  rw [after0_11]
  obtain ⟨r, l, rfl⟩ : ∃ (a : Fin 688) (b : Fin 256), y = ix2 a b := ⟨y 0, y 1, eq_ix2 y⟩
  have e : (win0_11.blk t).view.emb (ix2 r l) = ix2 (dst t r) l := by
    blk_ext [idx11 t, dst]
  refine (kva_at _ _ _ _ _ _ _ _ _ _ (fun k j => (m ((c : Thread nD τ).loc main_arg2)) (ix2 k j)) (fun k j => blk2 m c t k j) (fun d => (m ((c : Thread nD τ).loc main_arg4)) (ix1 d)) (fun r => (pos t r).val) (fun i j => blk3 m c t i j) (fun j => blk5 m c t j) (fun r j => blk6 m c t r j) (fun r j => blk7 m c t r j) r l).trans ?_
  rw [e, hid_at, pos_eq]
  rfl

theorem final_qkg (c : Dev nD) : (dats m 0 c).arrAt 12 cfg0.N = fun i : S33024x768.Idx =>
    qkgAt (m ((c : Thread nD τ).loc main_arg0)) (m ((c : Thread nD τ).loc main_arg1)) (m ((c : Thread nD τ).loc main_arg2)) (m ((c : Thread nD τ).loc main_arg5)) (m ((c : Thread nD τ).loc main_arg6)) (i 0) (i 1) := by
  refine (dats m 0 c).arrAt_eq_of_covers 12 _ (by decide +kernel) fun t hf y => ?_
  blk_simp
  rw [after0_12]
  obtain ⟨r, l, rfl⟩ : ∃ (a : Fin 688) (b : Fin 768), y = ix2 a b := ⟨y 0, y 1, eq_ix2 y⟩
  have e : (win0_12.blk t).view.emb (ix2 r l) = ix2 (dst t r) l := by
    blk_ext [idx12 t, dst]
  refine (qkg_at _ _ _ _ _ _ _ _ _ _ (fun k j => (m ((c : Thread nD τ).loc main_arg2)) (ix2 k j)) (fun k j => blk2 m c t k j) (fun k j => (m ((c : Thread nD τ).loc main_arg5)) (ix2 k j)) (fun j => (m ((c : Thread nD τ).loc main_arg6)) (ix1 j)) (fun k j => blk8 m c t k j) (fun j => blk9 m c t j) r l).trans ?_
  rw [e, hid_at]
  rfl

theorem final_vb (c : Dev nD) : (dats m 0 c).arrAt 13 cfg0.N = fun i : S33024x512.Idx =>
    colAt 1280 (m ((c : Thread nD τ).loc main_arg0)) (m ((c : Thread nD τ).loc main_arg1)) (m ((c : Thread nD τ).loc main_arg2)) (i 0) (i 1) := by
  refine (dats m 0 c).arrAt_eq_of_covers 13 _ (by decide +kernel) fun t hf y => ?_
  blk_simp
  rw [after0_13]
  obtain ⟨r, l, rfl⟩ : ∃ (a : Fin 688) (b : Fin 512), y = ix2 a b := ⟨y 0, y 1, eq_ix2 y⟩
  have e : (win0_13.blk t).view.emb (ix2 r l) = ix2 (dst t r) l := by
    blk_ext [idx13 t, dst]
  refine (vb_at _ _ _ _ _ _ _ _ _ _ (fun k j => (m ((c : Thread nD τ).loc main_arg2)) (ix2 k j)) (fun k j => blk2 m c t k j) r l).trans ?_
  rw [e, hid_at]
  rfl

theorem final_rb (c : Dev nD) : (dats m 0 c).arrAt 14 cfg0.N = fun i : S33024x512.Idx =>
    colAt 1792 (m ((c : Thread nD τ).loc main_arg0)) (m ((c : Thread nD τ).loc main_arg1)) (m ((c : Thread nD τ).loc main_arg2)) (i 0) (i 1) := by
  refine (dats m 0 c).arrAt_eq_of_covers 14 _ (by decide +kernel) fun t hf y => ?_
  blk_simp
  rw [after0_14]
  obtain ⟨r, l, rfl⟩ : ∃ (a : Fin 688) (b : Fin 512), y = ix2 a b := ⟨y 0, y 1, eq_ix2 y⟩
  have e : (win0_14.blk t).view.emb (ix2 r l) = ix2 (dst t r) l := by
    blk_ext [idx14 t, dst]
  refine (rb_at _ _ _ _ _ _ _ _ _ _ (fun k j => (m ((c : Thread nD τ).loc main_arg2)) (ix2 k j)) (fun k j => blk2 m c t k j) r l).trans ?_
  rw [e, hid_at]
  rfl

variable (ρ : Dev nD → PrngReg)

/-- The run, read: the five result arrays at those functions of the arguments, the arguments unchanged. -/
theorem run : θ_run defs (onTc (τ := τ) (main (F := Ideal))) ⟨m, fun _ => 0, ρ⟩ fun r => ∀ c : Dev nD,
      r.2.mem ((c : Thread nD τ).loc main_v49_0) = (fun j : S33024x512.Idx => qaAt (m ((c : Thread nD τ).loc main_arg0)) (m ((c : Thread nD τ).loc main_arg1)) (m ((c : Thread nD τ).loc main_arg2)) (m ((c : Thread nD τ).loc main_arg3)) (j 0) (j 1))
      ∧ r.2.mem ((c : Thread nD τ).loc main_v49_1) = (fun j : S33024x256.Idx => kvaAt (m ((c : Thread nD τ).loc main_arg0)) (m ((c : Thread nD τ).loc main_arg1)) (m ((c : Thread nD τ).loc main_arg2)) (m ((c : Thread nD τ).loc main_arg4)) (j 0) (j 1))
      ∧ r.2.mem ((c : Thread nD τ).loc main_v49_2) = (fun j : S33024x768.Idx => qkgAt (m ((c : Thread nD τ).loc main_arg0)) (m ((c : Thread nD τ).loc main_arg1)) (m ((c : Thread nD τ).loc main_arg2)) (m ((c : Thread nD τ).loc main_arg5)) (m ((c : Thread nD τ).loc main_arg6)) (j 0) (j 1))
      ∧ r.2.mem ((c : Thread nD τ).loc main_v49_3) = (fun j : S33024x512.Idx => colAt 1280 (m ((c : Thread nD τ).loc main_arg0)) (m ((c : Thread nD τ).loc main_arg1)) (m ((c : Thread nD τ).loc main_arg2)) (j 0) (j 1))
      ∧ r.2.mem ((c : Thread nD τ).loc main_v49_4) = (fun j : S33024x512.Idx => colAt 1792 (m ((c : Thread nD τ).loc main_arg0)) (m ((c : Thread nD τ).loc main_arg1)) (m ((c : Thread nD τ).loc main_arg2)) (j 0) (j 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final_qa m c), (h c).2.1.trans (final_kva m c), (h c).2.2.1.trans (final_qkg m c), (h c).2.2.2.1.trans (final_vb m c), (h c).2.2.2.2.1.trans (final_rb m c), (h c).2.2.2.2.2⟩) (Value.run_blocks m ρ)

end Cert.ProjAbPrompt

end
-- ==== Proof.ProjAbReference.lean ====
/-
  The even layers' projection on the prompt as the reference states it, read row by row: the same functions of the
  arguments.
-/
module

public import proofs.«01_k».proof.Proof.Gen.Reference6Ideal.Read
public import proofs.«01_k».proof.Proof.ProjAbKernel

@[expose] public section

set_option maxRecDepth 16384

noncomputable section

namespace Cert.ProjAbRef

open Idealize.ShloMosaic Idealize.ShloMosaic.TcCoe Cert.Reference6Ideal Cert.Reference6Ideal.Read

variable (x0 : (⟨S33024x1024, .f32⟩ : BufTy).Contents (Elt Ideal)) (x1 : (⟨S1024, .f32⟩ : BufTy).Contents (Elt Ideal))
  (x2 : (⟨S1024x2320, .f32⟩ : BufTy).Contents (Elt Ideal)) (x3 x4 : (⟨S64, .f32⟩ : BufTy).Contents (Elt Ideal))
  (x5 : (⟨S16x256, .f32⟩ : BufTy).Contents (Elt Ideal)) (x6 : (⟨S256, .f32⟩ : BufTy).Contents (Elt Ideal))

/-- The array row of batch entry `b`, position `s`. -/
def at_ (b : Fin 16) (s : Fin 2064) : Fin 33024 := ⟨b.val * 2064 + s.val, by omega⟩

theorem at_split (r : Fin 33024) : at_ ⟨r.val / 2064, by omega⟩ ⟨r.val % 2064, by omega⟩ = r :=
  Fin.ext (by show r.val / 2064 * 2064 + r.val % 2064 = r.val; omega)

theorem src_at (b : Fin 16) (s : Fin 2064) (k : Fin 1024) : ProjAbPrompt.src x0 (at_ b s) k = x0 (ix2 (at_ b s) k) := by
  rfl

theorem hid_at (b : Fin 16) (s : Fin 2064) (k : Fin 1024) : val_main_v13 (F := Ideal) x0 x1 (ix3 b s k) = ProjAbPrompt.row x0 x1 (at_ b s) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold ProjAbPrompt.row Mlp.hidden
  simp only [src_at]
  try rfl

/-- Column `j` of the row's projection. -/
def c (b : Fin 16) (s : Fin 2064) (j : ℕ) : EReal := ProjAb.col (ProjAbPrompt.row x0 x1 (at_ b s)) (fun k j => x2 (ix2 k j)) j

theorem proj_at (b : Fin 16) (s : Fin 2064) (l : Fin 2320) : val_main_v15 (F := Ideal) x0 x1 x2 (ix3 b s l) = c x0 x1 x2 b s l.val := by
  pointwise [val_main_v15]
  simp only [hid_at]
  unfold c ProjAb.col
  rw [dif_pos l.isLt]

theorem head_eq (Y : ℕ → EReal) (g : Fin 64 → EReal) (h : ℕ) (l : Fin 64) :
    ProjAb.headed Y g (h * 64 + l.val) = Heads.norm (fun d => Y (h * 64 + d.val)) g l := by
  unfold ProjAb.headed
  have e1 : (h * 64 + l.val) / 64 = h := by omega
  have e2 : (⟨(h * 64 + l.val) % 64, Nat.mod_lt _ (by norm_num)⟩ : Fin 64) = l := Fin.ext (by show (h * 64 + l.val) % 64 = l.val; omega)
  rw [e1, e2]

theorem qn_at (b : Fin 16) (s : Fin 2064) (h : Fin 8) (l : Fin 64) : val_main_v37 (F := Ideal) x0 x1 x2 x3 (ix4 b s h l)
    = ProjAb.headed (c x0 x1 x2 b s) (fun d => x3 (ix1 d)) (h.val * 64 + l.val) := by
  rw [head_eq]
  pointwise [val_main_v37, val_main_v36, val_main_v35, val_main_v34, val_main_v33, val_main_v32, val_main_v31, val_main_v30, val_main_v29, val_main_v28, val_main_v27, val_main_v26, val_main_v25, val_main_v24, val_main_cst_2, val_main_cst_3, val_main_cst_4, val_main_v16]
  simp only [proj_at]
  unfold Heads.norm
  rfl

theorem kn_at (b : Fin 16) (s : Fin 2064) (h : Fin 2) (l : Fin 64) : val_main_v80 (F := Ideal) x0 x1 x2 x4 (ix4 b s h l)
    = ProjAb.headed (fun j => c x0 x1 x2 b s (512 + j)) (fun d => x4 (ix1 d)) (h.val * 64 + l.val) := by
  rw [head_eq]
  pointwise [val_main_v80, val_main_v79, val_main_v78, val_main_v77, val_main_v76, val_main_v75, val_main_v74, val_main_v73, val_main_v72, val_main_v71, val_main_v70, val_main_v69, val_main_v68, val_main_v67, val_main_cst_7, val_main_cst_8, val_main_cst_9, val_main_v17]
  simp only [proj_at]
  unfold Heads.norm
  rfl

theorem roped_eq (Y : ℕ → EReal) (g : Fin 64 → EReal) (p h : ℕ) (l : Fin 64) :
    ProjAb.roped Y g p (h * 64 + l.val) = ProjAb.rope (fun d => ProjAb.headed Y g (h * 64 + d.val)) p l := by
  unfold ProjAb.roped
  have e1 : (h * 64 + l.val) / 64 = h := by omega
  have e2 : (⟨(h * 64 + l.val) % 64, Nat.mod_lt _ (by norm_num)⟩ : Fin 64) = l := Fin.ext (by show (h * 64 + l.val) % 64 = l.val; omega)
  rw [e1, e2]

theorem qr_at (b : Fin 16) (s : Fin 2064) (h : Fin 8) (l : Fin 64) : val_main_v66 (F := Ideal) x0 x1 x2 x3 (ix4 b s h l)
    = ProjAb.roped (c x0 x1 x2 b s) (fun d => x3 (ix1 d)) s.val (h.val * 64 + l.val) := by
  rw [roped_eq]
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_cst_5, val_main_cst_6, val_main_v14]
  simp only [qn_at]
  rfl

theorem kr_at (b : Fin 16) (s : Fin 2064) (h : Fin 2) (l : Fin 64) : val_main_v109 (F := Ideal) x0 x1 x2 x4 (ix4 b s h l)
    = ProjAb.roped (fun j => c x0 x1 x2 b s (512 + j)) (fun d => x4 (ix1 d)) s.val (h.val * 64 + l.val) := by
  rw [roped_eq]
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_cst_10, val_main_cst_11, val_main_v14]
  simp only [kn_at]
  rfl

theorem gate_at (b : Fin 16) (s : Fin 2064) (j : Fin 256) : val_main_v120 (F := Ideal) x0 x1 x2 x5 x6 (ix3 b s j)
    = ProjC.logSig (∑ k : Fin 16, c x0 x1 x2 b s (2304 + k.val) * x5 (ix2 k j) + x6 (ix1 j)) := by
  pointwise [val_main_v120, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v119, val_main_v118, val_main_v117, val_main_v116, val_main_v23]
  simp only [proj_at]
  generalize (∑ k : Fin 16, c x0 x1 x2 b s (2304 + k.val) * x5 (ix2 k j)) + x6 (ix1 j) = z
  refine Eq.trans ?_ (ProjC.logSig_eq z)
  simp

/-- The five result arrays, row by row. -/
theorem qa_row (r : Fin 33024) (l : Fin 512) : val_main_v134 (F := Ideal) x0 x1 x2 x3 (ix2 r l) = ProjAbPrompt.qaAt x0 x1 x2 x3 r l := by
  pointwise [val_main_v134, val_main_v133]
  refine (qr_at x0 x1 x2 x3 _ _ _ _).trans ?_
  unfold c
  rw [at_split]
  unfold ProjAbPrompt.qaAt ProjAb.qaOf
  congr 1
  show l.val / 64 * 64 + l.val % 64 = l.val
  omega

theorem kva_row (r : Fin 33024) (l : Fin 256) : val_main_v126 (F := Ideal) x0 x1 x2 x4 (ix2 r l) = ProjAbPrompt.kvaAt x0 x1 x2 x4 r l := by
  pointwise [val_main_v126, val_main_v125, val_main_v124, val_main_v110, val_main_v18]
  unfold ProjAbPrompt.kvaAt ProjAb.kvaOf
  by_cases h : l.val < 128
  · rw [dif_pos h, if_pos h]
    refine (kr_at x0 x1 x2 x4 _ _ _ _).trans ?_
    unfold c
    rw [at_split]
    congr 1
    show l.val / 64 * 64 + l.val % 64 = l.val
    omega
  · rw [dif_neg h, if_neg h]
    refine (proj_at x0 x1 x2 _ _ _).trans ?_
    unfold c
    rw [at_split]

theorem qkg_row (r : Fin 33024) (l : Fin 768) : val_main_v132 (F := Ideal) x0 x1 x2 x5 x6 (ix2 r l) = ProjAbPrompt.qkgAt x0 x1 x2 x5 x6 r l := by
  pointwise [val_main_v132, val_main_v131, val_main_v130, val_main_v129, val_main_cst_14, val_main_v128, val_main_v127, val_main_v123, val_main_v122, val_main_v121, val_main_cst_13, val_main_v114, val_main_v113, val_main_v112, val_main_cst_12, val_main_v111, val_main_v20, val_main_v19]
  unfold ProjAbPrompt.qkgAt ProjAb.qkgOf
  by_cases h : l.val < 256
  · rw [dif_pos h, if_pos h]
    refine congrArg (fun e : EReal => e * Ideal.ofBits FTy.f32 1040187392#32) ((proj_at x0 x1 x2 _ _ _).trans ?_)
    unfold c
    rw [at_split]
    refine congrArg (ProjAb.col _ _) ?_
    show 768 + (l.val / 64 * 64 + l.val % 64) = 768 + l.val
    omega
  rw [dif_neg h, if_neg h]
  by_cases h' : l.val < 512
  · rw [dif_pos (show l.val - 256 < 256 by omega), if_pos h']
    refine (proj_at x0 x1 x2 _ _ _).trans ?_
    unfold c
    rw [at_split]
  · rw [dif_neg (show ¬ l.val - 256 < 256 by omega), if_neg h', gate_at, ProjAb.gate_scale]
    unfold c
    simp only [at_split]
    rfl

theorem vb_row (r : Fin 33024) (l : Fin 512) : val_main_v135 (F := Ideal) x0 x1 x2 (ix2 r l) = ProjAbPrompt.colAt 1280 x0 x1 x2 r l := by
  pointwise [val_main_v135, val_main_v115, val_main_v21]
  refine (proj_at x0 x1 x2 _ _ _).trans ?_
  unfold c
  rw [at_split]
  refine congrArg (ProjAb.col _ _) ?_
  rfl

theorem rb_row (r : Fin 33024) (l : Fin 512) : val_main_v136 (F := Ideal) x0 x1 x2 (ix2 r l) = ProjAbPrompt.colAt 1792 x0 x1 x2 r l := by
  pointwise [val_main_v136, val_main_v22]
  refine (proj_at x0 x1 x2 _ _ _).trans ?_
  unfold c
  rw [at_split]
  rfl

theorem qa_eq : val_main_v134 (F := Ideal) x0 x1 x2 x3 = fun j : S33024x512.Idx => ProjAbPrompt.qaAt x0 x1 x2 x3 (j 0) (j 1) := by
  funext j
  obtain ⟨r, l, rfl⟩ : ∃ (a : Fin 33024) (b : Fin 512), j = ix2 a b := ⟨j 0, j 1, eq_ix2 j⟩
  exact qa_row x0 x1 x2 x3 r l

theorem kva_eq : val_main_v126 (F := Ideal) x0 x1 x2 x4 = fun j : S33024x256.Idx => ProjAbPrompt.kvaAt x0 x1 x2 x4 (j 0) (j 1) := by
  funext j
  obtain ⟨r, l, rfl⟩ : ∃ (a : Fin 33024) (b : Fin 256), j = ix2 a b := ⟨j 0, j 1, eq_ix2 j⟩
  exact kva_row x0 x1 x2 x4 r l

theorem qkg_eq : val_main_v132 (F := Ideal) x0 x1 x2 x5 x6 = fun j : S33024x768.Idx => ProjAbPrompt.qkgAt x0 x1 x2 x5 x6 (j 0) (j 1) := by
  funext j
  obtain ⟨r, l, rfl⟩ : ∃ (a : Fin 33024) (b : Fin 768), j = ix2 a b := ⟨j 0, j 1, eq_ix2 j⟩
  exact qkg_row x0 x1 x2 x5 x6 r l

theorem vb_eq : val_main_v135 (F := Ideal) x0 x1 x2 = fun j : S33024x512.Idx => ProjAbPrompt.colAt 1280 x0 x1 x2 (j 0) (j 1) := by
  funext j
  obtain ⟨r, l, rfl⟩ : ∃ (a : Fin 33024) (b : Fin 512), j = ix2 a b := ⟨j 0, j 1, eq_ix2 j⟩
  exact vb_row x0 x1 x2 r l

theorem rb_eq : val_main_v136 (F := Ideal) x0 x1 x2 = fun j : S33024x512.Idx => ProjAbPrompt.colAt 1792 x0 x1 x2 (j 0) (j 1) := by
  funext j
  obtain ⟨r, l, rfl⟩ : ∃ (a : Fin 33024) (b : Fin 512), j = ix2 a b := ⟨j 0, j 1, eq_ix2 j⟩
  exact rb_row x0 x1 x2 r l

end Cert.ProjAbRef

end
-- ==== Proof.ProjAbClaims.lean ====
/-
  The claims about the even layers' projection call on the prompt.
-/
module

public import proofs.«01_k».proof.Defs
public import proofs.«01_k».proof.Proof.Gen.Kernel6.Frame
public import proofs.«01_k».proof.Proof.ProjAbKernel
public import proofs.«01_k».proof.Proof.ProjAbReference
public import Idealize.ShloMosaic.Lib.Quiescent

@[expose] public section

noncomputable section

namespace Cert.ProjAbClaims

open Idealize.ShloMosaic Idealize.ShloMosaic.TcCoe Idealize.SL.Sem

theorem frame_k : Cert.quiescent_Kernel6 := fun m ρ _ => Cert.Kernel6.Gen.frame m ρ
theorem frame_ki : Cert.quiescent_Kernel6Ideal := fun m ρ _ => Cert.Kernel6Ideal.Gen.frame m ρ

/-- The reference is host code: its run read at the arguments, and it declares no semaphore. -/
theorem frame_ri : Cert.quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- Both programs' result arrays are the same functions of the arguments. -/
theorem algebraic : Cert.algebraic_Kernel6Ideal_Reference6Ideal := by
  intro m ρ m' ρ' _ hagree
  refine ⟨_, _, _, _, _, Cert.ProjAbPrompt.run m ρ, ?_⟩
  refine (θ_run Cert.Reference6Ideal.defs _ _).mono (fun _ h c => ⟨(h c).1.trans ((Cert.Reference6Ideal.Read.val_main_v134_eq m' c).trans ?_), (h c).2.1.trans ((Cert.Reference6Ideal.Read.val_main_v126_eq m' c).trans ?_), (h c).2.2.1.trans ((Cert.Reference6Ideal.Read.val_main_v132_eq m' c).trans ?_), (h c).2.2.2.1.trans ((Cert.Reference6Ideal.Read.val_main_v135_eq _ _ _).trans ?_), (h c).2.2.2.2.1.trans ((Cert.Reference6Ideal.Read.val_main_v136_eq _ _ _).trans ?_), (h c).2.2.2.2.2⟩)
    (Cert.Reference6Ideal.Value.run (F := Ideal) m' ρ')
  · rw [Cert.ProjAbRef.qa_eq, (hagree c).1, (hagree c).2.1, (hagree c).2.2.1, (hagree c).2.2.2.1]
  · rw [Cert.ProjAbRef.kva_eq, (hagree c).1, (hagree c).2.1, (hagree c).2.2.1, (hagree c).2.2.2.2.1]
  · rw [Cert.ProjAbRef.qkg_eq, (hagree c).1, (hagree c).2.1, (hagree c).2.2.1, (hagree c).2.2.2.2.2.1, (hagree c).2.2.2.2.2.2]
  · rw [Cert.ProjAbRef.vb_eq, (hagree c).1, (hagree c).2.1, (hagree c).2.2.1]
  · rw [Cert.ProjAbRef.rb_eq, (hagree c).1, (hagree c).2.1, (hagree c).2.2.1]

end Cert.ProjAbClaims

end
-- ==== Proof.Swa.lean ====
/-
  The mathematics of the windowed attention over the sample: a row of scores and a sink, the softmax over both taken from
  their maximum, and the weighted sum of the values — divided at the end by the kernel, weight by weight by the reference.
-/
module

public import Idealize.ShloMosaic.Lib.IdealHost
public import proofs.«01_k».proof.Proof.Ext

@[expose] public section

noncomputable section

namespace Cert.Swa

open Idealize.ShloMosaic

/-- The maximum of the scores and the sink. -/
def top (σ : Fin 160 → EReal) (z : EReal) : EReal := max (Finset.fold max (Ideal.ofBits FTy.f32 4286578688#32) σ Finset.univ) z

/-- A score's unnormalised weight. -/
def wt (σ : Fin 160 → EReal) (z : EReal) (s : Fin 160) : EReal := Ideal.exp (σ s - top σ z)

/-- The sum of the weights, the sink's among them. -/
def den (σ : Fin 160 → EReal) (z : EReal) : EReal := ∑ s, wt σ z s + Ideal.exp (z - top σ z)

/-- The kernel's weighted sum: divided once. -/
def attend (σ : Fin 160 → EReal) (z : EReal) (v : Fin 160 → EReal) : EReal := Ideal.div (∑ s, wt σ z s * v s) (den σ z)

/-- The reference's weighted sum: every weight divided. -/
def attendR (σ : Fin 160 → EReal) (z : EReal) (v : Fin 160 → EReal) : EReal := ∑ s, Ideal.div (wt σ z s) (den σ z) * v s

theorem neg_inf : Ideal.ofBits FTy.f32 4286578688#32 = ⊥ := by
  simp [Ideal.ofBits, Ideal.ieee, -EReal.coe_mul]

/-- With no score and no sink at `⊤`, and a sink that is a number, the maximum is a number. -/
theorem top_real (σ : Fin 160 → EReal) (z : ℝ) (h : ∀ s, σ s < ⊤) : ∃ r : ℝ, top σ z = r := by
  have ht : top σ z < ⊤ := by
    unfold top
    rw [neg_inf]
    exact max_lt ((Finset.fold_max_lt ⊤).mpr ⟨bot_lt_top, fun s _ => h s⟩) (EReal.coe_lt_top z)
  have hb : ⊥ < top σ z := lt_of_lt_of_le (EReal.bot_lt_coe z) (le_max_right _ _)
  exact ⟨(top σ z).toReal, (EReal.coe_toReal ht.ne hb.ne').symm⟩

theorem wt_nonneg (σ : Fin 160 → EReal) (z : EReal) (s : Fin 160) : 0 ≤ wt σ z s := Ext.exp_nonneg _

/-- Then the sum of the weights is positive: the sink's weight is. -/
theorem den_pos (σ : Fin 160 → EReal) (z : ℝ) (h : ∀ s, σ s < ⊤) : 0 < den σ z := by
  obtain ⟨r, hr⟩ := top_real σ z h
  unfold den
  have h1 : 0 < Ideal.exp ((z : EReal) - top σ z) := by
    rw [hr, ← EReal.coe_sub]
    exact EReal.coe_pos.mpr (Real.exp_pos _)
  exact lt_of_lt_of_le h1 (le_add_of_nonneg_left (Finset.sum_nonneg fun s _ => wt_nonneg σ z s))

/-- Dividing at the end or weight by weight is the same. -/
theorem attend_eq (σ : Fin 160 → EReal) (z : ℝ) (v : Fin 160 → EReal) (h : ∀ s, σ s < ⊤) : attend σ z v = attendR σ z v := by
  have hp := den_pos σ z h
  unfold attend attendR
  rw [Ext.div_eq_mul _ hp.ne', Ext.sum_mul _ _ (EReal.inv_nonneg_of_nonneg hp.le) (by
    induction hd : den σ z using EReal.rec with
    | bot => simp
    | top => simp
    | coe r => rw [← EReal.coe_inv]; exact EReal.coe_ne_top _)]
  refine Finset.sum_congr rfl fun s _ => ?_
  rw [Ext.div_eq_mul _ hp.ne', mul_assoc, mul_comm (v s), ← mul_assoc]

/-- A sum of products of numbers is a number. -/
theorem sum_real (n : ℕ) (f g : Fin n → EReal) (hf : ∀ i, ∃ r : ℝ, f i = r) (hg : ∀ i, ∃ r : ℝ, g i = r) : ∃ r : ℝ, ∑ i, f i * g i = r := by
  choose a ha using hf
  choose b hb using hg
  simp only [ha, hb, ← EReal.coe_mul]
  have h : ∀ s : Finset (Fin n), ∃ r : ℝ, ∑ i ∈ s, ((a i * b i : ℝ) : EReal) = r := by
    intro s
    classical
    induction s using Finset.induction_on with
    | empty => exact ⟨0, by simp⟩
    | insert i s hi ih =>
      obtain ⟨r, hr⟩ := ih
      exact ⟨a i * b i + r, by rw [Finset.sum_insert hi, hr, EReal.coe_add]⟩
  exact h Finset.univ

/-- The scores' scale, an eighth. -/
theorem scale_real : ∃ r : ℝ, Ideal.ofBits FTy.f32 1040187392#32 = r := by
  refine ⟨1 / 8, ?_⟩
  simp [Ideal.ofBits, Ideal.ieee, -EReal.coe_mul]
  norm_num

/-- A score. -/
def score (q k : Fin 64 → EReal) : EReal := (∑ d, q d * k d) * Ideal.ofBits FTy.f32 1040187392#32

theorem score_lt_top (q k : Fin 64 → EReal) (hq : ∀ d, ∃ r : ℝ, q d = r) (hk : ∀ d, ∃ r : ℝ, k d = r) : score q k < ⊤ := by
  obtain ⟨a, ha⟩ := sum_real 64 q k hq hk
  obtain ⟨b, hb⟩ := scale_real
  unfold score
  rw [ha, hb, ← EReal.coe_mul]
  exact EReal.coe_lt_top _

/-- A number of absolute value below `⊤` is a number. -/
theorem real_of_abs (x : EReal) (h : max x (-x) < ⊤) : ∃ r : ℝ, x = r := by
  induction x using EReal.rec with
  | bot => exact absurd h (by simp)
  | top => exact absurd h (by simp)
  | coe r => exact ⟨r, rfl⟩

/-- Only the first half of the lanes counts. -/
theorem sum_even (f g : Fin 128 → EReal) : ∑ x : Fin 128, (if x.val < 64 then f x else 0) * g x = ∑ d : Fin 64, f ⟨d.val, by omega⟩ * g ⟨d.val, by omega⟩ := by
  refine (Fin.sum_univ_add (a := 64) (b := 64) _).trans ?_
  rw [Finset.sum_eq_zero (s := Finset.univ) (f := fun i : Fin 64 => (if (Fin.natAdd 64 i).val < 64 then f (Fin.natAdd 64 i) else 0) * g (Fin.natAdd 64 i))
    (fun i _ => by rw [if_neg (by show ¬ (64 + i.val < 64); omega), zero_mul]), add_zero]
  exact Finset.sum_congr rfl fun i _ => by rw [if_pos (by show i.val < 64; omega)]; rfl

/-- Only the second half of the lanes counts. -/
theorem sum_odd (f g : Fin 128 → EReal) : ∑ x : Fin 128, (if x.val < 64 then 0 else f x) * g x = ∑ d : Fin 64, f ⟨64 + d.val, by omega⟩ * g ⟨64 + d.val, by omega⟩ := by
  refine (Fin.sum_univ_add (a := 64) (b := 64) _).trans ?_
  rw [Finset.sum_eq_zero (s := Finset.univ) (f := fun i : Fin 64 => (if (Fin.castAdd 64 i).val < 64 then 0 else f (Fin.castAdd 64 i)) * g (Fin.castAdd 64 i))
    (fun i _ => by rw [if_pos (by show i.val < 64; omega), zero_mul]), zero_add]
  exact Finset.sum_congr rfl fun i _ => by rw [if_neg (by show ¬ (64 + i.val < 64); omega)]; rfl

theorem lane_lt : ∀ x : Fin 128, IntOp.cmpi CmpIPredicate.slt (BitVec.ofNat 32 x.val) 64#32 = if x.val < 64 then 1#1 else 0#1 := by
  decide +kernel

theorem lane_ge : ∀ x : Fin 128, IntOp.cmpi CmpIPredicate.sge (BitVec.ofNat 32 x.val) 64#32 = if x.val < 64 then 0#1 else 1#1 := by
  decide +kernel

theorem sel_lt (x : Fin 128) (a b : EReal) : Scalar.select (IntOp.cmpi CmpIPredicate.slt (BitVec.ofNat 32 x.val) 64#32) a b = if x.val < 64 then a else b := by
  rw [lane_lt]
  by_cases h : x.val < 64
  · rw [if_pos h, if_pos h]; rfl
  · rw [if_neg h, if_neg h]; rfl

theorem sel_ge (x : Fin 128) (a b : EReal) : Scalar.select (IntOp.cmpi CmpIPredicate.sge (BitVec.ofNat 32 x.val) 64#32) a b = if x.val < 64 then b else a := by
  rw [lane_ge]
  by_cases h : x.val < 64
  · rw [if_pos h, if_pos h]; rfl
  · rw [if_neg h, if_neg h]; rfl

end Cert.Swa

end
-- ==== Proof.SwaKernel.lean ====
/-
  The windowed attention call on the sampled frames: what its result arrays hold after the run. Every grid point is one
  stream: its new keys and values put behind the cached ones, the last 128 rows kept, and its queries attended head by head.
-/
module

public import proofs.«01_k».proof.Proof.Gen.Kernel7Ideal.Value
public import proofs.«01_k».proof.Proof.Swa
public import Idealize.ShloMosaic.Lib.Pointwise
public import Idealize.ShloMosaic.Lib.Pipeline.ValueKit
public import Idealize.ShloMosaic.Lib.StableHlo.ReadAt

@[expose] public section

set_option maxRecDepth 16384

noncomputable section

namespace Cert.SwaSample

open Idealize.ShloMosaic Idealize.ShloMosaic.TcCoe Idealize.SL.Sem
open Cert.Kernel7Ideal Cert.Kernel7Ideal.Gen

/-! ## One stream -/

section block

/-- The cached rows with the new ones behind them. -/
def cat (x : Vec Ideal S1x128x128 .f32) (y : Vec Ideal S32x128 .f32) (s : Fin 160) (l : Fin 128) : EReal :=
  if h : s.val < 128 then x (ix3 0 ⟨s.val, h⟩ l) else y (ix2 ⟨s.val - 128, by omega⟩ l)

theorem pay1_at (x3 : Vec Ideal S1x128x128 .f32) (kn : Vec Ideal S32x128 .f32) (s : Fin 160) (l : Fin 128) : k0_pay1 x3 kn (ix2 s l) = cat x3 kn s l := by
  pointwise [k0_pay1]
  rfl

theorem pay2_at (x4 : Vec Ideal S1x128x128 .f32) (vn : Vec Ideal S32x128 .f32) (s : Fin 160) (l : Fin 128) : k0_pay2 x4 vn (ix2 s l) = cat x4 vn s l := by
  pointwise [k0_pay2]
  rfl

theorem nk_pay (x3 : Vec Ideal S1x128x128 .f32) (kn : Vec Ideal S32x128 .f32) (s l : Fin 128) :
    k0_pay3 x3 kn (ix3 0 s l) = cat x3 kn ⟨32 + s.val, by omega⟩ l := by
  pointwise [k0_pay3]
  exact pay1_at x3 kn _ l

theorem nv_pay (x4 : Vec Ideal S1x128x128 .f32) (vn : Vec Ideal S32x128 .f32) (s l : Fin 128) :
    k0_pay4 x4 vn (ix3 0 s l) = cat x4 vn ⟨32 + s.val, by omega⟩ l := by
  pointwise [k0_pay4]
  exact pay2_at x4 vn _ l

/-- The first head's keys, in both halves of the lanes. -/
theorem pay6_at (x3 : Vec Ideal S1x128x128 .f32) (kn : Vec Ideal S32x128 .f32) (s : Fin 160) (x : Fin 128) :
    k0_pay6 x3 kn (ix2 s x) = cat x3 kn s ⟨x.val % 64, by omega⟩ := by
  pointwise [k0_pay6]
  simp only [pay1_at, Swa.sel_lt]
  by_cases h : x.val < 64
  · rw [if_pos h]; exact congrArg (cat x3 kn s) (Fin.ext (Nat.mod_eq_of_lt h).symm)
  · rw [if_neg h]; exact congrArg (cat x3 kn s) (Fin.ext (by show (x.val + 128 - 64) % 128 = x.val % 64; omega))

theorem pay9_at (V : FVec Ideal S160x128 .f32) (s : Fin 160) (x : Fin 128) :
    k0_pay9 V (ix2 s x) = V (ix2 s ⟨x.val % 64, by omega⟩) := by
  pointwise [k0_pay9]
  simp only [Swa.sel_lt]
  by_cases h : x.val < 64
  · rw [if_pos h]; exact congrArg (fun i => V (ix2 s i)) (Fin.ext (Nat.mod_eq_of_lt h).symm)
  · rw [if_neg h]; exact congrArg (fun i => V (ix2 s i)) (Fin.ext (by show (x.val + 128 - 64) % 128 = x.val % 64; omega))

theorem pay16_at (V : FVec Ideal S160x128 .f32) (s : Fin 160) (x : Fin 128) :
    k0_pay16 V (ix2 s x) = V (ix2 s ⟨64 + x.val % 64, by omega⟩) := by
  pointwise [k0_pay16]
  simp only [Swa.sel_ge]
  by_cases h : x.val < 64
  · rw [if_pos h]; exact congrArg (fun i => V (ix2 s i)) (Fin.ext (by show (x.val + 128 - 64) % 128 = 64 + x.val % 64; omega))
  · rw [if_neg h]; exact congrArg (fun i => V (ix2 s i)) (Fin.ext (by show x.val = 64 + x.val % 64; omega))

/-- A row of a head group's masked queries, against keys repeated in both halves of the lanes: the query head's own score. -/
theorem masked (qs : Vec Ideal S32x256 .bf16) (k : Fin 128 → EReal) (kd : Fin 64 → EReal) (hk : ∀ x : Fin 128, k x = kd ⟨x.val % 64, by omega⟩)
    (R : Fin 128) (g : Fin 4) (r : Fin 32) (hR : R.val = 32 * g.val + r.val) (f : Fin 128 → EReal)
    (hf : ∀ x : Fin 128, f x = if g.val % 2 = 0 then (if x.val < 64 then qs (ix2 r ⟨128 * (g.val / 2) + x.val, by omega⟩) else 0)
      else (if x.val < 64 then 0 else qs (ix2 r ⟨128 * (g.val / 2) + x.val, by omega⟩))) :
    (∑ x, f x * k x) * Ideal.ofBits FTy.f32 1040187392#32 = Swa.score (fun d => qs (ix2 r ⟨64 * g.val + d.val, by omega⟩)) kd := by
  unfold Swa.score
  refine congrArg (fun e : EReal => e * Ideal.ofBits FTy.f32 1040187392#32) ?_
  simp only [hf, hk]
  by_cases h : g.val % 2 = 0
  · simp only [if_pos h]
    refine (Swa.sum_even (fun x => qs (ix2 r ⟨128 * (g.val / 2) + x.val, by omega⟩)) (fun x => kd ⟨x.val % 64, by omega⟩)).trans (Finset.sum_congr rfl fun d _ => ?_)
    exact congrArg₂ (fun a b : EReal => a * b) (congrArg (fun i => qs (ix2 r i)) (Fin.ext (by show 128 * (g.val / 2) + d.val = 64 * g.val + d.val; omega)))
      (congrArg kd (Fin.ext (by show d.val % 64 = d.val; omega)))
  · simp only [if_neg h]
    refine (Swa.sum_odd (fun x => qs (ix2 r ⟨128 * (g.val / 2) + x.val, by omega⟩)) (fun x => kd ⟨x.val % 64, by omega⟩)).trans (Finset.sum_congr rfl fun d _ => ?_)
    exact congrArg₂ (fun a b : EReal => a * b) (congrArg (fun i => qs (ix2 r i)) (Fin.ext (by show 128 * (g.val / 2) + (64 + d.val) = 64 * g.val + d.val; omega)))
      (congrArg kd (Fin.ext (by show (64 + d.val) % 64 = d.val; omega)))

/-- The four heads' masked queries stacked, read at a row. -/
theorem stack (qs : Vec Ideal S32x256 .bf16) (R : Fin 128) (g : Fin 4) (r : Fin 32) (hR : R.val = 32 * g.val + r.val) (x : Fin 128) :
    (if h : R.val < 32 then (if x.val < 64 then qs (ix2 ⟨R.val, h⟩ ⟨x.val, by omega⟩) else 0)
      else if h : R.val - 32 < 32 then (if x.val < 64 then 0 else qs (ix2 ⟨R.val - 32, h⟩ ⟨x.val, by omega⟩))
      else if h : R.val - 32 - 32 < 32 then (if x.val < 64 then qs (ix2 ⟨R.val - 32 - 32, h⟩ ⟨128 + x.val, by omega⟩) else 0)
      else (if x.val < 64 then 0 else qs (ix2 ⟨R.val - 32 - 32 - 32, by omega⟩ ⟨128 + x.val, by omega⟩)))
    = if g.val % 2 = 0 then (if x.val < 64 then qs (ix2 r ⟨128 * (g.val / 2) + x.val, by omega⟩) else 0)
      else (if x.val < 64 then 0 else qs (ix2 r ⟨128 * (g.val / 2) + x.val, by omega⟩)) := by
  obtain ⟨R, hR'⟩ := R
  obtain ⟨r, hr⟩ := r
  obtain ⟨x, hx⟩ := x
  simp only at hR
  subst hR
  have e : ∀ (a b : ℕ) (ha : a < 32) (hb : b < 256) (c : ℕ) (hc : c < 256), a = r → b = c → qs (ix2 ⟨a, ha⟩ ⟨b, hb⟩) = qs (ix2 ⟨r, hr⟩ ⟨c, hc⟩) := by
    intro a b ha hb c hc h1 h2; subst h1; subst h2; rfl
  fin_cases g
  · rw [dif_pos (by show 32 * 0 + r < 32; omega)]
    refine Eq.trans ?_ (if_pos (by rfl)).symm
    by_cases h : x < 64
    · rw [if_pos h, if_pos h]; exact e _ _ _ _ _ _ (by show 32 * 0 + r = r; omega) (by show x = 128 * (0 / 2) + x; omega)
    · rw [if_neg h, if_neg h]
  · rw [dif_neg (by show ¬ (32 * 1 + r < 32); omega), dif_pos (by show 32 * 1 + r - 32 < 32; omega)]
    refine Eq.trans ?_ (if_neg (by show ¬ (1 % 2 = 0); omega)).symm
    by_cases h : x < 64
    · rw [if_pos h, if_pos h]
    · rw [if_neg h, if_neg h]; exact e _ _ _ _ _ _ (by show 32 * 1 + r - 32 = r; omega) (by show x = 128 * (1 / 2) + x; omega)
  · rw [dif_neg (by show ¬ (32 * 2 + r < 32); omega), dif_neg (by show ¬ (32 * 2 + r - 32 < 32); omega), dif_pos (by show 32 * 2 + r - 32 - 32 < 32; omega)]
    refine Eq.trans ?_ (if_pos (by rfl)).symm
    by_cases h : x < 64
    · rw [if_pos h, if_pos h]; exact e _ _ _ _ _ _ (by show 32 * 2 + r - 32 - 32 = r; omega) (by show 128 + x = 128 * (2 / 2) + x; omega)
    · rw [if_neg h, if_neg h]
  · rw [dif_neg (by show ¬ (32 * 3 + r < 32); omega), dif_neg (by show ¬ (32 * 3 + r - 32 < 32); omega), dif_neg (by show ¬ (32 * 3 + r - 32 - 32 < 32); omega)]
    refine Eq.trans ?_ (if_neg (by show ¬ (3 % 2 = 0); omega)).symm
    by_cases h : x < 64
    · rw [if_pos h, if_pos h]
    · rw [if_neg h, if_neg h]; exact e _ _ _ _ _ _ (by show 32 * 3 + r - 32 - 32 - 32 = r; omega) (by show 128 + x = 128 * (3 / 2) + x; omega)

theorem score0 (qs : Vec Ideal S32x256 .bf16) (x3 : Vec Ideal S1x128x128 .f32) (kn : Vec Ideal S32x128 .f32) (R : Fin 128) (g : Fin 4) (r : Fin 32)
    (hR : R.val = 32 * g.val + r.val) (s : Fin 160) :
    k0_pay8 (k0_pay5 qs) (k0_pay6 x3 kn) (iota Kind.tc S32x128 32 [1] iota_S32x128_d1_w32) k0_pay7 (ix2 R s)
      = Swa.score (fun d => qs (ix2 r ⟨64 * g.val + d.val, by omega⟩)) (fun d => cat x3 kn s ⟨d.val, by omega⟩) := by
  pointwise [k0_pay8, k0_pay5, k0_pay7]
  simp only [Swa.sel_lt]
  exact masked qs _ (fun d => cat x3 kn s ⟨d.val, by omega⟩) (fun x => pay6_at x3 kn s x) R g r hR _ (fun x => stack qs R g r hR x)

theorem pay15_key (x3 : Vec Ideal S1x128x128 .f32) (kn : Vec Ideal S32x128 .f32) (s : Fin 160) (x : Fin 128) :
    (if x.val < 64 then cat x3 kn s ⟨(x.val + 128 - 64) % 128, by omega⟩ else cat x3 kn s x) = cat x3 kn s ⟨64 + x.val % 64, by omega⟩ := by
  by_cases h : x.val < 64
  · rw [if_pos h]; exact congrArg (cat x3 kn s) (Fin.ext (by show (x.val + 128 - 64) % 128 = 64 + x.val % 64; omega))
  · rw [if_neg h]; exact congrArg (cat x3 kn s) (Fin.ext (by show x.val = 64 + x.val % 64; omega))

theorem score1 (qs : Vec Ideal S32x256 .bf16) (x3 : Vec Ideal S1x128x128 .f32) (kn : Vec Ideal S32x128 .f32) (R : Fin 128) (g : Fin 4) (r : Fin 32)
    (hR : R.val = 32 * g.val + r.val) (s : Fin 160) :
    k0_pay15 (k0_pay1 x3 kn) qs (ix2 R s)
      = Swa.score (fun d => qs (ix2 r ⟨64 * g.val + d.val, by omega⟩)) (fun d => cat x3 kn s ⟨64 + d.val, by omega⟩) := by
  pointwise [k0_pay15]
  simp only [Swa.sel_lt, Swa.sel_ge, pay1_at]
  exact masked qs _ (fun d => cat x3 kn s ⟨64 + d.val, by omega⟩) (fun x => pay15_key x3 kn s x) R g r hR _ (fun x => stack qs R g r hR x)

/-- The sink of the group's head `g`. -/
def pick (a b c d : EReal) (g : Fin 4) : EReal := ![a, b, c, d] g

theorem pick_eq (a b c d : EReal) (R : Fin 128) (g : Fin 4) (r : Fin 32) (hR : R.val = 32 * g.val + r.val) :
    Scalar.select (IntOp.cmpi CmpIPredicate.eq (BitVec.ofNat 32 (R.val / 32)) 0#32) a
      (Scalar.select (IntOp.cmpi CmpIPredicate.eq (BitVec.ofNat 32 (R.val / 32)) 1#32) b
        (Scalar.select (IntOp.cmpi CmpIPredicate.eq (BitVec.ofNat 32 (R.val / 32)) 2#32) c d)) = pick a b c d g := by
  rw [show R.val / 32 = g.val by omega]
  fin_cases g <;> rfl

theorem row_group0 : ∀ R : Fin 128, k0_pay11 (ix2 R 0) = BitVec.ofNat 32 (R.val / 32) := by decide +kernel

theorem row_group1 : ∀ r : Fin 128, (Scalar.select
    (IntOp.andi (IntOp.cmpi CmpIPredicate.ne (k0_pay19 (ix2 r 0)) (k0_pay20 (ix2 r 0)))
      (IntOp.cmpi CmpIPredicate.ne (IntOp.remsi ArithUnit.vector (BitVec.ofNat 32 r.val) 32#32) 0#32))
    (IntOp.subi (k0_pay18 (ix2 r 0)) 1#32) (k0_pay18 (ix2 r 0))) = BitVec.ofNat 32 (r.val / 32) := by decide +kernel

section heads

variable (a b c d : Elt Ideal .f32) (S : FVec Ideal S128x160 .f32) (V : FVec Ideal S160x128 .bf16)

theorem pay12_at (R : Fin 128) (g : Fin 4) (r : Fin 32) (hR : R.val = 32 * g.val + r.val) (l : Fin 128) :
    k0_pay12 a b c d S V k0_pay11 0#32 (ix2 R l) = Swa.attend (fun s => S (ix2 R s)) (pick a b c d g) (fun s => V (ix2 s l)) := by
  pointwise [k0_pay12]
  simp only [row_group0, pick_eq a b c d R g r hR]
  rfl

theorem pay21_at (R : Fin 128) (g : Fin 4) (r : Fin 32) (hR : R.val = 32 * g.val + r.val) (l : Fin 128) :
    k0_pay21 a b c d S V (iota Kind.tc S128x1 32 [0] iota_S128x1_d0_w32) 32#32 k0_pay18 k0_pay19 k0_pay20 (ix2 R l)
      = Swa.attend (fun s => S (ix2 R s)) (pick a b c d g) (fun s => V (ix2 s l)) := by
  pointwise [k0_pay21]
  simp only [row_group1, pick_eq a b c d R g r hR]
  rfl

end heads

/-- Column `j` of the call's output at frame `r`: head `j / 64` attended over its group's keys, component `j % 64` of the values. -/
def oAt (x0 : Vec Ideal S8 .f32) (x1 : Vec Ideal S32x512 .bf16) (x3 x4 : Vec Ideal S1x128x128 .f32) (kn vn : Vec Ideal S32x128 .f32) (r : Fin 32) (j : Fin 512) : EReal :=
  Swa.attend (fun s => Swa.score (fun d => x1 (ix2 r ⟨64 * (j.val / 64) + d.val, by omega⟩)) (fun d => cat x3 kn s ⟨64 * (j.val / 256) + d.val, by omega⟩))
    (x0 (ix1 ⟨j.val / 64, by omega⟩)) (fun s => cat x4 vn s ⟨64 * (j.val / 256) + j.val % 64, by omega⟩)

theorem attend_congr {σ σ' : Fin 160 → EReal} {z z' : EReal} {v v' : Fin 160 → EReal} (h1 : ∀ s, σ s = σ' s) (h2 : z = z') (h3 : ∀ s, v s = v' s) :
    Swa.attend σ z v = Swa.attend σ' z' v' := by
  rw [funext h1, h2, funext h3]

theorem score_congr {q q' k k' : Fin 64 → EReal} (h1 : ∀ d, q d = q' d) (h2 : ∀ d, k d = k' d) : Swa.score q k = Swa.score q' k' := by
  rw [funext h1, funext h2]

variable (x0 : Vec Ideal S8 .f32) (x1 : Vec Ideal S32x512 .bf16) (x3 x4 : Vec Ideal S1x128x128 .f32) (kn vn : Vec Ideal S32x128 .f32)

theorem glue0 (R : Fin 128) (g : Fin 4) (r : Fin 32) (hR : R.val = 32 * g.val + r.val) (l : Fin 128) (hl : l.val / 64 = g.val % 2) (j : Fin 512)
    (hj : j.val = 128 * (g.val / 2) + l.val) :
    Swa.attend (fun s => k0_pay8 (k0_pay5 (View.ld x1 (Rect.unit ![0, 0] ![32, 256] inb_S32x512_S32x256_0_0))) (k0_pay6 x3 kn) (iota Kind.tc S32x128 32 [1] iota_S32x128_d1_w32) k0_pay7 (ix2 R s))
      (pick (x0 (ix1 0)) (x0 (ix1 1)) (x0 (ix1 2)) (x0 (ix1 3)) g) (fun s => k0_pay9 (k0_pay2 x4 vn) (ix2 s l)) = oAt x0 x1 x3 x4 kn vn r j := by
  have hg : j.val / 64 = g.val := by omega
  have h0 : j.val / 256 = 0 := by omega
  refine attend_congr (fun s => (score0 _ x3 kn R g r hR s).trans (score_congr (fun d => ?_) fun d => ?_)) ?_ fun s => (pay9_at _ s l).trans ((pay2_at x4 vn s _).trans ?_)
  · pointwise []
    exact congrArg (fun i => x1 (ix2 r i)) (Fin.ext (by show 64 * g.val + d.val = 64 * (j.val / 64) + d.val; rw [hg]))
  · exact congrArg (cat x3 kn s) (Fin.ext (by show d.val = 64 * (j.val / 256) + d.val; omega))
  · have : (⟨j.val / 64, by omega⟩ : Fin 8) = ⟨g.val, by omega⟩ := Fin.ext hg
    rw [this]
    fin_cases g <;> rfl
  · exact congrArg (cat x4 vn s) (Fin.ext (by show l.val % 64 = 64 * (j.val / 256) + j.val % 64; omega))

theorem glue1 (R : Fin 128) (g : Fin 4) (r : Fin 32) (hR : R.val = 32 * g.val + r.val) (l : Fin 128) (hl : l.val / 64 = g.val % 2) (j : Fin 512)
    (hj : j.val = 256 + 128 * (g.val / 2) + l.val) :
    Swa.attend (fun s => k0_pay15 (k0_pay1 x3 kn) (View.ld x1 (Rect.unit ![0, 256] ![32, 256] inb_S32x512_S32x256_0_256)) (ix2 R s))
      (pick (x0 (ix1 4)) (x0 (ix1 5)) (x0 (ix1 6)) (x0 (ix1 7)) g) (fun s => k0_pay16 (k0_pay2 x4 vn) (ix2 s l)) = oAt x0 x1 x3 x4 kn vn r j := by
  have hg : j.val / 64 = 4 + g.val := by omega
  have h0 : j.val / 256 = 1 := by omega
  refine attend_congr (fun s => (score1 _ x3 kn R g r hR s).trans (score_congr (fun d => ?_) fun d => ?_)) ?_ fun s => (pay16_at _ s l).trans ((pay2_at x4 vn s _).trans ?_)
  · pointwise []
    exact congrArg (fun i => x1 (ix2 r i)) (Fin.ext (by show 256 + (64 * g.val + d.val) = 64 * (j.val / 64) + d.val; omega))
  · exact congrArg (cat x3 kn s) (Fin.ext (by show 64 + d.val = 64 * (j.val / 256) + d.val; omega))
  · have : (⟨j.val / 64, by omega⟩ : Fin 8) = ⟨4 + g.val, by omega⟩ := Fin.ext hg
    rw [this]
    fin_cases g <;> rfl
  · exact congrArg (cat x4 vn s) (Fin.ext (by show 64 + l.val % 64 = 64 * (j.val / 256) + j.val % 64; omega))

theorem piece0 (r : Fin 32) (l : Fin 128) :
    k0_pay13 (x0 (ix1 0)) (x0 (ix1 1)) (x0 (ix1 2)) (x0 (ix1 3)) (k0_pay8 (k0_pay5 (View.ld x1 (Rect.unit ![0, 0] ![32, 256] inb_S32x512_S32x256_0_0))) (k0_pay6 x3 kn) (iota Kind.tc S32x128 32 [1] iota_S32x128_d1_w32) k0_pay7)
      (k0_pay9 (k0_pay2 x4 vn)) k0_pay10 k0_pay11 0#32 (ix2 r l) = oAt x0 x1 x3 x4 kn vn r ⟨l.val, by omega⟩ := by
  pointwise [k0_pay13, k0_pay10]
  rw [Swa.sel_lt]
  by_cases h : l.val < 64
  · rw [if_pos h]
    refine (pay12_at _ _ _ _ _ _ _ 0 r (by show r.val = 32 * 0 + r.val; omega) l).trans (glue0 x0 x1 x3 x4 kn vn _ 0 r (by show r.val = 32 * 0 + r.val; omega) l (by show l.val / 64 = 0 % 2; omega) _ (by show l.val = 128 * (0 / 2) + l.val; omega))
  · rw [if_neg h]
    refine (pay12_at _ _ _ _ _ _ _ 1 r (by show 32 + r.val = 32 * 1 + r.val; omega) l).trans (glue0 x0 x1 x3 x4 kn vn _ 1 r (by show 32 + r.val = 32 * 1 + r.val; omega) l (by show l.val / 64 = 1 % 2; omega) _ (by show l.val = 128 * (1 / 2) + l.val; omega))

theorem piece1 (r : Fin 32) (l : Fin 128) :
    k0_pay14 (x0 (ix1 0)) (x0 (ix1 1)) (x0 (ix1 2)) (x0 (ix1 3)) (k0_pay8 (k0_pay5 (View.ld x1 (Rect.unit ![0, 0] ![32, 256] inb_S32x512_S32x256_0_0))) (k0_pay6 x3 kn) (iota Kind.tc S32x128 32 [1] iota_S32x128_d1_w32) k0_pay7)
      (k0_pay9 (k0_pay2 x4 vn)) k0_pay10 k0_pay11 0#32 (ix2 r l) = oAt x0 x1 x3 x4 kn vn r ⟨128 + l.val, by omega⟩ := by
  pointwise [k0_pay14, k0_pay10]
  rw [Swa.sel_lt]
  by_cases h : l.val < 64
  · rw [if_pos h]
    refine (pay12_at _ _ _ _ _ _ _ 2 r (by show 64 + r.val = 32 * 2 + r.val; omega) l).trans (glue0 x0 x1 x3 x4 kn vn _ 2 r (by show 64 + r.val = 32 * 2 + r.val; omega) l (by show l.val / 64 = 2 % 2; omega) _ (by show 128 + l.val = 128 * (2 / 2) + l.val; omega))
  · rw [if_neg h]
    refine (pay12_at _ _ _ _ _ _ _ 3 r (by show 96 + r.val = 32 * 3 + r.val; omega) l).trans (glue0 x0 x1 x3 x4 kn vn _ 3 r (by show 96 + r.val = 32 * 3 + r.val; omega) l (by show l.val / 64 = 3 % 2; omega) _ (by show 128 + l.val = 128 * (3 / 2) + l.val; omega))

theorem piece2 (r : Fin 32) (l : Fin 128) :
    k0_pay22 (x0 (ix1 4)) (x0 (ix1 5)) (x0 (ix1 6)) (x0 (ix1 7)) (k0_pay15 (k0_pay1 x3 kn) (View.ld x1 (Rect.unit ![0, 256] ![32, 256] inb_S32x512_S32x256_0_256)))
      (k0_pay16 (k0_pay2 x4 vn)) k0_pay17 (iota Kind.tc S128x1 32 [0] iota_S128x1_d0_w32) 32#32 k0_pay18 k0_pay19 k0_pay20 (ix2 r l) = oAt x0 x1 x3 x4 kn vn r ⟨256 + l.val, by omega⟩ := by
  pointwise [k0_pay22, k0_pay17]
  rw [Swa.sel_lt]
  by_cases h : l.val < 64
  · rw [if_pos h]
    refine (pay21_at _ _ _ _ _ _ _ 0 r (by show r.val = 32 * 0 + r.val; omega) l).trans (glue1 x0 x1 x3 x4 kn vn _ 0 r (by show r.val = 32 * 0 + r.val; omega) l (by show l.val / 64 = 0 % 2; omega) _ (by show 256 + l.val = 256 + 128 * (0 / 2) + l.val; omega))
  · rw [if_neg h]
    refine (pay21_at _ _ _ _ _ _ _ 1 r (by show 32 + r.val = 32 * 1 + r.val; omega) l).trans (glue1 x0 x1 x3 x4 kn vn _ 1 r (by show 32 + r.val = 32 * 1 + r.val; omega) l (by show l.val / 64 = 1 % 2; omega) _ (by show 256 + l.val = 256 + 128 * (1 / 2) + l.val; omega))

theorem piece3 (r : Fin 32) (l : Fin 128) :
    k0_pay23 (x0 (ix1 4)) (x0 (ix1 5)) (x0 (ix1 6)) (x0 (ix1 7)) (k0_pay15 (k0_pay1 x3 kn) (View.ld x1 (Rect.unit ![0, 256] ![32, 256] inb_S32x512_S32x256_0_256)))
      (k0_pay16 (k0_pay2 x4 vn)) k0_pay17 (iota Kind.tc S128x1 32 [0] iota_S128x1_d0_w32) 32#32 k0_pay18 k0_pay19 k0_pay20 (ix2 r l) = oAt x0 x1 x3 x4 kn vn r ⟨384 + l.val, by omega⟩ := by
  pointwise [k0_pay23, k0_pay17]
  rw [Swa.sel_lt]
  by_cases h : l.val < 64
  · rw [if_pos h]
    refine (pay21_at _ _ _ _ _ _ _ 2 r (by show 64 + r.val = 32 * 2 + r.val; omega) l).trans (glue1 x0 x1 x3 x4 kn vn _ 2 r (by show 64 + r.val = 32 * 2 + r.val; omega) l (by show l.val / 64 = 2 % 2; omega) _ (by show 384 + l.val = 256 + 128 * (2 / 2) + l.val; omega))
  · rw [if_neg h]
    refine (pay21_at _ _ _ _ _ _ _ 3 r (by show 96 + r.val = 32 * 3 + r.val; omega) l).trans (glue1 x0 x1 x3 x4 kn vn _ 3 r (by show 96 + r.val = 32 * 3 + r.val; omega) l (by show l.val / 64 = 3 % 2; omega) _ (by show 384 + l.val = 256 + 128 * (3 / 2) + l.val; omega))

theorem sc0 (h) : View.ld x0 (Rect.unit ![0] ![1] inb_S8_S1_0) (Shape.Idx.first h) = x0 (ix1 0) := by
  generalize Shape.Idx.first h = y
  obtain ⟨q, rfl⟩ : ∃ q : Fin 1, y = ix1 q := ⟨y 0, eq_ix1 y⟩
  show x0 _ = _
  congr 1
  blk_ext []
  show 0 + 1 * q.val = 0
  omega

theorem sc1 (h) : View.ld x0 (Rect.unit ![1] ![1] inb_S8_S1_1) (Shape.Idx.first h) = x0 (ix1 1) := by
  generalize Shape.Idx.first h = y
  obtain ⟨q, rfl⟩ : ∃ q : Fin 1, y = ix1 q := ⟨y 0, eq_ix1 y⟩
  show x0 _ = _
  congr 1
  blk_ext []
  show 1 + 1 * q.val = 1
  omega

theorem sc2 (h) : View.ld x0 (Rect.unit ![2] ![1] inb_S8_S1_2) (Shape.Idx.first h) = x0 (ix1 2) := by
  generalize Shape.Idx.first h = y
  obtain ⟨q, rfl⟩ : ∃ q : Fin 1, y = ix1 q := ⟨y 0, eq_ix1 y⟩
  show x0 _ = _
  congr 1
  blk_ext []
  show 2 + 1 * q.val = 2
  omega

theorem sc3 (h) : View.ld x0 (Rect.unit ![3] ![1] inb_S8_S1_3) (Shape.Idx.first h) = x0 (ix1 3) := by
  generalize Shape.Idx.first h = y
  obtain ⟨q, rfl⟩ : ∃ q : Fin 1, y = ix1 q := ⟨y 0, eq_ix1 y⟩
  show x0 _ = _
  congr 1
  blk_ext []
  show 3 + 1 * q.val = 3
  omega

theorem sc4 (h) : View.ld x0 (Rect.unit ![4] ![1] inb_S8_S1_4) (Shape.Idx.first h) = x0 (ix1 4) := by
  generalize Shape.Idx.first h = y
  obtain ⟨q, rfl⟩ : ∃ q : Fin 1, y = ix1 q := ⟨y 0, eq_ix1 y⟩
  show x0 _ = _
  congr 1
  blk_ext []
  show 4 + 1 * q.val = 4
  omega

theorem sc5 (h) : View.ld x0 (Rect.unit ![5] ![1] inb_S8_S1_5) (Shape.Idx.first h) = x0 (ix1 5) := by
  generalize Shape.Idx.first h = y
  obtain ⟨q, rfl⟩ : ∃ q : Fin 1, y = ix1 q := ⟨y 0, eq_ix1 y⟩
  show x0 _ = _
  congr 1
  blk_ext []
  show 5 + 1 * q.val = 5
  omega

theorem sc6 (h) : View.ld x0 (Rect.unit ![6] ![1] inb_S8_S1_6) (Shape.Idx.first h) = x0 (ix1 6) := by
  generalize Shape.Idx.first h = y
  obtain ⟨q, rfl⟩ : ∃ q : Fin 1, y = ix1 q := ⟨y 0, eq_ix1 y⟩
  show x0 _ = _
  congr 1
  blk_ext []
  show 6 + 1 * q.val = 6
  omega

theorem sc7 (h) : View.ld x0 (Rect.unit ![7] ![1] inb_S8_S1_7) (Shape.Idx.first h) = x0 (ix1 7) := by
  generalize Shape.Idx.first h = y
  obtain ⟨q, rfl⟩ : ∃ q : Fin 1, y = ix1 q := ⟨y 0, eq_ix1 y⟩
  show x0 _ = _
  congr 1
  blk_ext []
  show 7 + 1 * q.val = 7
  omega

theorem emb0 (r : Fin 32) (l : Fin 128) : (Rect.unit ![0, 0] ![32, 128] inb_S32x512_S32x128_0_0).emb (ix2 r l) = ix2 r (⟨l.val, by omega⟩ : Fin 512) := by blk_ext []
theorem emb1 (r : Fin 32) (l : Fin 128) : (Rect.unit ![0, 128] ![32, 128] inb_S32x512_S32x128_0_128).emb (ix2 r l) = ix2 r (⟨128 + l.val, by omega⟩ : Fin 512) := by blk_ext []
theorem emb2 (r : Fin 32) (l : Fin 128) : (Rect.unit ![0, 256] ![32, 128] inb_S32x512_S32x128_0_256).emb (ix2 r l) = ix2 r (⟨256 + l.val, by omega⟩ : Fin 512) := by blk_ext []
theorem emb3 (r : Fin 32) (l : Fin 128) : (Rect.unit ![0, 384] ![32, 128] inb_S32x512_S32x128_0_384).emb (ix2 r l) = ix2 r (⟨384 + l.val, by omega⟩ : Fin 512) := by blk_ext []

/-- The stream's new keys' and new values' columns. -/
def newK (x2 : Vec Ideal S32x256 .f32) : Vec Ideal S32x128 .f32 := View.ld x2 (Rect.unit ![0, 0] ![32, 128] inb_S32x256_S32x128_0_0)
def newV (x2 : Vec Ideal S32x256 .f32) : Vec Ideal S32x128 .f32 := View.ld x2 (Rect.unit ![0, 128] ![32, 128] inb_S32x256_S32x128_0_128)

variable (x2 : Vec Ideal S32x256 .f32)

section outs

variable (c : Dev nD) (i : grid0.Coords)
  (a1 : Memref sig Kind.tc Space.smem S8 EltTy.f32) (h1 : a1.IsWhole)
  (a2 : Memref sig Kind.tc Space.vmem S32x512 EltTy.bf16) (h2 : a2.IsWhole)
  (a3 : Memref sig Kind.tc Space.vmem S32x256 EltTy.f32) (h3 : a3.IsWhole)
  (a4 : Memref sig Kind.tc Space.vmem S1x128x128 EltTy.f32) (h4 : a4.IsWhole)
  (a5 : Memref sig Kind.tc Space.vmem S1x128x128 EltTy.f32) (h5 : a5.IsWhole)
  (a6 : Memref sig Kind.tc Space.vmem S32x512 EltTy.bf16) (h6 : a6.IsWhole)
  (a7 : Memref sig Kind.tc Space.vmem S1x128x128 EltTy.f32) (h7 : a7.IsWhole)
  (a8 : Memref sig Kind.tc Space.vmem S1x128x128 EltTy.f32) (h8 : a8.IsWhole)

theorem out6_at (s l : Fin 128) : out0_A_6 c i a1 h1 a2 h2 a3 h3 a4 h4 a5 h5 a6 h6 a7 h7 a8 h8 x0 x1 x2 x3 x4 (ix3 0 s l) = cat x3 (newK x2) ⟨32 + s.val, by omega⟩ l := by
  frame_out
  exact nk_pay x3 (newK x2) s l

theorem out7_at (s l : Fin 128) : out0_A_7 c i a1 h1 a2 h2 a3 h3 a4 h4 a5 h5 a6 h6 a7 h7 a8 h8 x0 x1 x2 x3 x4 (ix3 0 s l) = cat x4 (newV x2) ⟨32 + s.val, by omega⟩ l := by
  frame_out
  exact nv_pay x4 (newV x2) s l

theorem out5_at (r : Fin 32) (j : Fin 512) : out0_A_5 c i a1 h1 a2 h2 a3 h3 a4 h4 a5 h5 a6 h6 a7 h7 a8 h8 x0 x1 x2 x3 x4 (ix2 r j) = oAt x0 x1 x3 x4 (newK x2) (newV x2) r j := by
  frame_out
  refine View.canon_apply_of_pieces (Val := Elt Ideal) (e := .bf16) (fun y : S32x512.Idx => oAt x0 x1 x3 x4 (newK x2) (newV x2) (y 0) (y 1)) _ ?_ _ ?_
  · simp only [List.forall_mem_cons, List.not_mem_nil, false_imp_iff, implies_true, and_true]
    refine ⟨fun x => ?_, fun x => ?_, fun x => ?_, fun x => ?_⟩
    · obtain ⟨r, l, rfl⟩ : ∃ (a : Fin 32) (b : Fin 128), x = ix2 a b := ⟨x 0, x 1, eq_ix2 x⟩
      rw [emb3]
      rw [sc4, sc5, sc6, sc7]
      exact piece3 x0 x1 x3 x4 (newK x2) (newV x2) r l
    · obtain ⟨r, l, rfl⟩ : ∃ (a : Fin 32) (b : Fin 128), x = ix2 a b := ⟨x 0, x 1, eq_ix2 x⟩
      rw [emb2]
      rw [sc4, sc5, sc6, sc7]
      exact piece2 x0 x1 x3 x4 (newK x2) (newV x2) r l
    · obtain ⟨r, l, rfl⟩ : ∃ (a : Fin 32) (b : Fin 128), x = ix2 a b := ⟨x 0, x 1, eq_ix2 x⟩
      rw [emb1]
      rw [sc0, sc1, sc2, sc3]
      exact piece1 x0 x1 x3 x4 (newK x2) (newV x2) r l
    · obtain ⟨r, l, rfl⟩ : ∃ (a : Fin 32) (b : Fin 128), x = ix2 a b := ⟨x 0, x 1, eq_ix2 x⟩
      rw [emb0]
      rw [sc0, sc1, sc2, sc3]
      exact piece0 x0 x1 x3 x4 (newK x2) (newV x2) r l
  · refine View.cover_of_tiledL (s := S32x512) _ S32x128.size ?_ _
    sl_kernel_rfl

end outs

end block

/-! ## The blocks in the arrays -/

variable (m : (ℓ : Loc nD τ sig) → Buf (Elt Ideal) ℓ)

/-- The array row of row `r` of stream `t`'s block. -/
def dst (t : Fin cfg0.N) (r : Fin 32) : Fin 512 := ⟨32 * t.val + r.val, by have h : t.val < 16 := t.isLt; omega⟩

def str (t : Fin cfg0.N) : Fin 16 := ⟨t.val, t.isLt⟩

theorem idx0 : ∀ t : Fin cfg0.N, win0_0.index t = ![0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![t.val, 0, 0] := (by decide +kernel : ∀ t : Fin grid0.N, _)

/-- Row `s` of a stream's 160 keys (or values): the cached 128, then the 32 new ones. -/
def kv (new : Vec Ideal S16x32x2x64 .f32) (old : Vec Ideal S16x128x2x64 .f32) (b : Fin 16) (s : Fin 160) (h : Fin 2) (d : Fin 64) : EReal :=
  if e : s.val < 128 then old (ix4 b ⟨s.val, e⟩ h d) else new (ix4 b ⟨s.val - 128, by omega⟩ h d)

theorem q_at (c : Dev nD) (r j : Fin 512) : V m c main_v1 (ix2 r j)
    = (m ((c : Thread nD τ).loc main_arg0)) (ix4 ⟨r.val / 32, by omega⟩ ⟨r.val % 32, by omega⟩ ⟨j.val / 64, by omega⟩ ⟨j.val % 64, by omega⟩) := by
  unfold V
  after_reads_at

theorem k_at (c : Dev nD) (r : Fin 512) (l : Fin 128) : V m c main_v4 (ix2 r ⟨l.val, by omega⟩)
    = (m ((c : Thread nD τ).loc main_arg1)) (ix4 ⟨r.val / 32, by omega⟩ ⟨r.val % 32, by omega⟩ ⟨l.val / 64, by omega⟩ ⟨l.val % 64, by omega⟩) := by
  unfold V
  after_reads_at

theorem v_at (c : Dev nD) (r : Fin 512) (l : Fin 128) : V m c main_v4 (ix2 r ⟨128 + l.val, by omega⟩)
    = (m ((c : Thread nD τ).loc main_arg2)) (ix4 ⟨r.val / 32, by omega⟩ ⟨r.val % 32, by omega⟩ ⟨l.val / 64, by omega⟩ ⟨l.val % 64, by omega⟩) := by
  unfold V
  after_reads_at

theorem ck_at (c : Dev nD) (b : Fin 16) (s l : Fin 128) : V m c main_v5 (ix3 b s l)
    = (m ((c : Thread nD τ).loc main_arg3)) (ix4 b s ⟨l.val / 64, by omega⟩ ⟨l.val % 64, by omega⟩) := by
  unfold V
  after_reads_at

theorem cv_at (c : Dev nD) (b : Fin 16) (s l : Fin 128) : V m c main_v6 (ix3 b s l)
    = (m ((c : Thread nD τ).loc main_arg4)) (ix4 b s ⟨l.val / 64, by omega⟩ ⟨l.val % 64, by omega⟩) := by
  unfold V
  after_reads_at

theorem blk0 (c : Dev nD) (t : Fin cfg0.N) (h : Fin 8) : iblk m c 0 t (ix1 h) = (m ((c : Thread nD τ).loc main_arg5)) (ix1 h) := by
  blk_ext [iblk, idx0 t]

theorem blk1 (c : Dev nD) (t : Fin cfg0.N) (r : Fin 32) (j : Fin 512) : iblk m c 1 t (ix2 r j) = V m c main_v1 (ix2 (dst t r) j) := by
  blk_ext [iblk, idx1 t, dst]

theorem blk2 (c : Dev nD) (t : Fin cfg0.N) (r : Fin 32) (j : Fin 256) : iblk m c 2 t (ix2 r j) = V m c main_v4 (ix2 (dst t r) j) := by
  blk_ext [iblk, idx2 t, dst]

theorem blk3 (c : Dev nD) (t : Fin cfg0.N) (s l : Fin 128) : iblk m c 3 t (ix3 0 s l) = V m c main_v5 (ix3 (str t) s l) := by
  blk_ext [iblk, idx3 t, str]

theorem blk4 (c : Dev nD) (t : Fin cfg0.N) (s l : Fin 128) : iblk m c 4 t (ix3 0 s l) = V m c main_v6 (ix3 (str t) s l) := by
  blk_ext [iblk, idx4 t, str]

theorem q_blk (c : Dev nD) (t : Fin cfg0.N) (r : Fin 32) (h : Fin 8) (d : Fin 64) :
    iblk m c 1 t (ix2 r ⟨64 * h.val + d.val, by omega⟩) = (m ((c : Thread nD τ).loc main_arg0)) (ix4 (str t) r h d) := by
  rw [blk1, q_at]
  have ht : t.val < 16 := t.isLt
  congr 1
  blk_ext [dst, str]

theorem k_blk (c : Dev nD) (t : Fin cfg0.N) (s : Fin 160) (h : Fin 2) (d : Fin 64) :
    cat (iblk m c 3 t) (newK (iblk m c 2 t)) s ⟨64 * h.val + d.val, by omega⟩ = kv (m ((c : Thread nD τ).loc main_arg1)) (m ((c : Thread nD τ).loc main_arg3)) (str t) s h d := by
  have ht : t.val < 16 := t.isLt
  unfold cat kv
  by_cases e : s.val < 128
  · rw [dif_pos e, dif_pos e, blk3, ck_at]
    congr 1
    blk_ext []
  · rw [dif_neg e, dif_neg e]
    refine Eq.trans ?_ ((k_at m c (dst t ⟨s.val - 128, by omega⟩) ⟨64 * h.val + d.val, by omega⟩).trans ?_)
    · rw [← blk2]
      unfold newK
      show iblk m c 2 t _ = _
      congr 1
      blk_ext []
      · show 0 + 1 * (s.val - 128) = s.val - 128
        omega
      · show 0 + 1 * (64 * h.val + d.val) = 64 * h.val + d.val
        omega
    · congr 1
      blk_ext [dst, str]

theorem v_blk (c : Dev nD) (t : Fin cfg0.N) (s : Fin 160) (h : Fin 2) (d : Fin 64) :
    cat (iblk m c 4 t) (newV (iblk m c 2 t)) s ⟨64 * h.val + d.val, by omega⟩ = kv (m ((c : Thread nD τ).loc main_arg2)) (m ((c : Thread nD τ).loc main_arg4)) (str t) s h d := by
  have ht : t.val < 16 := t.isLt
  unfold cat kv
  by_cases e : s.val < 128
  · rw [dif_pos e, dif_pos e, blk4, cv_at]
    congr 1
    blk_ext []
  · rw [dif_neg e, dif_neg e]
    refine Eq.trans ?_ ((v_at m c (dst t ⟨s.val - 128, by omega⟩) ⟨64 * h.val + d.val, by omega⟩).trans ?_)
    · rw [← blk2]
      unfold newV
      show iblk m c 2 t _ = _
      congr 1
      blk_ext []
      · show 0 + 1 * (s.val - 128) = s.val - 128
        omega
      · show 128 + 1 * (64 * h.val + d.val) = 128 + (64 * h.val + d.val)
        omega
    · congr 1
      blk_ext [dst, str]

/-! ## The arrays -/

/-- The attention output of stream `b`, frame `t`, query head `h`, channel `d`: the queries of head `h` against the keys of
    its group's head, the sink joined to the maximum and to the denominator. -/
def oOf (q : Vec Ideal S16x32x8x64 .f32) (kn vn : Vec Ideal S16x32x2x64 .f32) (ck cv : Vec Ideal S16x128x2x64 .f32) (sink : Vec Ideal S8 .f32)
    (b : Fin 16) (t : Fin 32) (h : Fin 8) (d : Fin 64) : EReal :=
  Swa.attend (fun s => Swa.score (fun e => q (ix4 b t h e)) (fun e => kv kn ck b s ⟨h.val / 4, by omega⟩ e)) (sink (ix1 h))
    (fun s => kv vn cv b s ⟨h.val / 4, by omega⟩ d)

/-- … laid out as the kernel lays it out. -/
def oArr (q : Vec Ideal S16x32x8x64 .f32) (kn vn : Vec Ideal S16x32x2x64 .f32) (ck cv : Vec Ideal S16x128x2x64 .f32) (sink : Vec Ideal S8 .f32)
    (r j : Fin 512) : EReal :=
  oOf q kn vn ck cv sink ⟨r.val / 32, by omega⟩ ⟨r.val % 32, by omega⟩ ⟨j.val / 64, by omega⟩ ⟨j.val % 64, by omega⟩

/-- The window carried on: the last 128 of the 160 rows. -/
def winArr (new : Vec Ideal S16x32x2x64 .f32) (old : Vec Ideal S16x128x2x64 .f32) (b : Fin 16) (s l : Fin 128) : EReal :=
  kv new old b ⟨32 + s.val, by omega⟩ ⟨l.val / 64, by omega⟩ ⟨l.val % 64, by omega⟩

theorem final_o (c : Dev nD) : (dats m 0 c).arrAt 5 cfg0.N = fun i : S512x512.Idx =>
    oArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 5 _ (by decide +kernel) fun t hf y => ?_
  blk_simp
  rw [after0_5]
  simp only [outsAt0]
  obtain ⟨r, j, rfl⟩ : ∃ (a : Fin 32) (b : Fin 512), y = ix2 a b := ⟨y 0, y 1, eq_ix2 y⟩
  have e : (win0_5.blk t).view.emb (ix2 r j) = ix2 (dst t r) j := by
    blk_ext [idx5 t, dst]
  refine (out5_at _ _ _ _ _ c _ _ _ _ _ _ _ _ _ _ _ _ _ _ _ _ _ r j).trans ?_
  rw [e]
  have ht : t.val < 16 := t.isLt
  have hb : (⟨(dst t r).val / 32, by omega⟩ : Fin 16) = str t := Fin.ext (by show (32 * t.val + r.val) / 32 = t.val; omega)
  have hr : (⟨(dst t r).val % 32, by omega⟩ : Fin 32) = r := Fin.ext (by show (32 * t.val + r.val) % 32 = r.val; omega)
  show _ = oArr _ _ _ _ _ _ (dst t r) j
  unfold oArr oOf oAt
  rw [hb, hr]
  refine attend_congr (fun s => score_congr (fun d => ?_) fun d => ?_) (blk0 m c t _) fun s => ?_
  · exact q_blk m c t r ⟨j.val / 64, by omega⟩ d
  · refine (k_blk m c t s ⟨j.val / 256, by omega⟩ d).trans (congrArg (fun h => kv _ _ (str t) s h d) (Fin.ext ?_))
    show j.val / 256 = j.val / 64 / 4
    omega
  · refine (v_blk m c t s ⟨j.val / 256, by omega⟩ ⟨j.val % 64, by omega⟩).trans (congrArg (fun h => kv _ _ (str t) s h _) (Fin.ext ?_))
    show j.val / 256 = j.val / 64 / 4
    omega

theorem final_nk (c : Dev nD) : (dats m 0 c).arrAt 6 cfg0.N = fun i : S16x128x128.Idx => winArr (m ((c : Thread nD τ).loc main_arg1)) (m ((c : Thread nD τ).loc main_arg3)) (i 0) (i 1) (i 2) := by
  refine (dats m 0 c).arrAt_eq_of_covers 6 _ (by decide +kernel) fun t hf y => ?_
  blk_simp
  rw [after0_6]
  simp only [outsAt0]
  obtain ⟨z, s, l, rfl⟩ : ∃ (z : Fin 1) (a b : Fin 128), y = ix3 z a b := ⟨y 0, y 1, y 2, eq_ix3 y⟩
  have e : (win0_6.blk t).view.emb (ix3 z s l) = ix3 (str t) s l := by
    blk_ext [idx6 t, str]
  obtain rfl : z = 0 := Subsingleton.elim _ _
  refine (out6_at _ _ _ _ _ c _ _ _ _ _ _ _ _ _ _ _ _ _ _ _ _ _ s l).trans ?_
  rw [e]
  refine Eq.trans ?_ (k_blk m c t ⟨32 + s.val, by omega⟩ ⟨l.val / 64, by omega⟩ ⟨l.val % 64, by omega⟩)
  congr 1
  exact Fin.ext (by show l.val = 64 * (l.val / 64) + l.val % 64; omega)

theorem final_nv (c : Dev nD) : (dats m 0 c).arrAt 7 cfg0.N = fun i : S16x128x128.Idx => winArr (m ((c : Thread nD τ).loc main_arg2)) (m ((c : Thread nD τ).loc main_arg4)) (i 0) (i 1) (i 2) := by
  refine (dats m 0 c).arrAt_eq_of_covers 7 _ (by decide +kernel) fun t hf y => ?_
  blk_simp
  rw [after0_7]
  simp only [outsAt0]
  obtain ⟨z, s, l, rfl⟩ : ∃ (z : Fin 1) (a b : Fin 128), y = ix3 z a b := ⟨y 0, y 1, y 2, eq_ix3 y⟩
  have e : (win0_7.blk t).view.emb (ix3 z s l) = ix3 (str t) s l := by
    blk_ext [idx7 t, str]
  obtain rfl : z = 0 := Subsingleton.elim _ _
  refine (out7_at _ _ _ _ _ c _ _ _ _ _ _ _ _ _ _ _ _ _ _ _ _ _ s l).trans ?_
  rw [e]
  refine Eq.trans ?_ (v_blk m c t ⟨32 + s.val, by omega⟩ ⟨l.val / 64, by omega⟩ ⟨l.val % 64, by omega⟩)
  congr 1
  exact Fin.ext (by show l.val = 64 * (l.val / 64) + l.val % 64; omega)

variable (ρ : Dev nD → PrngReg)

/-- The run, read: the three result arrays at those functions of the arguments, the arguments unchanged. -/
theorem run : θ_run defs (onTc (τ := τ) (main (F := Ideal))) ⟨m, fun _ => 0, ρ⟩ fun r => ∀ c : Dev nD,
      r.2.mem ((c : Thread nD τ).loc main_v7_0) = (fun j : S512x512.Idx => oArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0) (j 1))
      ∧ r.2.mem ((c : Thread nD τ).loc main_v7_1) = (fun j : S16x128x128.Idx => winArr (m ((c : Thread nD τ).loc main_arg1)) (m ((c : Thread nD τ).loc main_arg3)) (j 0) (j 1) (j 2))
      ∧ r.2.mem ((c : Thread nD τ).loc main_v7_2) = (fun j : S16x128x128.Idx => winArr (m ((c : Thread nD τ).loc main_arg2)) (m ((c : Thread nD τ).loc main_arg4)) (j 0) (j 1) (j 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_o m c), (h c).2.1.trans (final_nk m c), (h c).2.2.1.trans (final_nv m c), (h c).2.2.2⟩) (Value.run_blocks m ρ)

end Cert.SwaSample

end
-- ==== Proof.SwaReference.lean ====
/-
  The windowed attention of the sampled frames as the reference states it, read entry by entry: the same scores, the weights
  divided one by one.
-/
module

public import proofs.«01_k».proof.Proof.Gen.Reference7Ideal.Read
public import proofs.«01_k».proof.Proof.SwaKernel

@[expose] public section

set_option maxRecDepth 16384

noncomputable section

namespace Cert.SwaRef

open Idealize.ShloMosaic Idealize.ShloMosaic.TcCoe Cert.Reference7Ideal Cert.Reference7Ideal.Read

variable (x0 : (⟨S16x32x8x64, .f32⟩ : BufTy).Contents (Elt Ideal)) (x1 x2 : (⟨S16x32x2x64, .f32⟩ : BufTy).Contents (Elt Ideal))
  (x3 x4 : (⟨S16x128x2x64, .f32⟩ : BufTy).Contents (Elt Ideal)) (x5 : (⟨S8, .f32⟩ : BufTy).Contents (Elt Ideal))

theorem keys_at (b : Fin 16) (s : Fin 160) (h : Fin 2) (d : Fin 64) : val_main_v0 (F := Ideal) x1 x3 (ix4 b s h d) = SwaSample.kv x1 x3 b s h d := by
  pointwise [val_main_v0]
  rfl

theorem values_at (b : Fin 16) (s : Fin 160) (h : Fin 2) (d : Fin 64) : val_main_v1 (F := Ideal) x2 x4 (ix4 b s h d) = SwaSample.kv x2 x4 b s h d := by
  pointwise [val_main_v1]
  rfl

/-- The scores of query head `4 h + g`. -/
def σ (b : Fin 16) (h : Fin 2) (g : Fin 4) (t : Fin 32) (s : Fin 160) : EReal :=
  Swa.score (fun e => x0 (ix4 b t ⟨h.val * 4 + g.val, by omega⟩ e)) (fun e => SwaSample.kv x1 x3 b s h e)

theorem score_at (b : Fin 16) (h : Fin 2) (g : Fin 4) (t : Fin 32) (s : Fin 160) :
    val_main_v6 (F := Ideal) x0 x1 x3 (ix5 b h g t s) = σ x0 x1 x3 b h g t s := by
  pointwise [val_main_v6, val_main_v5, val_main_cst, val_main_v4, val_main_v3, val_main_v2]
  simp only [keys_at]
  unfold σ Swa.score
  simp only [mul_comm (SwaSample.kv _ _ _ _ _ _)]

theorem top_at (b : Fin 16) (h : Fin 2) (g : Fin 4) (t : Fin 32) :
    val_main_v11 (F := Ideal) x0 x1 x3 x5 (ix5 b h g t 0) = Swa.top (σ x0 x1 x3 b h g t) (x5 (ix1 ⟨h.val * 4 + g.val, by omega⟩)) := by
  pointwise [val_main_v11, val_main_v10, val_main_v9, val_main_v8, val_main_v7, val_main_cst_0]
  simp only [score_at]
  rfl

theorem weight_at (b : Fin 16) (h : Fin 2) (g : Fin 4) (t : Fin 32) (s : Fin 160) :
    val_main_v14 (F := Ideal) x0 x1 x3 x5 (ix5 b h g t s) = Swa.wt (σ x0 x1 x3 b h g t) (x5 (ix1 ⟨h.val * 4 + g.val, by omega⟩)) s := by
  pointwise [val_main_v14, val_main_v13, val_main_v12]
  simp only [score_at, top_at]
  rfl

theorem den_at (b : Fin 16) (h : Fin 2) (g : Fin 4) (t : Fin 32) :
    val_main_v20 (F := Ideal) x0 x1 x3 x5 (ix5 b h g t 0) = Swa.den (σ x0 x1 x3 b h g t) (x5 (ix1 ⟨h.val * 4 + g.val, by omega⟩)) := by
  pointwise [val_main_v20, val_main_v19, val_main_v18, val_main_v17, val_main_v16, val_main_v15, val_main_v7, val_main_cst_1]
  simp only [weight_at, top_at]
  unfold Swa.den
  simp

theorem out_at (r j : Fin 512) :
    val_main_v29 (F := Ideal) x0 x1 x2 x3 x4 x5 (ix2 r j)
      = Swa.attendR (σ x0 x1 x3 ⟨r.val / 32, by omega⟩ ⟨j.val / 256, by omega⟩ ⟨j.val / 64 % 4, by omega⟩ ⟨r.val % 32, by omega⟩)
          (x5 (ix1 ⟨j.val / 64, by omega⟩)) (fun s => SwaSample.kv x2 x4 ⟨r.val / 32, by omega⟩ s ⟨j.val / 256, by omega⟩ ⟨j.val % 64, by omega⟩) := by
  pointwise [val_main_v29, val_main_v28, val_main_v25, val_main_v24, val_main_v23, val_main_v22, val_main_v21]
  simp only [weight_at, den_at, values_at]
  have e1 : (⟨j.val / 256 * 4 + j.val / 64 % 4, by omega⟩ : Fin 8) = ⟨j.val / 64, by omega⟩ := Fin.ext (by show j.val / 256 * 4 + j.val / 64 % 4 = j.val / 64; omega)
  rw [← e1]
  exact Finset.sum_congr rfl fun s _ => mul_comm _ _

theorem kv_real (n : (⟨S16x32x2x64, .f32⟩ : BufTy).Contents (Elt Ideal)) (o : (⟨S16x128x2x64, .f32⟩ : BufTy).Contents (Elt Ideal))
    (hn : ∀ i, ∃ r : ℝ, n i = r) (ho : ∀ i, ∃ r : ℝ, o i = r) (b : Fin 16) (s : Fin 160) (h : Fin 2) (d : Fin 64) :
    ∃ r : ℝ, SwaSample.kv n o b s h d = r := by
  unfold SwaSample.kv
  by_cases e : s.val < 128
  · rw [dif_pos e]; exact ho _
  · rw [dif_neg e]; exact hn _

/-- With numbers for the queries, the keys and the sinks, it is the kernel's function. -/
theorem o_row (h0 : ∀ i, ∃ r : ℝ, x0 i = r) (h1 : ∀ i, ∃ r : ℝ, x1 i = r) (h3 : ∀ i, ∃ r : ℝ, x3 i = r) (h5 : ∀ i, ∃ r : ℝ, x5 i = r) (r j : Fin 512) :
    val_main_v29 (F := Ideal) x0 x1 x2 x3 x4 x5 (ix2 r j) = SwaSample.oArr x0 x1 x2 x3 x4 x5 r j := by
  rw [out_at]
  obtain ⟨z, hz⟩ := h5 (ix1 ⟨j.val / 64, by omega⟩)
  have hs : ∀ s, σ x0 x1 x3 ⟨r.val / 32, by omega⟩ ⟨j.val / 256, by omega⟩ ⟨j.val / 64 % 4, by omega⟩ ⟨r.val % 32, by omega⟩ s < ⊤ := fun s =>
    Swa.score_lt_top _ _ (fun e => h0 _) fun e => kv_real x1 x3 h1 h3 _ _ _ _
  rw [hz, ← Swa.attend_eq _ z _ hs]
  unfold SwaSample.oArr SwaSample.oOf
  have e1 : (⟨j.val / 256 * 4 + j.val / 64 % 4, by omega⟩ : Fin 8) = ⟨j.val / 64, by omega⟩ := Fin.ext (by show j.val / 256 * 4 + j.val / 64 % 4 = j.val / 64; omega)
  have e2 : (⟨j.val / 64 / 4, by omega⟩ : Fin 2) = ⟨j.val / 256, by omega⟩ := Fin.ext (by show j.val / 64 / 4 = j.val / 256; omega)
  unfold σ
  simp only [hz, e1, e2]

theorem nk_at (b : Fin 16) (s l : Fin 128) : val_main_v30 (F := Ideal) x1 x3 (ix3 b s l) = SwaSample.winArr x1 x3 b s l := by
  pointwise [val_main_v30, val_main_v26]
  rw [keys_at]
  rfl

theorem nv_at (b : Fin 16) (s l : Fin 128) : val_main_v31 (F := Ideal) x2 x4 (ix3 b s l) = SwaSample.winArr x2 x4 b s l := by
  pointwise [val_main_v31, val_main_v27]
  rw [values_at]
  rfl

theorem o_eq (h0 : ∀ i, ∃ r : ℝ, x0 i = r) (h1 : ∀ i, ∃ r : ℝ, x1 i = r) (h3 : ∀ i, ∃ r : ℝ, x3 i = r) (h5 : ∀ i, ∃ r : ℝ, x5 i = r) :
    val_main_v29 (F := Ideal) x0 x1 x2 x3 x4 x5 = fun i : S512x512.Idx => SwaSample.oArr x0 x1 x2 x3 x4 x5 (i 0) (i 1) := by
  funext i
  obtain ⟨r, j, rfl⟩ : ∃ (a b : Fin 512), i = ix2 a b := ⟨i 0, i 1, eq_ix2 i⟩
  exact o_row x0 x1 x2 x3 x4 x5 h0 h1 h3 h5 r j

theorem nk_eq : val_main_v30 (F := Ideal) x1 x3 = fun i : S16x128x128.Idx => SwaSample.winArr x1 x3 (i 0) (i 1) (i 2) := by
  funext i
  obtain ⟨b, s, l, rfl⟩ : ∃ (a : Fin 16) (b c : Fin 128), i = ix3 a b c := ⟨i 0, i 1, i 2, eq_ix3 i⟩
  exact nk_at x1 x3 b s l

theorem nv_eq : val_main_v31 (F := Ideal) x2 x4 = fun i : S16x128x128.Idx => SwaSample.winArr x2 x4 (i 0) (i 1) (i 2) := by
  funext i
  obtain ⟨b, s, l, rfl⟩ : ∃ (a : Fin 16) (b c : Fin 128), i = ix3 a b c := ⟨i 0, i 1, i 2, eq_ix3 i⟩
  exact nv_at x2 x4 b s l

end Cert.SwaRef

end
-- ==== Proof.SwaClaims.lean ====
/-
  The claims about the windowed attention call on the sampled frames. The kernel divides the weighted sum once, the reference
  divides every weight: with numbers for queries, keys and sinks the denominator is positive and the two agree.
-/
module

public import proofs.«01_k».proof.Defs
public import proofs.«01_k».proof.Proof.Gen.Kernel7.Frame
public import proofs.«01_k».proof.Proof.Gen.Pre_finite_scores
public import proofs.«01_k».proof.Proof.SwaKernel
public import proofs.«01_k».proof.Proof.SwaReference
public import Idealize.ShloMosaic.Lib.Quiescent

@[expose] public section

noncomputable section

namespace Cert.SwaClaims

open Idealize.ShloMosaic Idealize.ShloMosaic.TcCoe Idealize.SL.Sem

theorem frame_k : Cert.quiescent_Kernel7 := fun m ρ _ => Cert.Kernel7.Gen.frame m ρ
theorem frame_ki : Cert.quiescent_Kernel7Ideal := fun m ρ _ => Cert.Kernel7Ideal.Gen.frame m ρ
theorem frame_ki_pre : Cert.quiescent_Kernel7Ideal_pre_finite_scores := fun m ρ _ => Cert.Kernel7Ideal.Gen.frame m ρ

/-- The reference is host code: its run read at the arguments, and it declares no semaphore. -/
theorem frame_ri : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem frame_ri_pre : Cert.quiescent_Reference7Ideal_pre_finite_scores := fun m ρ _ => frame_ri m ρ trivial

/-- An entry whose magnitude compares below infinity is a number. -/
theorem real_of_lt (x : EReal) (h : Ideal.cmp .olt (max x (-x)) (Ideal.ofBits FTy.f32 2139095040#32) = 1#1) : ∃ r : ℝ, x = r := by
  have hi : Ideal.ofBits FTy.f32 2139095040#32 = ⊤ := by simp [Ideal.ofBits, Ideal.ieee, -EReal.coe_mul]
  rw [hi] at h
  exact Swa.real_of_abs x ((Ideal.cmp_olt_eq_one _ _).mp h)

/-- What the precondition says of the arguments. -/
theorem reals (m : (ℓ : Loc Cert.Kernel7Ideal.nD Cert.Kernel7Ideal.τ Cert.Kernel7Ideal.sig) → Buf (Elt Ideal) ℓ) (h : Cert.Pre_Kernel7Ideal_finite_scores m)
    (c : Dev Cert.Kernel7Ideal.nD) :
    (∀ i, ∃ r : ℝ, m ((c.tc : Thread Cert.Kernel7Ideal.nD Cert.Kernel7Ideal.τ).loc Cert.Kernel7Ideal.main_arg0) i = (r : EReal))
    ∧ (∀ i, ∃ r : ℝ, m ((c.tc : Thread Cert.Kernel7Ideal.nD Cert.Kernel7Ideal.τ).loc Cert.Kernel7Ideal.main_arg1) i = (r : EReal))
    ∧ (∀ i, ∃ r : ℝ, m ((c.tc : Thread Cert.Kernel7Ideal.nD Cert.Kernel7Ideal.τ).loc Cert.Kernel7Ideal.main_arg3) i = (r : EReal))
    ∧ (∀ i, ∃ r : ℝ, m ((c.tc : Thread Cert.Kernel7Ideal.nD Cert.Kernel7Ideal.τ).loc Cert.Kernel7Ideal.main_arg5) i = (r : EReal)) :=
  ⟨fun i => real_of_lt _ (congrFun (h c).1 i), fun i => real_of_lt _ (congrFun (h c).2.1 i), fun i => real_of_lt _ (congrFun (h c).2.2.1 i),
    fun i => real_of_lt _ (congrFun (h c).2.2.2 i)⟩

/-- Both programs' result arrays are the same functions of the arguments. -/
theorem algebraic : Cert.algebraic_Kernel7Ideal_Reference7Ideal_pre_finite_scores := by
  intro m ρ m' ρ' hpre hagree
  refine ⟨_, _, _, Cert.SwaSample.run m ρ, ?_⟩
  refine (θ_run Cert.Reference7Ideal.defs _ _).mono (fun _ h c => ⟨(h c).1.trans ((Cert.Reference7Ideal.Read.val_main_v29_eq m' c).trans ?_),
    (h c).2.1.trans ((Cert.Reference7Ideal.Read.val_main_v30_eq _ _).trans ?_), (h c).2.2.1.trans ((Cert.Reference7Ideal.Read.val_main_v31_eq _ _).trans ?_), (h c).2.2.2⟩)
    (Cert.Reference7Ideal.Value.run (F := Ideal) m' ρ')
  · obtain ⟨h0, h1, h3, h5⟩ := reals m hpre c
    rw [(hagree c).1, (hagree c).2.1, (hagree c).2.2.1, (hagree c).2.2.2.1, (hagree c).2.2.2.2.1, (hagree c).2.2.2.2.2]
    exact Cert.SwaRef.o_eq _ _ _ _ _ _ h0 h1 h3 h5
  · rw [Cert.SwaRef.nk_eq, (hagree c).2.1, (hagree c).2.2.2.1]
  · rw [Cert.SwaRef.nv_eq, (hagree c).2.2.1, (hagree c).2.2.2.2.1]

end Cert.SwaClaims

end
-- ==== Proof.GlaSample.lean ====
/-
  The gated state's arithmetic on the extended reals: exponents kept in powers of two, and a sum split into two parts.
-/
module

public import Idealize.ShloMosaic.PureOps.Ideal
public import proofs.«01_k».proof.Proof.Ext

@[expose] public section

noncomputable section

namespace Cert.Gla

open Idealize.ShloMosaic

/-- The logarithm of `e` to base two, the factor between the two exponentials. -/
def lg : EReal := (((Real.log 2)⁻¹ : ℝ) : EReal)

theorem log_two_pos : 0 < Real.log 2 := Real.log_pos (by norm_num)

theorem lg_nonneg : 0 ≤ lg := by
  unfold lg
  exact_mod_cast (inv_pos.mpr log_two_pos).le

theorem lg_ne_top : lg ≠ ⊤ := EReal.coe_ne_top _

/-- A power of two of a scaled exponent is the exponential. -/
theorem exp2_scaled (x : EReal) : Ideal.exp2 (x * lg) = Ideal.exp x := by
  have hp : 0 < (Real.log 2)⁻¹ := inv_pos.mpr log_two_pos
  induction x with
  | bot => rw [lg, EReal.bot_mul_coe_of_pos hp]; rfl
  | top => rw [lg, EReal.top_mul_coe_of_pos hp]; rfl
  | coe r =>
    rw [lg, ← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    have := log_two_pos.ne'
    field_simp

/-- A difference of scaled exponents is the scaled difference. -/
theorem sub_scaled (x y : EReal) : x * lg - y * lg = (x - y) * lg := by
  rw [sub_eq_add_neg, sub_eq_add_neg, ← EReal.neg_mul, EReal.right_distrib_of_nonneg_of_ne_top lg_nonneg lg_ne_top]

/-- A summand and what rounding it left over: the summand again, where it is not `+∞`. -/
theorem add_rest (a : EReal) (h : a ≠ ⊤) : a + (a - a) = a := by
  induction a with
  | bot => rfl
  | top => exact absurd rfl h
  | coe r => rw [← EReal.coe_sub, ← EReal.coe_add]; simp

theorem scaled_ne_top (x : EReal) (h : x ≠ ⊤) : x * lg ≠ ⊤ := by
  have hp : 0 < (Real.log 2)⁻¹ := inv_pos.mpr log_two_pos
  induction x with
  | bot => rw [lg, EReal.bot_mul_coe_of_pos hp]; decide
  | top => exact absurd rfl h
  | coe r => rw [lg, ← EReal.coe_mul]; exact EReal.coe_ne_top _

/-- A masked running sum of scaled gates, each split into its rounding and the rest: the masked sum of the gates, scaled. -/
theorem split_sum {n : Nat} (w : Fin n → EReal) (hw : ∀ i, w i = 0 ∨ w i = 1) (g : Fin n → EReal) (hg : ∀ i, g i ≠ ⊤) :
    (∑ i, w i * (g i * lg)) + (∑ i, w i * (g i * lg - g i * lg)) = (∑ i, w i * g i) * lg := by
  rw [Ext.sum_mul _ _ lg_nonneg lg_ne_top, ← Finset.sum_add_distrib]
  refine Finset.sum_congr rfl fun i _ => ?_
  rcases hw i with h | h
  · rw [h]; simp
  · rw [h, one_mul, one_mul, one_mul]
    exact add_rest _ (scaled_ne_top _ (hg i))

/-- The sum of the gates of the frames up to `t`. -/
def upTo (g : Fin 32 → EReal) (t : Fin 32) : EReal := ∑ s : Fin 32, (if s.val ≤ t.val then (1 : EReal) else 0) * g s

/-- One entry of the state after the frames: the entry before decayed by all the gates, plus each frame's key and value decayed
    by the gates after it. -/
def stateOf (k g v : Fin 32 → EReal) (st : EReal) : EReal :=
  Ideal.exp (upTo g 31) * st + ∑ t : Fin 32, (k t * Ideal.exp (upTo g 31 - upTo g t)) * v t

/-- Choosing by the equality of two small words is choosing by the equality of the numbers. -/
theorem sel_eq {α : Type} (a b : Nat) (ha : a < 4294967296) (hb : b < 4294967296) (x y : α) :
    Scalar.select (IntOp.cmpi CmpIPredicate.eq (BitVec.ofNat 32 a) (BitVec.ofNat 32 b)) x y = if a = b then x else y := by
  show (if BitVec.ofBool (BitVec.ofNat 32 a == BitVec.ofNat 32 b) = 1#1 then x else y) = _
  by_cases h : a = b
  · subst h; simp
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h, beq_eq_false_iff_ne.mpr this]
    rfl

/-- The bit of a comparison as a number. -/
theorem bit_val (φ : FTy) (x : BitVec 1) (p : Prop) [Decidable p] (h : x = if p then 1#1 else 0#1) : FloatOps.uitofp (F := Ideal) φ x = if p then (1 : EReal) else 0 := by
  subst h
  by_cases hp : p
  · rw [if_pos hp, if_pos hp]
    show ((((1#1 : BitVec 1).toNat : ℝ)) : EReal) = 1
    simp
  · rw [if_neg hp, if_neg hp]
    show ((((0#1 : BitVec 1).toNat : ℝ)) : EReal) = 0
    simp

theorem bit_eq (a b : Nat) (ha : a < 4294967296) (hb : b < 4294967296) :
    IntOp.cmpi CmpIPredicate.eq (BitVec.ofNat 32 a) (BitVec.ofNat 32 b) = if a = b then 1#1 else 0#1 := by
  refine Eq.trans ?_ (sel_eq a b ha hb 1#1 0#1)
  generalize IntOp.cmpi CmpIPredicate.eq (BitVec.ofNat 32 a) (BitVec.ofNat 32 b) = z
  revert z
  decide

end Cert.Gla

end
-- ==== Proof.GlaSampleKernel.lean ====
/-
  The gated linear attention call on the sampled frames: what its state result holds after the run. Every grid point is one
  stream, its four heads' states on the diagonal of one matrix.
-/
module

public import proofs.«01_k».proof.Proof.Gen.Kernel8Ideal.Value
public import proofs.«01_k».proof.Proof.GlaSample
public import Idealize.ShloMosaic.Lib.Pointwise
public import Idealize.ShloMosaic.Lib.Pipeline.ValueKit
public import Idealize.ShloMosaic.Lib.StableHlo.ReadAt

@[expose] public section

set_option maxRecDepth 16384

noncomputable section

namespace Cert.GlaState

open Idealize.ShloMosaic Idealize.ShloMosaic.TcCoe Idealize.SL.Sem
open Cert.Kernel8Ideal Cert.Kernel8Ideal.Gen
open Cert.Gla

/-! ## One grid point -/

section block

variable (x0 : Vec Ideal S32x768 .f32) (x1 : Vec Ideal S32x512 .f32) (x2 : Vec Ideal S1x512x256 .f32) (x3 : Vec Ideal S64x64 .bf16) (x4 : Vec Ideal S256x256 .bf16) (x5 : Vec Ideal S512x256 .f32)

theorem log2e : Named.named (F := Ideal) Cert.Kernel8Ideal.κ "log2e" (φ := .f32) 0x3FB8AA3B#32 = lg :=
  IdealRules.named_const.ideal_named_scalar _ _ _ _ rfl

/-- The kernel's running sum of the gates, as it adds it up. -/
def runSum (t : Fin 32) (l : Fin 256) : EReal :=
  (∑ s : Fin 32, x3 (ix2 ⟨t.val, by omega⟩ ⟨s.val, by omega⟩) * (x0 (ix2 s ⟨512 + l.val, by omega⟩) * lg))
    + ∑ s : Fin 32, x3 (ix2 ⟨t.val, by omega⟩ ⟨s.val, by omega⟩) * (x0 (ix2 s ⟨512 + l.val, by omega⟩) * lg - x0 (ix2 s ⟨512 + l.val, by omega⟩) * lg)

theorem sum_at (v81 : FVec Ideal S32x32 .bf16) (v82 : FVec Ideal S32x256 .bf16) (v84 : FVec Ideal S32x256 .f32) (t : Fin 32) (l : Fin 256) :
    k0_pay14 v81 v82 v84 (ix2 t l) = (∑ s : Fin 32, v81 (ix2 t s) * v82 (ix2 s l)) + ∑ s : Fin 32, v81 (ix2 t s) * v84 (ix2 s l) := by
  pointwise [k0_pay14]

theorem pay74_at (t : Fin 32) (l : Fin 256) : k0_pay74 x0 x1 x2 x3 x4 x5 (ix2 t l) = x0 (ix2 t ⟨256 + l.val, by omega⟩) := by
  pointwise [k0_pay74, k0_pay4]

theorem pay75_at (t : Fin 32) (l : Fin 256) : k0_pay75 x0 x1 x2 x3 x4 x5 (ix2 t l) = x0 (ix2 t ⟨512 + l.val, by omega⟩) * lg := by
  rw [← log2e]
  pointwise [k0_pay75, k0_pay5]

theorem pay76_at (t : Fin 32) (l : Fin 512) : k0_pay76 x0 x1 x2 x3 x4 x5 (ix2 t l) = x1 (ix2 t l) := by
  pointwise [k0_pay76, k0_pay6]

theorem pay77_at (r : Fin 512) (l : Fin 256) : k0_pay77 x0 x1 x2 x3 x4 x5 (ix2 r l) = x2 (ix3 0 r l) := by
  pointwise [k0_pay77, k0_pay7]

theorem pay80_at (t s : Fin 32) : k0_pay80 x0 x1 x2 x3 x4 x5 (ix2 t s) = x3 (ix2 ⟨t.val, by omega⟩ ⟨s.val, by omega⟩) := by
  pointwise [k0_pay80, k0_pay11]

theorem pay82_at (t : Fin 32) (l : Fin 256) : k0_pay82 x0 x1 x2 x3 x4 x5 (ix2 t l) = k0_pay75 x0 x1 x2 x3 x4 x5 (ix2 t l) - k0_pay75 x0 x1 x2 x3 x4 x5 (ix2 t l) := by
  pointwise [k0_pay82, k0_pay13, k0_pay12]

theorem pay81_at (t : Fin 32) (l : Fin 256) : k0_pay81 x0 x1 x2 x3 x4 x5 (ix2 t l) = k0_pay75 x0 x1 x2 x3 x4 x5 (ix2 t l) := by
  pointwise [k0_pay81, k0_pay12]

theorem pay17_at (v3 : FVec Ideal S32x256 .f32) (v9 : FVec Ideal S32x512 .f32) (v11 : FVec Ideal S512x256 .f32) (v81 : FVec Ideal S32x32 .bf16) (v82 : FVec Ideal S32x256 .bf16) (v84 : FVec Ideal S32x256 .f32) (v102 : Vec Ideal S512x256 .f32) (r : Fin 512) (l : Fin 256) :
    k0_pay2 (k0_pay17 v3 v9 v11 v81 v82 v84 v102) (ix3 0 r l) = if 0 < v102 (ix2 r l) then
      Ideal.exp2 (k0_pay14 v81 v82 v84 (ix2 31 l)) * v11 (ix2 r l) + ∑ t : Fin 32, v9 (ix2 t r) * (v3 (ix2 t l) * Ideal.exp2 (k0_pay14 v81 v82 v84 (ix2 31 l) - k0_pay14 v81 v82 v84 (ix2 t l))) else 0 := by
  pointwise [k0_pay2, k0_pay17, k0_pay15]
  rfl

theorem out7_at (r : Fin 512) (l : Fin 256) : out0_7 x0 x1 x2 x3 x4 x5 (ix3 0 r l) = if 0 < x5 (ix2 r l) then
      Ideal.exp2 (runSum x0 x3 31 l) * x2 (ix3 0 r l) + ∑ t : Fin 32, x1 (ix2 t r) * (x0 (ix2 t ⟨256 + l.val, by omega⟩) * Ideal.exp2 (runSum x0 x3 31 l - runSum x0 x3 t l)) else 0 := by
  frame_out
  rw [pay17_at]
  simp only [sum_at, pay74_at, pay76_at, pay77_at, pay80_at, pay81_at, pay82_at, pay75_at]
  rfl

end block

/-! ## What the host prepares -/

section arrays

variable (m : (ℓ : Loc nD τ sig) → Buf (Elt Ideal) ℓ)

theorem k_host (c : Dev nD) (r : Fin 512) (l : Fin 256) : V m c main_v3 (ix2 r ⟨256 + l.val, by omega⟩)
    = (m ((c : Thread nD τ).loc main_arg1)) (ix4 ⟨r.val / 32, by omega⟩ ⟨r.val % 32, by omega⟩ ⟨l.val / 64, by omega⟩ ⟨l.val % 64, by omega⟩) := by
  unfold V
  after_reads_at
  after_reads_at

theorem g_host (c : Dev nD) (r : Fin 512) (l : Fin 256) : V m c main_v3 (ix2 r ⟨512 + l.val, by omega⟩)
    = (m ((c : Thread nD τ).loc main_arg3)) (ix4 ⟨r.val / 32, by omega⟩ ⟨r.val % 32, by omega⟩ ⟨l.val / 64, by omega⟩ ⟨l.val % 64, by omega⟩) := by
  unfold V
  after_reads_at
  rw [dif_neg (by omega), dif_neg (by omega)]
  after_reads_at
  have e : 512 + l.val - 256 - 256 = l.val := by omega
  simp only [e]

theorem v_host (c : Dev nD) (r j : Fin 512) : V m c main_v4 (ix2 r j)
    = (m ((c : Thread nD τ).loc main_arg2)) (ix4 ⟨r.val / 32, by omega⟩ ⟨r.val % 32, by omega⟩ ⟨j.val / 128, by omega⟩ ⟨j.val % 128, by omega⟩) := by
  unfold V
  after_reads_at

/-- The states put on the diagonal: an entry times one where its row and its lane are of the same head, times zero elsewhere. -/
def diag (st : Vec Ideal S16x4x64x128 .f32) (b : Fin 16) (r : Fin 512) (l : Fin 256) : EReal :=
  st (ix4 b ⟨r.val / 128, by omega⟩ ⟨l.val % 64, by omega⟩ ⟨r.val % 128, by omega⟩) * (if r.val / 128 = l.val / 64 then 1 else 0)

theorem st_host (c : Dev nD) (b : Fin 16) (r : Fin 512) (l : Fin 256) : V m c main_v18 (ix3 b r l) = diag (m ((c : Thread nD τ).loc main_arg4)) b r l := by
  unfold V diag
  after_reads_at
  have hb : FloatOps.uitofp (F := Ideal) FTy.f32 (IntOp.cmpi CmpIPredicate.eq (IntOp.addi (BitVec.ofNat 32 (r.val / 128)) 0#32) (BitVec.ofNat 32 (l.val / 64)))
      = if r.val / 128 = l.val / 64 then (1 : EReal) else 0 := by
    rw [show IntOp.addi (BitVec.ofNat 32 (r.val / 128)) 0#32 = BitVec.ofNat 32 (r.val / 128) from BitVec.add_zero _]
    exact bit_val _ _ _ (bit_eq _ _ (by omega) (by omega))
  rw [hb]

theorem tri_bit : ∀ t s : Fin 64, IntOp.cmpi CmpIPredicate.sge (IntOp.divsi ArithUnit.host (BitVec.ofNat 32 t.val) 1#32)
    (IntOp.divsi ArithUnit.host (BitVec.ofNat 32 s.val) 1#32) = if s.val ≤ t.val then 1#1 else 0#1 := by decide +kernel

theorem div_row : ∀ r : Fin 512, IntOp.divsi ArithUnit.host (BitVec.ofNat 32 r.val) 128#32 = BitVec.ofNat 32 (r.val / 128) := by decide +kernel
theorem div_lane : ∀ l : Fin 256, IntOp.divsi ArithUnit.host (BitVec.ofNat 32 l.val) 64#32 = BitVec.ofNat 32 (l.val / 64) := by decide +kernel

theorem tri_host (c : Dev nD) (t s : Fin 64) : V m c main_v40 (ix2 t s) = (if s.val ≤ t.val then (1 : EReal) else 0) := by
  unfold V
  after_reads_at
  exact bit_val _ _ _ (tri_bit t s)

theorem mask_host (c : Dev nD) (r : Fin 512) (l : Fin 256) : V m c main_v42 (ix2 r l) = (if r.val / 128 = l.val / 64 then (1 : EReal) else 0) := by
  unfold V
  after_reads_at
  rw [div_row, div_lane]
  exact bit_val _ _ _ (bit_eq _ _ (by omega) (by omega))

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![0, 0] := (by decide +kernel : ∀ t : Fin grid0.N, _)
theorem idx5 : ∀ t : Fin cfg0.N, win0_5.index t = ![0, 0] := (by decide +kernel : ∀ t : Fin grid0.N, _)
theorem idx7 : ∀ t : Fin cfg0.N, win0_7.index t = ![t.val, 0, 0] := (by decide +kernel : ∀ t : Fin grid0.N, _)

/-- The stream of a grid point, and the row of its frame `s`. -/
def str (t : Fin cfg0.N) : Fin 16 := ⟨t.val, t.isLt⟩
def dst (t : Fin cfg0.N) (s : Fin 32) : Fin 512 := ⟨32 * t.val + s.val, by have : t.val < 16 := t.isLt; omega⟩

theorem blk0 (c : Dev nD) (t : Fin cfg0.N) (s : Fin 32) (j : Fin 768) : iblk m c 0 t (ix2 s j) = V m c main_v3 (ix2 (dst t s) j) := by
  blk_ext [iblk, idx0 t, dst]

theorem blk1 (c : Dev nD) (t : Fin cfg0.N) (s : Fin 32) (j : Fin 512) : iblk m c 1 t (ix2 s j) = V m c main_v4 (ix2 (dst t s) j) := by
  blk_ext [iblk, idx1 t, dst]

theorem blk2 (c : Dev nD) (t : Fin cfg0.N) (r : Fin 512) (l : Fin 256) : iblk m c 2 t (ix3 0 r l) = V m c main_v18 (ix3 (str t) r l) := by
  blk_ext [iblk, idx2 t, str]

theorem blk3 (c : Dev nD) (t : Fin cfg0.N) (i j : Fin 64) : iblk m c 3 t (ix2 i j) = V m c main_v40 (ix2 i j) := by
  blk_ext [iblk, idx3 t]

theorem blk5 (c : Dev nD) (t : Fin cfg0.N) (r : Fin 512) (l : Fin 256) : iblk m c 5 t (ix2 r l) = V m c main_v42 (ix2 r l) := by
  blk_ext [iblk, idx5 t]

/-! ## The array -/

/-- The running sum of a grid point's gates, where none is `+∞`: the sum of the gates up to the frame, scaled. -/
theorem run_eq (c : Dev nD) (t : Fin cfg0.N) (hg : ∀ i, (m ((c : Thread nD τ).loc main_arg3)) i ≠ (⊤ : EReal)) (u : Fin 32) (l : Fin 256) :
    runSum (iblk m c 0 t) (iblk m c 3 t) u l = upTo (fun s => (m ((c : Thread nD τ).loc main_arg3)) (ix4 (str t) s ⟨l.val / 64, by omega⟩ ⟨l.val % 64, by omega⟩)) u * lg := by
  have hw : ∀ s : Fin 32, iblk m c 3 t (ix2 ⟨u.val, by omega⟩ ⟨s.val, by omega⟩) = (if s.val ≤ u.val then (1 : EReal) else 0) := fun s =>
    (blk3 m c t _ _).trans (tri_host m c _ _)
  have hx : ∀ s : Fin 32, iblk m c 0 t (ix2 s ⟨512 + l.val, by omega⟩) = (m ((c : Thread nD τ).loc main_arg3)) (ix4 (str t) s ⟨l.val / 64, by omega⟩ ⟨l.val % 64, by omega⟩) := fun s => by
    refine ((blk0 m c t _ _).trans (g_host m c _ _)).trans ?_
    congr 1
    blk_ext [dst, str]
  unfold runSum
  simp only [hw, hx]
  exact split_sum (fun s : Fin 32 => if s.val ≤ u.val then (1 : EReal) else 0) (fun s => by by_cases h : s.val ≤ u.val <;> simp [h]) _ fun s => hg _

/-- The state after the sampled frames, laid out as the kernel lays it out: the heads' states, transposed, on the diagonal. -/
def stArr (k g : Vec Ideal S16x32x4x64 .f32) (v : Vec Ideal S16x32x4x128 .f32) (st : Vec Ideal S16x4x64x128 .f32) (b : Fin 16) (r : Fin 512) (l : Fin 256) : EReal :=
  if r.val / 128 = l.val / 64 then
    stateOf (fun t => k (ix4 b t ⟨r.val / 128, by omega⟩ ⟨l.val % 64, by omega⟩)) (fun t => g (ix4 b t ⟨r.val / 128, by omega⟩ ⟨l.val % 64, by omega⟩))
      (fun t => v (ix4 b t ⟨r.val / 128, by omega⟩ ⟨r.val % 128, by omega⟩)) (st (ix4 b ⟨r.val / 128, by omega⟩ ⟨l.val % 64, by omega⟩ ⟨r.val % 128, by omega⟩)) else 0

theorem final_st (c : Dev nD) (hg : ∀ i, (m ((c : Thread nD τ).loc main_arg3)) i ≠ (⊤ : EReal)) : (dats m 0 c).arrAt 7 cfg0.N = fun i : S16x512x256.Idx =>
    stArr (m ((c : Thread nD τ).loc main_arg1)) (m ((c : Thread nD τ).loc main_arg3)) (m ((c : Thread nD τ).loc main_arg2)) (m ((c : Thread nD τ).loc main_arg4)) (i 0) (i 1) (i 2) := by
  refine (dats m 0 c).arrAt_eq_of_covers 7 _ (by decide +kernel) fun t hf y => ?_
  blk_simp
  rw [after0_7]
  obtain ⟨z, r, l, rfl⟩ : ∃ (z : Fin 1) (r : Fin 512) (l : Fin 256), y = ix3 z r l := ⟨y 0, y 1, y 2, eq_ix3 y⟩
  obtain rfl : z = 0 := Subsingleton.elim _ _
  have e : (win0_7.blk t).view.emb (ix3 0 r l) = ix3 (str t) r l := by
    blk_ext [idx7 t, str]
  refine (out7_at _ _ _ _ _ _ r l).trans ?_
  rw [e]
  show _ = stArr _ _ _ _ (str t) r l
  have hm : iblk m c 5 t (ix2 r l) = (if r.val / 128 = l.val / 64 then (1 : EReal) else 0) := (blk5 m c t r l).trans (mask_host m c r l)
  have hs : iblk m c 2 t (ix3 0 r l) = diag (m ((c : Thread nD τ).loc main_arg4)) (str t) r l := (blk2 m c t r l).trans (st_host m c _ r l)
  rw [hm, hs]
  unfold stArr
  by_cases h : r.val / 128 = l.val / 64
  · have hk : ∀ s : Fin 32, iblk m c 0 t (ix2 s ⟨256 + l.val, by omega⟩) = (m ((c : Thread nD τ).loc main_arg1)) (ix4 (str t) s ⟨l.val / 64, by omega⟩ ⟨l.val % 64, by omega⟩) := fun s => by
      refine ((blk0 m c t _ _).trans (k_host m c _ _)).trans ?_
      congr 1
      blk_ext [dst, str]
    have hv : ∀ s : Fin 32, iblk m c 1 t (ix2 s r) = (m ((c : Thread nD τ).loc main_arg2)) (ix4 (str t) s ⟨r.val / 128, by omega⟩ ⟨r.val % 128, by omega⟩) := fun s => by
      refine ((blk1 m c t _ _).trans (v_host m c _ _)).trans ?_
      congr 1
      blk_ext [dst, str]
    have hh : (⟨l.val / 64, by omega⟩ : Fin 4) = ⟨r.val / 128, by omega⟩ := Fin.ext h.symm
    rw [if_pos h, if_pos h, if_pos zero_lt_one]
    unfold diag stateOf
    rw [if_pos h, mul_one]
    simp only [hk, hv, run_eq m c t hg, sub_scaled, exp2_scaled, hh]
    refine congrArg (fun z : EReal => _ + z) (Finset.sum_congr rfl fun s _ => mul_comm _ _)
  · rw [if_neg h, if_neg h, if_neg (lt_irrefl _)]

variable (ρ : Dev nD → PrngReg)

/-- The run, read: the state result at that function of the arguments, the arguments unchanged. -/
theorem run (hg : ∀ (c : Dev nD) i, (m ((c : Thread nD τ).loc main_arg3)) i ≠ (⊤ : EReal)) : θ_run defs (onTc (τ := τ) (main (F := Ideal))) ⟨m, fun _ => 0, ρ⟩ fun r => ∀ c : Dev nD,
      r.2.mem ((c : Thread nD τ).loc main_v43_1) = (fun j : S16x512x256.Idx => stArr (m ((c : Thread nD τ).loc main_arg1)) (m ((c : Thread nD τ).loc main_arg3)) (m ((c : Thread nD τ).loc main_arg2)) (m ((c : Thread nD τ).loc main_arg4)) (j 0) (j 1) (j 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).2.1.trans (final_st m c (hg c)), (h c).2.2⟩) (Value.run_blocks m ρ)

end arrays

end Cert.GlaState

end
-- ==== Proof.GlaSampleReference.lean ====
/-
  The reference's gated state after the sampled frames, read at an index. The gates' running sums are sums over the frames
  up to the one asked for.
-/
module

public import proofs.«01_k».proof.Proof.Gen.Reference8Ideal.Read
public import proofs.«01_k».proof.Proof.GlaSample
public import Idealize.ShloMosaic.Lib.Pointwise

@[expose] public section

set_option maxRecDepth 16384

noncomputable section

namespace Cert.GlaRef

open Idealize.ShloMosaic Idealize.ShloMosaic.TcCoe Idealize.SL.Sem
open Cert.Reference8Ideal Cert.Reference8Ideal.Gen Cert.Reference8Ideal.Read

/-- Adding up a list from a start is the start plus the sum. -/
theorem foldl_add_eq {n : Nat} (f : Fin n → EReal) (v : EReal) : (List.finRange n).foldl (fun r i => r + f i) v = v + ∑ i, f i := by
  rw [List.sum_ofFn.symm, List.ofFn_eq_map]
  generalize List.finRange n = l
  induction l generalizing v with
  | nil => simp
  | cons a l ih => rw [List.foldl_cons, ih, List.map_cons, List.sum_cons, add_assoc]

/-- A window of 32 positions that ends at `t` meets the frames up to `t`. -/
theorem window_sum (t : Fin 32) (g : Fin 32 → EReal) :
    (∑ n : Fin 32, if h : 31 ≤ t.val + n.val then g ⟨t.val + n.val - 31, by omega⟩ else 0) = Gla.upTo g t := by
  unfold Gla.upTo
  have e1 : ∀ n : Fin 32, (if h : 31 ≤ t.val + n.val then g ⟨t.val + n.val - 31, by omega⟩ else 0)
      = if 31 ≤ t.val + n.val then g ⟨t.val + n.val - 31, by omega⟩ else 0 := fun n => by
    by_cases h : 31 ≤ t.val + n.val
    · rw [dif_pos h, if_pos h]
    · rw [dif_neg h, if_neg h]
  have e2 : ∀ s : Fin 32, (if s.val ≤ t.val then (1 : EReal) else 0) * g s = if s.val ≤ t.val then g s else 0 := fun s => by
    by_cases h : s.val ≤ t.val
    · rw [if_pos h, if_pos h, one_mul]
    · rw [if_neg h, if_neg h, zero_mul]
  rw [Finset.sum_congr rfl fun n _ => e1 n, Finset.sum_congr rfl fun s _ => e2 s, ← Finset.sum_filter, ← Finset.sum_filter]
  refine Finset.sum_nbij' (fun n => ⟨t.val + n.val - 31, by omega⟩) (fun s => ⟨(31 + s.val - t.val) % 32, Nat.mod_lt _ (by omega)⟩) ?_ ?_ ?_ ?_ ?_
  · intro n hn
    simp only [Finset.mem_filter, Finset.mem_univ, true_and] at hn ⊢
    omega
  · intro s hs
    simp only [Finset.mem_filter, Finset.mem_univ, true_and] at hs ⊢
    have := s.isLt
    omega
  · intro n hn
    simp only [Finset.mem_filter, Finset.mem_univ, true_and] at hn
    exact Fin.ext (by show (31 + (t.val + n.val - 31) - t.val) % 32 = n.val; omega)
  · intro s hs
    simp only [Finset.mem_filter, Finset.mem_univ, true_and] at hs
    exact Fin.ext (by show t.val + (31 + s.val - t.val) % 32 - 31 = s.val; omega)
  · exact fun _ _ => rfl

theorem numel_win : (⟨4, ![1, 1, 32, 1]⟩ : Shape).numel = 32 := by decide +kernel

theorem win_pos : ∀ n : Fin (⟨4, ![1, 1, 32, 1]⟩ : Shape).numel,
    ((⟨4, ![1, 1, 32, 1]⟩ : Shape).rowMajor.symm n 0).val = 0 ∧ ((⟨4, ![1, 1, 32, 1]⟩ : Shape).rowMajor.symm n 1).val = 0
    ∧ ((⟨4, ![1, 1, 32, 1]⟩ : Shape).rowMajor.symm n 2).val = n.val ∧ ((⟨4, ![1, 1, 32, 1]⟩ : Shape).rowMajor.symm n 3).val = 0 := by
  decide +kernel

theorem v3_at (x3 : Vec Ideal S16x32x4x64 .f32) (b : Fin 16) (h : Fin 4) (t : Fin 32) (d : Fin 64) :
    val_main_v3 (F := Ideal) x3 (ix4 b h t d) = x3 (ix4 b t h d) := by
  pointwise [val_main_v3]

/-- The running sum of the gates. -/
theorem cum_at (x3 : Vec Ideal S16x32x4x64 .f32) (b : Fin 16) (h : Fin 4) (t : Fin 32) (d : Fin 64) :
    val_main_v4 (F := Ideal) x3 (ix4 b h t d) = Gla.upTo (fun s => x3 (ix4 b s h d)) t := by
  rw [← window_sum]
  have hv : val_main_call0_call0_v0 (F := Ideal) (Shape.Idx.first h_S_) = 0 := by
    show Ideal.ofBits FTy.f32 0x00000000#32 = 0
    simp [Ideal.ofBits, Ideal.ieee, -EReal.coe_mul]
  unfold val_main_v4
  show Ideal.hostReduceWindowAdd ![1, 1, 32, 1] ![1, 1, 1, 1] ![0, 0, 31, 0] ![0, 0, 0, 0] reduceWindows_S16x4x32x64_S16x4x32x64_w1s1p0_0_w1s1p0_0_w32s1p31_0_w1s1p0_0
    (val_main_v3 (F := Ideal) x3) (val_main_call0_call0_v0 (F := Ideal) (Shape.Idx.first h_S_)) (ix4 b h t d) = _
  rw [hv]
  unfold Ideal.hostReduceWindowAdd Host.reduceWindow
  refine (foldl_add_eq (n := (⟨4, ![1, 1, 32, 1]⟩ : Shape).numel) _ _).trans ?_
  rw [zero_add]
  refine (Fintype.sum_equiv (finCongr numel_win) _ _ fun n => ?_)
  obtain ⟨w0, w1, w2, w3⟩ := win_pos n
  dsimp only
  have w0 : ((⟨4, ![1, 1, 32, 1]⟩ : Shape).rowMajor.symm n ⟨0, by decide⟩).val = 0 := w0
  have w1 : ((⟨4, ![1, 1, 32, 1]⟩ : Shape).rowMajor.symm n ⟨1, by decide⟩).val = 0 := w1
  have w2 : ((⟨4, ![1, 1, 32, 1]⟩ : Shape).rowMajor.symm n ⟨2, by decide⟩).val = n.val := w2
  have w3 : ((⟨4, ![1, 1, 32, 1]⟩ : Shape).rowMajor.symm n ⟨3, by decide⟩).val = 0 := w3
  have hn : n.val < 32 := lt_of_lt_of_eq n.isLt numel_win
  by_cases hh : 31 ≤ t.val + n.val
  · refine (dif_pos ?_).trans (Eq.trans ?_ (dif_pos (show 31 ≤ t.val + (finCongr numel_win n).val from hh)).symm)
    · intro a
      match a with
      | ⟨0, _⟩ => show 0 ≤ b.val * 1 + _ ∧ b.val * 1 + _ - 0 < 16; rw [w0]; omega
      | ⟨1, _⟩ => show 0 ≤ h.val * 1 + _ ∧ h.val * 1 + _ - 0 < 4; rw [w1]; omega
      | ⟨2, _⟩ => show 31 ≤ t.val * 1 + _ ∧ t.val * 1 + _ - 31 < 32; rw [w2]; omega
      | ⟨3, _⟩ => show 0 ≤ d.val * 1 + _ ∧ d.val * 1 + _ - 0 < 64; rw [w3]; omega
    · refine Eq.trans ?_ (v3_at x3 b h ⟨t.val + n.val - 31, by omega⟩ d)
      congr 1
      funext a
      refine Fin.ext ?_
      match a with
      | ⟨0, _⟩ => show b.val * 1 + _ - 0 = b.val; rw [w0]; omega
      | ⟨1, _⟩ => show h.val * 1 + _ - 0 = h.val; rw [w1]; omega
      | ⟨2, _⟩ => show t.val * 1 + _ - 31 = t.val + n.val - 31; rw [w2]; omega
      | ⟨3, _⟩ => show d.val * 1 + _ - 0 = d.val; rw [w3]; omega
  · have h' : ¬ 31 ≤ t.val + (finCongr numel_win n).val := hh
    rw [dif_neg h']
    refine dif_neg fun q => ?_
    have q2 : 31 ≤ t.val * 1 + _ := (q ⟨2, by decide⟩).1
    rw [w2] at q2
    omega

theorem st_at (x1 x3 : Vec Ideal S16x32x4x64 .f32) (x2 : Vec Ideal S16x32x4x128 .f32) (x4 : Vec Ideal S16x4x64x128 .f32) (b : Fin 16) (h : Fin 4) (d : Fin 64) (e : Fin 128) :
    val_main_v16 (F := Ideal) x1 x2 x3 x4 (ix4 b h d e) = Gla.stateOf (fun t => x1 (ix4 b t h d)) (fun t => x3 (ix4 b t h d)) (fun t => x2 (ix4 b t h e)) (x4 (ix4 b h d e)) := by
  pointwise [val_main_v16, val_main_v15, val_main_v14, val_main_v13, val_main_v12, val_main_v11, val_main_v10, val_main_v9, val_main_v8, val_main_v7, val_main_v6, val_main_v5, val_main_v2, val_main_v1]
  simp only [cum_at]
  rfl

theorem out_at (x1 x3 : Vec Ideal S16x32x4x64 .f32) (x2 : Vec Ideal S16x32x4x128 .f32) (x4 : Vec Ideal S16x4x64x128 .f32) (b : Fin 16) (r : Fin 512) (l : Fin 256) :
    val_main_v27 (F := Ideal) x1 x2 x3 x4 (ix3 b r l) = if r.val / 128 = l.val / 64 then
      Gla.stateOf (fun t => x1 (ix4 b t ⟨r.val / 128, by omega⟩ ⟨l.val % 64, by omega⟩)) (fun t => x3 (ix4 b t ⟨r.val / 128, by omega⟩ ⟨l.val % 64, by omega⟩))
        (fun t => x2 (ix4 b t ⟨r.val / 128, by omega⟩ ⟨r.val % 128, by omega⟩)) (x4 (ix4 b ⟨r.val / 128, by omega⟩ ⟨l.val % 64, by omega⟩ ⟨r.val % 128, by omega⟩)) else 0 := by
  rw [← st_at]
  pointwise [val_main_v27, val_main_v26, val_main_v25, val_main_v24, val_main_v23, val_main_v22, val_main_v21, val_main_v20, val_main_v19, val_main_v18, val_main_v17, val_main_call1_v0, val_main_call1_v1, val_main_call1_v2, val_main_call1_v3, val_main_cst]
  rw [Gla.sel_eq _ _ (by omega) (by omega)]
  split
  · rfl
  · show Ideal.ofBits FTy.f32 0x00000000#32 = 0
    simp [Ideal.ofBits, Ideal.ieee, -EReal.coe_mul]

end Cert.GlaRef

end
-- ==== Proof.GlaSampleClaims.lean ====
/-
  The claims about the gated linear attention call on the sampled frames. The kernel adds up every gate as its rounding and what
  the rounding left over; with no gate at `+∞` that is the gate.
-/
module

public import proofs.«01_k».proof.Defs
public import proofs.«01_k».proof.Proof.Gen.Kernel8.Frame
public import proofs.«01_k».proof.Proof.Gen.Pre_bounded_gates
public import proofs.«01_k».proof.Proof.GlaSampleKernel
public import proofs.«01_k».proof.Proof.GlaSampleReference
public import Idealize.ShloMosaic.Lib.Quiescent

@[expose] public section

noncomputable section

namespace Cert.GlaSampleClaims

open Idealize.ShloMosaic Idealize.ShloMosaic.TcCoe Idealize.SL.Sem

theorem frame_k : Cert.quiescent_Kernel8 := fun m ρ _ => Cert.Kernel8.Gen.frame m ρ
theorem frame_ki : Cert.quiescent_Kernel8Ideal := fun m ρ _ => Cert.Kernel8Ideal.Gen.frame m ρ
theorem frame_ki_pre : Cert.quiescent_Kernel8Ideal_pre_bounded_gates := fun m ρ _ => Cert.Kernel8Ideal.Gen.frame m ρ

/-- The reference is host code: its run read at the arguments, and it declares no semaphore. -/
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_ri_pre : Cert.quiescent_Reference8Ideal_pre_bounded_gates := fun m ρ _ => frame_ri m ρ trivial

/-- The one rewrite: the factor between the two exponentials stands for the logarithm it rounds. -/
theorem preserves : Cert.preserves_Kernel8_Kernel8Ideal :=
  IdealRules.named_const.statement Cert.Kernel8Ideal.κ "log2e" .f32 0x3FB8AA3B#32 (((Real.log 2)⁻¹ : ℝ) : EReal) rfl

/-- An entry that compares below infinity is not `+∞`. -/
theorem ne_top_of_lt (x : EReal) (h : Ideal.cmp .olt x (Ideal.ofBits FTy.f32 2139095040#32) = 1#1) : x ≠ ⊤ := by
  have hi : Ideal.ofBits FTy.f32 2139095040#32 = ⊤ := by simp [Ideal.ofBits, Ideal.ieee, -EReal.coe_mul]
  rw [hi] at h
  exact ((Ideal.cmp_olt_eq_one _ _).mp h).ne

/-- What the precondition says of the gates. -/
theorem gates (m : (ℓ : Loc Cert.Kernel8Ideal.nD Cert.Kernel8Ideal.τ Cert.Kernel8Ideal.sig) → Buf (Elt Ideal) ℓ) (h : Cert.Pre_Kernel8Ideal_bounded_gates m)
    (c : Dev Cert.Kernel8Ideal.nD) (i : Cert.Kernel8Ideal.S16x32x4x64.Idx) :
    m ((c.tc : Thread Cert.Kernel8Ideal.nD Cert.Kernel8Ideal.τ).loc Cert.Kernel8Ideal.main_arg3) i ≠ (⊤ : EReal) :=
  ne_top_of_lt _ (congrFun (h c) i)

/-- Both programs' state results are the same function of the arguments. -/
theorem algebraic : Cert.algebraic_Kernel8Ideal_Reference8Ideal_pre_bounded_gates := by
  intro m ρ m' ρ' hpre hagree
  refine ⟨_, Cert.GlaState.run m ρ (gates m hpre), ?_⟩
  refine (θ_run Cert.Reference8Ideal.defs _ _).mono (fun _ h c => ⟨(h c).1.trans ((Cert.Reference8Ideal.Read.val_main_v27_eq _ _ _ _).trans ?_), (h c).2⟩)
    (Cert.Reference8Ideal.Value.run (F := Ideal) m' ρ')
  rw [(hagree c).2.1, (hagree c).2.2.1, (hagree c).2.2.2.1, (hagree c).2.2.2.2]
  funext i
  obtain ⟨b, r, l, rfl⟩ : ∃ (b : Fin 16) (r : Fin 512) (l : Fin 256), i = ix3 b r l := ⟨i 0, i 1, i 2, eq_ix3 i⟩
  exact Cert.GlaRef.out_at _ _ _ _ b r l

end Cert.GlaSampleClaims

end
-- ==== Proof.Fox.lean ====
/-
  The forgetting attention call's key and value results: each is written plane by plane, the newest plane in pieces of
  transposed rows, each at its columns. Here: what one such piece holds of the whole.
-/
module

public import proofs.«01_k».proof.Proof.Gen.Kernel9Ideal.Value
public import Idealize.ShloMosaic.Lib.Pointwise
public import Idealize.ShloMosaic.Lib.Pipeline.ValueKit

@[expose] public section

set_option maxRecDepth 16384

noncomputable section

namespace Cert.Fox

open Idealize.ShloMosaic Idealize.ShloMosaic.TcCoe Idealize.SL.Sem
open Cert.Kernel9Ideal Cert.Kernel9Ideal.Gen

/-- A payload carried over two leading unit axes, read at an index: the payload at the index without them. -/
theorem payAlong_two {n : Nat} {d : Fin n → Nat} (r : Rect ⟨n, d⟩) (s₁ : Fin (n + 1) → Nat) (a₁ : s₁ 0 = 1) (b₁ : ∀ i, s₁ i.succ = d i)
    (s₂ : Fin (n + 2) → Nat) (a₂ : s₂ 0 = 1) (b₂ : ∀ i, s₂ i.succ = s₁ i) {V : Type} (w : r.shape.Idx → V)
    (hR : ((r.consLift s₁ a₁ b₁).consLift s₂ a₂ b₂).shape.numel = r.shape.numel) (x : ((r.consLift s₁ a₁ b₁).consLift s₂ a₂ b₂).shape.Idx)
    (z : r.shape.Idx) (hz : ∀ i, (z i).val = (x i.succ.succ).val) : Rect.payAlong hR w x = w z := by
  refine congrArg w (Eq.trans (Shape.reshapeEquiv_reshapeEquiv (r.numel_consLift s₁ a₁ b₁) (Rect.numel_consLift _ s₂ a₂ b₂) x).symm (funext fun i => Fin.ext ?_))
  rw [← Rect.reshapeEquiv_consLift_succ, ← Rect.reshapeEquiv_consLift_succ]
  exact (hz i).symm

/-- The two planes: the older one carried on, the newest one the rows transposed. -/
def planes (old : Vec Ideal S1x1x128x2064 .f32) (x : Vec Ideal S2064x128 .f32) (i : S2x1x128x2064.Idx) : EReal :=
  if (i 0).val = 0 then old (ix4 0 0 (i 2) (i 3)) else x (ix2 (i 3) (i 2))

/-- A piece of the newest plane, `n` columns from column `o` on. -/
theorem piece_at {o n : Nat} (inb : ∀ a, (![0, o] : Fin 2 → Nat) a + (![128, n] : Fin 2 → Nat) a ≤ S128x2064.size a) (inb₁ a₁ b₁ a₂ b₂ hs)
    (w : (Rect.unit (s := S128x2064) ![0, o] ![128, n] inb).shape.Idx → EReal) (hR) (old : Vec Ideal S1x1x128x2064 .f32) (x : Vec Ideal S2064x128 .f32)
    (ho : o + n ≤ 2064) (hw : ∀ (d : Fin 128) (l : Fin n), w (ix2 d l) = x (ix2 ⟨o + l.val, by omega⟩ d)) (y) :
    Rect.payAlong (r := Rect.unit (s := S128x2064) ![0, o] ![128, n] inb)
      (R := ((Rect.unit (s := S128x2064) ![0, o] ![128, n] inb).consLift ![1, 128, 2064] a₁ b₁).consLift ![1, 1, 128, 2064] a₂ b₂) hR w y
    = planes old x (((Rect.unit (s := S2x1x128x2064) ![1, 0, 0, 0] ![1, 1, 128, 2064] inb₁).within
        (((Rect.unit (s := S128x2064) ![0, o] ![128, n] inb).consLift ![1, 128, 2064] a₁ b₁).consLift ![1, 1, 128, 2064] a₂ b₂) hs).emb y) := by
  have hd : (y 2).val < 128 := (y 2).isLt
  have hl : (y 3).val < n := (y 3).isLt
  refine (payAlong_two _ _ _ _ _ _ _ w hR y (ix2 ⟨(y 2).val, hd⟩ ⟨(y 3).val, hl⟩) (Fin.forall_fin_two.mpr ⟨rfl, rfl⟩)).trans ((hw _ _).trans ?_)
  unfold planes
  rw [if_neg (by show ¬ (1 + 0 + 1 * (y 0).val = 0); omega)]
  refine congrArg x ?_
  refine congrArg₂ ix2 (Fin.ext ?_) (Fin.ext ?_)
  · show o + (y 3).val = 0 + o + 1 * (y 3).val
    omega
  · show (y 2).val = 0 + 0 + 1 * (y 2).val
    omega

/-- 256 rows, transposed. -/
theorem turn_at {o : Nat} (x : Vec Ideal S2064x128 .f32) (inb) (h) (ho : o + 256 ≤ 2064) (d : Fin 128) (l : Fin 256) :
    transpose S128x256 [1, 0] (View.ld x (Rect.unit (s := S2064x128) ![o, 0] ![256, 128] inb) : Vec Ideal S256x128 .f32) h (ix2 d l) = x (ix2 ⟨o + l.val, by omega⟩ d) := by
  pointwise []

/-- The first 16 of 128 rows, transposed. -/
theorem turn_first (x : Vec Ideal S2064x128 .f32) (inb) (d : Fin 128) (l : Fin 16) :
    k0_pay153 (F := Ideal) (k0_pay147 (View.ld x (Rect.unit (s := S2064x128) ![0, 0] ![128, 128] inb) : Vec Ideal S128x128 .f32)) (ix2 d l)
      = x (ix2 ⟨0 + l.val, by omega⟩ d) := by
  pointwise [k0_pay153, k0_pay147]

/-- The last 16 of the last 128 rows, transposed. -/
theorem turn_last (x : Vec Ideal S2064x128 .f32) (inb) (h) (h') (d : Fin 128) (l : Fin 16) :
    extractStridedSlice S128x16 ![0, 112] (transpose S128x128 [1, 0] (View.ld x (Rect.unit (s := S2064x128) ![1936, 0] ![128, 128] inb) : Vec Ideal S128x128 .f32) h) h' (ix2 d l)
      = x (ix2 ⟨2048 + l.val, by omega⟩ d) := by
  pointwise []
  show x _ = _
  congr 1
  blk_ext []

/-- The older plane, carried on. -/
theorem old_at (inb) (old : Vec Ideal S1x1x128x2064 .f32) (x : Vec Ideal S2064x128 .f32) (y : S1x1x128x2064.Idx) :
    k0_pay131 old y = planes old x ((Rect.unit (s := S2x1x128x2064) ![0, 0, 0, 0] ![1, 1, 128, 2064] inb).emb y) := by
  obtain ⟨a, b, d, p, rfl⟩ : ∃ (a b : Fin 1) (d : Fin 128) (p : Fin 2064), y = ix4 a b d p := ⟨y 0, y 1, y 2, y 3, eq_ix4 y⟩
  obtain rfl : a = 0 := Subsingleton.elim _ _
  obtain rfl : b = 0 := Subsingleton.elim _ _
  pointwise [k0_pay131]
  unfold planes
  rw [if_pos (by show 0 + 1 * (0 : Fin 1).val = 0; rfl)]
  refine congrArg old ?_
  refine congrArg₂ (ix4 0 0) (Fin.ext ?_) (Fin.ext ?_)
  · show d.val = 0 + 1 * d.val
    omega
  · show p.val = 0 + 1 * p.val
    omega

end Cert.Fox

end
-- ==== Proof.FoxKernel.lean ====
/-
  The forgetting attention call on the prompt: what its key and value results hold after the run. Every grid point is one
  stream and one group of eight heads' channels: the cached planes carried on, and the new rows transposed behind them.
-/
module

public import proofs.«01_k».proof.Proof.Gen.Kernel9Ideal.Value
public import proofs.«01_k».proof.Proof.Fox
public import Idealize.ShloMosaic.Lib.Pointwise
public import Idealize.ShloMosaic.Lib.Pipeline.ValueKit
public import Idealize.ShloMosaic.Lib.StableHlo.ReadAt

@[expose] public section

set_option maxRecDepth 16384

noncomputable section

namespace Cert.FoxPrompt

open Idealize.ShloMosaic Idealize.ShloMosaic.TcCoe Idealize.SL.Sem
open Cert.Kernel9Ideal Cert.Kernel9Ideal.Gen
open Cert.Fox

variable (m : (ℓ : Loc nD τ sig) → Buf (Elt Ideal) ℓ)

/-! ## One grid point -/

theorem kt_first (c : Dev nD) (t : Fin cfg0.N) (h : t.val % 8 = 0) (i : S2x1x128x2064.Idx) :
    (outsAt0 m c t.val t.isLt).2.1 i = planes (iblk m c 5 t) (iblk m c 1 t) i := by
  rw [outsAt0_A m c t h]
  frame_out
  refine View.canon_apply_of_pieces (Val := Elt Ideal) (e := .f32) (planes (iblk m c 5 t) (iblk m c 1 t)) _ ?_ _ ?_
  · simp only [List.forall_mem_cons, List.not_mem_nil, false_imp_iff, implies_true, and_true]
    refine ⟨?_, ?_, ?_, ?_, ?_, ?_, ?_, ?_, ?_, ?_⟩
    · exact fun y => piece_at _ _ _ _ _ _ _ _ _ _ _ (by decide) (turn_last _ _ _ _) y
    iterate 8 exact fun y => piece_at _ _ _ _ _ _ _ _ _ _ _ (by decide) (turn_at _ _ _ (by decide)) y
    · exact fun y => old_at _ _ _ y
  · refine View.cover_of_tiledBy (s := S2x1x128x2064) _ ![1, 1, 128, 16] ?_ _
    sl_kernel_rfl

theorem kt_later (c : Dev nD) (t : Fin cfg0.N) (h : ¬ t.val % 8 = 0) (i : S2x1x128x2064.Idx) :
    (outsAt0 m c t.val t.isLt).2.1 i = planes (iblk m c 5 t) (iblk m c 1 t) i := by
  rw [outsAt0_B m c t h]
  frame_out
  refine View.canon_apply_of_pieces (Val := Elt Ideal) (e := .f32) (planes (iblk m c 5 t) (iblk m c 1 t)) _ ?_ _ ?_
  · simp only [List.forall_mem_cons, List.not_mem_nil, false_imp_iff, implies_true, and_true]
    refine ⟨?_, ?_, ?_, ?_, ?_, ?_, ?_, ?_, ?_, ?_⟩
    · exact fun y => piece_at _ _ _ _ _ _ _ _ _ _ _ (by decide) (turn_last _ _ _ _) y
    iterate 8 exact fun y => piece_at _ _ _ _ _ _ _ _ _ _ _ (by decide) (turn_at _ _ _ (by decide)) y
    · exact fun y => old_at _ _ _ y
  · refine View.cover_of_tiledBy (s := S2x1x128x2064) _ ![1, 1, 128, 16] ?_ _
    sl_kernel_rfl

theorem vt_first (c : Dev nD) (t : Fin cfg0.N) (h : t.val % 8 = 0) (i : S2x1x128x2064.Idx) :
    (outsAt0 m c t.val t.isLt).2.2.1 i = planes (iblk m c 6 t) (iblk m c 2 t) i := by
  rw [outsAt0_A m c t h]
  frame_out
  refine View.canon_apply_of_pieces (Val := Elt Ideal) (e := .f32) (planes (iblk m c 6 t) (iblk m c 2 t)) _ ?_ _ ?_
  · simp only [List.forall_mem_cons, List.not_mem_nil, false_imp_iff, implies_true, and_true]
    refine ⟨?_, ?_, ?_, ?_, ?_, ?_, ?_, ?_, ?_, ?_⟩
    iterate 8 exact fun y => piece_at _ _ _ _ _ _ _ _ _ _ _ (by decide) (turn_at _ _ _ (by decide)) y
    · exact fun y => piece_at _ _ _ _ _ _ _ _ _ _ _ (by decide) (turn_first _ _) y
    · exact fun y => old_at _ _ _ y
  · refine View.cover_of_tiledBy (s := S2x1x128x2064) _ ![1, 1, 128, 16] ?_ _
    sl_kernel_rfl

theorem vt_later (c : Dev nD) (t : Fin cfg0.N) (h : ¬ t.val % 8 = 0) (i : S2x1x128x2064.Idx) :
    (outsAt0 m c t.val t.isLt).2.2.1 i = planes (iblk m c 6 t) (iblk m c 2 t) i := by
  rw [outsAt0_B m c t h]
  frame_out
  refine View.canon_apply_of_pieces (Val := Elt Ideal) (e := .f32) (planes (iblk m c 6 t) (iblk m c 2 t)) _ ?_ _ ?_
  · simp only [List.forall_mem_cons, List.not_mem_nil, false_imp_iff, implies_true, and_true]
    refine ⟨?_, ?_, ?_, ?_, ?_, ?_, ?_, ?_, ?_, ?_⟩
    iterate 8 exact fun y => piece_at _ _ _ _ _ _ _ _ _ _ _ (by decide) (turn_at _ _ _ (by decide)) y
    · exact fun y => piece_at _ _ _ _ _ _ _ _ _ _ _ (by decide) (turn_first _ _) y
    · exact fun y => old_at _ _ _ y
  · refine View.cover_of_tiledBy (s := S2x1x128x2064) _ ![1, 1, 128, 16] ?_ _
    sl_kernel_rfl

theorem kt_at (c : Dev nD) (t : Fin cfg0.N) (i : S2x1x128x2064.Idx) :
    (outsAt0 m c t.val t.isLt).2.1 i = planes (iblk m c 5 t) (iblk m c 1 t) i := by
  by_cases h : t.val % 8 = 0
  · exact kt_first m c t h i
  · exact kt_later m c t h i

theorem vt_at (c : Dev nD) (t : Fin cfg0.N) (i : S2x1x128x2064.Idx) :
    (outsAt0 m c t.val t.isLt).2.2.1 i = planes (iblk m c 6 t) (iblk m c 2 t) i := by
  by_cases h : t.val % 8 = 0
  · exact vt_first m c t h i
  · exact vt_later m c t h i

/-! ## The blocks -/

theorem idx1 : ∀ t : Fin cfg0.N, win0_1.index t = ![t.val / 8, t.val % 8] := (by decide +kernel : ∀ t : Fin grid0.N, _)
theorem idx2 : ∀ t : Fin cfg0.N, win0_2.index t = ![t.val / 8, t.val % 8] := (by decide +kernel : ∀ t : Fin grid0.N, _)
theorem idx5 : ∀ t : Fin cfg0.N, win0_5.index t = ![0, t.val / 8, t.val % 8, 0] := (by decide +kernel : ∀ t : Fin grid0.N, _)
theorem idx6 : ∀ t : Fin cfg0.N, win0_6.index t = ![0, t.val / 8, t.val % 8, 0] := (by decide +kernel : ∀ t : Fin grid0.N, _)
theorem idx8 : ∀ t : Fin cfg0.N, win0_8.index t = ![0, t.val / 8, t.val % 8, 0] := (by decide +kernel : ∀ t : Fin grid0.N, _)
theorem idx9 : ∀ t : Fin cfg0.N, win0_9.index t = ![0, t.val / 8, t.val % 8, 0] := (by decide +kernel : ∀ t : Fin grid0.N, _)

/-- The stream and the channel of a grid point. -/
def str (t : Fin cfg0.N) : Fin 16 := ⟨t.val / 8, by have : t.val < 128 := t.isLt; omega⟩
def chan (t : Fin cfg0.N) (d : Fin 128) : Fin 1024 := ⟨t.val % 8 * 128 + d.val, by omega⟩
def row (t : Fin cfg0.N) (p : Fin 2064) : Fin 33024 := ⟨t.val / 8 * 2064 + p.val, by have : t.val < 128 := t.isLt; omega⟩

theorem blk1 (c : Dev nD) (t : Fin cfg0.N) (p : Fin 2064) (d : Fin 128) :
    iblk m c 1 t (ix2 p d) = (m ((c : Thread nD τ).loc main_arg1)) (ix2 (row t p) (chan t d)) := by
  blk_ext [iblk, idx1 t, row, chan]

theorem blk2 (c : Dev nD) (t : Fin cfg0.N) (p : Fin 2064) (d : Fin 128) :
    iblk m c 2 t (ix2 p d) = (m ((c : Thread nD τ).loc main_arg2)) (ix2 (row t p) (chan t d)) := by
  blk_ext [iblk, idx2 t, row, chan]

theorem blk5 (c : Dev nD) (t : Fin cfg0.N) (d : Fin 128) (p : Fin 2064) :
    iblk m c 5 t (ix4 0 0 d p) = (m ((c : Thread nD τ).loc main_arg4)) (ix4 0 (str t) (chan t d) p) := by
  blk_ext [iblk, idx5 t, str, chan]

theorem blk6 (c : Dev nD) (t : Fin cfg0.N) (d : Fin 128) (p : Fin 2064) :
    iblk m c 6 t (ix4 0 0 d p) = (m ((c : Thread nD τ).loc main_arg5)) (ix4 0 (str t) (chan t d) p) := by
  blk_ext [iblk, idx6 t, str, chan]

/-! ## The arrays -/

/-- The two layers' keys (or values), channels before positions: the earlier layer's as it came, the last layer's rows transposed. -/
def stack (old : Vec Ideal S1x16x1024x2064 .f32) (x : Vec Ideal S33024x1024 .f32) (l : Fin 2) (b : Fin 16) (d : Fin 1024) (p : Fin 2064) : EReal :=
  if l.val = 0 then old (ix4 0 b d p) else x (ix2 ⟨b.val * 2064 + p.val, by omega⟩ d)

theorem final_kt (c : Dev nD) : (dats m 0 c).arrAt 8 cfg0.N = fun i : S2x16x1024x2064.Idx =>
    stack (m ((c : Thread nD τ).loc main_arg4)) (m ((c : Thread nD τ).loc main_arg1)) (i 0) (i 1) (i 2) (i 3) := by
  refine (dats m 0 c).arrAt_eq_of_covers 8 _ (by decide +kernel) fun t hf y => ?_
  blk_simp
  rw [after0_8]
  obtain ⟨l, z, d, p, rfl⟩ : ∃ (l : Fin 2) (z : Fin 1) (d : Fin 128) (p : Fin 2064), y = ix4 l z d p := ⟨y 0, y 1, y 2, y 3, eq_ix4 y⟩
  obtain rfl : z = 0 := Subsingleton.elim _ _
  have e : (win0_8.blk t).view.emb (ix4 l 0 d p) = ix4 l (str t) (chan t d) p := by
    blk_ext [idx8 t, str, chan]
  refine (kt_at m c t _).trans ?_
  rw [e]
  show planes _ _ (ix4 l 0 d p) = stack _ _ l (str t) (chan t d) p
  unfold planes stack
  by_cases h : l.val = 0
  · rw [if_pos h]
    refine (if_pos h).trans ?_
    exact blk5 m c t d p
  · rw [if_neg h]
    refine (if_neg h).trans ?_
    exact blk1 m c t p d

theorem final_vt (c : Dev nD) : (dats m 0 c).arrAt 9 cfg0.N = fun i : S2x16x1024x2064.Idx =>
    stack (m ((c : Thread nD τ).loc main_arg5)) (m ((c : Thread nD τ).loc main_arg2)) (i 0) (i 1) (i 2) (i 3) := by
  refine (dats m 0 c).arrAt_eq_of_covers 9 _ (by decide +kernel) fun t hf y => ?_
  blk_simp
  rw [after0_9]
  obtain ⟨l, z, d, p, rfl⟩ : ∃ (l : Fin 2) (z : Fin 1) (d : Fin 128) (p : Fin 2064), y = ix4 l z d p := ⟨y 0, y 1, y 2, y 3, eq_ix4 y⟩
  obtain rfl : z = 0 := Subsingleton.elim _ _
  have e : (win0_9.blk t).view.emb (ix4 l 0 d p) = ix4 l (str t) (chan t d) p := by
    blk_ext [idx9 t, str, chan]
  refine (vt_at m c t _).trans ?_
  rw [e]
  show planes _ _ (ix4 l 0 d p) = stack _ _ l (str t) (chan t d) p
  unfold planes stack
  by_cases h : l.val = 0
  · rw [if_pos h]
    refine (if_pos h).trans ?_
    exact blk6 m c t d p
  · rw [if_neg h]
    refine (if_neg h).trans ?_
    exact blk2 m c t p d

variable (ρ : Dev nD → PrngReg)

/-- The run, read: the key and value results at that function of the arguments, the arguments unchanged. -/
theorem run : θ_run defs (onTc (τ := τ) (main (F := Ideal))) ⟨m, fun _ => 0, ρ⟩ fun r => ∀ c : Dev nD,
      r.2.mem ((c : Thread nD τ).loc main_v4_1) = (fun j : S2x16x1024x2064.Idx => stack (m ((c : Thread nD τ).loc main_arg4)) (m ((c : Thread nD τ).loc main_arg1)) (j 0) (j 1) (j 2) (j 3))
      ∧ r.2.mem ((c : Thread nD τ).loc main_v4_2) = (fun j : S2x16x1024x2064.Idx => stack (m ((c : Thread nD τ).loc main_arg5)) (m ((c : Thread nD τ).loc main_arg2)) (j 0) (j 1) (j 2) (j 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).2.1.trans (final_kt m c), (h c).2.2.1.trans (final_vt m c), (h c).2.2.2⟩) (Value.run_blocks m ρ)

end Cert.FoxPrompt

end
-- ==== Proof.FoxReference.lean ====
/-
  The reference's two key and value stacks, read at an index.
-/
module

public import proofs.«01_k».proof.Proof.Gen.Reference9Ideal.Read
public import Idealize.ShloMosaic.Lib.Pointwise

@[expose] public section

set_option maxRecDepth 16384

noncomputable section

namespace Cert.FoxRef

open Idealize.ShloMosaic Idealize.ShloMosaic.TcCoe Idealize.SL.Sem
open Cert.Reference9Ideal Cert.Reference9Ideal.Gen Cert.Reference9Ideal.Read

theorem kt_eq (x : Vec Ideal S33024x1024 .f32) (old : Vec Ideal S1x16x1024x2064 .f32) (l : Fin 2) (b : Fin 16) (d : Fin 1024) (p : Fin 2064) :
    val_main_v3 (F := Ideal) x old (ix4 l b d p) = if l.val = 0 then old (ix4 0 b d p) else x (ix2 ⟨b.val * 2064 + p.val, by omega⟩ d) := by
  pointwise [val_main_v3, val_main_v2, val_main_v1, val_main_v0]
  by_cases h : l.val = 0
  · rw [if_pos h, dif_pos (by omega)]
    exact congrArg (fun a => old (ix4 a b d p)) (Fin.ext h)
  · rw [if_neg h, dif_neg (by omega)]

theorem vt_eq (x : Vec Ideal S33024x1024 .f32) (old : Vec Ideal S1x16x1024x2064 .f32) (l : Fin 2) (b : Fin 16) (d : Fin 1024) (p : Fin 2064) :
    val_main_v7 (F := Ideal) x old (ix4 l b d p) = if l.val = 0 then old (ix4 0 b d p) else x (ix2 ⟨b.val * 2064 + p.val, by omega⟩ d) := by
  pointwise [val_main_v7, val_main_v6, val_main_v5, val_main_v4]
  by_cases h : l.val = 0
  · rw [if_pos h, dif_pos (by omega)]
    exact congrArg (fun a => old (ix4 a b d p)) (Fin.ext h)
  · rw [if_neg h, dif_neg (by omega)]

end Cert.FoxRef

end
-- ==== Proof.FoxClaims.lean ====
/-
  The claims about the forgetting attention call on the prompt, for its key and value results.
-/
module

public import proofs.«01_k».proof.Defs
public import proofs.«01_k».proof.Proof.Gen.Kernel9.Frame
public import proofs.«01_k».proof.Proof.FoxKernel
public import proofs.«01_k».proof.Proof.FoxReference
public import Idealize.ShloMosaic.Lib.Quiescent

@[expose] public section

noncomputable section

namespace Cert.FoxClaims

open Idealize.ShloMosaic Idealize.ShloMosaic.TcCoe Idealize.SL.Sem

theorem frame_k : Cert.quiescent_Kernel9 := fun m ρ _ => Cert.Kernel9.Gen.frame m ρ
theorem frame_ki : Cert.quiescent_Kernel9Ideal := fun m ρ _ => Cert.Kernel9Ideal.Gen.frame m ρ

/-- The reference is host code: its run read at the arguments, and it declares no semaphore. -/
theorem frame_ri : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- Both programs' key and value stacks are the same functions of the arguments. -/
theorem algebraic : Cert.algebraic_Kernel9Ideal_Reference9Ideal := by
  intro m ρ m' ρ' _ hagree
  refine ⟨_, _, Cert.FoxPrompt.run m ρ, ?_⟩
  refine (θ_run Cert.Reference9Ideal.defs _ _).mono (fun _ h c => ⟨(h c).1.trans ((Cert.Reference9Ideal.Read.val_main_v3_eq _ _).trans ?_),
    (h c).2.1.trans ((Cert.Reference9Ideal.Read.val_main_v7_eq _ _).trans ?_), (h c).2.2⟩)
    (Cert.Reference9Ideal.Value.run (F := Ideal) m' ρ')
  · rw [(hagree c).2.1, (hagree c).2.2.2.2.1]
    funext i
    rw [eq_ix4 i]
    exact Cert.FoxRef.kt_eq _ _ (i 0) (i 1) (i 2) (i 3)
  · rw [(hagree c).2.2.1, (hagree c).2.2.2.2.2]
    funext i
    rw [eq_ix4 i]
    exact Cert.FoxRef.vt_eq _ _ (i 0) (i 1) (i 2) (i 3)

end Cert.FoxClaims

end
-- ==== Proof.PostCPromptKernel.lean ====
/-
  The odd layers' closing call on the prompt, before the last layer: what its result array holds after the run. The grid is 48 points of 688 rows.
-/
module

public import proofs.«01_k».proof.Proof.Gen.Kernel10Ideal.Value
public import proofs.«01_k».proof.Proof.Mlp
public import Idealize.ShloMosaic.Lib.Pipeline.ValueKit
public import Idealize.ShloMosaic.Lib.StableHlo.ReadAt

@[expose] public section

set_option maxRecDepth 16384

noncomputable section

namespace Cert.PostCPrompt

open Idealize.ShloMosaic Idealize.ShloMosaic.TcCoe Idealize.SL.Sem
open Cert.Kernel10Ideal Cert.Kernel10Ideal.Gen

/-! ## One block -/

section block

variable (o : Vec Ideal S688x1024 .bf16) (w : Vec Ideal S1024x1024 .bf16) (x : Vec Ideal S688x1024 .f32) (g : Vec Ideal S1x1024 .f32)

/-- Row `r` of the block after the attention output's projection is added to it. -/
def mid (r : Fin 688) (l : Fin 1024) : EReal := x (ix2 r l) + ∑ k, o (ix2 r k) * w (ix2 k l)

theorem pay2_at (r : Fin 688) (l : Fin 1024) : k0_pay2 o w x (ix2 r l) = mid o w x r l := by
  pointwise [k0_pay2, mid]

theorem pay3_at (r : Fin 688) (l : Fin 1024) :
    k0_pay3 o w x g (ix2 r l) = Mlp.hidden (mid o w x r) (fun k => g (ix2 0 k)) l := by
  pointwise [k0_pay3]
  simp only [pay2_at]
  rfl

theorem pay5_at (u : Vec Ideal S1024x1024 .bf16) (r : Fin 688) (l : Fin 1024) :
    k0_pay5 o w x g u (ix2 r l) = ∑ k, Mlp.hidden (mid o w x r) (fun k => g (ix2 0 k)) k * u (ix2 k l) := by
  pointwise [k0_pay5]
  simp only [pay3_at]

theorem pay4_at (u d : Vec Ideal S1024x1024 .bf16) (r : Fin 688) (l : Fin 1024) :
    k0_pay4 o w x g u d (ix2 r l) = mid o w x r l
      + ∑ f, Mlp.unit (Mlp.hidden (mid o w x r) (fun k => g (ix2 0 k))) (fun k => u (ix2 k f)) * d (ix2 f l) := by
  pointwise [k0_pay4]
  simp only [pay2_at, pay3_at]
  rfl

/-- What a grid point writes, at row `r` and column `l` of its block. -/
theorem out_at (wu : Vec Ideal S1024x4096 .bf16) (wd : Vec Ideal S4096x1024 .bf16) (r : Fin 688) (l : Fin 1024) :
    out0_6 x o w g wu wd (ix2 r l)
      = Mlp.row (mid o w x r) (fun k => g (ix2 0 k)) (fun k f => wu (ix2 k f)) (fun f k => wd (ix2 f k)) l := by
  rw [Mlp.row_eq_chunks]
  frame_out
  pointwise [k0_pay1]
  simp only [pay3_at, pay4_at, pay5_at]
  pointwise [k0_pay6]
  simp only [Mlp.chunk, Mlp.unit, Nat.zero_add]

end block

/-! ## The blocks in the arrays -/

variable (m : (ℓ : Loc nD τ sig) → Buf (Elt Ideal) ℓ)

theorem point_lt (t : Fin cfg0.N) : t.val < 48 := lt_of_lt_of_eq t.isLt N_0

/-- The array row of row `r` of point `t`'s block. -/
def dst (t : Fin cfg0.N) (r : Fin 688) : Fin 33024 := ⟨t.val * 688 + r, by have := point_lt t; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

theorem blk0 (c : Dev nD) (t : Fin cfg0.N) (r : Fin 688) (k : Fin 1024) :
    iblk m c 0 t (ix2 r k) = m ((c : Thread nD τ).loc main_arg0) (ix2 (dst t r) k) := by
  rw [← V_main_arg0 m c]
  blk_ext [iblk, idx0 t, dst]

theorem blk1 (c : Dev nD) (t : Fin cfg0.N) (r : Fin 688) (k : Fin 1024) :
    iblk m c 1 t (ix2 r k) = m ((c : Thread nD τ).loc main_arg1) (ix2 (dst t r) k) := by
  rw [← V_main_arg1 m c]
  blk_ext [iblk, idx1 t, dst]

/-- The host's narrowed weights, and the gain as a row, are the arguments at an index. -/
theorem wout_at (c : Dev nD) (k l : Fin 1024) : V m c main_v3 (ix2 k l) = m ((c : Thread nD τ).loc main_arg2) (ix2 k l) := by
  unfold V
  after_reads_at

theorem gain_at (c : Dev nD) (l : Fin 1024) : V m c main_v2 (ix2 0 l) = m ((c : Thread nD τ).loc main_arg3) (ix1 l) := by
  unfold V
  after_reads_at

theorem wup_at (c : Dev nD) (k : Fin 1024) (f : Fin 4096) : V m c main_v0 (ix2 k f) = m ((c : Thread nD τ).loc main_arg4) (ix2 k f) := by
  unfold V
  after_reads_at

theorem wdown_at (c : Dev nD) (f : Fin 4096) (l : Fin 1024) : V m c main_v1 (ix2 f l) = m ((c : Thread nD τ).loc main_arg5) (ix2 f l) := by
  unfold V
  after_reads_at

theorem blk2 (c : Dev nD) (t : Fin cfg0.N) (k l : Fin 1024) :
    iblk m c 2 t (ix2 k l) = m ((c : Thread nD τ).loc main_arg2) (ix2 k l) := by
  rw [← wout_at m c]
  blk_ext [iblk, idx2 t]

theorem blk3 (c : Dev nD) (t : Fin cfg0.N) (l : Fin 1024) :
    iblk m c 3 t (ix2 0 l) = m ((c : Thread nD τ).loc main_arg3) (ix1 l) := by
  rw [← gain_at m c]
  blk_ext [iblk, idx3 t]

theorem blk4 (c : Dev nD) (t : Fin cfg0.N) (k : Fin 1024) (f : Fin 4096) :
    iblk m c 4 t (ix2 k f) = m ((c : Thread nD τ).loc main_arg4) (ix2 k f) := by
  rw [← wup_at m c]
  blk_ext [iblk, idx4 t]

theorem blk5 (c : Dev nD) (t : Fin cfg0.N) (f : Fin 4096) (l : Fin 1024) :
    iblk m c 5 t (ix2 f l) = m ((c : Thread nD τ).loc main_arg5) (ix2 f l) := by
  rw [← wdown_at m c]
  blk_ext [iblk, idx5 t]

/-! ## The array -/

/-- The closing step as a function of the six arguments, row by row: the result row `r` is the stream's row plus its
    attention output's projection, with the MLP of the normalised sum added. -/
def result (x : Vec Ideal S33024x1024 .f32) (o : Vec Ideal S33024x1024 .bf16) (w : Vec Ideal S1024x1024 .f32) (g : Vec Ideal S1024 .f32)
    (wu : Vec Ideal S1024x4096 .f32) (wd : Vec Ideal S4096x1024 .f32) (r : Fin 33024) (l : Fin 1024) : EReal :=
  Mlp.row (fun j => x (ix2 r j) + ∑ k, o (ix2 r k) * w (ix2 k j)) (fun k => g (ix1 k)) (fun k f => wu (ix2 k f))
    (fun f k => wd (ix2 f k)) l

/-- After the run the result array holds that function of the arguments. -/
theorem final (c : Dev nD) : (dats m 0 c).arrAt 6 cfg0.N = fun i : S33024x1024.Idx =>
    result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  blk_simp
  rw [after0_6]
  obtain ⟨r, l, rfl⟩ : ∃ (a : Fin 688) (b : Fin 1024), y = ix2 a b := ⟨y 0, y 1, eq_ix2 y⟩
  have e : (win0_6.blk t).view.emb (ix2 r l) = ix2 (dst t r) l := by
    blk_ext [idx6 t, dst]
  refine (out_at _ _ _ _ _ _ r l).trans ?_
  rw [e]
  show _ = result _ _ _ _ _ _ (dst t r) l
  unfold result mid
  simp only [blk0, blk1, blk2, blk3, blk4, blk5]

variable (ρ : Dev nD → PrngReg)

/-- The run, read: the result array at that function of the arguments, the arguments unchanged. -/
theorem run : θ_run defs (onTc (τ := τ) (main (F := Ideal))) ⟨m, fun _ => 0, ρ⟩ fun r => ∀ c : Dev nD,
      (r.2.mem ((c : Thread nD τ).loc main_v4) = fun i : S33024x1024.Idx =>
        result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.PostCPrompt

end
-- ==== Proof.PostCPromptReference.lean ====
/-
  The odd layers' closing step on the prompt, before the last layer, as the reference states it, read row by row: the same function of
  the six arguments.
-/
module

public import proofs.«01_k».proof.Proof.Gen.Reference10Ideal.Read
public import proofs.«01_k».proof.Proof.PostCPromptKernel

@[expose] public section

set_option maxRecDepth 16384

noncomputable section

namespace Cert.PostCPromptRef

open Idealize.ShloMosaic Cert.Reference10Ideal Cert.Reference10Ideal.Read

variable (x0 : (⟨S33024x1024, .f32⟩ : BufTy).Contents (Elt Ideal)) (x1 : (⟨S33024x1024, .bf16⟩ : BufTy).Contents (Elt Ideal))
  (x2 : (⟨S1024x1024, .f32⟩ : BufTy).Contents (Elt Ideal)) (x3 : (⟨S1024, .f32⟩ : BufTy).Contents (Elt Ideal))
  (x4 : (⟨S1024x4096, .f32⟩ : BufTy).Contents (Elt Ideal)) (x5 : (⟨S4096x1024, .f32⟩ : BufTy).Contents (Elt Ideal))

/-- The stream after the attention output's projection, at batch entry `b` and row `s`. -/
def mid (b : Fin 16) (s : Fin 2064) (l : Fin 1024) : EReal :=
  x0 (ix2 ⟨b.val * 2064 + s.val, by omega⟩ l) + ∑ k, x1 (ix2 ⟨b.val * 2064 + s.val, by omega⟩ k) * x2 (ix2 k l)

theorem v4_at (b : Fin 16) (s : Fin 2064) (l : Fin 1024) :
    val_main_v4 (F := Ideal) x0 x1 x2 (ix3 b s l) = mid x0 x1 x2 b s l := by
  pointwise [val_main_v4, val_main_v3, val_main_v2, val_main_v1, val_main_v0, mid]

theorem v17_at (b : Fin 16) (s : Fin 2064) (l : Fin 1024) :
    val_main_v17 (F := Ideal) x0 x1 x2 x3 (ix3 b s l) = Mlp.hidden (mid x0 x1 x2 b s) (fun k => x3 (ix1 k)) l := by
  pointwise [val_main_v17, val_main_v16, val_main_v15, val_main_v14, val_main_v13, val_main_v12, val_main_v11, val_main_v10,
    val_main_cst_1, val_main_v9, val_main_v8, val_main_cst_0, val_main_v7, val_main_v6, val_main_cst, val_main_v5]
  simp only [v4_at]
  rfl

theorem v20_at (b : Fin 16) (s : Fin 2064) (f : Fin 4096) :
    val_main_v20 (F := Ideal) x0 x1 x2 x3 x4 (ix3 b s f)
      = Mlp.unit (Mlp.hidden (mid x0 x1 x2 b s) (fun k => x3 (ix1 k))) (fun k => x4 (ix2 k f)) := by
  pointwise [val_main_v20, val_main_v19, val_main_v18, val_main_call0_v0, val_main_call0_cst]
  simp only [v17_at]
  rfl

theorem at_split (r : Fin 33024) : (⟨r.val / 2064 * 2064 + r.val % 2064, by omega⟩ : Fin 33024) = r :=
  Fin.ext (by show r.val / 2064 * 2064 + r.val % 2064 = r.val; omega)

/-- The reference's result at row `r`. -/
theorem v23_at (r : Fin 33024) (l : Fin 1024) :
    val_main_v23 (F := Ideal) x0 x1 x2 x3 x4 x5 (ix2 r l) = PostCPrompt.result x0 x1 x2 x3 x4 x5 r l := by
  pointwise [val_main_v23, val_main_v22, val_main_v21]
  simp only [v4_at, v20_at]
  unfold mid
  rw [at_split r]
  rfl

/-- The reference's result array. -/
theorem result_eq : val_main_v23 (F := Ideal) x0 x1 x2 x3 x4 x5 = fun i : S33024x1024.Idx => PostCPrompt.result x0 x1 x2 x3 x4 x5 (i 0) (i 1) := by
  funext i
  obtain ⟨r, l, rfl⟩ : ∃ (a : Fin 33024) (b : Fin 1024), i = ix2 a b := ⟨i 0, i 1, eq_ix2 i⟩
  exact v23_at _ _ _ _ _ _ r l

end Cert.PostCPromptRef

end
-- ==== Proof.PostCPromptClaims.lean ====
/-
  The claims about the odd layers' closing call on the prompt, before the last layer.
-/
module

public import proofs.«01_k».proof.Defs
public import proofs.«01_k».proof.Proof.Gen.Kernel10.Frame
public import proofs.«01_k».proof.Proof.PostCPromptKernel
public import proofs.«01_k».proof.Proof.PostCPromptReference
public import Idealize.ShloMosaic.Lib.Quiescent

@[expose] public section

noncomputable section

namespace Cert.PostCPromptClaims

open Idealize.ShloMosaic Idealize.ShloMosaic.TcCoe Idealize.SL.Sem

theorem frame_k : Cert.quiescent_Kernel10 := fun m ρ _ => Cert.Kernel10.Gen.frame m ρ
theorem frame_ki : Cert.quiescent_Kernel10Ideal := fun m ρ _ => Cert.Kernel10Ideal.Gen.frame m ρ

/-- The reference is host code: its run read at the arguments, and it declares no semaphore. -/
theorem frame_ri : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Both programs' result arrays are the one function of the arguments. -/
theorem algebraic : Cert.algebraic_Kernel10Ideal_Reference10Ideal := by
  intro m ρ m' ρ' _ hagree
  refine ⟨_, Cert.PostCPrompt.run m ρ, ?_⟩
  refine (θ_run Cert.Reference10Ideal.defs _ _).mono (fun _ h c => ⟨(h c).1.trans ((Cert.Reference10Ideal.Read.val_main_v23_eq _ _).trans ?_), (h c).2⟩)
    (Cert.Reference10Ideal.Value.run (F := Ideal) m' ρ')
  rw [Cert.PostCPromptRef.result_eq, (hagree c).1, (hagree c).2.1, (hagree c).2.2.1, (hagree c).2.2.2.1, (hagree c).2.2.2.2.1, (hagree c).2.2.2.2.2]

end Cert.PostCPromptClaims

end
-- ==== Proof.PostAbSampleKernel.lean ====
/-
  An even layer's closing call over the sampled frames: what its result array holds after the run. The one grid point
  holds all 512 rows; the heads of the gated linear attention's output are normalised one by one and gated, both mixers' outputs go through
  the output projection, and the squared-relu MLP follows.
-/
module

public import proofs.«01_k».proof.Proof.Gen.Kernel11Ideal.Value
public import proofs.«01_k».proof.Proof.PostAbKernel
public import Idealize.ShloMosaic.Lib.Pipeline.ValueKit
public import Idealize.ShloMosaic.Lib.StableHlo.ReadAt

@[expose] public section

set_option maxRecDepth 16384

noncomputable section

namespace Cert.PostAbSample

open Idealize.ShloMosaic Idealize.ShloMosaic.TcCoe Idealize.SL.Sem
open Cert.Kernel11Ideal Cert.Kernel11Ideal.Gen

open Cert.PostAb (headNorm gated gated_eq mid)

/-! ## One block -/

section block

variable (x : Vec Ideal S512x1024 .f32) (oa : Vec Ideal S512x512 .bf16) (ob rb : Vec Ideal S512x512 .f32)
  (og : Vec Ideal S1x128 .f32) (w : Vec Ideal S1024x1024 .bf16) (g : Vec Ideal S1x1024 .f32)
  (wu : Vec Ideal S1024x4096 .bf16) (wd : Vec Ideal S4096x1024 .bf16)

theorem pay2_at (r : Fin 512) (l : Fin 128) :
    k0_pay2 ob og (ix2 r l) = headNorm (fun j => ob (ix2 r ⟨0 + j.val, by omega⟩)) (fun k => og (ix2 0 k)) l := by
  pointwise [k0_pay2]
  rfl

theorem pay3_at (r : Fin 512) (l : Fin 128) :
    k0_pay3 ob og (ix2 r l) = headNorm (fun j => ob (ix2 r ⟨128 + j.val, by omega⟩)) (fun k => og (ix2 0 k)) l := by
  pointwise [k0_pay3]
  rfl

/-- The row of the block that the MLP takes. -/
def row (r : Fin 512) (l : Fin 1024) : EReal :=
  mid (fun k => x (ix2 r k)) (fun k => oa (ix2 r k)) (fun k => ob (ix2 r k)) (fun k => rb (ix2 r k)) (fun k => og (ix2 0 k))
    (fun k l => w (ix2 k l)) l

theorem pay5_at (w1 w2 : Vec Ideal S512x1024 .bf16) (h1 : ∀ k l, w1 (ix2 k l) = w (ix2 ⟨k.val, by omega⟩ l))
    (h2 : ∀ k l, w2 (ix2 k l) = w (ix2 ⟨512 + k.val, by omega⟩ l)) (r : Fin 512) (l : Fin 1024) :
    k0_pay5 ob (k0_pay2 ob og) (k0_pay3 ob og) (k0_pay4 ob) og og rb oa w1 w2 x (ix2 r l) = row x oa ob rb og w r l := by
  pointwise [k0_pay5, k0_pay4]
  simp only [pay2_at, pay3_at, h1, h2]
  unfold row mid
  refine congrArg (fun z => _ + (_ + z)) (Finset.sum_congr rfl fun k _ => congrArg (fun z => z * _) ?_)
  by_cases c1 : k.val < 128
  · rw [dif_pos c1, gated_eq _ _ _ k 0 (by omega) ⟨k.val, c1⟩ (by omega) (by show k.val % 128 = k.val; omega)]
  · rw [dif_neg c1]
    by_cases c2 : k.val - 128 < 128
    · rw [dif_pos c2, gated_eq _ _ _ k 128 (by omega) ⟨k.val - 128, c2⟩ (by omega) (by show k.val % 128 = k.val - 128; omega)]
    · rw [dif_neg c2]
      by_cases c3 : k.val - 128 - 128 < 128
      · rw [dif_pos c3, gated_eq _ _ _ k 256 (by omega) ⟨k.val - 128 - 128, c3⟩ (by omega)
          (by show k.val % 128 = k.val - 128 - 128; omega)]
        rfl
      · rw [dif_neg c3, gated_eq _ _ _ k 384 (by omega) ⟨k.val - 128 - 128 - 128, by omega⟩ (by omega)
          (by show k.val % 128 = k.val - 128 - 128 - 128; omega)]
        rfl

theorem pay6_at (z : Vec Ideal S512x1024 .f32) (r : Fin 512) (l : Fin 1024) :
    k0_pay6 z g (ix2 r l) = Mlp.hidden (fun k => z (ix2 r k)) (fun k => g (ix2 0 k)) l := by
  pointwise [k0_pay6]
  rfl

theorem pay7_at (z : Vec Ideal S512x1024 .f32) (u1 d1 u2 d2 : Vec Ideal S1024x1024 .bf16) (r : Fin 512) (l : Fin 1024) :
    k0_pay7 z g u1 d1 u2 d2 (ix2 r l) = z (ix2 r l)
      + ∑ f, Mlp.unit (Mlp.hidden (fun k => z (ix2 r k)) (fun k => g (ix2 0 k))) (fun k => u1 (ix2 k f)) * d1 (ix2 f l)
      + ∑ f, Mlp.unit (Mlp.hidden (fun k => z (ix2 r k)) (fun k => g (ix2 0 k))) (fun k => u2 (ix2 k f)) * d2 (ix2 f l) := by
  pointwise [k0_pay7]
  simp only [pay6_at]
  rfl

theorem pay8_at (z : Vec Ideal S512x1024 .f32) (u : Vec Ideal S1024x1024 .bf16) (r : Fin 512) (l : Fin 1024) :
    k0_pay8 z g u (ix2 r l) = ∑ k, Mlp.hidden (fun k => z (ix2 r k)) (fun k => g (ix2 0 k)) k * u (ix2 k l) := by
  pointwise [k0_pay8]
  simp only [pay6_at]

theorem pay9_at (r : Fin 512) (l : Fin 1024) : k0_pay9 x oa ob rb og w g wu wd (ix2 r l) = row x oa ob rb og w r l := by
  unfold k0_pay9
  frame_out
  refine pay5_at x oa ob rb og w _ _ (fun k l => ?_) (fun k l => ?_) r l <;> pointwise []

/-- What a grid point writes, at row `r` and column `l` of its block. -/
theorem out_at (r : Fin 512) (l : Fin 1024) :
    out0_9 x oa ob rb og w g wu wd (ix2 r l)
      = Mlp.row (row x oa ob rb og w r) (fun k => g (ix2 0 k)) (fun k f => wu (ix2 k f)) (fun f k => wd (ix2 f k)) l := by
  rw [Mlp.row_eq_chunks]
  frame_out
  pointwise [k0_pay1]
  simp only [pay6_at, pay7_at, pay8_at, pay9_at]
  pointwise []
  simp only [Mlp.chunk, Mlp.unit, Nat.zero_add]

end block

/-! ## The blocks in the arrays -/

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

theorem onorm_at (c : Dev nD) (l : Fin 128) : V m c main_v4 (ix2 0 l) = m ((c : Thread nD τ).loc main_arg4) (ix1 l) := by
  unfold V
  after_reads_at

theorem wout_at (c : Dev nD) (k l : Fin 1024) : V m c main_v3 (ix2 k l) = m ((c : Thread nD τ).loc main_arg5) (ix2 k l) := by
  unfold V
  after_reads_at

theorem gain_at (c : Dev nD) (l : Fin 1024) : V m c main_v2 (ix2 0 l) = m ((c : Thread nD τ).loc main_arg6) (ix1 l) := by
  unfold V
  after_reads_at

theorem wup_at (c : Dev nD) (k : Fin 1024) (f : Fin 4096) : V m c main_v0 (ix2 k f) = m ((c : Thread nD τ).loc main_arg7) (ix2 k f) := by
  unfold V
  after_reads_at

theorem wdown_at (c : Dev nD) (f : Fin 4096) (l : Fin 1024) : V m c main_v1 (ix2 f l) = m ((c : Thread nD τ).loc main_arg8) (ix2 f l) := by
  unfold V
  after_reads_at

theorem blk0 (c : Dev nD) (t : Fin cfg0.N) (r : Fin 512) (k : Fin 1024) :
    iblk m c 0 t (ix2 r k) = m ((c : Thread nD τ).loc main_arg0) (ix2 r k) := by
  rw [← V_main_arg0 m c]
  blk_ext [iblk, idx0 t]

theorem blk1 (c : Dev nD) (t : Fin cfg0.N) (r : Fin 512) (k : Fin 512) :
    iblk m c 1 t (ix2 r k) = m ((c : Thread nD τ).loc main_arg1) (ix2 r k) := by
  rw [← V_main_arg1 m c]
  blk_ext [iblk, idx1 t]

theorem blk2 (c : Dev nD) (t : Fin cfg0.N) (r : Fin 512) (k : Fin 512) :
    iblk m c 2 t (ix2 r k) = m ((c : Thread nD τ).loc main_arg2) (ix2 r k) := by
  rw [← V_main_arg2 m c]
  blk_ext [iblk, idx2 t]

theorem blk3 (c : Dev nD) (t : Fin cfg0.N) (r : Fin 512) (k : Fin 512) :
    iblk m c 3 t (ix2 r k) = m ((c : Thread nD τ).loc main_arg3) (ix2 r k) := by
  rw [← V_main_arg3 m c]
  blk_ext [iblk, idx3 t]

theorem blk4 (c : Dev nD) (t : Fin cfg0.N) (l : Fin 128) :
    iblk m c 4 t (ix2 0 l) = m ((c : Thread nD τ).loc main_arg4) (ix1 l) := by
  rw [← onorm_at m c]
  blk_ext [iblk, idx4 t]

theorem blk5 (c : Dev nD) (t : Fin cfg0.N) (k l : Fin 1024) :
    iblk m c 5 t (ix2 k l) = m ((c : Thread nD τ).loc main_arg5) (ix2 k l) := by
  rw [← wout_at m c]
  blk_ext [iblk, idx5 t]

theorem blk6 (c : Dev nD) (t : Fin cfg0.N) (l : Fin 1024) :
    iblk m c 6 t (ix2 0 l) = m ((c : Thread nD τ).loc main_arg6) (ix1 l) := by
  rw [← gain_at m c]
  blk_ext [iblk, idx6 t]

theorem blk7 (c : Dev nD) (t : Fin cfg0.N) (k : Fin 1024) (f : Fin 4096) :
    iblk m c 7 t (ix2 k f) = m ((c : Thread nD τ).loc main_arg7) (ix2 k f) := by
  rw [← wup_at m c]
  blk_ext [iblk, idx7 t]

theorem blk8 (c : Dev nD) (t : Fin cfg0.N) (f : Fin 4096) (l : Fin 1024) :
    iblk m c 8 t (ix2 f l) = m ((c : Thread nD τ).loc main_arg8) (ix2 f l) := by
  rw [← wdown_at m c]
  blk_ext [iblk, idx8 t]

/-! ## The array -/

/-- The closing step as a function of its arguments, row by row. -/
def result (x : Vec Ideal S512x1024 .f32) (oa : Vec Ideal S512x512 .bf16) (ob rb : Vec Ideal S512x512 .f32)
    (og : Vec Ideal S128 .f32) (w : Vec Ideal S1024x1024 .f32) (g : Vec Ideal S1024 .f32)
    (wu : Vec Ideal S1024x4096 .f32) (wd : Vec Ideal S4096x1024 .f32) (r : Fin 512) (l : Fin 1024) : EReal :=
  Mlp.row (mid (fun k => x (ix2 r k)) (fun k => oa (ix2 r k)) (fun k => ob (ix2 r k)) (fun k => rb (ix2 r k)) (fun k => og (ix1 k))
    (fun k l => w (ix2 k l))) (fun k => g (ix1 k)) (fun k f => wu (ix2 k f)) (fun f k => wd (ix2 f k)) l

/-- After the run the result array holds that function of the arguments. -/
theorem final (c : Dev nD) : (dats m 0 c).arrAt 9 cfg0.N = fun i : S512x1024.Idx =>
    result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) := by
  refine (dats m 0 c).arrAt_eq_of_covers 9 _ (by decide +kernel) fun t hf y => ?_
  blk_simp
  rw [after0_9]
  obtain ⟨r, l, rfl⟩ : ∃ (a : Fin 512) (b : Fin 1024), y = ix2 a b := ⟨y 0, y 1, eq_ix2 y⟩
  have e : (win0_9.blk t).view.emb (ix2 r l) = ix2 r l := by
    blk_ext [idx9 t]
  refine (out_at _ _ _ _ _ _ _ _ _ r l).trans ?_
  rw [e]
  show _ = result _ _ _ _ _ _ _ _ _ r l
  unfold result row
  simp only [blk0, blk1, blk2, blk3, blk4, blk5, blk6, blk7, blk8]

variable (ρ : Dev nD → PrngReg)

/-- The run, read: the result array at that function of the arguments, the arguments unchanged. -/
theorem run : θ_run defs (onTc (τ := τ) (main (F := Ideal))) ⟨m, fun _ => 0, ρ⟩ fun r => ∀ c : Dev nD,
      (r.2.mem ((c : Thread nD τ).loc main_v5) = fun i : S512x1024.Idx => result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks m ρ)

end Cert.PostAbSample

end
-- ==== Proof.PostAbSampleReference.lean ====
/-
  An even layer's closing step on the sampled frames as the reference states it, read row by row: the same function of its arguments.
-/
module

public import proofs.«01_k».proof.Proof.Ext
public import proofs.«01_k».proof.Proof.Gen.Reference11Ideal.Read
public import proofs.«01_k».proof.Proof.PostAbSampleKernel

@[expose] public section

set_option maxRecDepth 16384

noncomputable section

namespace Cert.PostAbSampleRef

open Idealize.ShloMosaic Cert.Reference11Ideal Cert.Reference11Ideal.Read

variable (x0 : (⟨S512x1024, .f32⟩ : BufTy).Contents (Elt Ideal)) (x1 : (⟨S512x512, .bf16⟩ : BufTy).Contents (Elt Ideal))
  (x2 x3 : (⟨S512x512, .f32⟩ : BufTy).Contents (Elt Ideal)) (x4 : (⟨S128, .f32⟩ : BufTy).Contents (Elt Ideal))
  (x5 : (⟨S1024x1024, .f32⟩ : BufTy).Contents (Elt Ideal)) (x6 : (⟨S1024, .f32⟩ : BufTy).Contents (Elt Ideal))
  (x7 : (⟨S1024x4096, .f32⟩ : BufTy).Contents (Elt Ideal)) (x8 : (⟨S4096x1024, .f32⟩ : BufTy).Contents (Elt Ideal))

/-- The array row of batch entry `b`'s position `s`. -/
def at_ (b : Fin 16) (s : Fin 32) : Fin 512 := ⟨b.val * 32 + s.val, by omega⟩

theorem v17_at (b : Fin 16) (s : Fin 32) (h : Fin 4) (l : Fin 128) :
    val_main_v17 (F := Ideal) x2 x4 (ix4 b s h l)
      = PostAb.headNorm (fun j => x2 (ix2 (at_ b s) ⟨h.val * 128 + j.val, by omega⟩)) (fun k => x4 (ix1 k)) l := by
  pointwise [val_main_v17, val_main_v16, val_main_v15, val_main_v14, val_main_v13, val_main_v12, val_main_v11, val_main_v10,
    val_main_cst_1, val_main_v9, val_main_v8, val_main_cst_0, val_main_v7, val_main_v6, val_main_cst, val_main_v5, val_main_v3]
  rfl

theorem v20_at (b : Fin 16) (s : Fin 32) (k : Fin 512) :
    val_main_v20 (F := Ideal) x2 x3 x4 (ix3 b s k)
      = PostAb.gated (fun k => x2 (ix2 (at_ b s) k)) (fun k => x4 (ix1 k)) (fun k => x3 (ix2 (at_ b s) k)) k := by
  pointwise [val_main_v20, val_main_v19, val_main_v18, val_main_v4, val_main_call0_v0, val_main_call0_v1, val_main_call0_v2, val_main_call0_v3,
    val_main_call0_v4, val_main_call0_v5, val_main_call0_cst, val_main_call0_cst_0]
  rw [v17_at]
  rw [Ideal.mul_one_div (Ext.one_add_exp_ne_zero _)]
  unfold PostAb.gated
  rw [zero_sub]
  rfl

/-- The stream with both mixers' projected outputs added, at batch entry `b` and position `s`. -/
def mid (b : Fin 16) (s : Fin 32) (l : Fin 1024) : EReal :=
  PostAb.mid (fun k => x0 (ix2 (at_ b s) k)) (fun k => x1 (ix2 (at_ b s) k)) (fun k => x2 (ix2 (at_ b s) k)) (fun k => x3 (ix2 (at_ b s) k))
    (fun k => x4 (ix1 k)) (fun k l => x5 (ix2 k l)) l

theorem v23_at (b : Fin 16) (s : Fin 32) (l : Fin 1024) :
    val_main_v23 (F := Ideal) x0 x1 x2 x3 x4 x5 (ix3 b s l) = mid x0 x1 x2 x3 x4 x5 b s l := by
  pointwise [val_main_v23, val_main_v22, val_main_v21, val_main_v2, val_main_v1, val_main_v0]
  simp only [v20_at]
  rfl

theorem v36_at (b : Fin 16) (s : Fin 32) (l : Fin 1024) :
    val_main_v36 (F := Ideal) x0 x1 x2 x3 x4 x5 x6 (ix3 b s l)
      = Mlp.hidden (mid x0 x1 x2 x3 x4 x5 b s) (fun k => x6 (ix1 k)) l := by
  pointwise [val_main_v36, val_main_v35, val_main_v34, val_main_v33, val_main_v32, val_main_v31, val_main_v30, val_main_v29,
    val_main_cst_4, val_main_v28, val_main_v27, val_main_cst_3, val_main_v26, val_main_v25, val_main_cst_2, val_main_v24]
  simp only [v23_at]
  rfl

theorem v39_at (b : Fin 16) (s : Fin 32) (f : Fin 4096) :
    val_main_v39 (F := Ideal) x0 x1 x2 x3 x4 x5 x6 x7 (ix3 b s f)
      = Mlp.unit (Mlp.hidden (mid x0 x1 x2 x3 x4 x5 b s) (fun k => x6 (ix1 k))) (fun k => x7 (ix2 k f)) := by
  pointwise [val_main_v39, val_main_v38, val_main_v37, val_main_call1_v0, val_main_call1_cst]
  simp only [v36_at]
  rfl

theorem at_split (r : Fin 512) : at_ ⟨r.val / 32, by omega⟩ ⟨r.val % 32, by omega⟩ = r :=
  Fin.ext (by show r.val / 32 * 32 + r.val % 32 = r.val; omega)

/-- The reference's result at row `r`. -/
theorem v42_at (r : Fin 512) (l : Fin 1024) :
    val_main_v42 (F := Ideal) x0 x1 x2 x3 x4 x5 x6 x7 x8 (ix2 r l) = PostAbSample.result x0 x1 x2 x3 x4 x5 x6 x7 x8 r l := by
  pointwise [val_main_v42, val_main_v41, val_main_v40]
  simp only [v23_at, v39_at]
  unfold mid
  rw [at_split r]
  rfl

/-- The reference's result array. -/
theorem result_eq (m : (ℓ : Loc nD τ sig) → Buf (Elt Ideal) ℓ) (c : Dev nD) :
    Value.res_main_v42 m c = fun i : S512x1024.Idx => PostAbSample.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0) (i 1) := by
  rw [val_main_v42_eq]
  funext i
  obtain ⟨r, l, rfl⟩ : ∃ (a : Fin 512) (b : Fin 1024), i = ix2 a b := ⟨i 0, i 1, eq_ix2 i⟩
  exact v42_at _ _ _ _ _ _ _ _ _ r l

end Cert.PostAbSampleRef

end
-- ==== Proof.PostAbSampleClaims.lean ====
/-
  The claims about an even layer's closing call on the sampled frames.
-/
module

public import proofs.«01_k».proof.Defs
public import proofs.«01_k».proof.Proof.Gen.Kernel11.Frame
public import proofs.«01_k».proof.Proof.PostAbSampleKernel
public import proofs.«01_k».proof.Proof.PostAbSampleReference
public import Idealize.ShloMosaic.Lib.Quiescent

@[expose] public section

noncomputable section

namespace Cert.PostAbSampleClaims

open Idealize.ShloMosaic Idealize.ShloMosaic.TcCoe Idealize.SL.Sem

theorem frame_k : Cert.quiescent_Kernel11 := fun m ρ _ => Cert.Kernel11.Gen.frame m ρ
theorem frame_ki : Cert.quiescent_Kernel11Ideal := fun m ρ _ => Cert.Kernel11Ideal.Gen.frame m ρ

/-- The reference is host code: its run read at the arguments, and it declares no semaphore. -/
theorem frame_ri : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- Both programs' result arrays are the one function of the arguments. -/
theorem algebraic : Cert.algebraic_Kernel11Ideal_Reference11Ideal := by
  intro m ρ m' ρ' _ hagree
  refine ⟨_, Cert.PostAbSample.run m ρ, ?_⟩
  refine (θ_run Cert.Reference11Ideal.defs _ _).mono (fun _ h c => ⟨(h c).1.trans ?_, (h c).2⟩)
    (Cert.Reference11Ideal.Value.run (F := Ideal) m' ρ')
  rw [Cert.PostAbSampleRef.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

end Cert.PostAbSampleClaims

end
-- ==== Proof.ProjAbSampleKernel.lean ====
/-
  The even layers' projection call on the sampled frames: what its result arrays hold after the run. The one grid point works
  on all 512 rows, 32 frames of each batch entry, which stand after the 2064 positions already seen.
-/
module

public import proofs.«01_k».proof.Proof.Gen.Kernel12Ideal.Value
public import proofs.«01_k».proof.Proof.ProjAb
public import Idealize.ShloMosaic.Lib.Pipeline.ValueKit
public import Idealize.ShloMosaic.Lib.StableHlo.ReadAt

@[expose] public section

set_option maxRecDepth 16384

noncomputable section

namespace Cert.ProjAbSample

open Idealize.ShloMosaic Idealize.ShloMosaic.TcCoe Idealize.SL.Sem
open Cert.Kernel12Ideal Cert.Kernel12Ideal.Gen

/-! ## One block -/

section block

variable (x0 : Vec Ideal S512x1024 .f32) (x1 : Vec Ideal S1x1024 .f32) (x2 : Vec Ideal S1024x2432 .bf16) (x3 : Vec Ideal S256x256 .bf16)
  (x4 : Vec Ideal S1x512 .f32) (x5 : Vec Ideal S1x128 .f32) (x6 x7 : Vec Ideal S512x128 .f32) (x8 : Vec Ideal S128x256 .bf16) (x9 : Vec Ideal S1x256 .f32)

/-- The normalised row `r` of the block. -/
def hid (r : Fin 512) (k : Fin 1024) : EReal := Mlp.hidden (fun j => x0 (ix2 r j)) (fun j => x1 (ix2 0 j)) k

theorem pay1_at (r : Fin 512) (l : Fin 1024) : k0_pay1 x0 x1 (ix2 r l) = hid x0 x1 r l := by
  pointwise [k0_pay1]
  rfl

/-- The first 768 columns of the projection. -/
theorem pay2_at (v : Vec Ideal S1024x768 .bf16) (r : Fin 512) (l : Fin 768) :
    k0_pay2 x0 x1 v (ix2 r l) = ∑ k, hid x0 x1 r k * v (ix2 k l) := by
  pointwise [k0_pay2]
  simp only [pay1_at]

theorem ld0 : View.ld x0 r0_0 = x0 := by
  funext i
  obtain ⟨r, l, rfl⟩ : ∃ (a : Fin 512) (b : Fin 1024), i = ix2 a b := ⟨i 0, i 1, eq_ix2 i⟩
  pointwise []

theorem ld1 : View.ld x1 r0_1 = x1 := by
  funext i
  obtain ⟨r, l, rfl⟩ : ∃ (a : Fin 1) (b : Fin 1024), i = ix2 a b := ⟨i 0, i 1, eq_ix2 i⟩
  rw [Subsingleton.elim r 0]
  pointwise []

theorem pay21_at (r : Fin 512) (l : Fin 1024) : k0_pay21 x0 x1 x2 x3 x4 x5 x6 x7 x8 x9 (ix2 r l) = hid x0 x1 r l := by
  unfold k0_pay21
  rw [ld0, ld1]
  exact pay1_at x0 x1 r l

theorem pay23_at (r : Fin 512) (l : Fin 128) : k0_pay23 x0 x1 x2 x3 x4 x5 x6 x7 x8 x9 (ix2 r l) = x6 (ix2 r l) := by
  unfold k0_pay23
  pointwise [k0_pay3]

theorem pay24_at (r : Fin 512) (l : Fin 128) : k0_pay24 x0 x1 x2 x3 x4 x5 x6 x7 x8 x9 (ix2 r l) = x7 (ix2 r l) := by
  unfold k0_pay24
  pointwise [k0_pay4]

/-- Four copies of a table of 128 lanes, side by side. -/
theorem four_tiles (c : Fin 128 → EReal) (T : ℕ → EReal) (hc : ∀ j, c j = T j.val) (hT : ∀ a b, a % 64 = b % 64 → T a = T b) (l : Fin 512) :
    (if h : l.val < 128 then c ⟨l.val, h⟩
        else
          if h : l.val - 128 < 128 then c ⟨l.val - 128, h⟩
          else
            if h : l.val - 128 - 128 < 128 then c ⟨l.val - 128 - 128, h⟩ else c ⟨l.val - 128 - 128 - 128, by omega⟩) = T l.val := by
  by_cases h1 : l.val < 128
  · rw [dif_pos h1]; exact hc _
  rw [dif_neg h1]
  by_cases h2 : l.val - 128 < 128
  · rw [dif_pos h2]; exact (hc _).trans (hT _ _ (by show (l.val - 128) % 64 = l.val % 64; omega))
  rw [dif_neg h2]
  by_cases h3 : l.val - 128 - 128 < 128
  · rw [dif_pos h3]; exact (hc _).trans (hT _ _ (by show (l.val - 128 - 128) % 64 = l.val % 64; omega))
  rw [dif_neg h3]; exact (hc _).trans (hT _ _ (by show (l.val - 128 - 128 - 128) % 64 = l.val % 64; omega))

/-- The rotation of the 512 query columns, from the columns, their reciprocal norms and the gain. -/
theorem pay7_at (c s : FVec Ideal S512x128 .f32) (y z : FVec Ideal S512x512 .f32) (g : Vec Ideal S1x512 .f32) (p : ℕ) (N : ℕ → EReal)
    (r : Fin 512) (hN : ∀ j : Fin 512, y (ix2 r j) * z (ix2 r j) * g (ix2 0 j) = N j.val)
    (hc : ∀ j : Fin 128, c (ix2 r j) = ProjAb.cosT p j.val) (hs : ∀ j : Fin 128, s (ix2 r j) = ProjAb.sinT p j.val) (l : Fin 512) :
    k0_pay7 c s y z g (ix2 r l)
      = ProjAb.rope (fun d => N (l.val / 64 * 64 + d.val)) p ⟨l.val % 64, Nat.mod_lt _ (by norm_num)⟩ := by
  pointwise [k0_pay7]
  refine ProjAb.rope_built (fun d => N (l.val / 64 * 64 + d.val)) p l.val _ (ProjAb.lane_half l) _ _ _ _ _ ?_ (fun h => ?_) (fun h => ?_) ?_ ?_
  · refine (hN l).trans (congrArg N ?_)
    show l.val = l.val / 64 * 64 + l.val % 64
    omega
  · refine (hN _).trans (congrArg N ?_)
    show (l.val + 512 - 480) % 512 = l.val / 64 * 64 + (32 + l.val % 64)
    omega
  · refine (hN _).trans (congrArg N ?_)
    show (l.val + 512 - 32) % 512 = l.val / 64 * 64 + (l.val % 64 - 32)
    omega
  · exact four_tiles (fun j => c (ix2 r j)) (ProjAb.cosT p) hc (fun a b h => ProjAb.cosT_congr p h) l
  · exact four_tiles (fun j => s (ix2 r j)) (ProjAb.sinT p) hs (fun a b h => ProjAb.sinT_congr p h) l

/-- The rotation of the 128 key columns. -/
theorem pay10_at (c s y z : FVec Ideal S512x128 .f32) (g : Vec Ideal S1x128 .f32) (p : ℕ) (N : ℕ → EReal)
    (r : Fin 512) (hN : ∀ j : Fin 128, y (ix2 r j) * Ideal.rsqrt (z (ix2 r j)) * g (ix2 0 j) = N j.val)
    (hc : ∀ j : Fin 128, c (ix2 r j) = ProjAb.cosT p j.val) (hs : ∀ j : Fin 128, s (ix2 r j) = ProjAb.sinT p j.val) (l : Fin 128) :
    k0_pay10 c s y z g (ix2 r l)
      = ProjAb.rope (fun d => N (l.val / 64 * 64 + d.val)) p ⟨l.val % 64, Nat.mod_lt _ (by norm_num)⟩ := by
  pointwise [k0_pay10]
  refine ProjAb.rope_built (fun d => N (l.val / 64 * 64 + d.val)) p l.val _ (ProjAb.lane_half ⟨l.val, by omega⟩) _ _ _ _ _ ?_ (fun h => ?_) (fun h => ?_) (hc l) (hs l)
  · refine (hN l).trans (congrArg N ?_)
    show l.val = l.val / 64 * 64 + l.val % 64
    omega
  · refine (hN _).trans (congrArg N ?_)
    show (l.val + 128 - 96) % 128 = l.val / 64 * 64 + (32 + l.val % 64)
    omega
  · refine (hN _).trans (congrArg N ?_)
    show (l.val + 128 - 32) % 128 = l.val / 64 * 64 + (l.val % 64 - 32)
    omega

/-- The query columns' norm, head by head. -/
theorem qnorm_at (v : Vec Ideal S1024x768 .bf16) (Y : ℕ → EReal) (g : Fin 64 → EReal) (r : Fin 512)
    (hY : ∀ j : Fin 512, k0_pay5 x0 x1 v (ix2 r j) = Y j.val) (h3 : ∀ i j : Fin 256, x3 (ix2 i j) = Heads.avg i j)
    (h4 : ∀ j : Fin 512, x4 (ix2 0 j) = g ⟨j.val % 64, by omega⟩) (l : Fin 512) :
    k0_pay5 x0 x1 v (ix2 r l) * k0_pay6 x0 x1 v x3 x3 (ix2 r l) * x4 (ix2 0 l) = ProjAb.headed Y g l.val := by
  pointwise [k0_pay6]
  simp only [h3]
  by_cases h : l.val < 256
  · rw [dif_pos h]
    exact ProjAb.group_eq (fun j => k0_pay5 x0 x1 v (ix2 r ⟨j.val, by omega⟩)) Y g 0 rfl
      (fun j => (hY _).trans (congrArg Y (Nat.zero_add _).symm)) ⟨l.val, h⟩ l.val (Nat.zero_add _).symm _ (h4 l)
  · rw [dif_neg h]
    have e : (⟨256 + (l.val - 256), by omega⟩ : Fin 512) = l := Fin.ext (by show 256 + (l.val - 256) = l.val; omega)
    have := ProjAb.group_eq (fun j => k0_pay5 x0 x1 v (ix2 r ⟨256 + j.val, by omega⟩)) Y g 256 rfl
      (fun j => hY _) ⟨l.val - 256, by omega⟩ l.val (by show l.val = 256 + (l.val - 256); omega) _ (h4 l)
    simp only [e] at this
    exact this

/-- The key columns' norm, head by head. -/
theorem knorm_at (y : FVec Ideal S512x768 .f32) (v : Vec Ideal S128x128 .bf16) (Y : ℕ → EReal) (g : Fin 64 → EReal) (r : Fin 512)
    (hY : ∀ j : Fin 128, y (ix2 r ⟨512 + j.val, by omega⟩) = Y j.val)
    (h3 : ∀ i j : Fin 128, v (ix2 i j) = Heads.avg ⟨i.val, by omega⟩ ⟨j.val, by omega⟩)
    (h5 : ∀ j : Fin 128, x5 (ix2 0 j) = g ⟨j.val % 64, by omega⟩) (l : Fin 128) :
    k0_pay8 y (ix2 r l) * Ideal.rsqrt (k0_pay9 y v (ix2 r l)) * x5 (ix2 0 l) = ProjAb.headed Y g l.val := by
  pointwise [k0_pay9, k0_pay8]
  simp only [h3]
  exact ProjAb.half_eq (fun j => y (ix2 r ⟨512 + j.val, by omega⟩)) Y g hY l _ (h5 l)

theorem emb9 (r : Fin 512) (l : Fin 128) : r0_9.emb (ix2 r l) = ix2 r ⟨l.val, by omega⟩ := by blk_ext []
theorem emb10 (r : Fin 512) (l : Fin 128) : r0_10.emb (ix2 r l) = ix2 r ⟨128 + l.val, by omega⟩ := by blk_ext []
theorem emb12 (r : Fin 512) (l : Fin 256) : r0_12.emb (ix2 r l) = ix2 r ⟨l.val, by omega⟩ := by blk_ext []
theorem emb13 (r : Fin 512) (l : Fin 256) : r0_13.emb (ix2 r l) = ix2 r ⟨256 + l.val, by omega⟩ := by blk_ext []
theorem emb18 (r : Fin 512) (l : Fin 256) : r0_18.emb (ix2 r l) = ix2 r ⟨512 + l.val, by omega⟩ := by blk_ext []

section cols

variable (w : Fin 1024 → Fin 2320 → EReal) (h2 : ∀ (k : Fin 1024) (j : Fin 2432), x2 (ix2 k j) = if h : j.val < 2320 then w k ⟨j.val, h⟩ else 0)

include h2

theorem pay22_at (r : Fin 512) (l : Fin 768) : k0_pay22 x0 x1 x2 x3 x4 x5 x6 x7 x8 x9 (ix2 r l) = ProjAb.col (hid x0 x1 r) w l.val := by
  unfold k0_pay22
  rw [ld0, ld1]
  refine (pay2_at x0 x1 _ r l).trans (ProjAb.padded _ w (fun k => View.ld x2 r0_2 (ix2 k l)) l.val fun k => ?_)
  refine Eq.trans ?_ (h2 k ⟨l.val, by omega⟩)
  pointwise []

theorem pay5_at (r : Fin 512) (l : Fin 512) : k0_pay5 x0 x1 (View.ld x2 r0_2) (ix2 r l) = ProjAb.col (hid x0 x1 r) w l.val := by
  pointwise [k0_pay5]
  refine (pay2_at x0 x1 _ r _).trans (ProjAb.padded _ w (fun k => View.ld x2 r0_2 (ix2 k ⟨l.val, by omega⟩)) l.val fun k => ?_)
  refine Eq.trans ?_ (h2 k ⟨l.val, by omega⟩)
  pointwise []

theorem pay17_at (r : Fin 512) (l : Fin 512) : k0_pay17 (k0_pay21 x0 x1 x2 x3 x4 x5 x6 x7 x8 x9) (View.ld x2 r0_14) (ix2 r l)
    = ProjAb.col (hid x0 x1 r) w (1280 + l.val) := by
  pointwise [k0_pay17]
  simp only [pay21_at]
  exact ProjAb.padded _ w _ _ fun k => h2 k ⟨1280 + l.val, by omega⟩

theorem pay18_at (r : Fin 512) (l : Fin 640) : k0_pay18 (k0_pay21 x0 x1 x2 x3 x4 x5 x6 x7 x8 x9) (View.ld x2 r0_15) (ix2 r l)
    = ProjAb.col (hid x0 x1 r) w (1792 + l.val) := by
  pointwise [k0_pay18]
  simp only [pay21_at]
  exact ProjAb.padded _ w _ _ fun k => h2 k ⟨1792 + l.val, by omega⟩

theorem pay12_at (r : Fin 512) (l : Fin 512) : k0_pay12 (k0_pay21 x0 x1 x2 x3 x4 x5 x6 x7 x8 x9) (View.ld x2 r0_11) (ix2 r l)
    = ProjAb.col (hid x0 x1 r) w (768 + l.val) := by
  pointwise [k0_pay12]
  simp only [pay21_at]
  exact ProjAb.padded _ w _ _ fun k => h2 k ⟨768 + l.val, by omega⟩

/-- The block's scaled queries of the linear attention. -/
theorem qb_at (r : Fin 512) (l : Fin 256) : k0_pay15 (k0_pay13 (k0_pay21 x0 x1 x2 x3 x4 x5 x6 x7 x8 x9) (View.ld x2 r0_11)) k0_pay14 (ix2 r l)
    = ProjAb.col (hid x0 x1 r) w (768 + l.val) * Ideal.ofBits FTy.f32 1040187392#32 := by
  pointwise [k0_pay15, k0_pay14, k0_pay13]
  refine congrArg (fun e : EReal => e * Ideal.ofBits FTy.f32 1040187392#32) ?_
  exact pay12_at x0 x1 x2 x3 x4 x5 x6 x7 x8 x9 w h2 r ⟨l.val, by omega⟩

/-- Its keys. -/
theorem kb_at (r : Fin 512) (l : Fin 256) : k0_pay16 (k0_pay12 (k0_pay21 x0 x1 x2 x3 x4 x5 x6 x7 x8 x9) (View.ld x2 r0_11)) (ix2 r l)
    = ProjAb.col (hid x0 x1 r) w (1024 + l.val) := by
  pointwise [k0_pay16]
  refine (pay12_at x0 x1 x2 x3 x4 x5 x6 x7 x8 x9 w h2 r ⟨256 + l.val, by omega⟩).trans (congrArg (ProjAb.col (hid x0 x1 r) w) ?_)
  show 768 + (256 + l.val) = 1024 + l.val
  omega

/-- Its log gates. -/
theorem gate_at (v : Fin 16 → Fin 256 → EReal) (h8 : ∀ (k : Fin 128) (j : Fin 256), x8 (ix2 k j) = if h : k.val < 16 then v ⟨k.val, h⟩ j else 0)
    (r : Fin 512) (l : Fin 256) : k0_pay20 (k0_pay21 x0 x1 x2 x3 x4 x5 x6 x7 x8 x9) (View.ld x2 r0_15) x8 x9 (ix2 r l)
    = ProjC.logSig (∑ k : Fin 16, ProjAb.col (hid x0 x1 r) w (2304 + k.val) * v k l + x9 (ix2 0 l)) * Ideal.ofBits FTy.f32 1035512379#32 := by
  pointwise [k0_pay20]
  simp only [pay18_at x0 x1 x2 x3 x4 x5 x6 x7 x8 x9 w h2]
  have e := ProjAb.padded_gate (fun k => ProjAb.col (hid x0 x1 r) w (1792 + (512 + k.val))) (fun k => x8 (ix2 k l)) (fun k => v k l) (fun k => h8 k l)
  have e' : ∀ k : Fin 16, ProjAb.col (hid x0 x1 r) w (1792 + (512 + k.val)) = ProjAb.col (hid x0 x1 r) w (2304 + k.val) :=
    fun k => congrArg (ProjAb.col (hid x0 x1 r) w) (by omega)
  simp only [e'] at e
  rw [e]
  rfl

theorem qa_at (g : Fin 64 → EReal) (p : ℕ) (r : Fin 512) (h3 : ∀ i j : Fin 256, x3 (ix2 i j) = Heads.avg i j)
    (h4 : ∀ j : Fin 512, x4 (ix2 0 j) = g ⟨j.val % 64, by omega⟩)
    (hc : ∀ j : Fin 128, x6 (ix2 r j) = ProjAb.cosT p j.val) (hs : ∀ j : Fin 128, x7 (ix2 r j) = ProjAb.sinT p j.val) (l : Fin 512) :
    out0_10 x0 x1 x2 x3 x4 x5 x6 x7 x8 x9 (ix2 r l) = ProjAb.qaOf (hid x0 x1 r) w g p l.val := by
  frame_out
  exact pay7_at _ _ _ _ x4 p (ProjAb.headed (ProjAb.col (hid x0 x1 r) w) g) r
    (qnorm_at x0 x1 x3 x4 _ (ProjAb.col (hid x0 x1 r) w) g r (pay5_at x0 x1 x2 w h2 r) h3 h4)
    (fun j => (pay23_at x0 x1 x2 x3 x4 x5 x6 x7 x8 x9 r j).trans (hc j)) (fun j => (pay24_at x0 x1 x2 x3 x4 x5 x6 x7 x8 x9 r j).trans (hs j)) l

theorem kva_at (g : Fin 64 → EReal) (p : Fin 512 → ℕ) (h3 : ∀ i j : Fin 256, x3 (ix2 i j) = Heads.avg i j)
    (h5 : ∀ j : Fin 128, x5 (ix2 0 j) = g ⟨j.val % 64, by omega⟩)
    (hc : ∀ (r : Fin 512) (j : Fin 128), x6 (ix2 r j) = ProjAb.cosT (p r) j.val)
    (hs : ∀ (r : Fin 512) (j : Fin 128), x7 (ix2 r j) = ProjAb.sinT (p r) j.val) (r : Fin 512) (l : Fin 256) :
    out0_11 x0 x1 x2 x3 x4 x5 x6 x7 x8 x9 (ix2 r l) = ProjAb.kvaOf (hid x0 x1 r) w g (p r) l.val := by
  frame_out
  refine View.canon_apply_of_pieces (Val := Elt Ideal) (e := .f32) (fun i : S512x256.Idx => ProjAb.kvaOf (hid x0 x1 (i 0)) w g (p (i 0)) (i 1).val)
    _ ?_ _ (cover0_11 _ _ _)
  simp only [List.forall_mem_cons, List.not_mem_nil, false_imp_iff, implies_true, and_true]
  refine ⟨fun x => ?_, fun x => ?_⟩
  · obtain ⟨r, l, rfl⟩ : ∃ (a : Fin 512) (b : Fin 128), x = ix2 a b := ⟨x 0, x 1, eq_ix2 x⟩
    rw [emb10]
    show _ = ProjAb.kvaOf (hid x0 x1 r) w g (p r) (128 + l.val)
    unfold ProjAb.kvaOf
    rw [if_neg (by omega)]
    pointwise [k0_pay11]
    exact pay22_at x0 x1 x2 x3 x4 x5 x6 x7 x8 x9 w h2 r ⟨640 + l.val, by omega⟩
  · obtain ⟨r, l, rfl⟩ : ∃ (a : Fin 512) (b : Fin 128), x = ix2 a b := ⟨x 0, x 1, eq_ix2 x⟩
    rw [emb9]
    show _ = ProjAb.kvaOf (hid x0 x1 r) w g (p r) l.val
    unfold ProjAb.kvaOf
    rw [if_pos l.isLt]
    refine pay10_at _ _ _ _ x5 (p r) (ProjAb.headed (fun j => ProjAb.col (hid x0 x1 r) w (512 + j)) g) r
      (knorm_at x5 _ _ (fun j => ProjAb.col (hid x0 x1 r) w (512 + j)) g r (fun j => pay22_at x0 x1 x2 x3 x4 x5 x6 x7 x8 x9 w h2 r ⟨512 + j.val, by omega⟩) (fun i j => ?_) h5)
      (fun j => (pay23_at x0 x1 x2 x3 x4 x5 x6 x7 x8 x9 r j).trans (hc r j)) (fun j => (pay24_at x0 x1 x2 x3 x4 x5 x6 x7 x8 x9 r j).trans (hs r j)) l
    refine Eq.trans ?_ (h3 ⟨i.val, by omega⟩ ⟨j.val, by omega⟩)
    pointwise []

theorem qkg_at (v : Fin 16 → Fin 256 → EReal) (b : Fin 256 → EReal) (h8 : ∀ (k : Fin 128) (j : Fin 256), x8 (ix2 k j) = if h : k.val < 16 then v ⟨k.val, h⟩ j else 0)
    (h9 : ∀ j : Fin 256, x9 (ix2 0 j) = b j) (r : Fin 512) (l : Fin 768) :
    out0_12 x0 x1 x2 x3 x4 x5 x6 x7 x8 x9 (ix2 r l) = ProjAb.qkgOf (hid x0 x1 r) w v b l := by
  frame_out
  refine View.canon_apply_of_pieces (Val := Elt Ideal) (e := .f32) (fun i : S512x768.Idx => ProjAb.qkgOf (hid x0 x1 (i 0)) w v b (i 1))
    _ ?_ _ (cover0_12 _ _ _ _)
  simp only [List.forall_mem_cons, List.not_mem_nil, false_imp_iff, implies_true, and_true]
  refine ⟨fun x => ?_, fun x => ?_, fun x => ?_⟩
  · obtain ⟨r, l, rfl⟩ : ∃ (a : Fin 512) (b : Fin 256), x = ix2 a b := ⟨x 0, x 1, eq_ix2 x⟩
    rw [emb18]
    show _ = ProjAb.qkgOf (hid x0 x1 r) w v b ⟨512 + l.val, by omega⟩
    unfold ProjAb.qkgOf
    rw [if_neg (show ¬ 512 + l.val < 256 by omega), if_neg (show ¬ 512 + l.val < 512 by omega)]
    refine (gate_at x0 x1 x2 x3 x4 x5 x6 x7 x8 x9 w h2 v h8 r l).trans ?_
    have e : (⟨512 + l.val - 512, by omega⟩ : Fin 256) = l := Fin.ext (by show 512 + l.val - 512 = l.val; omega)
    simp only [e, h9]
  · obtain ⟨r, l, rfl⟩ : ∃ (a : Fin 512) (b : Fin 256), x = ix2 a b := ⟨x 0, x 1, eq_ix2 x⟩
    rw [emb13]
    show _ = ProjAb.qkgOf (hid x0 x1 r) w v b ⟨256 + l.val, by omega⟩
    unfold ProjAb.qkgOf
    rw [if_neg (show ¬ 256 + l.val < 256 by omega), if_pos (show 256 + l.val < 512 by omega)]
    refine (kb_at x0 x1 x2 x3 x4 x5 x6 x7 x8 x9 w h2 r l).trans (congrArg (ProjAb.col (hid x0 x1 r) w) ?_)
    show 1024 + l.val = 1024 + (256 + l.val - 256)
    omega
  · obtain ⟨r, l, rfl⟩ : ∃ (a : Fin 512) (b : Fin 256), x = ix2 a b := ⟨x 0, x 1, eq_ix2 x⟩
    rw [emb12]
    show _ = ProjAb.qkgOf (hid x0 x1 r) w v b ⟨l.val, by omega⟩
    unfold ProjAb.qkgOf
    rw [if_pos (show l.val < 256 from l.isLt)]
    exact qb_at x0 x1 x2 x3 x4 x5 x6 x7 x8 x9 w h2 r l

theorem vb_at (r : Fin 512) (l : Fin 512) : out0_13 x0 x1 x2 x3 x4 x5 x6 x7 x8 x9 (ix2 r l) = ProjAb.col (hid x0 x1 r) w (1280 + l.val) := by
  frame_out
  exact pay17_at x0 x1 x2 x3 x4 x5 x6 x7 x8 x9 w h2 r l

theorem rb_at (r : Fin 512) (l : Fin 512) : out0_14 x0 x1 x2 x3 x4 x5 x6 x7 x8 x9 (ix2 r l) = ProjAb.col (hid x0 x1 r) w (1792 + l.val) := by
  frame_out
  pointwise [k0_pay19]
  exact pay18_at x0 x1 x2 x3 x4 x5 x6 x7 x8 x9 w h2 r ⟨l.val, by omega⟩

end cols

end block

/-! ## The blocks in the arrays -/

variable (m : (ℓ : Loc nD τ sig) → Buf (Elt Ideal) ℓ)

/-- The stream's row `r`. -/
def src (x : Vec Ideal S512x1024 .f32) (r : Fin 512) (k : Fin 1024) : EReal := x (ix2 r k)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)

theorem norm_at (c : Dev nD) (k : Fin 1024) : V m c main_v45 (ix2 0 k) = (m ((c : Thread nD τ).loc main_arg1)) (ix1 k) := by
  unfold V
  after_reads_at

theorem w_at (c : Dev nD) (r : Fin 1024) (k : Fin 2432) : V m c main_v1 (ix2 r k) = (if h : k.val < 2320 then (m ((c : Thread nD τ).loc main_arg2)) (ix2 r ⟨k.val, h⟩) else (0 : EReal)) := by
  unfold V
  after_reads_at
  rw [ProjAb.zero_word]

theorem bd_at (c : Dev nD) (i j : Fin 256) : V m c main_v56 (ix2 i j) = Heads.avg i j := by
  unfold V
  after_reads_at
  exact Heads.avg_built i j

theorem qn_at (c : Dev nD) (k : Fin 512) : V m c main_v7 (ix2 0 k) = (m ((c : Thread nD τ).loc main_arg3)) (ix1 ⟨k.val % 64, by omega⟩) := by
  unfold V
  after_reads_at

theorem kn_at (c : Dev nD) (k : Fin 128) : V m c main_v11 (ix2 0 k) = (m ((c : Thread nD τ).loc main_arg4)) (ix1 ⟨k.val % 64, by omega⟩) := by
  unfold V
  after_reads_at

/-- The angle as the host builds it from the frame's word. -/
def wordAngle (p : BitVec 32) (i : ℕ) : EReal :=
  FloatOps.sitofp (F := Ideal) FTy.f32 p * Ideal.pow (Ideal.ofBits FTy.f32 1176256512#32)
    (Ideal.div (-FloatOps.sitofp (F := Ideal) FTy.f32 (BitVec.ofNat 32 i)) (Ideal.ofBits FTy.f32 1107296256#32))

/-- A frame's position is counted after the ones already seen. -/
theorem angle_eq (s i : ℕ) : ProjAb.angle (2064 + s) i = wordAngle (IntOp.addi 2064#32 (BitVec.ofNat 32 s)) i := by
  unfold ProjAb.angle wordAngle IntOp.addi
  rw [BitVec.ofNat_add]

theorem cos_word (c : Dev nD) (s : Fin 512) (k : Fin 128) (z : EReal)
    (h1 : k.val % 64 < 32 → Ideal.cos (wordAngle (IntOp.addi 2064#32 (BitVec.ofNat 32 (s.val % 32))) (k.val % 64)) = z)
    (h2 : ¬ k.val % 64 < 32 → Ideal.cos (wordAngle (IntOp.addi 2064#32 (BitVec.ofNat 32 (s.val % 32))) (k.val % 64 - 32)) = z) :
    V m c main_v41 (ix2 s k) = z := by
  unfold wordAngle at h1 h2
  unfold V
  after_reads_at
  by_cases h : k.val % 64 < 32
  · rw [dif_pos h]
    after_reads_at
    exact h1 h
  · rw [dif_neg h]
    after_reads_at
    exact h2 h

theorem cos_at (c : Dev nD) (s : Fin 512) (k : Fin 128) : V m c main_v41 (ix2 s k) = ProjAb.cosT (2064 + s.val % 32) k.val :=
  cos_word m c s k _
    (fun h => (congrArg Ideal.cos (angle_eq _ _)).symm.trans (if_pos h).symm)
    (fun h => (congrArg Ideal.cos (angle_eq _ _)).symm.trans (if_neg h).symm)

theorem sin_word (c : Dev nD) (s : Fin 512) (k : Fin 128) (z : EReal)
    (h1 : k.val % 64 < 32 → -Ideal.sin (wordAngle (IntOp.addi 2064#32 (BitVec.ofNat 32 (s.val % 32))) (k.val % 64)) = z)
    (h2 : ¬ k.val % 64 < 32 → Ideal.sin (wordAngle (IntOp.addi 2064#32 (BitVec.ofNat 32 (s.val % 32))) (k.val % 64 - 32)) = z) :
    V m c main_v44 (ix2 s k) = z := by
  unfold wordAngle at h1 h2
  unfold V
  after_reads_at
  by_cases h : k.val % 64 < 32
  · rw [dif_pos h]
    after_reads_at
    exact h1 h
  · rw [dif_neg h]
    after_reads_at
    exact h2 h

theorem sin_at (c : Dev nD) (s : Fin 512) (k : Fin 128) : V m c main_v44 (ix2 s k) = ProjAb.sinT (2064 + s.val % 32) k.val :=
  sin_word m c s k _
    (fun h => (congrArg (fun e => -Ideal.sin e) (angle_eq _ _)).symm.trans (if_pos h).symm)
    (fun h => (congrArg Ideal.sin (angle_eq _ _)).symm.trans (if_neg h).symm)

theorem wg_at (c : Dev nD) (r : Fin 128) (k : Fin 256) : V m c main_v3 (ix2 r k) = (if h : r.val < 16 then (m ((c : Thread nD τ).loc main_arg5)) (ix2 ⟨r.val, h⟩ k) else (0 : EReal)) := by
  unfold V
  after_reads_at
  rw [ProjAb.zero_word]

theorem b_at (c : Dev nD) (k : Fin 256) : V m c main_v12 (ix2 0 k) = (m ((c : Thread nD τ).loc main_arg6)) (ix1 k) := by
  unfold V
  after_reads_at

theorem blk0 (c : Dev nD) (t : Fin cfg0.N) (r : Fin 512) (k : Fin 1024) : iblk m c 0 t (ix2 r k) = src (m ((c : Thread nD τ).loc main_arg0)) r k := by
  unfold src
  rw [← V_main_arg0 m c]
  blk_ext [iblk, idx0 t]

theorem blk1 (c : Dev nD) (t : Fin cfg0.N) (k : Fin 1024) : iblk m c 1 t (ix2 0 k) = (m ((c : Thread nD τ).loc main_arg1)) (ix1 k) := by
  rw [← norm_at m c]
  blk_ext [iblk, idx1 t]

theorem blk2 (c : Dev nD) (t : Fin cfg0.N) (r : Fin 1024) (k : Fin 2432) : iblk m c 2 t (ix2 r k) = (if h : k.val < 2320 then (m ((c : Thread nD τ).loc main_arg2)) (ix2 r ⟨k.val, h⟩) else (0 : EReal)) := by
  rw [← w_at m c]
  blk_ext [iblk, idx2 t]

theorem blk3 (c : Dev nD) (t : Fin cfg0.N) (i j : Fin 256) : iblk m c 3 t (ix2 i j) = Heads.avg i j := by
  rw [← bd_at m c]
  blk_ext [iblk, idx3 t]

theorem blk4 (c : Dev nD) (t : Fin cfg0.N) (k : Fin 512) : iblk m c 4 t (ix2 0 k) = (m ((c : Thread nD τ).loc main_arg3)) (ix1 ⟨k.val % 64, by omega⟩) := by
  rw [← qn_at m c]
  blk_ext [iblk, idx4 t]

theorem blk5 (c : Dev nD) (t : Fin cfg0.N) (k : Fin 128) : iblk m c 5 t (ix2 0 k) = (m ((c : Thread nD τ).loc main_arg4)) (ix1 ⟨k.val % 64, by omega⟩) := by
  rw [← kn_at m c]
  blk_ext [iblk, idx5 t]

theorem blk6 (c : Dev nD) (t : Fin cfg0.N) (r : Fin 512) (k : Fin 128) : iblk m c 6 t (ix2 r k) = ProjAb.cosT (2064 + r.val % 32) k.val := by
  rw [← cos_at m c]
  blk_ext [iblk, idx6 t]

theorem blk7 (c : Dev nD) (t : Fin cfg0.N) (r : Fin 512) (k : Fin 128) : iblk m c 7 t (ix2 r k) = ProjAb.sinT (2064 + r.val % 32) k.val := by
  rw [← sin_at m c]
  blk_ext [iblk, idx7 t]

theorem blk8 (c : Dev nD) (t : Fin cfg0.N) (r : Fin 128) (k : Fin 256) : iblk m c 8 t (ix2 r k) = (if h : r.val < 16 then (m ((c : Thread nD τ).loc main_arg5)) (ix2 ⟨r.val, h⟩ k) else (0 : EReal)) := by
  rw [← wg_at m c]
  blk_ext [iblk, idx8 t]

theorem blk9 (c : Dev nD) (t : Fin cfg0.N) (k : Fin 256) : iblk m c 9 t (ix2 0 k) = (m ((c : Thread nD τ).loc main_arg6)) (ix1 k) := by
  rw [← b_at m c]
  blk_ext [iblk, idx9 t]

/-! ## The arrays -/

/-- The normalised row `r` of the stream. -/
def row (x : Vec Ideal S512x1024 .f32) (g : Vec Ideal S1024 .f32) (r : Fin 512) (k : Fin 1024) : EReal :=
  Mlp.hidden (src x r) (fun j => g (ix1 j)) k

theorem hid_at (c : Dev nD) (t : Fin cfg0.N) (r : Fin 512) :
    hid (iblk m c 0 t) (iblk m c 1 t) r = row (m ((c : Thread nD τ).loc main_arg0)) (m ((c : Thread nD τ).loc main_arg1)) r := by
  funext k
  unfold hid row
  simp only [blk0, blk1]

/-- The five results as functions of the arguments, row by row. -/
def qaAt (x : Vec Ideal S512x1024 .f32) (g : Vec Ideal S1024 .f32) (w : Vec Ideal S1024x2320 .f32) (qn : Vec Ideal S64 .f32)
    (r : Fin 512) (l : Fin 512) : EReal :=
  ProjAb.qaOf (row x g r) (fun k j => w (ix2 k j)) (fun d => qn (ix1 d)) (2064 + r.val % 32) l.val

def kvaAt (x : Vec Ideal S512x1024 .f32) (g : Vec Ideal S1024 .f32) (w : Vec Ideal S1024x2320 .f32) (kn : Vec Ideal S64 .f32)
    (r : Fin 512) (l : Fin 256) : EReal :=
  ProjAb.kvaOf (row x g r) (fun k j => w (ix2 k j)) (fun d => kn (ix1 d)) (2064 + r.val % 32) l.val

def qkgAt (x : Vec Ideal S512x1024 .f32) (g : Vec Ideal S1024 .f32) (w : Vec Ideal S1024x2320 .f32) (v : Vec Ideal S16x256 .f32) (b : Vec Ideal S256 .f32)
    (r : Fin 512) (l : Fin 768) : EReal :=
  ProjAb.qkgOf (row x g r) (fun k j => w (ix2 k j)) (fun k j => v (ix2 k j)) (fun j => b (ix1 j)) l

/-- Column `l` of the projection, from column `o` on. -/
def colAt (o : ℕ) (x : Vec Ideal S512x1024 .f32) (g : Vec Ideal S1024 .f32) (w : Vec Ideal S1024x2320 .f32) (r : Fin 512) (l : Fin 512) : EReal :=
  ProjAb.col (row x g r) (fun k j => w (ix2 k j)) (o + l.val)

theorem final_qa (c : Dev nD) : (dats m 0 c).arrAt 10 cfg0.N = fun i : S512x512.Idx =>
    qaAt (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 10 _ (by decide +kernel) fun t hf y => ?_
  blk_simp
  rw [after0_10]
  obtain ⟨r, l, rfl⟩ : ∃ (a : Fin 512) (b : Fin 512), y = ix2 a b := ⟨y 0, y 1, eq_ix2 y⟩
  have e : (win0_10.blk t).view.emb (ix2 r l) = ix2 r l := by
    blk_ext [idx10 t]
  refine (qa_at _ _ _ _ _ _ _ _ _ _ (fun k j => (m ((c : Thread nD τ).loc main_arg2)) (ix2 k j)) (fun k j => blk2 m c t k j) (fun d => (m ((c : Thread nD τ).loc main_arg3)) (ix1 d)) _ r (fun i j => blk3 m c t i j) (fun j => blk4 m c t j) (fun j => blk6 m c t r j) (fun j => blk7 m c t r j) l).trans ?_
  rw [e, hid_at]
  rfl

theorem final_kva (c : Dev nD) : (dats m 0 c).arrAt 11 cfg0.N = fun i : S512x256.Idx =>
    kvaAt (m ((c : Thread nD τ).loc main_arg0)) (m ((c : Thread nD τ).loc main_arg1)) (m ((c : Thread nD τ).loc main_arg2)) (m ((c : Thread nD τ).loc main_arg4)) (i 0) (i 1) := by
  refine (dats m 0 c).arrAt_eq_of_covers 11 _ (by decide +kernel) fun t hf y => ?_
  blk_simp
  rw [after0_11]
  obtain ⟨r, l, rfl⟩ : ∃ (a : Fin 512) (b : Fin 256), y = ix2 a b := ⟨y 0, y 1, eq_ix2 y⟩
  have e : (win0_11.blk t).view.emb (ix2 r l) = ix2 r l := by
    blk_ext [idx11 t]
  refine (kva_at _ _ _ _ _ _ _ _ _ _ (fun k j => (m ((c : Thread nD τ).loc main_arg2)) (ix2 k j)) (fun k j => blk2 m c t k j) (fun d => (m ((c : Thread nD τ).loc main_arg4)) (ix1 d)) (fun r => (2064 + r.val % 32)) (fun i j => blk3 m c t i j) (fun j => blk5 m c t j) (fun r j => blk6 m c t r j) (fun r j => blk7 m c t r j) r l).trans ?_
  rw [e, hid_at]
  rfl

theorem final_qkg (c : Dev nD) : (dats m 0 c).arrAt 12 cfg0.N = fun i : S512x768.Idx =>
    qkgAt (m ((c : Thread nD τ).loc main_arg0)) (m ((c : Thread nD τ).loc main_arg1)) (m ((c : Thread nD τ).loc main_arg2)) (m ((c : Thread nD τ).loc main_arg5)) (m ((c : Thread nD τ).loc main_arg6)) (i 0) (i 1) := by
  refine (dats m 0 c).arrAt_eq_of_covers 12 _ (by decide +kernel) fun t hf y => ?_
  blk_simp
  rw [after0_12]
  obtain ⟨r, l, rfl⟩ : ∃ (a : Fin 512) (b : Fin 768), y = ix2 a b := ⟨y 0, y 1, eq_ix2 y⟩
  have e : (win0_12.blk t).view.emb (ix2 r l) = ix2 r l := by
    blk_ext [idx12 t]
  refine (qkg_at _ _ _ _ _ _ _ _ _ _ (fun k j => (m ((c : Thread nD τ).loc main_arg2)) (ix2 k j)) (fun k j => blk2 m c t k j) (fun k j => (m ((c : Thread nD τ).loc main_arg5)) (ix2 k j)) (fun j => (m ((c : Thread nD τ).loc main_arg6)) (ix1 j)) (fun k j => blk8 m c t k j) (fun j => blk9 m c t j) r l).trans ?_
  rw [e, hid_at]
  rfl

theorem final_vb (c : Dev nD) : (dats m 0 c).arrAt 13 cfg0.N = fun i : S512x512.Idx =>
    colAt 1280 (m ((c : Thread nD τ).loc main_arg0)) (m ((c : Thread nD τ).loc main_arg1)) (m ((c : Thread nD τ).loc main_arg2)) (i 0) (i 1) := by
  refine (dats m 0 c).arrAt_eq_of_covers 13 _ (by decide +kernel) fun t hf y => ?_
  blk_simp
  rw [after0_13]
  obtain ⟨r, l, rfl⟩ : ∃ (a : Fin 512) (b : Fin 512), y = ix2 a b := ⟨y 0, y 1, eq_ix2 y⟩
  have e : (win0_13.blk t).view.emb (ix2 r l) = ix2 r l := by
    blk_ext [idx13 t]
  refine (vb_at _ _ _ _ _ _ _ _ _ _ (fun k j => (m ((c : Thread nD τ).loc main_arg2)) (ix2 k j)) (fun k j => blk2 m c t k j) r l).trans ?_
  rw [e, hid_at]
  rfl

theorem final_rb (c : Dev nD) : (dats m 0 c).arrAt 14 cfg0.N = fun i : S512x512.Idx =>
    colAt 1792 (m ((c : Thread nD τ).loc main_arg0)) (m ((c : Thread nD τ).loc main_arg1)) (m ((c : Thread nD τ).loc main_arg2)) (i 0) (i 1) := by
  refine (dats m 0 c).arrAt_eq_of_covers 14 _ (by decide +kernel) fun t hf y => ?_
  blk_simp
  rw [after0_14]
  obtain ⟨r, l, rfl⟩ : ∃ (a : Fin 512) (b : Fin 512), y = ix2 a b := ⟨y 0, y 1, eq_ix2 y⟩
  have e : (win0_14.blk t).view.emb (ix2 r l) = ix2 r l := by
    blk_ext [idx14 t]
  refine (rb_at _ _ _ _ _ _ _ _ _ _ (fun k j => (m ((c : Thread nD τ).loc main_arg2)) (ix2 k j)) (fun k j => blk2 m c t k j) r l).trans ?_
  rw [e, hid_at]
  rfl

variable (ρ : Dev nD → PrngReg)

/-- The run, read: the five result arrays at those functions of the arguments, the arguments unchanged. -/
theorem run : θ_run defs (onTc (τ := τ) (main (F := Ideal))) ⟨m, fun _ => 0, ρ⟩ fun r => ∀ c : Dev nD,
      r.2.mem ((c : Thread nD τ).loc main_v57_0) = (fun j : S512x512.Idx => qaAt (m ((c : Thread nD τ).loc main_arg0)) (m ((c : Thread nD τ).loc main_arg1)) (m ((c : Thread nD τ).loc main_arg2)) (m ((c : Thread nD τ).loc main_arg3)) (j 0) (j 1))
      ∧ r.2.mem ((c : Thread nD τ).loc main_v57_1) = (fun j : S512x256.Idx => kvaAt (m ((c : Thread nD τ).loc main_arg0)) (m ((c : Thread nD τ).loc main_arg1)) (m ((c : Thread nD τ).loc main_arg2)) (m ((c : Thread nD τ).loc main_arg4)) (j 0) (j 1))
      ∧ r.2.mem ((c : Thread nD τ).loc main_v57_2) = (fun j : S512x768.Idx => qkgAt (m ((c : Thread nD τ).loc main_arg0)) (m ((c : Thread nD τ).loc main_arg1)) (m ((c : Thread nD τ).loc main_arg2)) (m ((c : Thread nD τ).loc main_arg5)) (m ((c : Thread nD τ).loc main_arg6)) (j 0) (j 1))
      ∧ r.2.mem ((c : Thread nD τ).loc main_v57_3) = (fun j : S512x512.Idx => colAt 1280 (m ((c : Thread nD τ).loc main_arg0)) (m ((c : Thread nD τ).loc main_arg1)) (m ((c : Thread nD τ).loc main_arg2)) (j 0) (j 1))
      ∧ r.2.mem ((c : Thread nD τ).loc main_v57_4) = (fun j : S512x512.Idx => colAt 1792 (m ((c : Thread nD τ).loc main_arg0)) (m ((c : Thread nD τ).loc main_arg1)) (m ((c : Thread nD τ).loc main_arg2)) (j 0) (j 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final_qa m c), (h c).2.1.trans (final_kva m c), (h c).2.2.1.trans (final_qkg m c), (h c).2.2.2.1.trans (final_vb m c), (h c).2.2.2.2.1.trans (final_rb m c), (h c).2.2.2.2.2⟩) (Value.run_blocks m ρ)

end Cert.ProjAbSample

end
-- ==== Proof.ProjAbSampleReference.lean ====
/-
  The even layers' projection on the sampled frames as the reference states it, read row by row: the same functions of the
  arguments.
-/
module

public import proofs.«01_k».proof.Proof.Gen.Reference12Ideal.Read
public import proofs.«01_k».proof.Proof.ProjAbSampleKernel

@[expose] public section

set_option maxRecDepth 16384

noncomputable section

namespace Cert.ProjAbSampleRef

open Idealize.ShloMosaic Idealize.ShloMosaic.TcCoe Cert.Reference12Ideal Cert.Reference12Ideal.Read

variable (x0 : (⟨S512x1024, .f32⟩ : BufTy).Contents (Elt Ideal)) (x1 : (⟨S1024, .f32⟩ : BufTy).Contents (Elt Ideal))
  (x2 : (⟨S1024x2320, .f32⟩ : BufTy).Contents (Elt Ideal)) (x3 x4 : (⟨S64, .f32⟩ : BufTy).Contents (Elt Ideal))
  (x5 : (⟨S16x256, .f32⟩ : BufTy).Contents (Elt Ideal)) (x6 : (⟨S256, .f32⟩ : BufTy).Contents (Elt Ideal))

/-- The array row of batch entry `b`, position `s`. -/
def at_ (b : Fin 16) (s : Fin 32) : Fin 512 := ⟨b.val * 32 + s.val, by omega⟩

theorem at_split (r : Fin 512) : at_ ⟨r.val / 32, by omega⟩ ⟨r.val % 32, by omega⟩ = r :=
  Fin.ext (by show r.val / 32 * 32 + r.val % 32 = r.val; omega)

theorem src_at (b : Fin 16) (s : Fin 32) (k : Fin 1024) : ProjAbSample.src x0 (at_ b s) k = x0 (ix2 (at_ b s) k) := by
  rfl

theorem hid_at (b : Fin 16) (s : Fin 32) (k : Fin 1024) : val_main_v13 (F := Ideal) x0 x1 (ix3 b s k) = ProjAbSample.row x0 x1 (at_ b s) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold ProjAbSample.row Mlp.hidden
  simp only [src_at]
  try rfl

/-- Column `j` of the row's projection. -/
def c (b : Fin 16) (s : Fin 32) (j : ℕ) : EReal := ProjAb.col (ProjAbSample.row x0 x1 (at_ b s)) (fun k j => x2 (ix2 k j)) j

theorem proj_at (b : Fin 16) (s : Fin 32) (l : Fin 2320) : val_main_v17 (F := Ideal) x0 x1 x2 (ix3 b s l) = c x0 x1 x2 b s l.val := by
  pointwise [val_main_v17]
  simp only [hid_at]
  unfold c ProjAb.col
  rw [dif_pos l.isLt]

theorem head_eq (Y : ℕ → EReal) (g : Fin 64 → EReal) (h : ℕ) (l : Fin 64) :
    ProjAb.headed Y g (h * 64 + l.val) = Heads.norm (fun d => Y (h * 64 + d.val)) g l := by
  unfold ProjAb.headed
  have e1 : (h * 64 + l.val) / 64 = h := by omega
  have e2 : (⟨(h * 64 + l.val) % 64, Nat.mod_lt _ (by norm_num)⟩ : Fin 64) = l := Fin.ext (by show (h * 64 + l.val) % 64 = l.val; omega)
  rw [e1, e2]

theorem qn_at (b : Fin 16) (s : Fin 32) (h : Fin 8) (l : Fin 64) : val_main_v39 (F := Ideal) x0 x1 x2 x3 (ix4 b s h l)
    = ProjAb.headed (c x0 x1 x2 b s) (fun d => x3 (ix1 d)) (h.val * 64 + l.val) := by
  rw [head_eq]
  pointwise [val_main_v39, val_main_v38, val_main_v37, val_main_v36, val_main_v35, val_main_v34, val_main_v33, val_main_v32, val_main_v31, val_main_v30, val_main_v29, val_main_v28, val_main_v27, val_main_v26, val_main_cst_2, val_main_cst_3, val_main_cst_4, val_main_v18]
  simp only [proj_at]
  unfold Heads.norm
  rfl

theorem kn_at (b : Fin 16) (s : Fin 32) (h : Fin 2) (l : Fin 64) : val_main_v82 (F := Ideal) x0 x1 x2 x4 (ix4 b s h l)
    = ProjAb.headed (fun j => c x0 x1 x2 b s (512 + j)) (fun d => x4 (ix1 d)) (h.val * 64 + l.val) := by
  rw [head_eq]
  pointwise [val_main_v82, val_main_v81, val_main_v80, val_main_v79, val_main_v78, val_main_v77, val_main_v76, val_main_v75, val_main_v74, val_main_v73, val_main_v72, val_main_v71, val_main_v70, val_main_v69, val_main_cst_7, val_main_cst_8, val_main_cst_9, val_main_v19]
  simp only [proj_at]
  unfold Heads.norm
  rfl

theorem roped_eq (Y : ℕ → EReal) (g : Fin 64 → EReal) (p h : ℕ) (l : Fin 64) :
    ProjAb.roped Y g p (h * 64 + l.val) = ProjAb.rope (fun d => ProjAb.headed Y g (h * 64 + d.val)) p l := by
  unfold ProjAb.roped
  have e1 : (h * 64 + l.val) / 64 = h := by omega
  have e2 : (⟨(h * 64 + l.val) % 64, Nat.mod_lt _ (by norm_num)⟩ : Fin 64) = l := Fin.ext (by show (h * 64 + l.val) % 64 = l.val; omega)
  rw [e1, e2]

theorem qr_at (b : Fin 16) (s : Fin 32) (h : Fin 8) (l : Fin 64) : val_main_v68 (F := Ideal) x0 x1 x2 x3 (ix4 b s h l)
    = ProjAb.roped (c x0 x1 x2 b s) (fun d => x3 (ix1 d)) (2064 + s.val) (h.val * 64 + l.val) := by
  rw [roped_eq]
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_cst_5, val_main_cst_6, val_main_v16, val_main_v15, val_main_v14, val_main_c]
  simp only [qn_at]
  unfold ProjAb.rope
  simp only [ProjAbSample.angle_eq]
  rfl

theorem kr_at (b : Fin 16) (s : Fin 32) (h : Fin 2) (l : Fin 64) : val_main_v111 (F := Ideal) x0 x1 x2 x4 (ix4 b s h l)
    = ProjAb.roped (fun j => c x0 x1 x2 b s (512 + j)) (fun d => x4 (ix1 d)) (2064 + s.val) (h.val * 64 + l.val) := by
  rw [roped_eq]
  pointwise [val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_cst_10, val_main_cst_11, val_main_v16, val_main_v15, val_main_v14, val_main_c]
  simp only [kn_at]
  unfold ProjAb.rope
  simp only [ProjAbSample.angle_eq]
  rfl

theorem gate_at (b : Fin 16) (s : Fin 32) (j : Fin 256) : val_main_v122 (F := Ideal) x0 x1 x2 x5 x6 (ix3 b s j)
    = ProjC.logSig (∑ k : Fin 16, c x0 x1 x2 b s (2304 + k.val) * x5 (ix2 k j) + x6 (ix1 j)) := by
  pointwise [val_main_v122, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v121, val_main_v120, val_main_v119, val_main_v118, val_main_v25]
  simp only [proj_at]
  generalize (∑ k : Fin 16, c x0 x1 x2 b s (2304 + k.val) * x5 (ix2 k j)) + x6 (ix1 j) = z
  refine Eq.trans ?_ (ProjC.logSig_eq z)
  simp

/-- The five result arrays, row by row. -/
theorem qa_row (r : Fin 512) (l : Fin 512) : val_main_v136 (F := Ideal) x0 x1 x2 x3 (ix2 r l) = ProjAbSample.qaAt x0 x1 x2 x3 r l := by
  pointwise [val_main_v136, val_main_v135]
  refine (qr_at x0 x1 x2 x3 _ _ _ _).trans ?_
  unfold c
  rw [at_split]
  unfold ProjAbSample.qaAt ProjAb.qaOf
  congr 1
  show l.val / 64 * 64 + l.val % 64 = l.val
  omega

theorem kva_row (r : Fin 512) (l : Fin 256) : val_main_v128 (F := Ideal) x0 x1 x2 x4 (ix2 r l) = ProjAbSample.kvaAt x0 x1 x2 x4 r l := by
  pointwise [val_main_v128, val_main_v127, val_main_v126, val_main_v112, val_main_v20]
  unfold ProjAbSample.kvaAt ProjAb.kvaOf
  by_cases h : l.val < 128
  · rw [dif_pos h, if_pos h]
    refine (kr_at x0 x1 x2 x4 _ _ _ _).trans ?_
    unfold c
    rw [at_split]
    congr 1
    show l.val / 64 * 64 + l.val % 64 = l.val
    omega
  · rw [dif_neg h, if_neg h]
    refine (proj_at x0 x1 x2 _ _ _).trans ?_
    unfold c
    rw [at_split]

theorem qkg_row (r : Fin 512) (l : Fin 768) : val_main_v134 (F := Ideal) x0 x1 x2 x5 x6 (ix2 r l) = ProjAbSample.qkgAt x0 x1 x2 x5 x6 r l := by
  pointwise [val_main_v134, val_main_v133, val_main_v132, val_main_v131, val_main_cst_14, val_main_v130, val_main_v129, val_main_v125, val_main_v124, val_main_v123, val_main_cst_13, val_main_v116, val_main_v115, val_main_v114, val_main_cst_12, val_main_v113, val_main_v22, val_main_v21]
  unfold ProjAbSample.qkgAt ProjAb.qkgOf
  by_cases h : l.val < 256
  · rw [dif_pos h, if_pos h]
    refine congrArg (fun e : EReal => e * Ideal.ofBits FTy.f32 1040187392#32) ((proj_at x0 x1 x2 _ _ _).trans ?_)
    unfold c
    rw [at_split]
    refine congrArg (ProjAb.col _ _) ?_
    show 768 + (l.val / 64 * 64 + l.val % 64) = 768 + l.val
    omega
  rw [dif_neg h, if_neg h]
  by_cases h' : l.val < 512
  · rw [dif_pos (show l.val - 256 < 256 by omega), if_pos h']
    refine (proj_at x0 x1 x2 _ _ _).trans ?_
    unfold c
    rw [at_split]
  · rw [dif_neg (show ¬ l.val - 256 < 256 by omega), if_neg h', gate_at, ProjAb.gate_scale]
    unfold c
    simp only [at_split]
    rfl

theorem vb_row (r : Fin 512) (l : Fin 512) : val_main_v137 (F := Ideal) x0 x1 x2 (ix2 r l) = ProjAbSample.colAt 1280 x0 x1 x2 r l := by
  pointwise [val_main_v137, val_main_v117, val_main_v23]
  refine (proj_at x0 x1 x2 _ _ _).trans ?_
  unfold c
  rw [at_split]
  refine congrArg (ProjAb.col _ _) ?_
  rfl

theorem rb_row (r : Fin 512) (l : Fin 512) : val_main_v138 (F := Ideal) x0 x1 x2 (ix2 r l) = ProjAbSample.colAt 1792 x0 x1 x2 r l := by
  pointwise [val_main_v138, val_main_v24]
  refine (proj_at x0 x1 x2 _ _ _).trans ?_
  unfold c
  rw [at_split]
  rfl

theorem qa_eq : val_main_v136 (F := Ideal) x0 x1 x2 x3 = fun j : S512x512.Idx => ProjAbSample.qaAt x0 x1 x2 x3 (j 0) (j 1) := by
  funext j
  obtain ⟨r, l, rfl⟩ : ∃ (a : Fin 512) (b : Fin 512), j = ix2 a b := ⟨j 0, j 1, eq_ix2 j⟩
  exact qa_row x0 x1 x2 x3 r l

theorem kva_eq : val_main_v128 (F := Ideal) x0 x1 x2 x4 = fun j : S512x256.Idx => ProjAbSample.kvaAt x0 x1 x2 x4 (j 0) (j 1) := by
  funext j
  obtain ⟨r, l, rfl⟩ : ∃ (a : Fin 512) (b : Fin 256), j = ix2 a b := ⟨j 0, j 1, eq_ix2 j⟩
  exact kva_row x0 x1 x2 x4 r l

theorem qkg_eq : val_main_v134 (F := Ideal) x0 x1 x2 x5 x6 = fun j : S512x768.Idx => ProjAbSample.qkgAt x0 x1 x2 x5 x6 (j 0) (j 1) := by
  funext j
  obtain ⟨r, l, rfl⟩ : ∃ (a : Fin 512) (b : Fin 768), j = ix2 a b := ⟨j 0, j 1, eq_ix2 j⟩
  exact qkg_row x0 x1 x2 x5 x6 r l

theorem vb_eq : val_main_v137 (F := Ideal) x0 x1 x2 = fun j : S512x512.Idx => ProjAbSample.colAt 1280 x0 x1 x2 (j 0) (j 1) := by
  funext j
  obtain ⟨r, l, rfl⟩ : ∃ (a : Fin 512) (b : Fin 512), j = ix2 a b := ⟨j 0, j 1, eq_ix2 j⟩
  exact vb_row x0 x1 x2 r l

theorem rb_eq : val_main_v138 (F := Ideal) x0 x1 x2 = fun j : S512x512.Idx => ProjAbSample.colAt 1792 x0 x1 x2 (j 0) (j 1) := by
  funext j
  obtain ⟨r, l, rfl⟩ : ∃ (a : Fin 512) (b : Fin 512), j = ix2 a b := ⟨j 0, j 1, eq_ix2 j⟩
  exact rb_row x0 x1 x2 r l

end Cert.ProjAbSampleRef

end
-- ==== Proof.ProjAbSampleClaims.lean ====
/-
  The claims about the even layers' projection call on the sampled frames.
-/
module

public import proofs.«01_k».proof.Defs
public import proofs.«01_k».proof.Proof.Gen.Kernel12.Frame
public import proofs.«01_k».proof.Proof.ProjAbSampleKernel
public import proofs.«01_k».proof.Proof.ProjAbSampleReference
public import Idealize.ShloMosaic.Lib.Quiescent

@[expose] public section

noncomputable section

namespace Cert.ProjAbSampleClaims

open Idealize.ShloMosaic Idealize.ShloMosaic.TcCoe Idealize.SL.Sem

theorem frame_k : Cert.quiescent_Kernel12 := fun m ρ _ => Cert.Kernel12.Gen.frame m ρ
theorem frame_ki : Cert.quiescent_Kernel12Ideal := fun m ρ _ => Cert.Kernel12Ideal.Gen.frame m ρ

/-- The reference is host code: its run read at the arguments, and it declares no semaphore. -/
theorem frame_ri : Cert.quiescent_Reference12Ideal := fun m ρ _ =>
  (θ_run Cert.Reference12Ideal.defs _ _).mono (fun r h => ⟨fun c => (h c).2.2.2.2.2, sem_eq_zero_of_no_sems (by decide) r.2⟩)
    (Cert.Reference12Ideal.Value.run (F := Ideal) m ρ)

/-- Both programs' result arrays are the same functions of the arguments. -/
theorem algebraic : Cert.algebraic_Kernel12Ideal_Reference12Ideal := by
  intro m ρ m' ρ' _ hagree
  refine ⟨_, _, _, _, _, Cert.ProjAbSample.run m ρ, ?_⟩
  refine (θ_run Cert.Reference12Ideal.defs _ _).mono (fun _ h c => ⟨(h c).1.trans ((Cert.Reference12Ideal.Read.val_main_v136_eq m' c).trans ?_), (h c).2.1.trans ((Cert.Reference12Ideal.Read.val_main_v128_eq m' c).trans ?_), (h c).2.2.1.trans ((Cert.Reference12Ideal.Read.val_main_v134_eq m' c).trans ?_), (h c).2.2.2.1.trans ((Cert.Reference12Ideal.Read.val_main_v137_eq _ _ _).trans ?_), (h c).2.2.2.2.1.trans ((Cert.Reference12Ideal.Read.val_main_v138_eq _ _ _).trans ?_), (h c).2.2.2.2.2⟩)
    (Cert.Reference12Ideal.Value.run (F := Ideal) m' ρ')
  · rw [Cert.ProjAbSampleRef.qa_eq, (hagree c).1, (hagree c).2.1, (hagree c).2.2.1, (hagree c).2.2.2.1]
  · rw [Cert.ProjAbSampleRef.kva_eq, (hagree c).1, (hagree c).2.1, (hagree c).2.2.1, (hagree c).2.2.2.2.1]
  · rw [Cert.ProjAbSampleRef.qkg_eq, (hagree c).1, (hagree c).2.1, (hagree c).2.2.1, (hagree c).2.2.2.2.2.1, (hagree c).2.2.2.2.2.2]
  · rw [Cert.ProjAbSampleRef.vb_eq, (hagree c).1, (hagree c).2.1, (hagree c).2.2.1]
  · rw [Cert.ProjAbSampleRef.rb_eq, (hagree c).1, (hagree c).2.1, (hagree c).2.2.1]

end Cert.ProjAbSampleClaims

end
-- ==== Proof.lean ====
/-
  The proof of `Cert.Claim`: every claim is proved in its call's own module and only put together here.
-/
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Read
public import proofs.«01_k».proof.Proof.FramesClaims
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Read
public import proofs.«01_k».proof.Proof.PostAbClaims
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Read
public import proofs.«01_k».proof.Proof.PostCClaims
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Read
public import proofs.«01_k».proof.Proof.ProjCSampleClaims
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Read
public import proofs.«01_k».proof.Proof.ProjCClaims
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Read
public import proofs.«01_k».proof.Proof.ProjAbClaims
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Read
public import proofs.«01_k».proof.Proof.SwaClaims
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Read
public import proofs.«01_k».proof.Proof.GlaSampleClaims
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Read
public import proofs.«01_k».proof.Proof.FoxClaims
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Read
public import proofs.«01_k».proof.Proof.PostCPromptClaims
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Read
public import proofs.«01_k».proof.Proof.PostAbSampleClaims
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Read
public import proofs.«01_k».proof.Proof.ProjAbSampleClaims
public import proofs.«01_k».proof.Proof.Gen.Pre_finite_scores
public import proofs.«01_k».proof.Proof.Gen.Pre_bounded_gates

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite_scores.Gen.facts, Cert.Pre_bounded_gates.Gen.facts,
  Cert.FramesClaims.frame_k, Cert.FramesClaims.frame_ki, Cert.FramesClaims.frame_ri,
  Cert.PostAbClaims.frame_k, Cert.PostAbClaims.frame_ki, Cert.PostAbClaims.frame_ri,
  Cert.PostCClaims.frame_k, Cert.PostCClaims.frame_ki, Cert.PostCClaims.frame_ri,
  Cert.ProjCSampleClaims.frame_k, Cert.ProjCSampleClaims.frame_ki, Cert.ProjCSampleClaims.frame_ri,
  Cert.ProjCClaims.frame_k, Cert.ProjCClaims.frame_ki, Cert.ProjCClaims.frame_ri,
  Cert.ProjAbClaims.frame_k, Cert.ProjAbClaims.frame_ki, Cert.ProjAbClaims.frame_ri,
  Cert.SwaClaims.frame_k, Cert.SwaClaims.frame_ki, Cert.SwaClaims.frame_ki_pre,
  Cert.SwaClaims.frame_ri, Cert.SwaClaims.frame_ri_pre, Cert.GlaSampleClaims.frame_k,
  Cert.GlaSampleClaims.frame_ki, Cert.GlaSampleClaims.frame_ki_pre, Cert.GlaSampleClaims.frame_ri,
  Cert.GlaSampleClaims.frame_ri_pre, Cert.FoxClaims.frame_k, Cert.FoxClaims.frame_ki,
  Cert.FoxClaims.frame_ri, Cert.PostCPromptClaims.frame_k, Cert.PostCPromptClaims.frame_ki,
  Cert.PostCPromptClaims.frame_ri, Cert.PostAbSampleClaims.frame_k, Cert.PostAbSampleClaims.frame_ki,
  Cert.PostAbSampleClaims.frame_ri, Cert.ProjAbSampleClaims.frame_k, Cert.ProjAbSampleClaims.frame_ki,
  Cert.ProjAbSampleClaims.frame_ri,
  trivial, Cert.FramesClaims.algebraic,
  trivial, Cert.PostAbClaims.algebraic,
  trivial, Cert.PostCClaims.algebraic,
  trivial, Cert.ProjCSampleClaims.algebraic,
  trivial, Cert.ProjCClaims.algebraic,
  trivial, Cert.ProjAbClaims.algebraic,
  trivial, Cert.SwaClaims.algebraic,
  Cert.GlaSampleClaims.preserves, Cert.GlaSampleClaims.algebraic,
  trivial, Cert.FoxClaims.algebraic,
  trivial, Cert.PostCPromptClaims.algebraic,
  trivial, Cert.PostAbSampleClaims.algebraic,
  trivial, Cert.ProjAbSampleClaims.algebraic⟩

end Cert.Proof

end
